-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_down [hPre_finite_down : Cert.Pre_finite_down.Facts] (m : (ℓ : Loc Cert.DownIdeal.nD Cert.DownIdeal.τ Cert.DownIdeal.sig) → Buf (Elt Ideal) ℓ) : Prop :=
  ∀ c : Dev Cert.DownIdeal.nD,
    (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))).1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))).2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))).2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite_down [hPre_finite_down : Cert.Pre_finite_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2))).1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2))).2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_FfnF (m : (ℓ : Loc Cert.FfnF.nD Cert.FfnF.τ Cert.FfnF.sig) → Buf (Elt Bits) ℓ) : Prop :=
  True

def Pre_FfnFIdeal (m : (ℓ : Loc Cert.FfnFIdeal.nD Cert.FfnFIdeal.τ Cert.FfnFIdeal.sig) → Buf (Elt Ideal) ℓ) : Prop :=
  True

def Pre_FfnFRefIdeal (m : (ℓ : Loc Cert.FfnFRefIdeal.nD Cert.FfnFRefIdeal.τ Cert.FfnFRefIdeal.sig) → Buf (Elt Ideal) ℓ) : Prop :=
  True

def Pre_GmlpF (m : (ℓ : Loc Cert.GmlpF.nD Cert.GmlpF.τ Cert.GmlpF.sig) → Buf (Elt Bits) ℓ) : Prop :=
  True

def Pre_GmlpFIdeal (m : (ℓ : Loc Cert.GmlpFIdeal.nD Cert.GmlpFIdeal.τ Cert.GmlpFIdeal.sig) → Buf (Elt Ideal) ℓ) : Prop :=
  True

def Pre_GmlpFRefIdeal (m : (ℓ : Loc Cert.GmlpFRefIdeal.nD Cert.GmlpFRefIdeal.τ Cert.GmlpFRefIdeal.sig) → Buf (Elt Ideal) ℓ) : Prop :=
  True

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_MixFRefIdeal (m : (ℓ : Loc Cert.MixFRefIdeal.nD Cert.MixFRefIdeal.τ Cert.MixFRefIdeal.sig) → Buf (Elt Ideal) ℓ) : Prop :=
  True

def Pre_NormF (m : (ℓ : Loc Cert.NormF.nD Cert.NormF.τ Cert.NormF.sig) → Buf (Elt Bits) ℓ) : Prop :=
  True

def Pre_NormFIdeal (m : (ℓ : Loc Cert.NormFIdeal.nD Cert.NormFIdeal.τ Cert.NormFIdeal.sig) → Buf (Elt Ideal) ℓ) : Prop :=
  True

def Pre_NormFRefIdeal (m : (ℓ : Loc Cert.NormFRefIdeal.nD Cert.NormFRefIdeal.τ Cert.NormFRefIdeal.sig) → Buf (Elt Ideal) ℓ) : Prop :=
  True

def Pre_GlaF (m : (ℓ : Loc Cert.GlaF.nD Cert.GlaF.τ Cert.GlaF.sig) → Buf (Elt Bits) ℓ) : Prop :=
  True

def Pre_GlaFIdeal (m : (ℓ : Loc Cert.GlaFIdeal.nD Cert.GlaFIdeal.τ Cert.GlaFIdeal.sig) → Buf (Elt Ideal) ℓ) : Prop :=
  True

def Pre_GlaR (m : (ℓ : Loc Cert.GlaR.nD Cert.GlaR.τ Cert.GlaR.sig) → Buf (Elt Bits) ℓ) : Prop :=
  True

def Pre_GlaRIdeal (m : (ℓ : Loc Cert.GlaRIdeal.nD Cert.GlaRIdeal.τ Cert.GlaRIdeal.sig) → Buf (Elt Ideal) ℓ) : Prop :=
  True

def Pre_GlaFwdF (m : (ℓ : Loc Cert.GlaFwdF.nD Cert.GlaFwdF.τ Cert.GlaFwdF.sig) → Buf (Elt Bits) ℓ) : Prop :=
  True

def Pre_GlaFwdFIdeal (m : (ℓ : Loc Cert.GlaFwdFIdeal.nD Cert.GlaFwdFIdeal.τ Cert.GlaFwdFIdeal.sig) → Buf (Elt Ideal) ℓ) : Prop :=
  True

def Pre_GlaFwdR (m : (ℓ : Loc Cert.GlaFwdR.nD Cert.GlaFwdR.τ Cert.GlaFwdR.sig) → Buf (Elt Bits) ℓ) : Prop :=
  True

def Pre_GlaFwdRIdeal (m : (ℓ : Loc Cert.GlaFwdRIdeal.nD Cert.GlaFwdRIdeal.τ Cert.GlaFwdRIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownIdeal_pre_finite_down [hDownIdeal : Cert.DownIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownRefIdeal_pre_finite_down [hDownRefIdeal : Cert.DownRefIdeal.Facts] [hPre_finite_down : Cert.Pre_finite_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_FfnF [hFfnF : Cert.FfnF.Facts] : Prop :=
  ∀ (m : (ℓ : Loc Cert.FfnF.nD Cert.FfnF.τ Cert.FfnF.sig) → Buf (Elt Bits) ℓ) (g : Dev Cert.FfnF.nD → PrngReg), Pre_FfnF m →
    θ_run (Cert.FfnF.defs (F := Bits)) (onTc (τ := Cert.FfnF.τ) (Cert.FfnF.main (F := Bits))) ⟨m, fun _ => 0, g⟩ (fun r => (∀ c : Dev Cert.FfnF.nD,
      r.2.mem ((c.tc : Thread Cert.FfnF.nD Cert.FfnF.τ).loc Cert.FfnF.main_arg0) = m ((c.tc : Thread Cert.FfnF.nD Cert.FfnF.τ).loc Cert.FfnF.main_arg0)
      ∧ r.2.mem ((c.tc : Thread Cert.FfnF.nD Cert.FfnF.τ).loc Cert.FfnF.main_arg1) = m ((c.tc : Thread Cert.FfnF.nD Cert.FfnF.τ).loc Cert.FfnF.main_arg1)
      ∧ r.2.mem ((c.tc : Thread Cert.FfnF.nD Cert.FfnF.τ).loc Cert.FfnF.main_arg2) = m ((c.tc : Thread Cert.FfnF.nD Cert.FfnF.τ).loc Cert.FfnF.main_arg2)
      ∧ r.2.mem ((c.tc : Thread Cert.FfnF.nD Cert.FfnF.τ).loc Cert.FfnF.main_arg3) = m ((c.tc : Thread Cert.FfnF.nD Cert.FfnF.τ).loc Cert.FfnF.main_arg3)
      ∧ r.2.mem ((c.tc : Thread Cert.FfnF.nD Cert.FfnF.τ).loc Cert.FfnF.main_arg4) = m ((c.tc : Thread Cert.FfnF.nD Cert.FfnF.τ).loc Cert.FfnF.main_arg4))
      ∧ r.2.sem = fun _ => 0)

def quiescent_FfnFIdeal [hFfnFIdeal : Cert.FfnFIdeal.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
      ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4))
      ∧ r.2.sem = fun _ => 0)

def quiescent_FfnFRefIdeal [hFfnFRefIdeal : Cert.FfnFRefIdeal.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2)
      ∧ r.2.mem ((c.tc : Thread Cert.FfnFRefIdeal.nD Cert.FfnFRefIdeal.τ).loc Cert.FfnFRefIdeal.main_arg3) = m ((c.tc : Thread Cert.FfnFRefIdeal.nD Cert.FfnFRefIdeal.τ).loc Cert.FfnFRefIdeal.main_arg3)
      ∧ r.2.mem ((c.tc : Thread Cert.FfnFRefIdeal.nD Cert.FfnFRefIdeal.τ).loc Cert.FfnFRefIdeal.main_arg4) = m ((c.tc : Thread Cert.FfnFRefIdeal.nD Cert.FfnFRefIdeal.τ).loc Cert.FfnFRefIdeal.main_arg4))
      ∧ r.2.sem = fun _ => 0)

def quiescent_GmlpF [hGmlpF : Cert.GmlpF.Facts] : Prop :=
  ∀ (m : (ℓ : Loc Cert.GmlpF.nD Cert.GmlpF.τ Cert.GmlpF.sig) → Buf (Elt Bits) ℓ) (g : Dev Cert.GmlpF.nD → PrngReg), Pre_GmlpF m →
    θ_run (Cert.GmlpF.defs (F := Bits)) (onTc (τ := Cert.GmlpF.τ) (Cert.GmlpF.main (F := Bits))) ⟨m, fun _ => 0, g⟩ (fun r => (∀ c : Dev Cert.GmlpF.nD,
      r.2.mem ((c.tc : Thread Cert.GmlpF.nD Cert.GmlpF.τ).loc Cert.GmlpF.main_arg0) = m ((c.tc : Thread Cert.GmlpF.nD Cert.GmlpF.τ).loc Cert.GmlpF.main_arg0)
      ∧ r.2.mem ((c.tc : Thread Cert.GmlpF.nD Cert.GmlpF.τ).loc Cert.GmlpF.main_arg1) = m ((c.tc : Thread Cert.GmlpF.nD Cert.GmlpF.τ).loc Cert.GmlpF.main_arg1)
      ∧ r.2.mem ((c.tc : Thread Cert.GmlpF.nD Cert.GmlpF.τ).loc Cert.GmlpF.main_arg2) = m ((c.tc : Thread Cert.GmlpF.nD Cert.GmlpF.τ).loc Cert.GmlpF.main_arg2)
      ∧ r.2.mem ((c.tc : Thread Cert.GmlpF.nD Cert.GmlpF.τ).loc Cert.GmlpF.main_arg3) = m ((c.tc : Thread Cert.GmlpF.nD Cert.GmlpF.τ).loc Cert.GmlpF.main_arg3)
      ∧ r.2.mem ((c.tc : Thread Cert.GmlpF.nD Cert.GmlpF.τ).loc Cert.GmlpF.main_arg4) = m ((c.tc : Thread Cert.GmlpF.nD Cert.GmlpF.τ).loc Cert.GmlpF.main_arg4))
      ∧ r.2.sem = fun _ => 0)

def quiescent_GmlpFIdeal [hGmlpFIdeal : Cert.GmlpFIdeal.Facts] : Prop :=
  ∀ (m : (ℓ : Loc Cert.GmlpFIdeal.nD Cert.GmlpFIdeal.τ Cert.GmlpFIdeal.sig) → Buf (Elt Ideal) ℓ) (g : Dev Cert.GmlpFIdeal.nD → PrngReg), Pre_GmlpFIdeal m →
    θ_run (Cert.GmlpFIdeal.defs (F := Ideal)) (onTc (τ := Cert.GmlpFIdeal.τ) (Cert.GmlpFIdeal.main (F := Ideal))) ⟨m, fun _ => 0, g⟩ (fun r => (∀ c : Dev Cert.GmlpFIdeal.nD,
      r.2.mem ((c.tc : Thread Cert.GmlpFIdeal.nD Cert.GmlpFIdeal.τ).loc Cert.GmlpFIdeal.main_arg0) = m ((c.tc : Thread Cert.GmlpFIdeal.nD Cert.GmlpFIdeal.τ).loc Cert.GmlpFIdeal.main_arg0)
      ∧ r.2.mem ((c.tc : Thread Cert.GmlpFIdeal.nD Cert.GmlpFIdeal.τ).loc Cert.GmlpFIdeal.main_arg1) = m ((c.tc : Thread Cert.GmlpFIdeal.nD Cert.GmlpFIdeal.τ).loc Cert.GmlpFIdeal.main_arg1)
      ∧ r.2.mem ((c.tc : Thread Cert.GmlpFIdeal.nD Cert.GmlpFIdeal.τ).loc Cert.GmlpFIdeal.main_arg2) = m ((c.tc : Thread Cert.GmlpFIdeal.nD Cert.GmlpFIdeal.τ).loc Cert.GmlpFIdeal.main_arg2)
      ∧ r.2.mem ((c.tc : Thread Cert.GmlpFIdeal.nD Cert.GmlpFIdeal.τ).loc Cert.GmlpFIdeal.main_arg3) = m ((c.tc : Thread Cert.GmlpFIdeal.nD Cert.GmlpFIdeal.τ).loc Cert.GmlpFIdeal.main_arg3)
      ∧ r.2.mem ((c.tc : Thread Cert.GmlpFIdeal.nD Cert.GmlpFIdeal.τ).loc Cert.GmlpFIdeal.main_arg4) = m ((c.tc : Thread Cert.GmlpFIdeal.nD Cert.GmlpFIdeal.τ).loc Cert.GmlpFIdeal.main_arg4))
      ∧ r.2.sem = fun _ => 0)

def quiescent_GmlpFRefIdeal [hGmlpFRefIdeal : Cert.GmlpFRefIdeal.Facts] : Prop :=
  ∀ (m : (ℓ : Loc Cert.GmlpFRefIdeal.nD Cert.GmlpFRefIdeal.τ Cert.GmlpFRefIdeal.sig) → Buf (Elt Ideal) ℓ) (g : Dev Cert.GmlpFRefIdeal.nD → PrngReg), Pre_GmlpFRefIdeal m →
    θ_run (Cert.GmlpFRefIdeal.defs (F := Ideal)) (onTc (τ := Cert.GmlpFRefIdeal.τ) (Cert.GmlpFRefIdeal.main (F := Ideal))) ⟨m, fun _ => 0, g⟩ (fun r => (∀ c : Dev Cert.GmlpFRefIdeal.nD,
      r.2.mem ((c.tc : Thread Cert.GmlpFRefIdeal.nD Cert.GmlpFRefIdeal.τ).loc Cert.GmlpFRefIdeal.main_arg0) = m ((c.tc : Thread Cert.GmlpFRefIdeal.nD Cert.GmlpFRefIdeal.τ).loc Cert.GmlpFRefIdeal.main_arg0)
      ∧ r.2.mem ((c.tc : Thread Cert.GmlpFRefIdeal.nD Cert.GmlpFRefIdeal.τ).loc Cert.GmlpFRefIdeal.main_arg1) = m ((c.tc : Thread Cert.GmlpFRefIdeal.nD Cert.GmlpFRefIdeal.τ).loc Cert.GmlpFRefIdeal.main_arg1)
      ∧ r.2.mem ((c.tc : Thread Cert.GmlpFRefIdeal.nD Cert.GmlpFRefIdeal.τ).loc Cert.GmlpFRefIdeal.main_arg2) = m ((c.tc : Thread Cert.GmlpFRefIdeal.nD Cert.GmlpFRefIdeal.τ).loc Cert.GmlpFRefIdeal.main_arg2)
      ∧ r.2.mem ((c.tc : Thread Cert.GmlpFRefIdeal.nD Cert.GmlpFRefIdeal.τ).loc Cert.GmlpFRefIdeal.main_arg3) = m ((c.tc : Thread Cert.GmlpFRefIdeal.nD Cert.GmlpFRefIdeal.τ).loc Cert.GmlpFRefIdeal.main_arg3)
      ∧ r.2.mem ((c.tc : Thread Cert.GmlpFRefIdeal.nD Cert.GmlpFRefIdeal.τ).loc Cert.GmlpFRefIdeal.main_arg4) = m ((c.tc : Thread Cert.GmlpFRefIdeal.nD Cert.GmlpFRefIdeal.τ).loc Cert.GmlpFRefIdeal.main_arg4))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4)
      ∧ r.2.mem ((c.tc : Thread Cert.MixF.nD Cert.MixF.τ).loc Cert.MixF.main_arg5) = m ((c.tc : Thread Cert.MixF.nD Cert.MixF.τ).loc Cert.MixF.main_arg5)
      ∧ r.2.mem ((c.tc : Thread Cert.MixF.nD Cert.MixF.τ).loc Cert.MixF.main_arg6) = m ((c.tc : Thread Cert.MixF.nD Cert.MixF.τ).loc Cert.MixF.main_arg6))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
      ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5)
      ∧ r.2.mem ((c.tc : Thread Cert.MixFIdeal.nD Cert.MixFIdeal.τ).loc Cert.MixFIdeal.main_arg6) = m ((c.tc : Thread Cert.MixFIdeal.nD Cert.MixFIdeal.τ).loc Cert.MixFIdeal.main_arg6))
      ∧ r.2.sem = fun _ => 0)

def quiescent_MixFRefIdeal [hMixFRefIdeal : Cert.MixFRefIdeal.Facts] : Prop :=
  ∀ (m : (ℓ : Loc Cert.MixFRefIdeal.nD Cert.MixFRefIdeal.τ Cert.MixFRefIdeal.sig) → Buf (Elt Ideal) ℓ) (g : Dev Cert.MixFRefIdeal.nD → PrngReg), Pre_MixFRefIdeal m →
    θ_run (Cert.MixFRefIdeal.defs (F := Ideal)) (onTc (τ := Cert.MixFRefIdeal.τ) (Cert.MixFRefIdeal.main (F := Ideal))) ⟨m, fun _ => 0, g⟩ (fun r => (∀ c : Dev Cert.MixFRefIdeal.nD,
      r.2.mem ((c.tc : Thread Cert.MixFRefIdeal.nD Cert.MixFRefIdeal.τ).loc Cert.MixFRefIdeal.main_arg0) = m ((c.tc : Thread Cert.MixFRefIdeal.nD Cert.MixFRefIdeal.τ).loc Cert.MixFRefIdeal.main_arg0)
      ∧ r.2.mem ((c.tc : Thread Cert.MixFRefIdeal.nD Cert.MixFRefIdeal.τ).loc Cert.MixFRefIdeal.main_arg1) = m ((c.tc : Thread Cert.MixFRefIdeal.nD Cert.MixFRefIdeal.τ).loc Cert.MixFRefIdeal.main_arg1)
      ∧ r.2.mem ((c.tc : Thread Cert.MixFRefIdeal.nD Cert.MixFRefIdeal.τ).loc Cert.MixFRefIdeal.main_arg2) = m ((c.tc : Thread Cert.MixFRefIdeal.nD Cert.MixFRefIdeal.τ).loc Cert.MixFRefIdeal.main_arg2)
      ∧ r.2.mem ((c.tc : Thread Cert.MixFRefIdeal.nD Cert.MixFRefIdeal.τ).loc Cert.MixFRefIdeal.main_arg3) = m ((c.tc : Thread Cert.MixFRefIdeal.nD Cert.MixFRefIdeal.τ).loc Cert.MixFRefIdeal.main_arg3)
      ∧ r.2.mem ((c.tc : Thread Cert.MixFRefIdeal.nD Cert.MixFRefIdeal.τ).loc Cert.MixFRefIdeal.main_arg4) = m ((c.tc : Thread Cert.MixFRefIdeal.nD Cert.MixFRefIdeal.τ).loc Cert.MixFRefIdeal.main_arg4)
      ∧ r.2.mem ((c.tc : Thread Cert.MixFRefIdeal.nD Cert.MixFRefIdeal.τ).loc Cert.MixFRefIdeal.main_arg5) = m ((c.tc : Thread Cert.MixFRefIdeal.nD Cert.MixFRefIdeal.τ).loc Cert.MixFRefIdeal.main_arg5)
      ∧ r.2.mem ((c.tc : Thread Cert.MixFRefIdeal.nD Cert.MixFRefIdeal.τ).loc Cert.MixFRefIdeal.main_arg6) = m ((c.tc : Thread Cert.MixFRefIdeal.nD Cert.MixFRefIdeal.τ).loc Cert.MixFRefIdeal.main_arg6))
      ∧ r.2.sem = fun _ => 0)

def quiescent_NormF [hNormF : Cert.NormF.Facts] : Prop :=
  ∀ (m : (ℓ : Loc Cert.NormF.nD Cert.NormF.τ Cert.NormF.sig) → Buf (Elt Bits) ℓ) (g : Dev Cert.NormF.nD → PrngReg), Pre_NormF m →
    θ_run (Cert.NormF.defs (F := Bits)) (onTc (τ := Cert.NormF.τ) (Cert.NormF.main (F := Bits))) ⟨m, fun _ => 0, g⟩ (fun r => (∀ c : Dev Cert.NormF.nD,
      r.2.mem ((c.tc : Thread Cert.NormF.nD Cert.NormF.τ).loc Cert.NormF.main_arg0) = m ((c.tc : Thread Cert.NormF.nD Cert.NormF.τ).loc Cert.NormF.main_arg0)
      ∧ r.2.mem ((c.tc : Thread Cert.NormF.nD Cert.NormF.τ).loc Cert.NormF.main_arg1) = m ((c.tc : Thread Cert.NormF.nD Cert.NormF.τ).loc Cert.NormF.main_arg1)
      ∧ r.2.mem ((c.tc : Thread Cert.NormF.nD Cert.NormF.τ).loc Cert.NormF.main_arg2) = m ((c.tc : Thread Cert.NormF.nD Cert.NormF.τ).loc Cert.NormF.main_arg2))
      ∧ r.2.sem = fun _ => 0)

def quiescent_NormFIdeal [hNormFIdeal : Cert.NormFIdeal.Facts] : Prop :=
  ∀ (m : (ℓ : Loc Cert.NormFIdeal.nD Cert.NormFIdeal.τ Cert.NormFIdeal.sig) → Buf (Elt Ideal) ℓ) (g : Dev Cert.NormFIdeal.nD → PrngReg), Pre_NormFIdeal m →
    θ_run (Cert.NormFIdeal.defs (F := Ideal)) (onTc (τ := Cert.NormFIdeal.τ) (Cert.NormFIdeal.main (F := Ideal))) ⟨m, fun _ => 0, g⟩ (fun r => (∀ c : Dev Cert.NormFIdeal.nD,
      r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
      ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1)
      ∧ r.2.mem ((c.tc : Thread Cert.NormFIdeal.nD Cert.NormFIdeal.τ).loc Cert.NormFIdeal.main_arg2) = m ((c.tc : Thread Cert.NormFIdeal.nD Cert.NormFIdeal.τ).loc Cert.NormFIdeal.main_arg2))
      ∧ r.2.sem = fun _ => 0)

def quiescent_NormFRefIdeal [hNormFRefIdeal : Cert.NormFRefIdeal.Facts] : Prop :=
  ∀ (m : (ℓ : Loc Cert.NormFRefIdeal.nD Cert.NormFRefIdeal.τ Cert.NormFRefIdeal.sig) → Buf (Elt Ideal) ℓ) (g : Dev Cert.NormFRefIdeal.nD → PrngReg), Pre_NormFRefIdeal m →
    θ_run (Cert.NormFRefIdeal.defs (F := Ideal)) (onTc (τ := Cert.NormFRefIdeal.τ) (Cert.NormFRefIdeal.main (F := Ideal))) ⟨m, fun _ => 0, g⟩ (fun r => (∀ c : Dev Cert.NormFRefIdeal.nD,
      r.2.mem ((c.tc : Thread Cert.NormFRefIdeal.nD Cert.NormFRefIdeal.τ).loc Cert.NormFRefIdeal.main_arg0) = m ((c.tc : Thread Cert.NormFRefIdeal.nD Cert.NormFRefIdeal.τ).loc Cert.NormFRefIdeal.main_arg0)
      ∧ r.2.mem ((c.tc : Thread Cert.NormFRefIdeal.nD Cert.NormFRefIdeal.τ).loc Cert.NormFRefIdeal.main_arg1) = m ((c.tc : Thread Cert.NormFRefIdeal.nD Cert.NormFRefIdeal.τ).loc Cert.NormFRefIdeal.main_arg1)
      ∧ r.2.mem ((c.tc : Thread Cert.NormFRefIdeal.nD Cert.NormFRefIdeal.τ).loc Cert.NormFRefIdeal.main_arg2) = m ((c.tc : Thread Cert.NormFRefIdeal.nD Cert.NormFRefIdeal.τ).loc Cert.NormFRefIdeal.main_arg2))
      ∧ r.2.sem = fun _ => 0)

def quiescent_GlaF [hGlaF : Cert.GlaF.Facts] : Prop :=
  ∀ (m : (ℓ : Loc Cert.GlaF.nD Cert.GlaF.τ Cert.GlaF.sig) → Buf (Elt Bits) ℓ) (g : Dev Cert.GlaF.nD → PrngReg), Pre_GlaF m →
    θ_run (Cert.GlaF.defs (F := Bits)) (onTc (τ := Cert.GlaF.τ) (Cert.GlaF.main (F := Bits))) ⟨m, fun _ => 0, g⟩ (fun r => (∀ c : Dev Cert.GlaF.nD,
      r.2.mem ((c.tc : Thread Cert.GlaF.nD Cert.GlaF.τ).loc Cert.GlaF.main_arg0) = m ((c.tc : Thread Cert.GlaF.nD Cert.GlaF.τ).loc Cert.GlaF.main_arg0)
      ∧ r.2.mem ((c.tc : Thread Cert.GlaF.nD Cert.GlaF.τ).loc Cert.GlaF.main_arg1) = m ((c.tc : Thread Cert.GlaF.nD Cert.GlaF.τ).loc Cert.GlaF.main_arg1)
      ∧ r.2.mem ((c.tc : Thread Cert.GlaF.nD Cert.GlaF.τ).loc Cert.GlaF.main_arg2) = m ((c.tc : Thread Cert.GlaF.nD Cert.GlaF.τ).loc Cert.GlaF.main_arg2)
      ∧ r.2.mem ((c.tc : Thread Cert.GlaF.nD Cert.GlaF.τ).loc Cert.GlaF.main_arg3) = m ((c.tc : Thread Cert.GlaF.nD Cert.GlaF.τ).loc Cert.GlaF.main_arg3)
      ∧ r.2.mem ((c.tc : Thread Cert.GlaF.nD Cert.GlaF.τ).loc Cert.GlaF.main_arg4) = m ((c.tc : Thread Cert.GlaF.nD Cert.GlaF.τ).loc Cert.GlaF.main_arg4))
      ∧ r.2.sem = fun _ => 0)

def quiescent_GlaFIdeal [hGlaFIdeal : Cert.GlaFIdeal.Facts] : Prop :=
  ∀ (m : (ℓ : Loc Cert.GlaFIdeal.nD Cert.GlaFIdeal.τ Cert.GlaFIdeal.sig) → Buf (Elt Ideal) ℓ) (g : Dev Cert.GlaFIdeal.nD → PrngReg), Pre_GlaFIdeal m →
    θ_run (Cert.GlaFIdeal.defs (F := Ideal)) (onTc (τ := Cert.GlaFIdeal.τ) (Cert.GlaFIdeal.main (F := Ideal))) ⟨m, fun _ => 0, g⟩ (fun r => (∀ c : Dev Cert.GlaFIdeal.nD,
      r.2.mem ((c.tc : Thread Cert.GlaFIdeal.nD Cert.GlaFIdeal.τ).loc Cert.GlaFIdeal.main_arg0) = m ((c.tc : Thread Cert.GlaFIdeal.nD Cert.GlaFIdeal.τ).loc Cert.GlaFIdeal.main_arg0)
      ∧ r.2.mem ((c.tc : Thread Cert.GlaFIdeal.nD Cert.GlaFIdeal.τ).loc Cert.GlaFIdeal.main_arg1) = m ((c.tc : Thread Cert.GlaFIdeal.nD Cert.GlaFIdeal.τ).loc Cert.GlaFIdeal.main_arg1)
      ∧ r.2.mem ((c.tc : Thread Cert.GlaFIdeal.nD Cert.GlaFIdeal.τ).loc Cert.GlaFIdeal.main_arg2) = m ((c.tc : Thread Cert.GlaFIdeal.nD Cert.GlaFIdeal.τ).loc Cert.GlaFIdeal.main_arg2)
      ∧ r.2.mem ((c.tc : Thread Cert.GlaFIdeal.nD Cert.GlaFIdeal.τ).loc Cert.GlaFIdeal.main_arg3) = m ((c.tc : Thread Cert.GlaFIdeal.nD Cert.GlaFIdeal.τ).loc Cert.GlaFIdeal.main_arg3)
      ∧ r.2.mem ((c.tc : Thread Cert.GlaFIdeal.nD Cert.GlaFIdeal.τ).loc Cert.GlaFIdeal.main_arg4) = m ((c.tc : Thread Cert.GlaFIdeal.nD Cert.GlaFIdeal.τ).loc Cert.GlaFIdeal.main_arg4))
      ∧ r.2.sem = fun _ => 0)

def quiescent_GlaR [hGlaR : Cert.GlaR.Facts] : Prop :=
  ∀ (m : (ℓ : Loc Cert.GlaR.nD Cert.GlaR.τ Cert.GlaR.sig) → Buf (Elt Bits) ℓ) (g : Dev Cert.GlaR.nD → PrngReg), Pre_GlaR m →
    θ_run (Cert.GlaR.defs (F := Bits)) (onTc (τ := Cert.GlaR.τ) (Cert.GlaR.main (F := Bits))) ⟨m, fun _ => 0, g⟩ (fun r => (∀ c : Dev Cert.GlaR.nD,
      r.2.mem ((c.tc : Thread Cert.GlaR.nD Cert.GlaR.τ).loc Cert.GlaR.main_arg0) = m ((c.tc : Thread Cert.GlaR.nD Cert.GlaR.τ).loc Cert.GlaR.main_arg0)
      ∧ r.2.mem ((c.tc : Thread Cert.GlaR.nD Cert.GlaR.τ).loc Cert.GlaR.main_arg1) = m ((c.tc : Thread Cert.GlaR.nD Cert.GlaR.τ).loc Cert.GlaR.main_arg1)
      ∧ r.2.mem ((c.tc : Thread Cert.GlaR.nD Cert.GlaR.τ).loc Cert.GlaR.main_arg2) = m ((c.tc : Thread Cert.GlaR.nD Cert.GlaR.τ).loc Cert.GlaR.main_arg2)
      ∧ r.2.mem ((c.tc : Thread Cert.GlaR.nD Cert.GlaR.τ).loc Cert.GlaR.main_arg3) = m ((c.tc : Thread Cert.GlaR.nD Cert.GlaR.τ).loc Cert.GlaR.main_arg3)
      ∧ r.2.mem ((c.tc : Thread Cert.GlaR.nD Cert.GlaR.τ).loc Cert.GlaR.main_arg4) = m ((c.tc : Thread Cert.GlaR.nD Cert.GlaR.τ).loc Cert.GlaR.main_arg4)
      ∧ r.2.mem ((c.tc : Thread Cert.GlaR.nD Cert.GlaR.τ).loc Cert.GlaR.main_arg5) = m ((c.tc : Thread Cert.GlaR.nD Cert.GlaR.τ).loc Cert.GlaR.main_arg5)
      ∧ r.2.mem ((c.tc : Thread Cert.GlaR.nD Cert.GlaR.τ).loc Cert.GlaR.main_arg6) = m ((c.tc : Thread Cert.GlaR.nD Cert.GlaR.τ).loc Cert.GlaR.main_arg6)
      ∧ r.2.mem ((c.tc : Thread Cert.GlaR.nD Cert.GlaR.τ).loc Cert.GlaR.main_arg7) = m ((c.tc : Thread Cert.GlaR.nD Cert.GlaR.τ).loc Cert.GlaR.main_arg7)
      ∧ r.2.mem ((c.tc : Thread Cert.GlaR.nD Cert.GlaR.τ).loc Cert.GlaR.main_arg8) = m ((c.tc : Thread Cert.GlaR.nD Cert.GlaR.τ).loc Cert.GlaR.main_arg8)
      ∧ r.2.mem ((c.tc : Thread Cert.GlaR.nD Cert.GlaR.τ).loc Cert.GlaR.main_arg9) = m ((c.tc : Thread Cert.GlaR.nD Cert.GlaR.τ).loc Cert.GlaR.main_arg9))
      ∧ r.2.sem = fun _ => 0)

def quiescent_GlaRIdeal [hGlaRIdeal : Cert.GlaRIdeal.Facts] : Prop :=
  ∀ (m : (ℓ : Loc Cert.GlaRIdeal.nD Cert.GlaRIdeal.τ Cert.GlaRIdeal.sig) → Buf (Elt Ideal) ℓ) (g : Dev Cert.GlaRIdeal.nD → PrngReg), Pre_GlaRIdeal m →
    θ_run (Cert.GlaRIdeal.defs (F := Ideal)) (onTc (τ := Cert.GlaRIdeal.τ) (Cert.GlaRIdeal.main (F := Ideal))) ⟨m, fun _ => 0, g⟩ (fun r => (∀ c : Dev Cert.GlaRIdeal.nD,
      r.2.mem ((c.tc : Thread Cert.GlaRIdeal.nD Cert.GlaRIdeal.τ).loc Cert.GlaRIdeal.main_arg0) = m ((c.tc : Thread Cert.GlaRIdeal.nD Cert.GlaRIdeal.τ).loc Cert.GlaRIdeal.main_arg0)
      ∧ r.2.mem ((c.tc : Thread Cert.GlaRIdeal.nD Cert.GlaRIdeal.τ).loc Cert.GlaRIdeal.main_arg1) = m ((c.tc : Thread Cert.GlaRIdeal.nD Cert.GlaRIdeal.τ).loc Cert.GlaRIdeal.main_arg1)
      ∧ r.2.mem ((c.tc : Thread Cert.GlaRIdeal.nD Cert.GlaRIdeal.τ).loc Cert.GlaRIdeal.main_arg2) = m ((c.tc : Thread Cert.GlaRIdeal.nD Cert.GlaRIdeal.τ).loc Cert.GlaRIdeal.main_arg2)
      ∧ r.2.mem ((c.tc : Thread Cert.GlaRIdeal.nD Cert.GlaRIdeal.τ).loc Cert.GlaRIdeal.main_arg3) = m ((c.tc : Thread Cert.GlaRIdeal.nD Cert.GlaRIdeal.τ).loc Cert.GlaRIdeal.main_arg3)
      ∧ r.2.mem ((c.tc : Thread Cert.GlaRIdeal.nD Cert.GlaRIdeal.τ).loc Cert.GlaRIdeal.main_arg4) = m ((c.tc : Thread Cert.GlaRIdeal.nD Cert.GlaRIdeal.τ).loc Cert.GlaRIdeal.main_arg4)
      ∧ r.2.mem ((c.tc : Thread Cert.GlaRIdeal.nD Cert.GlaRIdeal.τ).loc Cert.GlaRIdeal.main_arg5) = m ((c.tc : Thread Cert.GlaRIdeal.nD Cert.GlaRIdeal.τ).loc Cert.GlaRIdeal.main_arg5)
      ∧ r.2.mem ((c.tc : Thread Cert.GlaRIdeal.nD Cert.GlaRIdeal.τ).loc Cert.GlaRIdeal.main_arg6) = m ((c.tc : Thread Cert.GlaRIdeal.nD Cert.GlaRIdeal.τ).loc Cert.GlaRIdeal.main_arg6)
      ∧ r.2.mem ((c.tc : Thread Cert.GlaRIdeal.nD Cert.GlaRIdeal.τ).loc Cert.GlaRIdeal.main_arg7) = m ((c.tc : Thread Cert.GlaRIdeal.nD Cert.GlaRIdeal.τ).loc Cert.GlaRIdeal.main_arg7)
      ∧ r.2.mem ((c.tc : Thread Cert.GlaRIdeal.nD Cert.GlaRIdeal.τ).loc Cert.GlaRIdeal.main_arg8) = m ((c.tc : Thread Cert.GlaRIdeal.nD Cert.GlaRIdeal.τ).loc Cert.GlaRIdeal.main_arg8)
      ∧ r.2.mem ((c.tc : Thread Cert.GlaRIdeal.nD Cert.GlaRIdeal.τ).loc Cert.GlaRIdeal.main_arg9) = m ((c.tc : Thread Cert.GlaRIdeal.nD Cert.GlaRIdeal.τ).loc Cert.GlaRIdeal.main_arg9))
      ∧ r.2.sem = fun _ => 0)

def quiescent_GlaFwdF [hGlaFwdF : Cert.GlaFwdF.Facts] : Prop :=
  ∀ (m : (ℓ : Loc Cert.GlaFwdF.nD Cert.GlaFwdF.τ Cert.GlaFwdF.sig) → Buf (Elt Bits) ℓ) (g : Dev Cert.GlaFwdF.nD → PrngReg), Pre_GlaFwdF m →
    θ_run (Cert.GlaFwdF.defs (F := Bits)) (onTc (τ := Cert.GlaFwdF.τ) (Cert.GlaFwdF.main (F := Bits))) ⟨m, fun _ => 0, g⟩ (fun r => (∀ c : Dev Cert.GlaFwdF.nD,
      r.2.mem ((c.tc : Thread Cert.GlaFwdF.nD Cert.GlaFwdF.τ).loc Cert.GlaFwdF.main_arg0) = m ((c.tc : Thread Cert.GlaFwdF.nD Cert.GlaFwdF.τ).loc Cert.GlaFwdF.main_arg0)
      ∧ r.2.mem ((c.tc : Thread Cert.GlaFwdF.nD Cert.GlaFwdF.τ).loc Cert.GlaFwdF.main_arg1) = m ((c.tc : Thread Cert.GlaFwdF.nD Cert.GlaFwdF.τ).loc Cert.GlaFwdF.main_arg1)
      ∧ r.2.mem ((c.tc : Thread Cert.GlaFwdF.nD Cert.GlaFwdF.τ).loc Cert.GlaFwdF.main_arg2) = m ((c.tc : Thread Cert.GlaFwdF.nD Cert.GlaFwdF.τ).loc Cert.GlaFwdF.main_arg2))
      ∧ r.2.sem = fun _ => 0)

def quiescent_GlaFwdFIdeal [hGlaFwdFIdeal : Cert.GlaFwdFIdeal.Facts] : Prop :=
  ∀ (m : (ℓ : Loc Cert.GlaFwdFIdeal.nD Cert.GlaFwdFIdeal.τ Cert.GlaFwdFIdeal.sig) → Buf (Elt Ideal) ℓ) (g : Dev Cert.GlaFwdFIdeal.nD → PrngReg), Pre_GlaFwdFIdeal m →
    θ_run (Cert.GlaFwdFIdeal.defs (F := Ideal)) (onTc (τ := Cert.GlaFwdFIdeal.τ) (Cert.GlaFwdFIdeal.main (F := Ideal))) ⟨m, fun _ => 0, g⟩ (fun r => (∀ c : Dev Cert.GlaFwdFIdeal.nD,
      r.2.mem ((c.tc : Thread Cert.GlaFwdFIdeal.nD Cert.GlaFwdFIdeal.τ).loc Cert.GlaFwdFIdeal.main_arg0) = m ((c.tc : Thread Cert.GlaFwdFIdeal.nD Cert.GlaFwdFIdeal.τ).loc Cert.GlaFwdFIdeal.main_arg0)
      ∧ r.2.mem ((c.tc : Thread Cert.GlaFwdFIdeal.nD Cert.GlaFwdFIdeal.τ).loc Cert.GlaFwdFIdeal.main_arg1) = m ((c.tc : Thread Cert.GlaFwdFIdeal.nD Cert.GlaFwdFIdeal.τ).loc Cert.GlaFwdFIdeal.main_arg1)
      ∧ r.2.mem ((c.tc : Thread Cert.GlaFwdFIdeal.nD Cert.GlaFwdFIdeal.τ).loc Cert.GlaFwdFIdeal.main_arg2) = m ((c.tc : Thread Cert.GlaFwdFIdeal.nD Cert.GlaFwdFIdeal.τ).loc Cert.GlaFwdFIdeal.main_arg2))
      ∧ r.2.sem = fun _ => 0)

def quiescent_GlaFwdR [hGlaFwdR : Cert.GlaFwdR.Facts] : Prop :=
  ∀ (m : (ℓ : Loc Cert.GlaFwdR.nD Cert.GlaFwdR.τ Cert.GlaFwdR.sig) → Buf (Elt Bits) ℓ) (g : Dev Cert.GlaFwdR.nD → PrngReg), Pre_GlaFwdR m →
    θ_run (Cert.GlaFwdR.defs (F := Bits)) (onTc (τ := Cert.GlaFwdR.τ) (Cert.GlaFwdR.main (F := Bits))) ⟨m, fun _ => 0, g⟩ (fun r => (∀ c : Dev Cert.GlaFwdR.nD,
      r.2.mem ((c.tc : Thread Cert.GlaFwdR.nD Cert.GlaFwdR.τ).loc Cert.GlaFwdR.main_arg0) = m ((c.tc : Thread Cert.GlaFwdR.nD Cert.GlaFwdR.τ).loc Cert.GlaFwdR.main_arg0)
      ∧ r.2.mem ((c.tc : Thread Cert.GlaFwdR.nD Cert.GlaFwdR.τ).loc Cert.GlaFwdR.main_arg1) = m ((c.tc : Thread Cert.GlaFwdR.nD Cert.GlaFwdR.τ).loc Cert.GlaFwdR.main_arg1)
      ∧ r.2.mem ((c.tc : Thread Cert.GlaFwdR.nD Cert.GlaFwdR.τ).loc Cert.GlaFwdR.main_arg2) = m ((c.tc : Thread Cert.GlaFwdR.nD Cert.GlaFwdR.τ).loc Cert.GlaFwdR.main_arg2))
      ∧ r.2.sem = fun _ => 0)

def quiescent_GlaFwdRIdeal [hGlaFwdRIdeal : Cert.GlaFwdRIdeal.Facts] : Prop :=
  ∀ (m : (ℓ : Loc Cert.GlaFwdRIdeal.nD Cert.GlaFwdRIdeal.τ Cert.GlaFwdRIdeal.sig) → Buf (Elt Ideal) ℓ) (g : Dev Cert.GlaFwdRIdeal.nD → PrngReg), Pre_GlaFwdRIdeal m →
    θ_run (Cert.GlaFwdRIdeal.defs (F := Ideal)) (onTc (τ := Cert.GlaFwdRIdeal.τ) (Cert.GlaFwdRIdeal.main (F := Ideal))) ⟨m, fun _ => 0, g⟩ (fun r => (∀ c : Dev Cert.GlaFwdRIdeal.nD,
      r.2.mem ((c.tc : Thread Cert.GlaFwdRIdeal.nD Cert.GlaFwdRIdeal.τ).loc Cert.GlaFwdRIdeal.main_arg0) = m ((c.tc : Thread Cert.GlaFwdRIdeal.nD Cert.GlaFwdRIdeal.τ).loc Cert.GlaFwdRIdeal.main_arg0)
      ∧ r.2.mem ((c.tc : Thread Cert.GlaFwdRIdeal.nD Cert.GlaFwdRIdeal.τ).loc Cert.GlaFwdRIdeal.main_arg1) = m ((c.tc : Thread Cert.GlaFwdRIdeal.nD Cert.GlaFwdRIdeal.τ).loc Cert.GlaFwdRIdeal.main_arg1)
      ∧ r.2.mem ((c.tc : Thread Cert.GlaFwdRIdeal.nD Cert.GlaFwdRIdeal.τ).loc Cert.GlaFwdRIdeal.main_arg2) = m ((c.tc : Thread Cert.GlaFwdRIdeal.nD Cert.GlaFwdRIdeal.τ).loc Cert.GlaFwdRIdeal.main_arg2))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2))
      ∧ r.2.sem = fun _ => 0)

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v4)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v5)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v5) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v24) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v36) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Down_DownIdeal : Prop :=
  True

def algebraic_DownIdeal_DownRefIdeal_pre_finite_down [hDownIdeal : Cert.DownIdeal.Facts] [hDownRefIdeal : Cert.DownRefIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_finite_down m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v10) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v20_0)) (v1 : (c : Dev Cert.UpIdeal.nD) → Buf (Elt Ideal) ((c.tc : Thread Cert.UpIdeal.nD Cert.UpIdeal.τ).loc Cert.UpIdeal.main_v20_1)) (v2 : (c : Dev Cert.UpIdeal.nD) → Buf (Elt Ideal) ((c.tc : Thread Cert.UpIdeal.nD Cert.UpIdeal.τ).loc Cert.UpIdeal.main_v20_2)) (v3 : (c : Dev Cert.UpIdeal.nD) → Buf (Elt Ideal) ((c.tc : Thread Cert.UpIdeal.nD Cert.UpIdeal.τ).loc Cert.UpIdeal.main_v20_3)) (v4 : (c : Dev Cert.UpIdeal.nD) → Buf (Elt Ideal) ((c.tc : Thread Cert.UpIdeal.nD Cert.UpIdeal.τ).loc Cert.UpIdeal.main_v20_4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v20_0) = v0 c
          ∧ r.2.mem ((c.tc : Thread Cert.UpIdeal.nD Cert.UpIdeal.τ).loc Cert.UpIdeal.main_v20_1) = v1 c
          ∧ r.2.mem ((c.tc : Thread Cert.UpIdeal.nD Cert.UpIdeal.τ).loc Cert.UpIdeal.main_v20_2) = v2 c
          ∧ r.2.mem ((c.tc : Thread Cert.UpIdeal.nD Cert.UpIdeal.τ).loc Cert.UpIdeal.main_v20_3) = v3 c
          ∧ r.2.mem ((c.tc : Thread Cert.UpIdeal.nD Cert.UpIdeal.τ).loc Cert.UpIdeal.main_v20_4) = v4 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v162) = v0 c
          ∧ r.2.mem ((c.tc : Thread Cert.UpRefIdeal.nD Cert.UpRefIdeal.τ).loc Cert.UpRefIdeal.main_v161) = v1 c
          ∧ r.2.mem ((c.tc : Thread Cert.UpRefIdeal.nD Cert.UpRefIdeal.τ).loc Cert.UpRefIdeal.main_v163) = v2 c
          ∧ r.2.mem ((c.tc : Thread Cert.UpRefIdeal.nD Cert.UpRefIdeal.τ).loc Cert.UpRefIdeal.main_v134) = v3 c
          ∧ r.2.mem ((c.tc : Thread Cert.UpRefIdeal.nD Cert.UpRefIdeal.τ).loc Cert.UpRefIdeal.main_v164) = v4 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v7_0)) (v1 : (c : Dev Cert.MixInIdeal.nD) → Buf (Elt Ideal) ((c.tc : Thread Cert.MixInIdeal.nD Cert.MixInIdeal.τ).loc Cert.MixInIdeal.main_v7_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v7_0) = v0 c
          ∧ r.2.mem ((c.tc : Thread Cert.MixInIdeal.nD Cert.MixInIdeal.τ).loc Cert.MixInIdeal.main_v7_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v38) = v0 c
          ∧ r.2.mem ((c.tc : Thread Cert.MixInRefIdeal.nD Cert.MixInRefIdeal.τ).loc Cert.MixInRefIdeal.main_v39) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)) (v2 : (c : Dev Cert.MixOutIdeal.nD) → Buf (Elt Ideal) ((c.tc : Thread Cert.MixOutIdeal.nD Cert.MixOutIdeal.τ).loc Cert.MixOutIdeal.main_v3_2)) (v3 : (c : Dev Cert.MixOutIdeal.nD) → Buf (Elt Ideal) ((c.tc : Thread Cert.MixOutIdeal.nD Cert.MixOutIdeal.τ).loc Cert.MixOutIdeal.main_v3_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_v3_2) = v2 c
          ∧ r.2.mem ((c.tc : Thread Cert.MixOutIdeal.nD Cert.MixOutIdeal.τ).loc Cert.MixOutIdeal.main_v3_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v27) = v0 c
          ∧ r.2.mem ((c.tc : Thread Cert.MixOutRefIdeal.nD Cert.MixOutRefIdeal.τ).loc Cert.MixOutRefIdeal.main_v54) = v1 c
          ∧ r.2.mem ((c.tc : Thread Cert.MixOutRefIdeal.nD Cert.MixOutRefIdeal.τ).loc Cert.MixOutRefIdeal.main_v33) = v2 c
          ∧ r.2.mem ((c.tc : Thread Cert.MixOutRefIdeal.nD Cert.MixOutRefIdeal.τ).loc Cert.MixOutRefIdeal.main_v55) = v3 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)) →
    ∃ (v0 : (c : Dev Cert.GmlpIdeal.nD) → Buf (Elt Ideal) ((c.tc : Thread Cert.GmlpIdeal.nD Cert.GmlpIdeal.τ).loc Cert.GmlpIdeal.main_v4_0)) (v1 : (c : Dev Cert.GmlpIdeal.nD) → Buf (Elt Ideal) ((c.tc : Thread Cert.GmlpIdeal.nD Cert.GmlpIdeal.τ).loc Cert.GmlpIdeal.main_v4_1)) (v2 : (c : Dev Cert.GmlpIdeal.nD) → Buf (Elt Ideal) ((c.tc : Thread Cert.GmlpIdeal.nD Cert.GmlpIdeal.τ).loc Cert.GmlpIdeal.main_v4_2)) (v3 : (c : Dev Cert.GmlpIdeal.nD) → Buf (Elt Ideal) ((c.tc : Thread Cert.GmlpIdeal.nD Cert.GmlpIdeal.τ).loc Cert.GmlpIdeal.main_v4_3)) (v4 : (c : Dev Cert.GmlpIdeal.nD) → Buf (Elt Ideal) ((c.tc : Thread Cert.GmlpIdeal.nD Cert.GmlpIdeal.τ).loc Cert.GmlpIdeal.main_v4_4)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v4_0) = v0 c
          ∧ r.2.mem ((c.tc : Thread Cert.GmlpIdeal.nD Cert.GmlpIdeal.τ).loc Cert.GmlpIdeal.main_v4_1) = v1 c
          ∧ r.2.mem ((c.tc : Thread Cert.GmlpIdeal.nD Cert.GmlpIdeal.τ).loc Cert.GmlpIdeal.main_v4_2) = v2 c
          ∧ r.2.mem ((c.tc : Thread Cert.GmlpIdeal.nD Cert.GmlpIdeal.τ).loc Cert.GmlpIdeal.main_v4_3) = v3 c
          ∧ r.2.mem ((c.tc : Thread Cert.GmlpIdeal.nD Cert.GmlpIdeal.τ).loc Cert.GmlpIdeal.main_v4_4) = v4 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v137) = v0 c
          ∧ r.2.mem ((c.tc : Thread Cert.GmlpRefIdeal.nD Cert.GmlpRefIdeal.τ).loc Cert.GmlpRefIdeal.main_v73) = v1 c
          ∧ r.2.mem ((c.tc : Thread Cert.GmlpRefIdeal.nD Cert.GmlpRefIdeal.τ).loc Cert.GmlpRefIdeal.main_v138) = v2 c
          ∧ r.2.mem ((c.tc : Thread Cert.GmlpRefIdeal.nD Cert.GmlpRefIdeal.τ).loc Cert.GmlpRefIdeal.main_v139) = v3 c
          ∧ r.2.mem ((c.tc : Thread Cert.GmlpRefIdeal.nD Cert.GmlpRefIdeal.τ).loc Cert.GmlpRefIdeal.main_v140) = v4 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5))

def preserves_FfnF_FfnFIdeal : Prop :=
  True

def algebraic_FfnFIdeal_FfnFRefIdeal [hFfnFIdeal : Cert.FfnFIdeal.Facts] [hFfnFRefIdeal : Cert.FfnFRefIdeal.Facts] : Prop :=
  ∀ (m : (ℓ : Loc Cert.FfnFIdeal.nD Cert.FfnFIdeal.τ Cert.FfnFIdeal.sig) → Buf (Elt Ideal) ℓ) (g : Dev Cert.FfnFIdeal.nD → PrngReg)
    (m' : (ℓ : Loc Cert.FfnFRefIdeal.nD Cert.FfnFRefIdeal.τ Cert.FfnFRefIdeal.sig) → Buf (Elt Ideal) ℓ) (g' : Dev Cert.FfnFRefIdeal.nD → PrngReg), Pre_FfnFIdeal m →
    (∀ c : Dev Cert.FfnFIdeal.nD,
      m' ((c.tc : Thread Cert.FfnFRefIdeal.nD Cert.FfnFRefIdeal.τ).loc Cert.FfnFRefIdeal.main_arg0) = m ((c.tc : Thread Cert.FfnFIdeal.nD Cert.FfnFIdeal.τ).loc Cert.FfnFIdeal.main_arg0)
      ∧ m' ((c.tc : Thread Cert.FfnFRefIdeal.nD Cert.FfnFRefIdeal.τ).loc Cert.FfnFRefIdeal.main_arg1) = m ((c.tc : Thread Cert.FfnFIdeal.nD Cert.FfnFIdeal.τ).loc Cert.FfnFIdeal.main_arg1)
      ∧ m' ((c.tc : Thread Cert.FfnFRefIdeal.nD Cert.FfnFRefIdeal.τ).loc Cert.FfnFRefIdeal.main_arg2) = m ((c.tc : Thread Cert.FfnFIdeal.nD Cert.FfnFIdeal.τ).loc Cert.FfnFIdeal.main_arg2)
      ∧ m' ((c.tc : Thread Cert.FfnFRefIdeal.nD Cert.FfnFRefIdeal.τ).loc Cert.FfnFRefIdeal.main_arg3) = m ((c.tc : Thread Cert.FfnFIdeal.nD Cert.FfnFIdeal.τ).loc Cert.FfnFIdeal.main_arg3)
      ∧ m' ((c.tc : Thread Cert.FfnFRefIdeal.nD Cert.FfnFRefIdeal.τ).loc Cert.FfnFRefIdeal.main_arg4) = m ((c.tc : Thread Cert.FfnFIdeal.nD Cert.FfnFIdeal.τ).loc Cert.FfnFIdeal.main_arg4)) →
    ∃ (v0 : (c : Dev Cert.FfnFIdeal.nD) → Buf (Elt Ideal) ((c.tc : Thread Cert.FfnFIdeal.nD Cert.FfnFIdeal.τ).loc Cert.FfnFIdeal.main_v3_0)) (v1 : (c : Dev Cert.FfnFIdeal.nD) → Buf (Elt Ideal) ((c.tc : Thread Cert.FfnFIdeal.nD Cert.FfnFIdeal.τ).loc Cert.FfnFIdeal.main_v3_1)) (v2 : (c : Dev Cert.FfnFIdeal.nD) → Buf (Elt Ideal) ((c.tc : Thread Cert.FfnFIdeal.nD Cert.FfnFIdeal.τ).loc Cert.FfnFIdeal.main_v3_2)) (v3 : (c : Dev Cert.FfnFIdeal.nD) → Buf (Elt Ideal) ((c.tc : Thread Cert.FfnFIdeal.nD Cert.FfnFIdeal.τ).loc Cert.FfnFIdeal.main_v3_3)),
      θ_run (Cert.FfnFIdeal.defs (F := Ideal)) (onTc (τ := Cert.FfnFIdeal.τ) (Cert.FfnFIdeal.main (F := Ideal))) ⟨m, fun _ => 0, g⟩ (fun r => ∀ c : Dev Cert.FfnFIdeal.nD,
          r.2.mem ((c.tc : Thread Cert.FfnFIdeal.nD Cert.FfnFIdeal.τ).loc Cert.FfnFIdeal.main_v3_0) = v0 c
          ∧ r.2.mem ((c.tc : Thread Cert.FfnFIdeal.nD Cert.FfnFIdeal.τ).loc Cert.FfnFIdeal.main_v3_1) = v1 c
          ∧ r.2.mem ((c.tc : Thread Cert.FfnFIdeal.nD Cert.FfnFIdeal.τ).loc Cert.FfnFIdeal.main_v3_2) = v2 c
          ∧ r.2.mem ((c.tc : Thread Cert.FfnFIdeal.nD Cert.FfnFIdeal.τ).loc Cert.FfnFIdeal.main_v3_3) = v3 c
          ∧ r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
          ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
          ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
          ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
          ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4))
      ∧ θ_run (Cert.FfnFRefIdeal.defs (F := Ideal)) (onTc (τ := Cert.FfnFRefIdeal.τ) (Cert.FfnFRefIdeal.main (F := Ideal))) ⟨m', fun _ => 0, g'⟩ (fun r => ∀ c : Dev Cert.FfnFRefIdeal.nD,
          r.2.mem ((c.tc : Thread Cert.FfnFRefIdeal.nD Cert.FfnFRefIdeal.τ).loc Cert.FfnFRefIdeal.main_v41) = v0 c
          ∧ r.2.mem ((c.tc : Thread Cert.FfnFRefIdeal.nD Cert.FfnFRefIdeal.τ).loc Cert.FfnFRefIdeal.main_v42) = v1 c
          ∧ r.2.mem ((c.tc : Thread Cert.FfnFRefIdeal.nD Cert.FfnFRefIdeal.τ).loc Cert.FfnFRefIdeal.main_v43) = v2 c
          ∧ r.2.mem ((c.tc : Thread Cert.FfnFRefIdeal.nD Cert.FfnFRefIdeal.τ).loc Cert.FfnFRefIdeal.main_v46) = v3 c
          ∧ r.2.mem ((c.tc : Thread Cert.FfnFRefIdeal.nD Cert.FfnFRefIdeal.τ).loc Cert.FfnFRefIdeal.main_arg0) = m' ((c.tc : Thread Cert.FfnFRefIdeal.nD Cert.FfnFRefIdeal.τ).loc Cert.FfnFRefIdeal.main_arg0)
          ∧ r.2.mem ((c.tc : Thread Cert.FfnFRefIdeal.nD Cert.FfnFRefIdeal.τ).loc Cert.FfnFRefIdeal.main_arg1) = m' ((c.tc : Thread Cert.FfnFRefIdeal.nD Cert.FfnFRefIdeal.τ).loc Cert.FfnFRefIdeal.main_arg1)
          ∧ r.2.mem ((c.tc : Thread Cert.FfnFRefIdeal.nD Cert.FfnFRefIdeal.τ).loc Cert.FfnFRefIdeal.main_arg2) = m' ((c.tc : Thread Cert.FfnFRefIdeal.nD Cert.FfnFRefIdeal.τ).loc Cert.FfnFRefIdeal.main_arg2)
          ∧ r.2.mem ((c.tc : Thread Cert.FfnFRefIdeal.nD Cert.FfnFRefIdeal.τ).loc Cert.FfnFRefIdeal.main_arg3) = m' ((c.tc : Thread Cert.FfnFRefIdeal.nD Cert.FfnFRefIdeal.τ).loc Cert.FfnFRefIdeal.main_arg3)
          ∧ r.2.mem ((c.tc : Thread Cert.FfnFRefIdeal.nD Cert.FfnFRefIdeal.τ).loc Cert.FfnFRefIdeal.main_arg4) = m' ((c.tc : Thread Cert.FfnFRefIdeal.nD Cert.FfnFRefIdeal.τ).loc Cert.FfnFRefIdeal.main_arg4))

def preserves_GmlpF_GmlpFIdeal : Prop :=
  True

def algebraic_GmlpFIdeal_GmlpFRefIdeal [hGmlpFIdeal : Cert.GmlpFIdeal.Facts] [hGmlpFRefIdeal : Cert.GmlpFRefIdeal.Facts] : Prop :=
  ∀ (m : (ℓ : Loc Cert.GmlpFIdeal.nD Cert.GmlpFIdeal.τ Cert.GmlpFIdeal.sig) → Buf (Elt Ideal) ℓ) (g : Dev Cert.GmlpFIdeal.nD → PrngReg)
    (m' : (ℓ : Loc Cert.GmlpFRefIdeal.nD Cert.GmlpFRefIdeal.τ Cert.GmlpFRefIdeal.sig) → Buf (Elt Ideal) ℓ) (g' : Dev Cert.GmlpFRefIdeal.nD → PrngReg), Pre_GmlpFIdeal m →
    (∀ c : Dev Cert.GmlpFIdeal.nD,
      m' ((c.tc : Thread Cert.GmlpFRefIdeal.nD Cert.GmlpFRefIdeal.τ).loc Cert.GmlpFRefIdeal.main_arg0) = m ((c.tc : Thread Cert.GmlpFIdeal.nD Cert.GmlpFIdeal.τ).loc Cert.GmlpFIdeal.main_arg0)
      ∧ m' ((c.tc : Thread Cert.GmlpFRefIdeal.nD Cert.GmlpFRefIdeal.τ).loc Cert.GmlpFRefIdeal.main_arg1) = m ((c.tc : Thread Cert.GmlpFIdeal.nD Cert.GmlpFIdeal.τ).loc Cert.GmlpFIdeal.main_arg1)
      ∧ m' ((c.tc : Thread Cert.GmlpFRefIdeal.nD Cert.GmlpFRefIdeal.τ).loc Cert.GmlpFRefIdeal.main_arg2) = m ((c.tc : Thread Cert.GmlpFIdeal.nD Cert.GmlpFIdeal.τ).loc Cert.GmlpFIdeal.main_arg2)
      ∧ m' ((c.tc : Thread Cert.GmlpFRefIdeal.nD Cert.GmlpFRefIdeal.τ).loc Cert.GmlpFRefIdeal.main_arg3) = m ((c.tc : Thread Cert.GmlpFIdeal.nD Cert.GmlpFIdeal.τ).loc Cert.GmlpFIdeal.main_arg3)
      ∧ m' ((c.tc : Thread Cert.GmlpFRefIdeal.nD Cert.GmlpFRefIdeal.τ).loc Cert.GmlpFRefIdeal.main_arg4) = m ((c.tc : Thread Cert.GmlpFIdeal.nD Cert.GmlpFIdeal.τ).loc Cert.GmlpFIdeal.main_arg4)) →
    ∃ (v0 : (c : Dev Cert.GmlpFIdeal.nD) → Buf (Elt Ideal) ((c.tc : Thread Cert.GmlpFIdeal.nD Cert.GmlpFIdeal.τ).loc Cert.GmlpFIdeal.main_v4)),
      θ_run (Cert.GmlpFIdeal.defs (F := Ideal)) (onTc (τ := Cert.GmlpFIdeal.τ) (Cert.GmlpFIdeal.main (F := Ideal))) ⟨m, fun _ => 0, g⟩ (fun r => ∀ c : Dev Cert.GmlpFIdeal.nD,
          r.2.mem ((c.tc : Thread Cert.GmlpFIdeal.nD Cert.GmlpFIdeal.τ).loc Cert.GmlpFIdeal.main_v4) = v0 c
          ∧ r.2.mem ((c.tc : Thread Cert.GmlpFIdeal.nD Cert.GmlpFIdeal.τ).loc Cert.GmlpFIdeal.main_arg0) = m ((c.tc : Thread Cert.GmlpFIdeal.nD Cert.GmlpFIdeal.τ).loc Cert.GmlpFIdeal.main_arg0)
          ∧ r.2.mem ((c.tc : Thread Cert.GmlpFIdeal.nD Cert.GmlpFIdeal.τ).loc Cert.GmlpFIdeal.main_arg1) = m ((c.tc : Thread Cert.GmlpFIdeal.nD Cert.GmlpFIdeal.τ).loc Cert.GmlpFIdeal.main_arg1)
          ∧ r.2.mem ((c.tc : Thread Cert.GmlpFIdeal.nD Cert.GmlpFIdeal.τ).loc Cert.GmlpFIdeal.main_arg2) = m ((c.tc : Thread Cert.GmlpFIdeal.nD Cert.GmlpFIdeal.τ).loc Cert.GmlpFIdeal.main_arg2)
          ∧ r.2.mem ((c.tc : Thread Cert.GmlpFIdeal.nD Cert.GmlpFIdeal.τ).loc Cert.GmlpFIdeal.main_arg3) = m ((c.tc : Thread Cert.GmlpFIdeal.nD Cert.GmlpFIdeal.τ).loc Cert.GmlpFIdeal.main_arg3)
          ∧ r.2.mem ((c.tc : Thread Cert.GmlpFIdeal.nD Cert.GmlpFIdeal.τ).loc Cert.GmlpFIdeal.main_arg4) = m ((c.tc : Thread Cert.GmlpFIdeal.nD Cert.GmlpFIdeal.τ).loc Cert.GmlpFIdeal.main_arg4))
      ∧ θ_run (Cert.GmlpFRefIdeal.defs (F := Ideal)) (onTc (τ := Cert.GmlpFRefIdeal.τ) (Cert.GmlpFRefIdeal.main (F := Ideal))) ⟨m', fun _ => 0, g'⟩ (fun r => ∀ c : Dev Cert.GmlpFRefIdeal.nD,
          r.2.mem ((c.tc : Thread Cert.GmlpFRefIdeal.nD Cert.GmlpFRefIdeal.τ).loc Cert.GmlpFRefIdeal.main_v53) = v0 c
          ∧ r.2.mem ((c.tc : Thread Cert.GmlpFRefIdeal.nD Cert.GmlpFRefIdeal.τ).loc Cert.GmlpFRefIdeal.main_arg0) = m' ((c.tc : Thread Cert.GmlpFRefIdeal.nD Cert.GmlpFRefIdeal.τ).loc Cert.GmlpFRefIdeal.main_arg0)
          ∧ r.2.mem ((c.tc : Thread Cert.GmlpFRefIdeal.nD Cert.GmlpFRefIdeal.τ).loc Cert.GmlpFRefIdeal.main_arg1) = m' ((c.tc : Thread Cert.GmlpFRefIdeal.nD Cert.GmlpFRefIdeal.τ).loc Cert.GmlpFRefIdeal.main_arg1)
          ∧ r.2.mem ((c.tc : Thread Cert.GmlpFRefIdeal.nD Cert.GmlpFRefIdeal.τ).loc Cert.GmlpFRefIdeal.main_arg2) = m' ((c.tc : Thread Cert.GmlpFRefIdeal.nD Cert.GmlpFRefIdeal.τ).loc Cert.GmlpFRefIdeal.main_arg2)
          ∧ r.2.mem ((c.tc : Thread Cert.GmlpFRefIdeal.nD Cert.GmlpFRefIdeal.τ).loc Cert.GmlpFRefIdeal.main_arg3) = m' ((c.tc : Thread Cert.GmlpFRefIdeal.nD Cert.GmlpFRefIdeal.τ).loc Cert.GmlpFRefIdeal.main_arg3)
          ∧ r.2.mem ((c.tc : Thread Cert.GmlpFRefIdeal.nD Cert.GmlpFRefIdeal.τ).loc Cert.GmlpFRefIdeal.main_arg4) = m' ((c.tc : Thread Cert.GmlpFRefIdeal.nD Cert.GmlpFRefIdeal.τ).loc Cert.GmlpFRefIdeal.main_arg4))

def preserves_MixF_MixFIdeal : Prop :=
  True

def algebraic_MixFIdeal_MixFRefIdeal [hMixFIdeal : Cert.MixFIdeal.Facts] [hMixFRefIdeal : Cert.MixFRefIdeal.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.MixFRefIdeal.nD Cert.MixFRefIdeal.τ Cert.MixFRefIdeal.sig) → Buf (Elt Ideal) ℓ) (g' : Dev Cert.MixFRefIdeal.nD → PrngReg), Pre_MixFIdeal m →
    (∀ c : Dev Cert.MixFIdeal.nD,
      m' ((c.tc : Thread Cert.MixFRefIdeal.nD Cert.MixFRefIdeal.τ).loc Cert.MixFRefIdeal.main_arg0) = m ((c.tc : Thread Cert.MixFIdeal.nD Cert.MixFIdeal.τ).loc Cert.MixFIdeal.main_arg0)
      ∧ m' ((c.tc : Thread Cert.MixFRefIdeal.nD Cert.MixFRefIdeal.τ).loc Cert.MixFRefIdeal.main_arg1) = m ((c.tc : Thread Cert.MixFIdeal.nD Cert.MixFIdeal.τ).loc Cert.MixFIdeal.main_arg1)
      ∧ m' ((c.tc : Thread Cert.MixFRefIdeal.nD Cert.MixFRefIdeal.τ).loc Cert.MixFRefIdeal.main_arg2) = m ((c.tc : Thread Cert.MixFIdeal.nD Cert.MixFIdeal.τ).loc Cert.MixFIdeal.main_arg2)
      ∧ m' ((c.tc : Thread Cert.MixFRefIdeal.nD Cert.MixFRefIdeal.τ).loc Cert.MixFRefIdeal.main_arg3) = m ((c.tc : Thread Cert.MixFIdeal.nD Cert.MixFIdeal.τ).loc Cert.MixFIdeal.main_arg3)
      ∧ m' ((c.tc : Thread Cert.MixFRefIdeal.nD Cert.MixFRefIdeal.τ).loc Cert.MixFRefIdeal.main_arg4) = m ((c.tc : Thread Cert.MixFIdeal.nD Cert.MixFIdeal.τ).loc Cert.MixFIdeal.main_arg4)
      ∧ m' ((c.tc : Thread Cert.MixFRefIdeal.nD Cert.MixFRefIdeal.τ).loc Cert.MixFRefIdeal.main_arg5) = m ((c.tc : Thread Cert.MixFIdeal.nD Cert.MixFIdeal.τ).loc Cert.MixFIdeal.main_arg5)
      ∧ m' ((c.tc : Thread Cert.MixFRefIdeal.nD Cert.MixFRefIdeal.τ).loc Cert.MixFRefIdeal.main_arg6) = m ((c.tc : Thread Cert.MixFIdeal.nD Cert.MixFIdeal.τ).loc Cert.MixFIdeal.main_arg6)) →
    ∃ (v0 : (c : Dev Cert.MixFIdeal.nD) → Buf (Elt Ideal) ((c.tc : Thread Cert.MixFIdeal.nD Cert.MixFIdeal.τ).loc Cert.MixFIdeal.main_v4_0)) (v1 : (c : Dev Cert.MixFIdeal.nD) → Buf (Elt Ideal) ((c.tc : Thread Cert.MixFIdeal.nD Cert.MixFIdeal.τ).loc Cert.MixFIdeal.main_v4_1)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v4_0) = v0 c
          ∧ r.2.mem ((c.tc : Thread Cert.MixFIdeal.nD Cert.MixFIdeal.τ).loc Cert.MixFIdeal.main_v4_1) = v1 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
          ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5)
          ∧ r.2.mem ((c.tc : Thread Cert.MixFIdeal.nD Cert.MixFIdeal.τ).loc Cert.MixFIdeal.main_arg6) = m ((c.tc : Thread Cert.MixFIdeal.nD Cert.MixFIdeal.τ).loc Cert.MixFIdeal.main_arg6))
      ∧ θ_run (Cert.MixFRefIdeal.defs (F := Ideal)) (onTc (τ := Cert.MixFRefIdeal.τ) (Cert.MixFRefIdeal.main (F := Ideal))) ⟨m', fun _ => 0, g'⟩ (fun r => ∀ c : Dev Cert.MixFRefIdeal.nD,
          r.2.mem ((c.tc : Thread Cert.MixFRefIdeal.nD Cert.MixFRefIdeal.τ).loc Cert.MixFRefIdeal.main_v22) = v0 c
          ∧ r.2.mem ((c.tc : Thread Cert.MixFRefIdeal.nD Cert.MixFRefIdeal.τ).loc Cert.MixFRefIdeal.main_v23) = v1 c
          ∧ r.2.mem ((c.tc : Thread Cert.MixFRefIdeal.nD Cert.MixFRefIdeal.τ).loc Cert.MixFRefIdeal.main_arg0) = m' ((c.tc : Thread Cert.MixFRefIdeal.nD Cert.MixFRefIdeal.τ).loc Cert.MixFRefIdeal.main_arg0)
          ∧ r.2.mem ((c.tc : Thread Cert.MixFRefIdeal.nD Cert.MixFRefIdeal.τ).loc Cert.MixFRefIdeal.main_arg1) = m' ((c.tc : Thread Cert.MixFRefIdeal.nD Cert.MixFRefIdeal.τ).loc Cert.MixFRefIdeal.main_arg1)
          ∧ r.2.mem ((c.tc : Thread Cert.MixFRefIdeal.nD Cert.MixFRefIdeal.τ).loc Cert.MixFRefIdeal.main_arg2) = m' ((c.tc : Thread Cert.MixFRefIdeal.nD Cert.MixFRefIdeal.τ).loc Cert.MixFRefIdeal.main_arg2)
          ∧ r.2.mem ((c.tc : Thread Cert.MixFRefIdeal.nD Cert.MixFRefIdeal.τ).loc Cert.MixFRefIdeal.main_arg3) = m' ((c.tc : Thread Cert.MixFRefIdeal.nD Cert.MixFRefIdeal.τ).loc Cert.MixFRefIdeal.main_arg3)
          ∧ r.2.mem ((c.tc : Thread Cert.MixFRefIdeal.nD Cert.MixFRefIdeal.τ).loc Cert.MixFRefIdeal.main_arg4) = m' ((c.tc : Thread Cert.MixFRefIdeal.nD Cert.MixFRefIdeal.τ).loc Cert.MixFRefIdeal.main_arg4)
          ∧ r.2.mem ((c.tc : Thread Cert.MixFRefIdeal.nD Cert.MixFRefIdeal.τ).loc Cert.MixFRefIdeal.main_arg5) = m' ((c.tc : Thread Cert.MixFRefIdeal.nD Cert.MixFRefIdeal.τ).loc Cert.MixFRefIdeal.main_arg5)
          ∧ r.2.mem ((c.tc : Thread Cert.MixFRefIdeal.nD Cert.MixFRefIdeal.τ).loc Cert.MixFRefIdeal.main_arg6) = m' ((c.tc : Thread Cert.MixFRefIdeal.nD Cert.MixFRefIdeal.τ).loc Cert.MixFRefIdeal.main_arg6))

def preserves_NormF_NormFIdeal : Prop :=
  True

def algebraic_NormFIdeal_NormFRefIdeal [hNormFIdeal : Cert.NormFIdeal.Facts] [hNormFRefIdeal : Cert.NormFRefIdeal.Facts] : Prop :=
  ∀ (m : (ℓ : Loc Cert.NormFIdeal.nD Cert.NormFIdeal.τ Cert.NormFIdeal.sig) → Buf (Elt Ideal) ℓ) (g : Dev Cert.NormFIdeal.nD → PrngReg)
    (m' : (ℓ : Loc Cert.NormFRefIdeal.nD Cert.NormFRefIdeal.τ Cert.NormFRefIdeal.sig) → Buf (Elt Ideal) ℓ) (g' : Dev Cert.NormFRefIdeal.nD → PrngReg), Pre_NormFIdeal m →
    (∀ c : Dev Cert.NormFIdeal.nD,
      m' ((c.tc : Thread Cert.NormFRefIdeal.nD Cert.NormFRefIdeal.τ).loc Cert.NormFRefIdeal.main_arg0) = m ((c.tc : Thread Cert.NormFIdeal.nD Cert.NormFIdeal.τ).loc Cert.NormFIdeal.main_arg0)
      ∧ m' ((c.tc : Thread Cert.NormFRefIdeal.nD Cert.NormFRefIdeal.τ).loc Cert.NormFRefIdeal.main_arg1) = m ((c.tc : Thread Cert.NormFIdeal.nD Cert.NormFIdeal.τ).loc Cert.NormFIdeal.main_arg1)
      ∧ m' ((c.tc : Thread Cert.NormFRefIdeal.nD Cert.NormFRefIdeal.τ).loc Cert.NormFRefIdeal.main_arg2) = m ((c.tc : Thread Cert.NormFIdeal.nD Cert.NormFIdeal.τ).loc Cert.NormFIdeal.main_arg2)) →
    ∃ (v0 : (c : Dev Cert.NormFIdeal.nD) → Buf (Elt Ideal) ((c.tc : Thread Cert.NormFIdeal.nD Cert.NormFIdeal.τ).loc Cert.NormFIdeal.main_v3_0)) (v1 : (c : Dev Cert.NormFIdeal.nD) → Buf (Elt Ideal) ((c.tc : Thread Cert.NormFIdeal.nD Cert.NormFIdeal.τ).loc Cert.NormFIdeal.main_v3_1)),
      θ_run (Cert.NormFIdeal.defs (F := Ideal)) (onTc (τ := Cert.NormFIdeal.τ) (Cert.NormFIdeal.main (F := Ideal))) ⟨m, fun _ => 0, g⟩ (fun r => ∀ c : Dev Cert.NormFIdeal.nD,
          r.2.mem ((c.tc : Thread Cert.NormFIdeal.nD Cert.NormFIdeal.τ).loc Cert.NormFIdeal.main_v3_0) = v0 c
          ∧ r.2.mem ((c.tc : Thread Cert.NormFIdeal.nD Cert.NormFIdeal.τ).loc Cert.NormFIdeal.main_v3_1) = v1 c
          ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
          ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1)
          ∧ r.2.mem ((c.tc : Thread Cert.NormFIdeal.nD Cert.NormFIdeal.τ).loc Cert.NormFIdeal.main_arg2) = m ((c.tc : Thread Cert.NormFIdeal.nD Cert.NormFIdeal.τ).loc Cert.NormFIdeal.main_arg2))
      ∧ θ_run (Cert.NormFRefIdeal.defs (F := Ideal)) (onTc (τ := Cert.NormFRefIdeal.τ) (Cert.NormFRefIdeal.main (F := Ideal))) ⟨m', fun _ => 0, g'⟩ (fun r => ∀ c : Dev Cert.NormFRefIdeal.nD,
          r.2.mem ((c.tc : Thread Cert.NormFRefIdeal.nD Cert.NormFRefIdeal.τ).loc Cert.NormFRefIdeal.main_v14) = v0 c
          ∧ r.2.mem ((c.tc : Thread Cert.NormFRefIdeal.nD Cert.NormFRefIdeal.τ).loc Cert.NormFRefIdeal.main_v15) = v1 c
          ∧ r.2.mem ((c.tc : Thread Cert.NormFRefIdeal.nD Cert.NormFRefIdeal.τ).loc Cert.NormFRefIdeal.main_arg0) = m' ((c.tc : Thread Cert.NormFRefIdeal.nD Cert.NormFRefIdeal.τ).loc Cert.NormFRefIdeal.main_arg0)
          ∧ r.2.mem ((c.tc : Thread Cert.NormFRefIdeal.nD Cert.NormFRefIdeal.τ).loc Cert.NormFRefIdeal.main_arg1) = m' ((c.tc : Thread Cert.NormFRefIdeal.nD Cert.NormFRefIdeal.τ).loc Cert.NormFRefIdeal.main_arg1)
          ∧ r.2.mem ((c.tc : Thread Cert.NormFRefIdeal.nD Cert.NormFRefIdeal.τ).loc Cert.NormFRefIdeal.main_arg2) = m' ((c.tc : Thread Cert.NormFRefIdeal.nD Cert.NormFRefIdeal.τ).loc Cert.NormFRefIdeal.main_arg2))

def preserves_GlaF_GlaFIdeal : Prop :=
  True

def preserves_GlaR_GlaRIdeal : Prop :=
  True

def preserves_GlaFwdF_GlaFwdFIdeal : Prop :=
  True

def preserves_GlaFwdR_GlaFwdRIdeal : Prop :=
  True

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)) →
    ∃ (v0 : (c : Dev Cert.ResIdeal.nD) → Buf (Elt Ideal) ((c.tc : Thread Cert.ResIdeal.nD Cert.ResIdeal.τ).loc Cert.ResIdeal.main_v2)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v2) = v0 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v1) = v0 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2))

def preserves_Tn_TnIdeal : Prop :=
  True

def algebraic_TnIdeal_TnRefIdeal [hTnIdeal : Cert.TnIdeal.Facts] [hTnRefIdeal : Cert.TnRefIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnIdeal m →
    (∀ c : Dev Cert.TnIdeal.nD,
      m' ((c.tc : Thread Cert.TnRefIdeal.nD Cert.TnRefIdeal.τ).loc Cert.TnRefIdeal.main_arg0) = m ((c.tc : Thread Cert.TnIdeal.nD Cert.TnIdeal.τ).loc Cert.TnIdeal.main_arg0)
      ∧ m' ((c.tc : Thread Cert.TnRefIdeal.nD Cert.TnRefIdeal.τ).loc Cert.TnRefIdeal.main_arg1) = m ((c.tc : Thread Cert.TnIdeal.nD Cert.TnIdeal.τ).loc Cert.TnIdeal.main_arg1)) →
    ∃ (v0 : (c : Dev Cert.TnIdeal.nD) → Buf (Elt Ideal) ((c.tc : Thread Cert.TnIdeal.nD Cert.TnIdeal.τ).loc Cert.TnIdeal.main_v2)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v2) = v0 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v4) = v0 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1))

def preserves_Adam_AdamIdeal : Prop :=
  IdealRules.named_const.Statement Cert.AdamIdeal.κ "inv_c1" .f32 0x3FC48605#32 (((5463681 / 8388608)⁻¹ : ℝ) : EReal)
  ∧ IdealRules.named_const.Statement Cert.AdamIdeal.κ "inv_c2" .f32 0x42C8E6D3#32 (((2672307 / 268435456)⁻¹ : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v24) = v1 c
          ∧ r.2.mem ((c.tc : Thread Cert.AdamRefIdeal.nD Cert.AdamRefIdeal.τ).loc Cert.AdamRefIdeal.main_v5) = v2 c
          ∧ r.2.mem ((c.tc : Thread Cert.AdamRefIdeal.nD Cert.AdamRefIdeal.τ).loc Cert.AdamRefIdeal.main_v11) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def Claim : Prop :=
  ∃ (hLoss : Cert.Loss.Facts) (hLossIdeal : Cert.LossIdeal.Facts) (hLossRefIdeal : Cert.LossRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hGmlp : Cert.Gmlp.Facts) (hGmlpIdeal : Cert.GmlpIdeal.Facts) (hGmlpRefIdeal : Cert.GmlpRefIdeal.Facts) (hFfnF : Cert.FfnF.Facts) (hFfnFIdeal : Cert.FfnFIdeal.Facts) (hFfnFRefIdeal : Cert.FfnFRefIdeal.Facts) (hGmlpF : Cert.GmlpF.Facts) (hGmlpFIdeal : Cert.GmlpFIdeal.Facts) (hGmlpFRefIdeal : Cert.GmlpFRefIdeal.Facts) (hMixF : Cert.MixF.Facts) (hMixFIdeal : Cert.MixFIdeal.Facts) (hMixFRefIdeal : Cert.MixFRefIdeal.Facts) (hNormF : Cert.NormF.Facts) (hNormFIdeal : Cert.NormFIdeal.Facts) (hNormFRefIdeal : Cert.NormFRefIdeal.Facts) (hGlaF : Cert.GlaF.Facts) (hGlaFIdeal : Cert.GlaFIdeal.Facts) (hGlaR : Cert.GlaR.Facts) (hGlaRIdeal : Cert.GlaRIdeal.Facts) (hGlaFwdF : Cert.GlaFwdF.Facts) (hGlaFwdFIdeal : Cert.GlaFwdFIdeal.Facts) (hGlaFwdR : Cert.GlaFwdR.Facts) (hGlaFwdRIdeal : Cert.GlaFwdRIdeal.Facts) (hRes : Cert.Res.Facts) (hResIdeal : Cert.ResIdeal.Facts) (hResRefIdeal : Cert.ResRefIdeal.Facts) (hTn : Cert.Tn.Facts) (hTnIdeal : Cert.TnIdeal.Facts) (hTnRefIdeal : Cert.TnRefIdeal.Facts) (hAdam : Cert.Adam.Facts) (hAdamIdeal : Cert.AdamIdeal.Facts) (hAdamRefIdeal : Cert.AdamRefIdeal.Facts) (hPre_finite_down : Cert.Pre_finite_down.Facts),
    quiescent_Loss (hLoss := hLoss)
    ∧ quiescent_LossIdeal (hLossIdeal := hLossIdeal)
    ∧ quiescent_LossRefIdeal (hLossRefIdeal := hLossRefIdeal)
    ∧ quiescent_Down (hDown := hDown)
    ∧ quiescent_DownIdeal (hDownIdeal := hDownIdeal)
    ∧ quiescent_DownIdeal_pre_finite_down (hDownIdeal := hDownIdeal) (hPre_finite_down := hPre_finite_down)
    ∧ quiescent_DownRefIdeal (hDownRefIdeal := hDownRefIdeal)
    ∧ quiescent_DownRefIdeal_pre_finite_down (hDownRefIdeal := hDownRefIdeal) (hPre_finite_down := hPre_finite_down)
    ∧ quiescent_Up (hUp := hUp)
    ∧ quiescent_UpIdeal (hUpIdeal := hUpIdeal)
    ∧ quiescent_UpRefIdeal (hUpRefIdeal := hUpRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_FfnF (hFfnF := hFfnF)
    ∧ quiescent_FfnFIdeal (hFfnFIdeal := hFfnFIdeal)
    ∧ quiescent_FfnFRefIdeal (hFfnFRefIdeal := hFfnFRefIdeal)
    ∧ quiescent_GmlpF (hGmlpF := hGmlpF)
    ∧ quiescent_GmlpFIdeal (hGmlpFIdeal := hGmlpFIdeal)
    ∧ quiescent_GmlpFRefIdeal (hGmlpFRefIdeal := hGmlpFRefIdeal)
    ∧ quiescent_MixF (hMixF := hMixF)
    ∧ quiescent_MixFIdeal (hMixFIdeal := hMixFIdeal)
    ∧ quiescent_MixFRefIdeal (hMixFRefIdeal := hMixFRefIdeal)
    ∧ quiescent_NormF (hNormF := hNormF)
    ∧ quiescent_NormFIdeal (hNormFIdeal := hNormFIdeal)
    ∧ quiescent_NormFRefIdeal (hNormFRefIdeal := hNormFRefIdeal)
    ∧ quiescent_GlaF (hGlaF := hGlaF)
    ∧ quiescent_GlaFIdeal (hGlaFIdeal := hGlaFIdeal)
    ∧ quiescent_GlaR (hGlaR := hGlaR)
    ∧ quiescent_GlaRIdeal (hGlaRIdeal := hGlaRIdeal)
    ∧ quiescent_GlaFwdF (hGlaFwdF := hGlaFwdF)
    ∧ quiescent_GlaFwdFIdeal (hGlaFwdFIdeal := hGlaFwdFIdeal)
    ∧ quiescent_GlaFwdR (hGlaFwdR := hGlaFwdR)
    ∧ quiescent_GlaFwdRIdeal (hGlaFwdRIdeal := hGlaFwdRIdeal)
    ∧ quiescent_Res (hRes := hRes)
    ∧ quiescent_ResIdeal (hResIdeal := hResIdeal)
    ∧ quiescent_ResRefIdeal (hResRefIdeal := hResRefIdeal)
    ∧ quiescent_Tn (hTn := hTn)
    ∧ quiescent_TnIdeal (hTnIdeal := hTnIdeal)
    ∧ quiescent_TnRefIdeal (hTnRefIdeal := hTnRefIdeal)
    ∧ quiescent_Adam (hAdam := hAdam)
    ∧ quiescent_AdamIdeal (hAdamIdeal := hAdamIdeal)
    ∧ quiescent_AdamRefIdeal (hAdamRefIdeal := hAdamRefIdeal)
    ∧ preserves_Loss_LossIdeal
    ∧ algebraic_LossIdeal_LossRefIdeal (hLossIdeal := hLossIdeal) (hLossRefIdeal := hLossRefIdeal)
    ∧ preserves_Down_DownIdeal
    ∧ algebraic_DownIdeal_DownRefIdeal_pre_finite_down (hDownIdeal := hDownIdeal) (hDownRefIdeal := hDownRefIdeal) (hPre_finite_down := hPre_finite_down)
    ∧ preserves_Up_UpIdeal
    ∧ algebraic_UpIdeal_UpRefIdeal (hUpIdeal := hUpIdeal) (hUpRefIdeal := hUpRefIdeal)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
    ∧ preserves_Gmlp_GmlpIdeal
    ∧ algebraic_GmlpIdeal_GmlpRefIdeal (hGmlpIdeal := hGmlpIdeal) (hGmlpRefIdeal := hGmlpRefIdeal)
    ∧ preserves_FfnF_FfnFIdeal
    ∧ algebraic_FfnFIdeal_FfnFRefIdeal (hFfnFIdeal := hFfnFIdeal) (hFfnFRefIdeal := hFfnFRefIdeal)
    ∧ preserves_GmlpF_GmlpFIdeal
    ∧ algebraic_GmlpFIdeal_GmlpFRefIdeal (hGmlpFIdeal := hGmlpFIdeal) (hGmlpFRefIdeal := hGmlpFRefIdeal)
    ∧ preserves_MixF_MixFIdeal
    ∧ algebraic_MixFIdeal_MixFRefIdeal (hMixFIdeal := hMixFIdeal) (hMixFRefIdeal := hMixFRefIdeal)
    ∧ preserves_NormF_NormFIdeal
    ∧ algebraic_NormFIdeal_NormFRefIdeal (hNormFIdeal := hNormFIdeal) (hNormFRefIdeal := hNormFRefIdeal)
    ∧ preserves_GlaF_GlaFIdeal
    ∧ preserves_GlaR_GlaRIdeal
    ∧ preserves_GlaFwdF_GlaFwdFIdeal
    ∧ preserves_GlaFwdR_GlaFwdRIdeal
    ∧ preserves_Res_ResIdeal
    ∧ algebraic_ResIdeal_ResRefIdeal (hResIdeal := hResIdeal) (hResRefIdeal := hResRefIdeal)
    ∧ preserves_Tn_TnIdeal
    ∧ algebraic_TnIdeal_TnRefIdeal (hTnIdeal := hTnIdeal) (hTnRefIdeal := hTnRefIdeal)
    ∧ preserves_Adam_AdamIdeal
    ∧ algebraic_AdamIdeal_AdamRefIdeal (hAdamIdeal := hAdamIdeal) (hAdamRefIdeal := hAdamRefIdeal)
-- ==== Pre_finite_down.lean ====
abbrev S8192x1024 : Shape := ⟨2, ![8192, 1024]⟩
abbrev S8192x5632 : Shape := ⟨2, ![8192, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S8192x5632 : S_.BroadcastsInDim S8192x5632 (![] : Fin 0 → Fin S8192x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x5632 .f32) (main_arg2 : FVec F S2816x1024 .f32) : IVec S8192x1024 1 × IVec S8192x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x5632 .f32 := Host.absf main_arg1
  let main_cst_0 : FVec F S_ .f32 := constant S_ .f32 0x7F800000#32
  let main_v4 : FVec F S8192x5632 .f32 := broadcastInDim S8192x5632 ![] bcast_S_S8192x5632 main_cst_0
  let main_v5 : IVec S8192x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  (main_v2, main_v5, main_v8)
-- ==== Loss.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Down.lean ====
abbrev S8192x1024 : Shape := ⟨2, ![8192, 1024]⟩
abbrev S8192x5632 : Shape := ⟨2, ![8192, 5632]⟩
abbrev S2816x1024 : Shape := ⟨2, ![2816, 1024]⟩
abbrev S512x1024 : Shape := ⟨2, ![512, 1024]⟩
abbrev S512x5632 : Shape := ⟨2, ![512, 5632]⟩
abbrev S256x1024 : Shape := ⟨2, ![256, 1024]⟩
abbrev S512x256 : Shape := ⟨2, ![512, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S2816x1024, .f32⟩
  | .hbm, ⟨3, _⟩ => ⟨S8192x5632, .bf16⟩
  | .hbm, ⟨4, _⟩ => ⟨S2816x1024, .bf16⟩
  | .hbm, ⟨5, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S2816x1024, .bf16⟩
  | .local _ .vmem, ⟨5, _⟩ => ⟨S512x5632, .bf16⟩
  | .local _ .vmem, ⟨6, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S8192x1024 : Shape := ⟨2, ![8192, 1024]⟩
abbrev S8192x5632 : Shape := ⟨2, ![8192, 5632]⟩
abbrev S2816x1024 : Shape := ⟨2, ![2816, 1024]⟩
abbrev S8192x2816 : Shape := ⟨2, ![8192, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S2816x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x5632, .f32⟩
  | .hbm, ⟨28, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Up.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x5632 : Shape := ⟨2, ![1, 5632]⟩
abbrev S256x5632 : Shape := ⟨2, ![256, 5632]⟩
abbrev S16x5632 : Shape := ⟨2, ![16, 5632]⟩
abbrev S256x1024 : Shape := ⟨2, ![256, 1024]⟩
abbrev S256x1 : Shape := ⟨2, ![256, 1]⟩
abbrev S256x256 : Shape := ⟨2, ![256, 256]⟩
abbrev S1x256 : Shape := ⟨2, ![1, 256]⟩
abbrev S256 : Shape := ⟨1, ![256]⟩
abbrev S1024x256 : Shape := ⟨2, ![1024, 256]⟩

abbrev nBuf : Space → Nat
  | .hbm => 35
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S8192x1024, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S1024x5632, .bf16⟩
  | .hbm, ⟨25, _⟩ => ⟨S8192x5632, .f32⟩
  | .hbm, ⟨26, _⟩ => ⟨S8192x5632, .bf16⟩
  | .hbm, ⟨27, _⟩ => ⟨S8192x5632, .bf16⟩
  | .hbm, ⟨28, _⟩ => ⟨S1024x5632, .bf16⟩
  | .hbm, ⟨29, _⟩ => ⟨S1x1024, .f32⟩
  | .hbm, ⟨30, _⟩ => ⟨S8192x5632, .bf16⟩
  | .hbm, ⟨31, _⟩ => ⟨S8192x1024, .f32⟩
  | .hbm, ⟨32, _⟩ => ⟨S1x1024, .f32⟩
  | .hbm, ⟨33, _⟩ => ⟨S3x5632, .f32⟩
  | .hbm, ⟨34, _⟩ => ⟨S1x5632, .f32⟩
  | .local _ .vmem, ⟨0, _⟩ => ⟨S256x5632, .bf16⟩
  | .local _ .vmem, ⟨1, _⟩ => ⟨S256x5632, .bf16⟩
  | .local _ .vmem, ⟨2, _⟩ => ⟨S16x5632, .bf16⟩
  | .local _ .vmem, ⟨3, _⟩ => ⟨S16x5632, .bf16⟩
  | .local _ .vmem, ⟨4, _⟩ => ⟨S16x5632, .bf16⟩
  | .local _ .vmem, ⟨5, _⟩ => ⟨S16x5632, .bf16⟩
  | .local _ .vmem, ⟨6, _⟩ => ⟨S256x5632, .bf16⟩
  | .local _ .vmem, ⟨7, _⟩ => ⟨S256x5632, .bf16⟩
  | .local _ .vmem, ⟨8, _⟩ => ⟨S3x5632, .f32⟩
  | .local _ .vmem, ⟨9, _⟩ => ⟨S1024x5632, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x5632, .bf16⟩
  | .local _ .vmem, ⟨16, _⟩ => ⟨S256x5632, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S3x5632, .f32⟩
  | .local _ .vmem, ⟨21, _⟩ => ⟨S1x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== UpRefIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x5632 : Shape := ⟨2, ![1, 5632]⟩
abbrev S8194x5632 : Shape := ⟨2, ![8194, 5632]⟩

abbrev nBuf : Space → Nat
  | .hbm => 207
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S3x5632, .f32⟩
  | 4 => ⟨S5632, .f32⟩
  | 5 => ⟨S8192x1024, .f32⟩
  | 6 => ⟨S8192x5632, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x5632, .f32⟩
  | 24 => ⟨S_, .f32⟩
  | 25 => ⟨S1x5632, .f32⟩
  | 26 => ⟨S8194x5632, .f32⟩
  | 27 => ⟨S_, .f32⟩
  | 28 => ⟨S1x5632, .f32⟩
  | 29 => ⟨S_, .f32⟩
  | 30 => ⟨S1x5632, .f32⟩
  | 31 => ⟨S8192x5632, .f32⟩
  | 32 => ⟨S1x5632, .f32⟩
  | 33 => ⟨S5632, .f32⟩
  | 34 => ⟨S1x5632, .f32⟩
  | 35 => ⟨S8192x5632, .f32⟩
  | 36 => ⟨S8192x5632, .f32⟩
  | 37 => ⟨S1x5632, .f32⟩
  | 38 => ⟨S8192x5632, .f32⟩
  | 39 => ⟨S8192x5632, .f32⟩
  | 40 => ⟨S8192x5632, .f32⟩
  | 41 => ⟨S1x5632, .f32⟩
  | 42 => ⟨S5632, .f32⟩
  | 43 => ⟨S1x5632, .f32⟩
  | 44 => ⟨S8192x5632, .f32⟩
  | 45 => ⟨S8192x5632, .f32⟩
  | 46 => ⟨S8192x5632, .f32⟩
  | 47 => ⟨S8192x5632, .f32⟩
  | 48 => ⟨S1x5632, .f32⟩
  | 49 => ⟨S5632, .f32⟩
  | 50 => ⟨S1x5632, .f32⟩
  | 51 => ⟨S8192x5632, .f32⟩
  | 52 => ⟨S8192x5632, .f32⟩
  | 53 => ⟨S8192x5632, .f32⟩
  | 54 => ⟨S8192x5632, .f32⟩
  | 55 => ⟨S8192x5632, .f32⟩
  | 56 => ⟨S8192x5632, .f32⟩
  | 57 => ⟨S8192x5632, .f32⟩
  | 58 => ⟨S_, .f32⟩
  | 59 => ⟨S8194x5632, .f32⟩
  | 60 => ⟨S8192x5632, .f32⟩
  | 61 => ⟨S8192x5632, .f32⟩
  | 62 => ⟨S_, .f32⟩
  | 63 => ⟨S8194x5632, .f32⟩
  | 64 => ⟨S8194x5632, .f32⟩
  | 65 => ⟨S8192x5632, .f32⟩
  | 66 => ⟨S8192x5632, .f32⟩
  | 67 => ⟨S_, .f32⟩
  | 68 => ⟨S8194x5632, .f32⟩
  | 69 => ⟨S8194x5632, .f32⟩
  | 70 => ⟨S1x5632, .f32⟩
  | 71 => ⟨S8192x5632, .f32⟩
  | 72 => ⟨S1x5632, .f32⟩
  | 73 => ⟨S8192x1024, .f32⟩
  | 74 => ⟨S_, .f32⟩
  | 75 => ⟨S8192, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192x1, .f32⟩
  | 82 => ⟨S8192x1, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1024, .f32⟩
  | 89 => ⟨S8192x1024, .f32⟩
  | 90 => ⟨S1x1024, .f32⟩
  | 91 => ⟨S8192x1024, .f32⟩
  | 92 => ⟨S8192x1024, .f32⟩
  | 93 => ⟨S8192x5632, .f32⟩
  | 94 => ⟨S_, .f32⟩
  | 95 => ⟨S1x5632, .f32⟩
  | 96 => ⟨S8194x5632, .f32⟩
  | 97 => ⟨S_, .f32⟩
  | 98 => ⟨S1x5632, .f32⟩
  | 99 => ⟨S_, .f32⟩
  | 100 => ⟨S1x5632, .f32⟩
  | 101 => ⟨S8192x5632, .f32⟩
  | 102 => ⟨S1x5632, .f32⟩
  | 103 => ⟨S5632, .f32⟩
  | 104 => ⟨S1x5632, .f32⟩
  | 105 => ⟨S8192x5632, .f32⟩
  | 106 => ⟨S8192x5632, .f32⟩
  | 107 => ⟨S1x5632, .f32⟩
  | 108 => ⟨S8192x5632, .f32⟩
  | 109 => ⟨S8192x5632, .f32⟩
  | 110 => ⟨S8192x5632, .f32⟩
  | 111 => ⟨S1x5632, .f32⟩
  | 112 => ⟨S5632, .f32⟩
  | 113 => ⟨S1x5632, .f32⟩
  | 114 => ⟨S8192x5632, .f32⟩
  | 115 => ⟨S8192x5632, .f32⟩
  | 116 => ⟨S8192x5632, .f32⟩
  | 117 => ⟨S8192x5632, .f32⟩
  | 118 => ⟨S1x5632, .f32⟩
  | 119 => ⟨S5632, .f32⟩
  | 120 => ⟨S1x5632, .f32⟩
  | 121 => ⟨S8192x5632, .f32⟩
  | 122 => ⟨S8192x5632, .f32⟩
  | 123 => ⟨S8192x5632, .f32⟩
  | 124 => ⟨S8192x5632, .f32⟩
  | 125 => ⟨S8192x5632, .f32⟩
  | 126 => ⟨S8192x5632, .f32⟩
  | 127 => ⟨S_, .f32⟩
  | _ => ⟨S8192x1024, .f32⟩

abbrev hbmTy0_1 (i : Nat) : BufTy := match i % 128 with
  | 0 => ⟨S5632, .f32⟩
  | 1 => ⟨S1x5632, .f32⟩
  | 2 => ⟨S8192x5632, .f32⟩
  | 3 => ⟨S8192x5632, .f32⟩
  | 4 => ⟨S_, .f32⟩
  | 5 => ⟨S5632, .f32⟩
  | 6 => ⟨S1x5632, .f32⟩
  | 7 => ⟨S_, .f32⟩
  | 8 => ⟨S3x5632, .f32⟩
  | 9 => ⟨S_, .f32⟩
  | 10 => ⟨S8194x5632, .f32⟩
  | 11 => ⟨S8192x5632, .f32⟩
  | 12 => ⟨S_, .f32⟩
  | 13 => ⟨S5632, .f32⟩
  | 14 => ⟨S1x5632, .f32⟩
  | 15 => ⟨S8192x5632, .f32⟩
  | 16 => ⟨S8192x5632, .f32⟩
  | 17 => ⟨S_, .f32⟩
  | 18 => ⟨S5632, .f32⟩
  | 19 => ⟨S1x5632, .f32⟩
  | 20 => ⟨S_, .f32⟩
  | 21 => ⟨S3x5632, .f32⟩
  | 22 => ⟨S3x5632, .f32⟩
  | 23 => ⟨S_, .f32⟩
  | 24 => ⟨S8194x5632, .f32⟩
  | 25 => ⟨S8194x5632, .f32⟩
  | 26 => ⟨S_, .f32⟩
  | 27 => ⟨S5632, .f32⟩
  | 28 => ⟨S1x5632, .f32⟩
  | 29 => ⟨S_, .f32⟩
  | 30 => ⟨S5632, .f32⟩
  | 31 => ⟨S8192x5632, .f32⟩
  | 32 => ⟨S_, .f32⟩
  | 33 => ⟨S5632, .f32⟩
  | 34 => ⟨S1x5632, .f32⟩
  | 35 => ⟨S8192x5632, .f32⟩
  | 36 => ⟨S8192x5632, .f32⟩
  | 37 => ⟨S_, .f32⟩
  | 38 => ⟨S5632, .f32⟩
  | 39 => ⟨S1x5632, .f32⟩
  | 40 => ⟨S_, .f32⟩
  | 41 => ⟨S3x5632, .f32⟩
  | 42 => ⟨S3x5632, .f32⟩
  | 43 => ⟨S_, .f32⟩
  | 44 => ⟨S8194x5632, .f32⟩
  | 45 => ⟨S8194x5632, .f32⟩
  | 46 => ⟨S1x5632, .f32⟩
  | 47 => ⟨S8192x5632, .f32⟩
  | 48 => ⟨S1x5632, .f32⟩
  | 49 => ⟨S8192x1024, .f32⟩
  | 50 => ⟨S8192x1024, .f32⟩
  | 51 => ⟨S_, .f32⟩
  | 52 => ⟨S1024, .f32⟩
  | 53 => ⟨S1x1024, .f32⟩
  | 54 => ⟨S8192x1024, .f32⟩
  | 55 => ⟨S8192x1024, .f32⟩
  | 56 => ⟨S_, .f32⟩
  | 57 => ⟨S1024, .f32⟩
  | 58 => ⟨S8192x1024, .f32⟩
  | 59 => ⟨S_, .f32⟩
  | 60 => ⟨S8192, .f32⟩
  | 61 => ⟨S8192x1, .f32⟩
  | 62 => ⟨S8192x1024, .f32⟩
  | 63 => ⟨S8192x1024, .f32⟩
  | 64 => ⟨S8192x1024, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x5632, .bf16⟩
  | 77 => ⟨S1x1024, .f32⟩
  | 78 => ⟨S1x5632, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_cst_14 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_15 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_16 : Ref sig .tc := ⟨.hbm, 132, rfl⟩
abbrev main_v108 : Ref sig .tc := ⟨.hbm, 133, rfl⟩
abbrev main_v109 : Ref sig .tc := ⟨.hbm, 134, rfl⟩
abbrev main_cst_17 : Ref sig .tc := ⟨.hbm, 135, rfl⟩
abbrev main_v110 : Ref sig .tc := ⟨.hbm, 136, rfl⟩
abbrev main_cst_18 : Ref sig .tc := ⟨.hbm, 137, rfl⟩
abbrev main_v111 : Ref sig .tc := ⟨.hbm, 138, rfl⟩
abbrev main_v112 : Ref sig .tc := ⟨.hbm, 139, rfl⟩
abbrev main_cst_19 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_20 : Ref sig .tc := ⟨.hbm, 145, rfl⟩
abbrev main_v117 : Ref sig .tc := ⟨.hbm, 146, rfl⟩
abbrev main_v118 : Ref sig .tc := ⟨.hbm, 147, rfl⟩
abbrev main_cst_21 : Ref sig .tc := ⟨.hbm, 148, rfl⟩
abbrev main_v119 : Ref sig .tc := ⟨.hbm, 149, rfl⟩
abbrev main_v120 : Ref sig .tc := ⟨.hbm, 150, rfl⟩
abbrev main_cst_22 : Ref sig .tc := ⟨.hbm, 151, rfl⟩
abbrev main_v121 : Ref sig .tc := ⟨.hbm, 152, rfl⟩
abbrev main_v122 : Ref sig .tc := ⟨.hbm, 153, rfl⟩
abbrev main_cst_23 : Ref sig .tc := ⟨.hbm, 154, rfl⟩
abbrev main_v123 : Ref sig .tc := ⟨.hbm, 155, rfl⟩
abbrev main_v124 : Ref sig .tc := ⟨.hbm, 156, rfl⟩
abbrev main_cst_24 : Ref sig .tc := ⟨.hbm, 157, rfl⟩
abbrev main_v125 : Ref sig .tc := ⟨.hbm, 158, rfl⟩
abbrev main_v126 : Ref sig .tc := ⟨.hbm, 159, rfl⟩
abbrev main_cst_25 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_26 : Ref sig .tc := ⟨.hbm, 165, rfl⟩
abbrev main_v131 : Ref sig .tc := ⟨.hbm, 166, rfl⟩
abbrev main_v132 : Ref sig .tc := ⟨.hbm, 167, rfl⟩
abbrev main_cst_27 : Ref sig .tc := ⟨.hbm, 168, rfl⟩
abbrev main_v133 : Ref sig .tc := ⟨.hbm, 169, rfl⟩
abbrev main_v134 : Ref sig .tc := ⟨.hbm, 170, rfl⟩
abbrev main_cst_28 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_29 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_30 : Ref sig .tc := ⟨.hbm, 184, rfl⟩
abbrev main_v146 : Ref sig .tc := ⟨.hbm, 185, rfl⟩
abbrev main_v147 : Ref sig .tc := ⟨.hbm, 186, rfl⟩
abbrev main_cst_31 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_32 : Ref sig .tc := ⟨.hbm, 194, rfl⟩
abbrev main_v154 : Ref sig .tc := ⟨.hbm, 195, rfl⟩
abbrev main_v155 : Ref sig .tc := ⟨.hbm, 196, rfl⟩
abbrev main_cst_33 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩

abbrev nD : Nat := 1
abbrev τ : Topo := Topo.v7x

variable {F : FTy → Type} [FloatOps F]
-- ==== MixIn.lean ====
abbrev S8192x1024 : Shape := ⟨2, ![8192, 1024]⟩
abbrev S1024 : Shape := ⟨1, ![1024]⟩
abbrev S1024x2592 : Shape := ⟨2, ![1024, 2592]⟩
abbrev S8192x2592 : Shape := ⟨2, ![8192, 2592]⟩
abbrev S_ : Shape := ⟨0, ![]⟩
abbrev S1024x2688 : Shape := ⟨2, ![1024, 2688]⟩
abbrev S8192x1568 : Shape := ⟨2, ![8192, 1568]⟩
abbrev S8192x1664 : Shape := ⟨2, ![8192, 1664]⟩
abbrev S1x1024 : Shape := ⟨2, ![1, 1024]⟩
abbrev S512x1024 : Shape := ⟨2, ![512, 1024]⟩
abbrev S512x1664 : Shape := ⟨2, ![512, 1664]⟩
abbrev S1024x1024 : Shape := ⟨2, ![1024, 1024]⟩
abbrev S1024x1664 : Shape := ⟨2, ![1024, 1664]⟩
abbrev S512 : Shape := ⟨1, ![512]⟩
abbrev S512x1 : Shape := ⟨2, ![512, 1]⟩

abbrev nBuf : Space → Nat
  | .hbm => 18
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2592, .f32⟩
  | .hbm, ⟨3, _⟩ => ⟨S8192x1024, .f32⟩
  | .hbm, ⟨4, _⟩ => ⟨S8192x2592, .f32⟩
  | .hbm, ⟨5, _⟩ => ⟨S1024x2592, .bf16⟩
  | .hbm, ⟨6, _⟩ => ⟨S_, .i32⟩
  | .hbm, ⟨7, _⟩ => ⟨S_, .bf16⟩
  | .hbm, ⟨8, _⟩ => ⟨S1024x2688, .bf16⟩
  | .hbm, ⟨9, _⟩ => ⟨S8192x2592, .bf16⟩
  | .hbm, ⟨10, _⟩ => ⟨S8192x1568, .bf16⟩
  | .hbm, ⟨11, _⟩ => ⟨S_, .i32⟩
  | .hbm, ⟨12, _⟩ => ⟨S_, .bf16⟩
  | .hbm, ⟨13, _⟩ => ⟨S8192x1664, .bf16⟩
  | .hbm, ⟨14, _⟩ => ⟨S8192x1024, .bf16⟩
  | .hbm, ⟨15, _⟩ => ⟨S1x1024, .f32⟩
  | .hbm, ⟨16, _⟩ => ⟨S8192x1024, .f32⟩
  | .hbm, ⟨17, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1664, .bf16⟩
  | .local _ .vmem, ⟨3, _⟩ => ⟨S512x1664, .bf16⟩
  | .local _ .vmem, ⟨4, _⟩ => ⟨S1024x2688, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixInRefIdeal.lean ====
abbrev S8192x1024 : Shape := ⟨2, ![8192, 1024]⟩
abbrev S1024 : Shape := ⟨1, ![1024]⟩
abbrev S1024x2592 : Shape := ⟨2, ![1024, 2592]⟩
abbrev S8192x2592 : Shape := ⟨2, ![8192, 2592]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2592, .f32⟩
  | .hbm, ⟨3, _⟩ => ⟨S8192x1024, .f32⟩
  | .hbm, ⟨4, _⟩ => ⟨S8192x2592, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2592, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S8192x512 : Shape := ⟨2, ![8192, 512]⟩
abbrev S8192x2592 : Shape := ⟨2, ![8192, 2592]⟩
abbrev S4x128 : Shape := ⟨2, ![4, 128]⟩
abbrev S_ : Shape := ⟨0, ![]⟩
abbrev S8192x2688 : Shape := ⟨2, ![8192, 2688]⟩
abbrev S4x1x128 : Shape := ⟨3, ![4, 1, 128]⟩
abbrev S1024x512 : Shape := ⟨2, ![1024, 512]⟩
abbrev S512x1024 : Shape := ⟨2, ![512, 1024]⟩
abbrev S128x1024 : Shape := ⟨2, ![128, 1024]⟩
abbrev S1024x128 : Shape := ⟨2, ![1024, 128]⟩
abbrev S1x1x128 : Shape := ⟨3, ![1, 1, 128]⟩
abbrev S1x128 : Shape := ⟨2, ![1, 128]⟩
abbrev S1024 : Shape := ⟨1, ![1024]⟩
abbrev S1024x1 : Shape := ⟨2, ![1024, 1]⟩
abbrev S128 : Shape := ⟨1, ![128]⟩

abbrev nBuf : Space → Nat
  | .hbm => 15
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S8192x2592, .f32⟩
  | .hbm, ⟨5, _⟩ => ⟨S4x128, .f32⟩
  | .hbm, ⟨6, _⟩ => ⟨S1024x1024, .bf16⟩
  | .hbm, ⟨7, _⟩ => ⟨S_, .i32⟩
  | .hbm, ⟨8, _⟩ => ⟨S_, .f32⟩
  | .hbm, ⟨9, _⟩ => ⟨S8192x2688, .f32⟩
  | .hbm, ⟨10, _⟩ => ⟨S4x1x128, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S4x1x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S4x1x128, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S4x1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixOutRefIdeal.lean ====
abbrev S8192x1024 : Shape := ⟨2, ![8192, 1024]⟩
abbrev S1024x1024 : Shape := ⟨2, ![1024, 1024]⟩
abbrev S8192x512 : Shape := ⟨2, ![8192, 512]⟩
abbrev S8192x2592 : Shape := ⟨2, ![8192, 2592]⟩
abbrev S4x128 : Shape := ⟨2, ![4, 128]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x4x128 : Shape := ⟨3, ![1, 4, 128]⟩
abbrev S4x1x128 : Shape := ⟨3, ![4, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S8192x2592, .f32⟩
  | .hbm, ⟨5, _⟩ => ⟨S4x128, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x4x128, .f32⟩
  | .hbm, ⟨11, _⟩ => ⟨S8192x4x128, .f32⟩
  | .hbm, ⟨12, _⟩ => ⟨S_, .f32⟩
  | .hbm, ⟨13, _⟩ => ⟨S8192x4, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S8192x4x1, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S8192x4x128, .f32⟩
  | .hbm, ⟨27, _⟩ => ⟨S8192x4x128, .f32⟩
  | .hbm, ⟨28, _⟩ => ⟨S1x4x128, .f32⟩
  | .hbm, ⟨29, _⟩ => ⟨S8192x4x128, .f32⟩
  | .hbm, ⟨30, _⟩ => ⟨S8192x4x128, .f32⟩
  | .hbm, ⟨31, _⟩ => ⟨S8192x4x128, .f32⟩
  | .hbm, ⟨32, _⟩ => ⟨S8192x4x128, .f32⟩
  | .hbm, ⟨33, _⟩ => ⟨S8192x4x128, .f32⟩
  | .hbm, ⟨34, _⟩ => ⟨S_, .f32⟩
  | .hbm, ⟨35, _⟩ => ⟨S8192x4x128, .f32⟩
  | .hbm, ⟨36, _⟩ => ⟨S8192x4x128, .f32⟩
  | .hbm, ⟨37, _⟩ => ⟨S_, .f32⟩
  | .hbm, ⟨38, _⟩ => ⟨S8192x4x128, .f32⟩
  | .hbm, ⟨39, _⟩ => ⟨S8192x4x128, .f32⟩
  | .hbm, ⟨40, _⟩ => ⟨S_, .f32⟩
  | .hbm, ⟨41, _⟩ => ⟨S8192x4x128, .f32⟩
  | .hbm, ⟨42, _⟩ => ⟨S8192x4x128, .f32⟩
  | .hbm, ⟨43, _⟩ => ⟨S8192x4x128, .f32⟩
  | .hbm, ⟨44, _⟩ => ⟨S8192x4x128, .f32⟩
  | .hbm, ⟨45, _⟩ => ⟨S8192x4x128, .f32⟩
  | .hbm, ⟨46, _⟩ => ⟨S8192x512, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x512, .f32⟩
  | .hbm, ⟨51, _⟩ => ⟨S8192x512, .f32⟩
  | .hbm, ⟨52, _⟩ => ⟨S8192x4x128, .f32⟩
  | .hbm, ⟨53, _⟩ => ⟨S8192x4x128, .f32⟩
  | .hbm, ⟨54, _⟩ => ⟨S8192x4x128, .f32⟩
  | .hbm, ⟨55, _⟩ => ⟨S8192x4x128, .f32⟩
  | .hbm, ⟨56, _⟩ => ⟨S8192x4x128, .f32⟩
  | .hbm, ⟨57, _⟩ => ⟨S8192x4x128, .f32⟩
  | .hbm, ⟨58, _⟩ => ⟨S8192x4x128, .f32⟩
  | .hbm, ⟨59, _⟩ => ⟨S8192x512, .f32⟩
  | .hbm, ⟨60, _⟩ => ⟨S8192x4x128, .f32⟩
  | .hbm, ⟨61, _⟩ => ⟨S_, .f32⟩
  | .hbm, ⟨62, _⟩ => ⟨S4x128, .f32⟩
  | .hbm, ⟨63, _⟩ => ⟨S1x4x128, .f32⟩
  | .hbm, ⟨64, _⟩ => ⟨S8192x4x128, .f32⟩
  | .hbm, ⟨65, _⟩ => ⟨S8192x4x128, .f32⟩
  | .hbm, ⟨66, _⟩ => ⟨S_, .f32⟩
  | .hbm, ⟨67, _⟩ => ⟨S4x128, .f32⟩
  | .hbm, ⟨68, _⟩ => ⟨S8192x4x128, .f32⟩
  | .hbm, ⟨69, _⟩ => ⟨S_, .f32⟩
  | .hbm, ⟨70, _⟩ => ⟨S8192x4, .f32⟩
  | .hbm, ⟨71, _⟩ => ⟨S8192x4x1, .f32⟩
  | .hbm, ⟨72, _⟩ => ⟨S8192x4x128, .f32⟩
  | .hbm, ⟨73, _⟩ => ⟨S8192x4x128, .f32⟩
  | .hbm, ⟨74, _⟩ => ⟨S8192x4x1, .f32⟩
  | .hbm, ⟨75, _⟩ => ⟨S_, .f32⟩
  | .hbm, ⟨76, _⟩ => ⟨S8192x4x1, .f32⟩
  | .hbm, ⟨77, _⟩ => ⟨S8192x4x1, .f32⟩
  | .hbm, ⟨78, _⟩ => ⟨S_, .f32⟩
  | .hbm, ⟨79, _⟩ => ⟨S8192x4, .f32⟩
  | .hbm, ⟨80, _⟩ => ⟨S8192x4x128, .f32⟩
  | .hbm, ⟨81, _⟩ => ⟨S8192x4x128, .f32⟩
  | .hbm, ⟨82, _⟩ => ⟨S8192x4x128, .f32⟩
  | .hbm, ⟨83, _⟩ => ⟨S8192x4x128, .f32⟩
  | .hbm, ⟨84, _⟩ => ⟨S8192x4x128, .f32⟩
  | .hbm, ⟨85, _⟩ => ⟨S8192x512, .f32⟩
  | .hbm, ⟨86, _⟩ => ⟨S4x1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩

abbrev nD : Nat := 1
abbrev τ : Topo := Topo.v7x

variable {F : FTy → Type} [FloatOps F]
-- ==== Gmlp.lean ====
abbrev S8192x2592 : Shape := ⟨2, ![8192, 2592]⟩
abbrev S8192x512 : Shape := ⟨2, ![8192, 512]⟩
abbrev S4x128x128 : Shape := ⟨3, ![4, 128, 128]⟩
abbrev S4x128 : Shape := ⟨2, ![4, 128]⟩
abbrev S_ : Shape := ⟨0, ![]⟩
abbrev S8192x2688 : Shape := ⟨2, ![8192, 2688]⟩
abbrev S4x128x1 : Shape := ⟨3, ![4, 128, 1]⟩
abbrev S4x1x128 : Shape := ⟨3, ![4, 1, 128]⟩
abbrev S8192x1024 : Shape := ⟨2, ![8192, 1024]⟩
abbrev S512x1024 : Shape := ⟨2, ![512, 1024]⟩
abbrev S512x512 : Shape := ⟨2, ![512, 512]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S128 : Shape := ⟨1, ![128]⟩

abbrev nBuf : Space → Nat
  | .hbm => 17
  | .vmem => 14
  | .smem => 0
  | _ => 0

abbrev bufTy : (tb : Table) → Fin (tcTables nBuf tb) → BufTy
  | .hbm, ⟨0, _⟩ => ⟨S8192x2592, .f32⟩
  | .hbm, ⟨1, _⟩ => ⟨S8192x512, .f32⟩
  | .hbm, ⟨2, _⟩ => ⟨S4x128x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S_, .i32⟩
  | .hbm, ⟨7, _⟩ => ⟨S_, .f32⟩
  | .hbm, ⟨8, _⟩ => ⟨S8192x2688, .f32⟩
  | .hbm, ⟨9, _⟩ => ⟨S4x128x1, .f32⟩
  | .hbm, ⟨10, _⟩ => ⟨S4x1x128, .f32⟩
  | .hbm, ⟨11, _⟩ => ⟨S4x1x128, .f32⟩
  | .hbm, ⟨12, _⟩ => ⟨S8192x1024, .bf16⟩
  | .hbm, ⟨13, _⟩ => ⟨S4x128x128, .f32⟩
  | .hbm, ⟨14, _⟩ => ⟨S4x128x1, .f32⟩
  | .hbm, ⟨15, _⟩ => ⟨S4x1x128, .f32⟩
  | .hbm, ⟨16, _⟩ => ⟨S4x1x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S4x128x128, .f32⟩
  | .local _ .vmem, ⟨5, _⟩ => ⟨S4x128x1, .f32⟩
  | .local _ .vmem, ⟨6, _⟩ => ⟨S4x1x128, .f32⟩
  | .local _ .vmem, ⟨7, _⟩ => ⟨S4x1x128, .f32⟩
  | .local _ .vmem, ⟨8, _⟩ => ⟨S512x1024, .bf16⟩
  | .local _ .vmem, ⟨9, _⟩ => ⟨S512x1024, .bf16⟩
  | .local _ .vmem, ⟨10, _⟩ => ⟨S4x128x128, .f32⟩
  | .local _ .vmem, ⟨11, _⟩ => ⟨S4x128x1, .f32⟩
  | .local _ .vmem, ⟨12, _⟩ => ⟨S4x1x128, .f32⟩
  | .local _ .vmem, ⟨13, _⟩ => ⟨S4x1x128, .f32⟩
  | _, _ => ⟨S8192x2592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpRefIdeal.lean ====
abbrev S8192x2592 : Shape := ⟨2, ![8192, 2592]⟩
abbrev S8192x512 : Shape := ⟨2, ![8192, 512]⟩
abbrev S4x128x128 : Shape := ⟨3, ![4, 128, 128]⟩
abbrev S4x128 : Shape := ⟨2, ![4, 128]⟩
abbrev S8192x1024 : Shape := ⟨2, ![8192, 1024]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x4x128 : Shape := ⟨3, ![1, 4, 128]⟩
abbrev S64x128x4x128 : Shape := ⟨4, ![64, 128, 4, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S4x128x1 : Shape := ⟨3, ![4, 128, 1]⟩
abbrev S4x1x128 : Shape := ⟨3, ![4, 1, 128]⟩

abbrev nBuf : Space → Nat
  | .hbm => 179
  | .vmem => 0
  | .smem => 0
  | _ => 0

abbrev hbmTy0_0 (i : Nat) : BufTy := match i % 128 with
  | 0 => ⟨S8192x2592, .f32⟩
  | 1 => ⟨S8192x512, .f32⟩
  | 2 => ⟨S4x128x128, .f32⟩
  | 3 => ⟨S4x128, .f32⟩
  | 4 => ⟨S4x128, .f32⟩
  | 5 => ⟨S4x128, .f32⟩
  | 6 => ⟨S8192x1024, .f32⟩
  | 7 => ⟨S8192x512, .f32⟩
  | 8 => ⟨S_, .f32⟩
  | 9 => ⟨S8192x512, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x4x128, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S8192x4x128, .f32⟩
  | 35 => ⟨S_, .f32⟩
  | 36 => ⟨S8192x4, .f32⟩
  | 37 => ⟨S8192x4x1, .f32⟩
  | 38 => ⟨S_, .f32⟩
  | 39 => ⟨S8192x4x1, .f32⟩
  | 40 => ⟨S8192x4x1, .f32⟩
  | 41 => ⟨S8192x4x128, .f32⟩
  | 42 => ⟨S8192x4x128, .f32⟩
  | 43 => ⟨S8192x4x128, .f32⟩
  | 44 => ⟨S_, .f32⟩
  | 45 => ⟨S8192x4x128, .f32⟩
  | 46 => ⟨S8192x4x128, .f32⟩
  | 47 => ⟨S_, .f32⟩
  | 48 => ⟨S8192x4, .f32⟩
  | 49 => ⟨S8192x4x1, .f32⟩
  | 50 => ⟨S_, .f32⟩
  | 51 => ⟨S8192x4x1, .f32⟩
  | 52 => ⟨S8192x4x1, .f32⟩
  | 53 => ⟨S8192x4x128, .f32⟩
  | 54 => ⟨S8192x4x128, .f32⟩
  | 55 => ⟨S_, .f32⟩
  | 56 => ⟨S8192x4x1, .f32⟩
  | 57 => ⟨S8192x4x1, .f32⟩
  | 58 => ⟨S8192x4x1, .f32⟩
  | 59 => ⟨S8192x4x1, .f32⟩
  | 60 => ⟨S_, .f32⟩
  | 61 => ⟨S8192x4x1, .f32⟩
  | 62 => ⟨S8192x4x1, .f32⟩
  | 63 => ⟨S8192x4x128, .f32⟩
  | 64 => ⟨S8192x4x128, .f32⟩
  | 65 => ⟨S1x4x128, .f32⟩
  | 66 => ⟨S8192x4x128, .f32⟩
  | 67 => ⟨S8192x4x128, .f32⟩
  | 68 => ⟨S1x4x128, .f32⟩
  | 69 => ⟨S8192x4x128, .f32⟩
  | 70 => ⟨S8192x4x128, .f32⟩
  | 71 => ⟨S64x128x4x128, .f32⟩
  | 72 => ⟨S4x64x128x128, .f32⟩
  | 73 => ⟨S64x128x4x128, .f32⟩
  | 74 => ⟨S128x4, .f32⟩
  | 75 => ⟨S1x128x4x1, .f32⟩
  | 76 => ⟨S64x128x4x128, .f32⟩
  | 77 => ⟨S64x128x4x128, .f32⟩
  | 78 => ⟨S8192x4x128, .f32⟩
  | 79 => ⟨S8192x4x128, .f32⟩
  | 80 => ⟨S8192x512, .f32⟩
  | 81 => ⟨S8192x4x128, .f32⟩
  | 82 => ⟨S8192x4x128, .f32⟩
  | 83 => ⟨S8192x4x128, .f32⟩
  | 84 => ⟨S64x128x4x128, .f32⟩
  | 85 => ⟨S_, .f32⟩
  | 86 => ⟨S128x4, .f32⟩
  | 87 => ⟨S1x128x4x1, .f32⟩
  | 88 => ⟨S_, .f32⟩
  | 89 => ⟨S128x4, .f32⟩
  | 90 => ⟨S4x128, .f32⟩
  | 91 => ⟨S4x64x128x128, .f32⟩
  | 92 => ⟨S4x128x128, .f32⟩
  | 93 => ⟨S4x64x128x128, .f32⟩
  | 94 => ⟨S64x128x4x128, .f32⟩
  | 95 => ⟨S8192x4x128, .f32⟩
  | 96 => ⟨S_, .f32⟩
  | 97 => ⟨S4x128, .f32⟩
  | 98 => ⟨S1x4x128, .f32⟩
  | 99 => ⟨S_, .f32⟩
  | 100 => ⟨S4x128, .f32⟩
  | 101 => ⟨S8192x4x128, .f32⟩
  | 102 => ⟨S_, .f32⟩
  | 103 => ⟨S4x128, .f32⟩
  | 104 => ⟨S1x4x128, .f32⟩
  | 105 => ⟨S8192x4x128, .f32⟩
  | 106 => ⟨S8192x4x128, .f32⟩
  | 107 => ⟨S_, .f32⟩
  | 108 => ⟨S4x128, .f32⟩
  | 109 => ⟨S8192x4x128, .f32⟩
  | 110 => ⟨S_, .f32⟩
  | 111 => ⟨S8192x4, .f32⟩
  | 112 => ⟨S8192x4x1, .f32⟩
  | 113 => ⟨S8192x4x128, .f32⟩
  | 114 => ⟨S8192x4x128, .f32⟩
  | 115 => ⟨S8192x4x1, .f32⟩
  | 116 => ⟨S8192x4x128, .f32⟩
  | 117 => ⟨S_, .f32⟩
  | 118 => ⟨S8192x4, .f32⟩
  | 119 => ⟨S8192x4x1, .f32⟩
  | 120 => ⟨S_, .f32⟩
  | 121 => ⟨S8192x4x1, .f32⟩
  | 122 => ⟨S8192x4x1, .f32⟩
  | 123 => ⟨S_, .f32⟩
  | 124 => ⟨S8192x4, .f32⟩
  | 125 => ⟨S8192x4x128, .f32⟩
  | 126 => ⟨S8192x4x128, .f32⟩
  | 127 => ⟨S8192x4x128, .f32⟩
  | _ => ⟨S8192x2592, .f32⟩

abbrev hbmTy0_1 (i : Nat) : BufTy := match i % 128 with
  | 0 => ⟨S_, .f32⟩
  | 1 => ⟨S8192x4, .f32⟩
  | 2 => ⟨S8192x4x1, .f32⟩
  | 3 => ⟨S8192x4x128, .f32⟩
  | 4 => ⟨S8192x4x1, .f32⟩
  | 5 => ⟨S_, .f32⟩
  | 6 => ⟨S8192x4x1, .f32⟩
  | 7 => ⟨S8192x4x1, .f32⟩
  | 8 => ⟨S_, .f32⟩
  | 9 => ⟨S8192x4, .f32⟩
  | 10 => ⟨S8192x4x128, .f32⟩
  | 11 => ⟨S8192x4x128, .f32⟩
  | 12 => ⟨S8192x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S_, .f32⟩
  | 28 => ⟨S8192x1024, .f32⟩
  | 29 => ⟨S8192x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S8192x512, .f32⟩
  | 44 => ⟨S_, .f32⟩
  | 45 => ⟨S8192x1024, .f32⟩
  | 46 => ⟨S8192x1024, .f32⟩
  | 47 => ⟨S8192x1024, .bf16⟩
  | 48 => ⟨S4x128x1, .f32⟩
  | 49 => ⟨S4x1x128, .f32⟩
  | 50 => ⟨S4x1x128, .f32⟩
  | _ => ⟨S8192x2592, .f32⟩

abbrev hbmTy (i : Nat) : BufTy := match i / 128 with
  | 0 => hbmTy0_0 i
  | 1 => hbmTy0_1 i
  | _ => ⟨S8192x2592, .f32⟩

abbrev bufTy : (tb : Table) → Fin (tcTables nBuf tb) → BufTy
  | .hbm, ⟨i, _⟩ => hbmTy i
  | _, _ => ⟨S8192x2592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_cst_11 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_12 : Ref sig .tc := ⟨.hbm, 96, rfl⟩
abbrev main_v77 : Ref sig .tc := ⟨.hbm, 97, rfl⟩
abbrev main_v78 : Ref sig .tc := ⟨.hbm, 98, rfl⟩
abbrev main_cst_13 : Ref sig .tc := ⟨.hbm, 99, rfl⟩
abbrev main_v79 : Ref sig .tc := ⟨.hbm, 100, rfl⟩
abbrev main_v80 : Ref sig .tc := ⟨.hbm, 101, rfl⟩
abbrev main_cst_14 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_15 : Ref sig .tc := ⟨.hbm, 107, rfl⟩
abbrev main_v85 : Ref sig .tc := ⟨.hbm, 108, rfl⟩
abbrev main_v86 : Ref sig .tc := ⟨.hbm, 109, rfl⟩
abbrev main_cst_16 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_17 : Ref sig .tc := ⟨.hbm, 117, rfl⟩
abbrev main_v93 : Ref sig .tc := ⟨.hbm, 118, rfl⟩
abbrev main_v94 : Ref sig .tc := ⟨.hbm, 119, rfl⟩
abbrev main_cst_18 : Ref sig .tc := ⟨.hbm, 120, rfl⟩
abbrev main_v95 : Ref sig .tc := ⟨.hbm, 121, rfl⟩
abbrev main_v96 : Ref sig .tc := ⟨.hbm, 122, rfl⟩
abbrev main_cst_19 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_20 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_21 : Ref sig .tc := ⟨.hbm, 133, rfl⟩
abbrev main_v105 : Ref sig .tc := ⟨.hbm, 134, rfl⟩
abbrev main_v106 : Ref sig .tc := ⟨.hbm, 135, rfl⟩
abbrev main_cst_22 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_23 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_24 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_25 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_26 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_27 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_28 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_29 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_30 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩

abbrev nD : Nat := 1
abbrev τ : Topo := Topo.v7x

variable {F : FTy → Type} [FloatOps F]
-- ==== FfnF.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S1x1024 : Shape := ⟨2, ![1, 1024]⟩
abbrev S1x5632 : Shape := ⟨2, ![1, 5632]⟩
abbrev S8192x5632 : Shape := ⟨2, ![8192, 5632]⟩
abbrev S8192x2816 : Shape := ⟨2, ![8192, 2816]⟩
abbrev S128x1024 : Shape := ⟨2, ![128, 1024]⟩
abbrev S128x5632 : Shape := ⟨2, ![128, 5632]⟩
abbrev S128x2816 : Shape := ⟨2, ![128, 2816]⟩
abbrev S16x5632 : Shape := ⟨2, ![16, 5632]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S1x256 : Shape := ⟨2, ![1, 256]⟩
abbrev S16x256 : Shape := ⟨2, ![16, 256]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S1x1024, .f32⟩
  | .hbm, ⟨6, _⟩ => ⟨S1024x5632, .bf16⟩
  | .hbm, ⟨7, _⟩ => ⟨S1x5632, .f32⟩
  | .hbm, ⟨8, _⟩ => ⟨S8192x5632, .bf16⟩
  | .hbm, ⟨9, _⟩ => ⟨S8192x1024, .bf16⟩
  | .hbm, ⟨10, _⟩ => ⟨S8192x5632, .bf16⟩
  | .hbm, ⟨11, _⟩ => ⟨S8192x2816, .bf16⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S128x5632, .bf16⟩
  | .local _ .vmem, ⟨7, _⟩ => ⟨S128x5632, .bf16⟩
  | .local _ .vmem, ⟨8, _⟩ => ⟨S128x1024, .bf16⟩
  | .local _ .vmem, ⟨9, _⟩ => ⟨S128x1024, .bf16⟩
  | .local _ .vmem, ⟨10, _⟩ => ⟨S128x5632, .bf16⟩
  | .local _ .vmem, ⟨11, _⟩ => ⟨S128x5632, .bf16⟩
  | .local _ .vmem, ⟨12, _⟩ => ⟨S128x2816, .bf16⟩
  | .local _ .vmem, ⟨13, _⟩ => ⟨S128x2816, .bf16⟩
  | .local _ .vmem, ⟨14, _⟩ => ⟨S128x5632, .bf16⟩
  | .local _ .vmem, ⟨15, _⟩ => ⟨S16x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFRefIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S1x5632 : Shape := ⟨2, ![1, 5632]⟩
abbrev S8194x5632 : Shape := ⟨2, ![8194, 5632]⟩
abbrev S8192x2816 : Shape := ⟨2, ![8192, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S_, .f32⟩
  | .hbm, ⟨23, _⟩ => ⟨S1x5632, .f32⟩
  | .hbm, ⟨24, _⟩ => ⟨S8194x5632, .f32⟩
  | .hbm, ⟨25, _⟩ => ⟨S8192x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S1x5632, .f32⟩
  | .hbm, ⟨36, _⟩ => ⟨S5632, .f32⟩
  | .hbm, ⟨37, _⟩ => ⟨S1x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S1x5632, .f32⟩
  | .hbm, ⟨43, _⟩ => ⟨S5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x2816, .f32⟩
  | .hbm, ⟨49, _⟩ => ⟨S8192x2816, .f32⟩
  | .hbm, ⟨50, _⟩ => ⟨S8192x5632, .bf16⟩
  | .hbm, ⟨51, _⟩ => ⟨S8192x1024, .bf16⟩
  | .hbm, ⟨52, _⟩ => ⟨S8192x5632, .bf16⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== GmlpF.lean ====
abbrev S8192x2592 : Shape := ⟨2, ![8192, 2592]⟩
abbrev S4x128x128 : Shape := ⟨3, ![4, 128, 128]⟩
abbrev S4x128 : Shape := ⟨2, ![4, 128]⟩
abbrev S_ : Shape := ⟨0, ![]⟩
abbrev S8192x2688 : Shape := ⟨2, ![8192, 2688]⟩
abbrev S4x128x1 : Shape := ⟨3, ![4, 128, 1]⟩
abbrev S4x1x128 : Shape := ⟨3, ![4, 1, 128]⟩
abbrev S8192x512 : Shape := ⟨2, ![8192, 512]⟩
abbrev S1024x1024 : Shape := ⟨2, ![1024, 1024]⟩
abbrev S1024x512 : Shape := ⟨2, ![1024, 512]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S128 : Shape := ⟨1, ![128]⟩

abbrev nBuf : Space → Nat
  | .hbm => 12
  | .vmem => 8
  | .smem => 0
  | _ => 0

abbrev bufTy : (tb : Table) → Fin (tcTables nBuf tb) → BufTy
  | .hbm, ⟨0, _⟩ => ⟨S8192x2592, .f32⟩
  | .hbm, ⟨1, _⟩ => ⟨S4x128x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S_, .i32⟩
  | .hbm, ⟨6, _⟩ => ⟨S_, .f32⟩
  | .hbm, ⟨7, _⟩ => ⟨S8192x2688, .f32⟩
  | .hbm, ⟨8, _⟩ => ⟨S4x128x1, .f32⟩
  | .hbm, ⟨9, _⟩ => ⟨S4x1x128, .f32⟩
  | .hbm, ⟨10, _⟩ => ⟨S4x1x128, .f32⟩
  | .hbm, ⟨11, _⟩ => ⟨S8192x512, .bf16⟩
  | .local _ .vmem, ⟨0, _⟩ => ⟨S1024x1024, .f32⟩
  | .local _ .vmem, ⟨1, _⟩ => ⟨S1024x1024, .f32⟩
  | .local _ .vmem, ⟨2, _⟩ => ⟨S4x128x128, .f32⟩
  | .local _ .vmem, ⟨3, _⟩ => ⟨S4x128x1, .f32⟩
  | .local _ .vmem, ⟨4, _⟩ => ⟨S4x1x128, .f32⟩
  | .local _ .vmem, ⟨5, _⟩ => ⟨S4x1x128, .f32⟩
  | .local _ .vmem, ⟨6, _⟩ => ⟨S1024x512, .bf16⟩
  | .local _ .vmem, ⟨7, _⟩ => ⟨S1024x512, .bf16⟩
  | _, _ => ⟨S8192x2592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpFRefIdeal.lean ====
abbrev S8192x2592 : Shape := ⟨2, ![8192, 2592]⟩
abbrev S4x128x128 : Shape := ⟨3, ![4, 128, 128]⟩
abbrev S4x128 : Shape := ⟨2, ![4, 128]⟩
abbrev S8192x1024 : Shape := ⟨2, ![8192, 1024]⟩
abbrev S8192x512 : Shape := ⟨2, ![8192, 512]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x4x128 : Shape := ⟨3, ![1, 4, 128]⟩
abbrev S64x128x4x128 : Shape := ⟨4, ![64, 128, 4, 128]⟩
abbrev S4x64x128x128 : Shape := ⟨4, ![4, 64, 128, 128]⟩
abbrev S128x4 : Shape := ⟨2, ![128, 4]⟩
abbrev S1x128x4x1 : Shape := ⟨4, ![1, 128, 4, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x2592, .f32⟩
  | .hbm, ⟨1, _⟩ => ⟨S4x128x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x4x128, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x4x128, .f32⟩
  | .hbm, ⟨28, _⟩ => ⟨S_, .f32⟩
  | .hbm, ⟨29, _⟩ => ⟨S8192x4, .f32⟩
  | .hbm, ⟨30, _⟩ => ⟨S8192x4x1, .f32⟩
  | .hbm, ⟨31, _⟩ => ⟨S_, .f32⟩
  | .hbm, ⟨32, _⟩ => ⟨S8192x4x1, .f32⟩
  | .hbm, ⟨33, _⟩ => ⟨S8192x4x1, .f32⟩
  | .hbm, ⟨34, _⟩ => ⟨S8192x4x128, .f32⟩
  | .hbm, ⟨35, _⟩ => ⟨S8192x4x128, .f32⟩
  | .hbm, ⟨36, _⟩ => ⟨S8192x4x128, .f32⟩
  | .hbm, ⟨37, _⟩ => ⟨S_, .f32⟩
  | .hbm, ⟨38, _⟩ => ⟨S8192x4, .f32⟩
  | .hbm, ⟨39, _⟩ => ⟨S8192x4x1, .f32⟩
  | .hbm, ⟨40, _⟩ => ⟨S_, .f32⟩
  | .hbm, ⟨41, _⟩ => ⟨S8192x4x1, .f32⟩
  | .hbm, ⟨42, _⟩ => ⟨S8192x4x1, .f32⟩
  | .hbm, ⟨43, _⟩ => ⟨S8192x4x128, .f32⟩
  | .hbm, ⟨44, _⟩ => ⟨S8192x4x128, .f32⟩
  | .hbm, ⟨45, _⟩ => ⟨S_, .f32⟩
  | .hbm, ⟨46, _⟩ => ⟨S8192x4x1, .f32⟩
  | .hbm, ⟨47, _⟩ => ⟨S8192x4x1, .f32⟩
  | .hbm, ⟨48, _⟩ => ⟨S8192x4x1, .f32⟩
  | .hbm, ⟨49, _⟩ => ⟨S8192x4x128, .f32⟩
  | .hbm, ⟨50, _⟩ => ⟨S8192x4x128, .f32⟩
  | .hbm, ⟨51, _⟩ => ⟨S1x4x128, .f32⟩
  | .hbm, ⟨52, _⟩ => ⟨S8192x4x128, .f32⟩
  | .hbm, ⟨53, _⟩ => ⟨S8192x4x128, .f32⟩
  | .hbm, ⟨54, _⟩ => ⟨S1x4x128, .f32⟩
  | .hbm, ⟨55, _⟩ => ⟨S8192x4x128, .f32⟩
  | .hbm, ⟨56, _⟩ => ⟨S8192x4x128, .f32⟩
  | .hbm, ⟨57, _⟩ => ⟨S64x128x4x128, .f32⟩
  | .hbm, ⟨58, _⟩ => ⟨S4x64x128x128, .f32⟩
  | .hbm, ⟨59, _⟩ => ⟨S64x128x4x128, .f32⟩
  | .hbm, ⟨60, _⟩ => ⟨S128x4, .f32⟩
  | .hbm, ⟨61, _⟩ => ⟨S1x128x4x1, .f32⟩
  | .hbm, ⟨62, _⟩ => ⟨S64x128x4x128, .f32⟩
  | .hbm, ⟨63, _⟩ => ⟨S64x128x4x128, .f32⟩
  | .hbm, ⟨64, _⟩ => ⟨S8192x4x128, .f32⟩
  | .hbm, ⟨65, _⟩ => ⟨S8192x4x128, .f32⟩
  | .hbm, ⟨66, _⟩ => ⟨S8192x512, .f32⟩
  | .hbm, ⟨67, _⟩ => ⟨S8192x512, .bf16⟩
  | _, _ => ⟨S8192x2592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== MixF.lean ====
abbrev S8192x1024 : Shape := ⟨2, ![8192, 1024]⟩
abbrev S8192x512 : Shape := ⟨2, ![8192, 512]⟩
abbrev S8192x2592 : Shape := ⟨2, ![8192, 2592]⟩
abbrev S4x128 : Shape := ⟨2, ![4, 128]⟩
abbrev S1024x1024 : Shape := ⟨2, ![1024, 1024]⟩
abbrev S_ : Shape := ⟨0, ![]⟩
abbrev S8192x2688 : Shape := ⟨2, ![8192, 2688]⟩
abbrev S4x1x128 : Shape := ⟨3, ![4, 1, 128]⟩
abbrev S1024x512 : Shape := ⟨2, ![1024, 512]⟩
abbrev S1024x128 : Shape := ⟨2, ![1024, 128]⟩
abbrev S1x1x128 : Shape := ⟨3, ![1, 1, 128]⟩
abbrev S1x128 : Shape := ⟨2, ![1, 128]⟩
abbrev S1024 : Shape := ⟨1, ![1024]⟩
abbrev S1024x1 : Shape := ⟨2, ![1024, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2592, .f32⟩
  | .hbm, ⟨4, _⟩ => ⟨S8192x512, .f32⟩
  | .hbm, ⟨5, _⟩ => ⟨S4x128, .f32⟩
  | .hbm, ⟨6, _⟩ => ⟨S1024x1024, .f32⟩
  | .hbm, ⟨7, _⟩ => ⟨S_, .i32⟩
  | .hbm, ⟨8, _⟩ => ⟨S_, .f32⟩
  | .hbm, ⟨9, _⟩ => ⟨S8192x2688, .f32⟩
  | .hbm, ⟨10, _⟩ => ⟨S8192x512, .bf16⟩
  | .hbm, ⟨11, _⟩ => ⟨S4x1x128, .f32⟩
  | .hbm, ⟨12, _⟩ => ⟨S1024x1024, .bf16⟩
  | .hbm, ⟨13, _⟩ => ⟨S8192x1024, .f32⟩
  | .hbm, ⟨14, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S4x1x128, .f32⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixFRefIdeal.lean ====
abbrev S8192x1024 : Shape := ⟨2, ![8192, 1024]⟩
abbrev S8192x512 : Shape := ⟨2, ![8192, 512]⟩
abbrev S8192x2592 : Shape := ⟨2, ![8192, 2592]⟩
abbrev S4x128 : Shape := ⟨2, ![4, 128]⟩
abbrev S1024x1024 : Shape := ⟨2, ![1024, 1024]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x4x128 : Shape := ⟨3, ![1, 4, 128]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2592, .f32⟩
  | .hbm, ⟨4, _⟩ => ⟨S8192x512, .f32⟩
  | .hbm, ⟨5, _⟩ => ⟨S4x128, .f32⟩
  | .hbm, ⟨6, _⟩ => ⟨S1024x1024, .f32⟩
  | .hbm, ⟨7, _⟩ => ⟨S8192x512, .f32⟩
  | .hbm, ⟨8, _⟩ => ⟨S8192x4x128, .f32⟩
  | .hbm, ⟨9, _⟩ => ⟨S8192x4x128, .f32⟩
  | .hbm, ⟨10, _⟩ => ⟨S_, .f32⟩
  | .hbm, ⟨11, _⟩ => ⟨S8192x4, .f32⟩
  | .hbm, ⟨12, _⟩ => ⟨S8192x4x1, .f32⟩
  | .hbm, ⟨13, _⟩ => ⟨S_, .f32⟩
  | .hbm, ⟨14, _⟩ => ⟨S8192x4x1, .f32⟩
  | .hbm, ⟨15, _⟩ => ⟨S8192x4x1, .f32⟩
  | .hbm, ⟨16, _⟩ => ⟨S_, .f32⟩
  | .hbm, ⟨17, _⟩ => ⟨S8192x4x1, .f32⟩
  | .hbm, ⟨18, _⟩ => ⟨S8192x4x1, .f32⟩
  | .hbm, ⟨19, _⟩ => ⟨S8192x4x1, .f32⟩
  | .hbm, ⟨20, _⟩ => ⟨S8192x4x128, .f32⟩
  | .hbm, ⟨21, _⟩ => ⟨S8192x4x128, .f32⟩
  | .hbm, ⟨22, _⟩ => ⟨S1x4x128, .f32⟩
  | .hbm, ⟨23, _⟩ => ⟨S8192x4x128, .f32⟩
  | .hbm, ⟨24, _⟩ => ⟨S8192x4x128, .f32⟩
  | .hbm, ⟨25, _⟩ => ⟨S8192x512, .f32⟩
  | .hbm, ⟨26, _⟩ => ⟨S8192x4x128, .f32⟩
  | .hbm, ⟨27, _⟩ => ⟨S8192x4x128, .f32⟩
  | .hbm, ⟨28, _⟩ => ⟨S8192x4x128, .f32⟩
  | .hbm, ⟨29, _⟩ => ⟨S_, .f32⟩
  | .hbm, ⟨30, _⟩ => ⟨S8192x4x128, .f32⟩
  | .hbm, ⟨31, _⟩ => ⟨S8192x4x128, .f32⟩
  | .hbm, ⟨32, _⟩ => ⟨S_, .f32⟩
  | .hbm, ⟨33, _⟩ => ⟨S8192x4x128, .f32⟩
  | .hbm, ⟨34, _⟩ => ⟨S8192x4x128, .f32⟩
  | .hbm, ⟨35, _⟩ => ⟨S8192x4x128, .f32⟩
  | .hbm, ⟨36, _⟩ => ⟨S8192x4x128, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== NormF.lean ====
abbrev S8192x1024 : Shape := ⟨2, ![8192, 1024]⟩
abbrev S1024 : Shape := ⟨1, ![1024]⟩
abbrev S1024x2592 : Shape := ⟨2, ![1024, 2592]⟩
abbrev S1x1024 : Shape := ⟨2, ![1, 1024]⟩
abbrev S_ : Shape := ⟨0, ![]⟩
abbrev S1024x2688 : Shape := ⟨2, ![1024, 2688]⟩
abbrev S8192x2688 : Shape := ⟨2, ![8192, 2688]⟩
abbrev S512x1024 : Shape := ⟨2, ![512, 1024]⟩
abbrev S512x2688 : Shape := ⟨2, ![512, 2688]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2592, .f32⟩
  | .hbm, ⟨3, _⟩ => ⟨S1x1024, .f32⟩
  | .hbm, ⟨4, _⟩ => ⟨S1024x2592, .bf16⟩
  | .hbm, ⟨5, _⟩ => ⟨S_, .i32⟩
  | .hbm, ⟨6, _⟩ => ⟨S_, .bf16⟩
  | .hbm, ⟨7, _⟩ => ⟨S1024x2688, .bf16⟩
  | .hbm, ⟨8, _⟩ => ⟨S8192x2688, .f32⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x2688, .f32⟩
  | .local _ .vmem, ⟨5, _⟩ => ⟨S512x2688, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFRefIdeal.lean ====
abbrev S8192x1024 : Shape := ⟨2, ![8192, 1024]⟩
abbrev S1024 : Shape := ⟨1, ![1024]⟩
abbrev S1024x2592 : Shape := ⟨2, ![1024, 2592]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2592 : Shape := ⟨2, ![8192, 2592]⟩
abbrev S8192x2688 : Shape := ⟨2, ![8192, 2688]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2592, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2592, .f32⟩
  | .hbm, ⟨20, _⟩ => ⟨S_, .i32⟩
  | .hbm, ⟨21, _⟩ => ⟨S_, .f32⟩
  | .hbm, ⟨22, _⟩ => ⟨S8192x2688, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== GlaF.lean ====
abbrev S8192x2592 : Shape := ⟨2, ![8192, 2592]⟩
abbrev S16x256 : Shape := ⟨2, ![16, 256]⟩
abbrev S256 : Shape := ⟨1, ![256]⟩
abbrev S8x4x128x128 : Shape := ⟨4, ![8, 4, 128, 128]⟩
abbrev S8192x512 : Shape := ⟨2, ![8192, 512]⟩
abbrev S_ : Shape := ⟨0, ![]⟩
abbrev S8192x2688 : Shape := ⟨2, ![8192, 2688]⟩
abbrev S128x256 : Shape := ⟨2, ![128, 256]⟩
abbrev S1 : Shape := ⟨1, ![1]⟩
abbrev S1x256 : Shape := ⟨2, ![1, 256]⟩
abbrev S8192x256 : Shape := ⟨2, ![8192, 256]⟩
abbrev S8192x128 : Shape := ⟨2, ![8192, 128]⟩
abbrev S1024x256 : Shape := ⟨2, ![1024, 256]⟩
abbrev S1024x512 : Shape := ⟨2, ![1024, 512]⟩
abbrev S1024x128 : Shape := ⟨2, ![1024, 128]⟩
abbrev S1x4x128x128 : Shape := ⟨4, ![1, 4, 128, 128]⟩
abbrev S4x128x128 : Shape := ⟨3, ![4, 128, 128]⟩
abbrev S128x128 : Shape := ⟨2, ![128, 128]⟩
abbrev S1x128 : Shape := ⟨2, ![1, 128]⟩
abbrev S1x1x128x128 : Shape := ⟨4, ![1, 1, 128, 128]⟩
abbrev S128 : Shape := ⟨1, ![128]⟩
abbrev S1x128x128 : Shape := ⟨3, ![1, 128, 128]⟩

abbrev nBuf : Space → Nat
  | .hbm => 20
  | .vmem => 25
  | .smem => 0
  | _ => 0

abbrev bufTy : (tb : Table) → Fin (tcTables nBuf tb) → BufTy
  | .hbm, ⟨0, _⟩ => ⟨S8192x2592, .f32⟩
  | .hbm, ⟨1, _⟩ => ⟨S16x256, .f32⟩
  | .hbm, ⟨2, _⟩ => ⟨S256, .f32⟩
  | .hbm, ⟨3, _⟩ => ⟨S8x4x128x128, .f32⟩
  | .hbm, ⟨4, _⟩ => ⟨S8192x512, .f32⟩
  | .hbm, ⟨5, _⟩ => ⟨S_, .i32⟩
  | .hbm, ⟨6, _⟩ => ⟨S_, .f32⟩
  | .hbm, ⟨7, _⟩ => ⟨S8192x2688, .f32⟩
  | .hbm, ⟨8, _⟩ => ⟨S_, .f32⟩
  | .hbm, ⟨9, _⟩ => ⟨S128x256, .f32⟩
  | .hbm, ⟨10, _⟩ => ⟨S_, .i32⟩
  | .hbm, ⟨11, _⟩ => ⟨S1, .i32⟩
  | .hbm, ⟨12, _⟩ => ⟨S128x256, .f32⟩
  | .hbm, ⟨13, _⟩ => ⟨S1x256, .f32⟩
  | .hbm, ⟨14, _⟩ => ⟨S8192x256, .f32⟩
  | .hbm, ⟨15, _⟩ => ⟨S8192x256, .f32⟩
  | .hbm, ⟨16, _⟩ => ⟨S8192x512, .f32⟩
  | .hbm, ⟨17, _⟩ => ⟨S8192x128, .f32⟩
  | .hbm, ⟨18, _⟩ => ⟨S128x256, .f32⟩
  | .hbm, ⟨19, _⟩ => ⟨S1x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x128, .f32⟩
  | .local _ .vmem, ⟨7, _⟩ => ⟨S1024x128, .f32⟩
  | .local _ .vmem, ⟨8, _⟩ => ⟨S128x256, .f32⟩
  | .local _ .vmem, ⟨9, _⟩ => ⟨S1x256, .f32⟩
  | .local _ .vmem, ⟨10, _⟩ => ⟨S1x4x128x128, .f32⟩
  | .local _ .vmem, ⟨11, _⟩ => ⟨S1x4x128x128, .f32⟩
  | .local _ .vmem, ⟨12, _⟩ => ⟨S1024x512, .f32⟩
  | .local _ .vmem, ⟨13, _⟩ => ⟨S1024x512, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x512, .f32⟩
  | .local _ .vmem, ⟨19, _⟩ => ⟨S1024x512, .f32⟩
  | .local _ .vmem, ⟨20, _⟩ => ⟨S1024x128, .f32⟩
  | .local _ .vmem, ⟨21, _⟩ => ⟨S1024x128, .f32⟩
  | .local _ .vmem, ⟨22, _⟩ => ⟨S128x256, .f32⟩
  | .local _ .vmem, ⟨23, _⟩ => ⟨S1x256, .f32⟩
  | .local _ .vmem, ⟨24, _⟩ => ⟨S4x128x128, .f32⟩
  | _, _ => ⟨S8192x2592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c20_i32 : BitVec 32 := 20#32
  let c0_i32 : BitVec 32 := 0#32
  ![v0.toNat, c20_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== GlaR.lean ====
abbrev S8192x2592 : Shape := ⟨2, ![8192, 2592]⟩
abbrev S16x256 : Shape := ⟨2, ![16, 256]⟩
abbrev S256 : Shape := ⟨1, ![256]⟩
abbrev S8x4x128x128 : Shape := ⟨4, ![8, 4, 128, 128]⟩
abbrev S8192x512 : Shape := ⟨2, ![8192, 512]⟩
abbrev S8192x256 : Shape := ⟨2, ![8192, 256]⟩
abbrev S8192x128 : Shape := ⟨2, ![8192, 128]⟩
abbrev S_ : Shape := ⟨0, ![]⟩
abbrev S8192x2688 : Shape := ⟨2, ![8192, 2688]⟩
abbrev S128x256 : Shape := ⟨2, ![128, 256]⟩
abbrev S1 : Shape := ⟨1, ![1]⟩
abbrev S1x256 : Shape := ⟨2, ![1, 256]⟩
abbrev S8192x1664 : Shape := ⟨2, ![8192, 1664]⟩
abbrev S1024x256 : Shape := ⟨2, ![1024, 256]⟩
abbrev S1024x512 : Shape := ⟨2, ![1024, 512]⟩
abbrev S1024x128 : Shape := ⟨2, ![1024, 128]⟩
abbrev S1x4x128x128 : Shape := ⟨4, ![1, 4, 128, 128]⟩
abbrev S1024x1664 : Shape := ⟨2, ![1024, 1664]⟩
abbrev S4x128x128 : Shape := ⟨3, ![4, 128, 128]⟩
abbrev S128x128 : Shape := ⟨2, ![128, 128]⟩
abbrev S1x128 : Shape := ⟨2, ![1, 128]⟩
abbrev S1x1x128x128 : Shape := ⟨4, ![1, 1, 128, 128]⟩
abbrev S128 : Shape := ⟨1, ![128]⟩
abbrev S1x128x128 : Shape := ⟨3, ![1, 128, 128]⟩

abbrev nBuf : Space → Nat
  | .hbm => 22
  | .vmem => 30
  | .smem => 0
  | _ => 0

abbrev bufTy : (tb : Table) → Fin (tcTables nBuf tb) → BufTy
  | .hbm, ⟨0, _⟩ => ⟨S8192x2592, .f32⟩
  | .hbm, ⟨1, _⟩ => ⟨S16x256, .f32⟩
  | .hbm, ⟨2, _⟩ => ⟨S256, .f32⟩
  | .hbm, ⟨3, _⟩ => ⟨S8x4x128x128, .f32⟩
  | .hbm, ⟨4, _⟩ => ⟨S8192x512, .f32⟩
  | .hbm, ⟨5, _⟩ => ⟨S8192x256, .f32⟩
  | .hbm, ⟨6, _⟩ => ⟨S8192x256, .f32⟩
  | .hbm, ⟨7, _⟩ => ⟨S8192x512, .f32⟩
  | .hbm, ⟨8, _⟩ => ⟨S8192x128, .f32⟩
  | .hbm, ⟨9, _⟩ => ⟨S8192x512, .f32⟩
  | .hbm, ⟨10, _⟩ => ⟨S_, .i32⟩
  | .hbm, ⟨11, _⟩ => ⟨S_, .f32⟩
  | .hbm, ⟨12, _⟩ => ⟨S8192x2688, .f32⟩
  | .hbm, ⟨13, _⟩ => ⟨S_, .f32⟩
  | .hbm, ⟨14, _⟩ => ⟨S128x256, .f32⟩
  | .hbm, ⟨15, _⟩ => ⟨S_, .i32⟩
  | .hbm, ⟨16, _⟩ => ⟨S1, .i32⟩
  | .hbm, ⟨17, _⟩ => ⟨S128x256, .f32⟩
  | .hbm, ⟨18, _⟩ => ⟨S1x256, .f32⟩
  | .hbm, ⟨19, _⟩ => ⟨S8192x1664, .bf16⟩
  | .hbm, ⟨20, _⟩ => ⟨S128x256, .f32⟩
  | .hbm, ⟨21, _⟩ => ⟨S1x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x128, .f32⟩
  | .local _ .vmem, ⟨7, _⟩ => ⟨S1024x128, .f32⟩
  | .local _ .vmem, ⟨8, _⟩ => ⟨S128x256, .f32⟩
  | .local _ .vmem, ⟨9, _⟩ => ⟨S1x256, .f32⟩
  | .local _ .vmem, ⟨10, _⟩ => ⟨S1x4x128x128, .f32⟩
  | .local _ .vmem, ⟨11, _⟩ => ⟨S1x4x128x128, .f32⟩
  | .local _ .vmem, ⟨12, _⟩ => ⟨S1024x512, .f32⟩
  | .local _ .vmem, ⟨13, _⟩ => ⟨S1024x512, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x512, .f32⟩
  | .local _ .vmem, ⟨19, _⟩ => ⟨S1024x512, .f32⟩
  | .local _ .vmem, ⟨20, _⟩ => ⟨S1024x128, .f32⟩
  | .local _ .vmem, ⟨21, _⟩ => ⟨S1024x128, .f32⟩
  | .local _ .vmem, ⟨22, _⟩ => ⟨S1024x512, .f32⟩
  | .local _ .vmem, ⟨23, _⟩ => ⟨S1024x512, .f32⟩
  | .local _ .vmem, ⟨24, _⟩ => ⟨S1024x1664, .bf16⟩
  | .local _ .vmem, ⟨25, _⟩ => ⟨S1024x1664, .bf16⟩
  | .local _ .vmem, ⟨26, _⟩ => ⟨S128x256, .f32⟩
  | .local _ .vmem, ⟨27, _⟩ => ⟨S1x256, .f32⟩
  | .local _ .vmem, ⟨28, _⟩ => ⟨S4x128x128, .f32⟩
  | .local _ .vmem, ⟨29, _⟩ => ⟨S1024x128, .f32⟩
  | _, _ => ⟨S8192x2592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1664 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GlaFwdF.lean ====
abbrev S8192x2592 : Shape := ⟨2, ![8192, 2592]⟩
abbrev S16x256 : Shape := ⟨2, ![16, 256]⟩
abbrev S256 : Shape := ⟨1, ![256]⟩
abbrev S_ : Shape := ⟨0, ![]⟩
abbrev S8192x2688 : Shape := ⟨2, ![8192, 2688]⟩
abbrev S128x256 : Shape := ⟨2, ![128, 256]⟩
abbrev S1 : Shape := ⟨1, ![1]⟩
abbrev S1x256 : Shape := ⟨2, ![1, 256]⟩
abbrev S8192x512 : Shape := ⟨2, ![8192, 512]⟩
abbrev S8x4x128x128 : Shape := ⟨4, ![8, 4, 128, 128]⟩
abbrev S1024x256 : Shape := ⟨2, ![1024, 256]⟩
abbrev S1024x512 : Shape := ⟨2, ![1024, 512]⟩
abbrev S1024x128 : Shape := ⟨2, ![1024, 128]⟩
abbrev S1x4x128x128 : Shape := ⟨4, ![1, 4, 128, 128]⟩
abbrev S4x128x128 : Shape := ⟨3, ![4, 128, 128]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩

abbrev nBuf : Space → Nat
  | .hbm => 14
  | .vmem => 15
  | .smem => 0
  | _ => 0

abbrev bufTy : (tb : Table) → Fin (tcTables nBuf tb) → BufTy
  | .hbm, ⟨0, _⟩ => ⟨S8192x2592, .f32⟩
  | .hbm, ⟨1, _⟩ => ⟨S16x256, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S8192x2688, .f32⟩
  | .hbm, ⟨6, _⟩ => ⟨S_, .f32⟩
  | .hbm, ⟨7, _⟩ => ⟨S128x256, .f32⟩
  | .hbm, ⟨8, _⟩ => ⟨S_, .i32⟩
  | .hbm, ⟨9, _⟩ => ⟨S1, .i32⟩
  | .hbm, ⟨10, _⟩ => ⟨S128x256, .f32⟩
  | .hbm, ⟨11, _⟩ => ⟨S1x256, .f32⟩
  | .hbm, ⟨12, _⟩ => ⟨S8192x512, .f32⟩
  | .hbm, ⟨13, _⟩ => ⟨S8x4x128x128, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x128, .f32⟩
  | .local _ .vmem, ⟨7, _⟩ => ⟨S1024x128, .f32⟩
  | .local _ .vmem, ⟨8, _⟩ => ⟨S128x256, .f32⟩
  | .local _ .vmem, ⟨9, _⟩ => ⟨S1x256, .f32⟩
  | .local _ .vmem, ⟨10, _⟩ => ⟨S1024x512, .f32⟩
  | .local _ .vmem, ⟨11, _⟩ => ⟨S1024x512, .f32⟩
  | .local _ .vmem, ⟨12, _⟩ => ⟨S1x4x128x128, .f32⟩
  | .local _ .vmem, ⟨13, _⟩ => ⟨S1x4x128x128, .f32⟩
  | .local _ .vmem, ⟨14, _⟩ => ⟨S4x128x128, .f32⟩
  | _, _ => ⟨S8192x2592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GlaFwdR.lean ====
abbrev S8192x2592 : Shape := ⟨2, ![8192, 2592]⟩
abbrev S16x256 : Shape := ⟨2, ![16, 256]⟩
abbrev S256 : Shape := ⟨1, ![256]⟩
abbrev S_ : Shape := ⟨0, ![]⟩
abbrev S8192x2688 : Shape := ⟨2, ![8192, 2688]⟩
abbrev S128x256 : Shape := ⟨2, ![128, 256]⟩
abbrev S1 : Shape := ⟨1, ![1]⟩
abbrev S1x256 : Shape := ⟨2, ![1, 256]⟩
abbrev S8192x512 : Shape := ⟨2, ![8192, 512]⟩
abbrev S8x4x128x128 : Shape := ⟨4, ![8, 4, 128, 128]⟩
abbrev S1024x256 : Shape := ⟨2, ![1024, 256]⟩
abbrev S1024x512 : Shape := ⟨2, ![1024, 512]⟩
abbrev S1024x128 : Shape := ⟨2, ![1024, 128]⟩
abbrev S1x4x128x128 : Shape := ⟨4, ![1, 4, 128, 128]⟩
abbrev S4x128x128 : Shape := ⟨3, ![4, 128, 128]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩

abbrev nBuf : Space → Nat
  | .hbm => 14
  | .vmem => 15
  | .smem => 0
  | _ => 0

abbrev bufTy : (tb : Table) → Fin (tcTables nBuf tb) → BufTy
  | .hbm, ⟨0, _⟩ => ⟨S8192x2592, .f32⟩
  | .hbm, ⟨1, _⟩ => ⟨S16x256, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S8192x2688, .f32⟩
  | .hbm, ⟨6, _⟩ => ⟨S_, .f32⟩
  | .hbm, ⟨7, _⟩ => ⟨S128x256, .f32⟩
  | .hbm, ⟨8, _⟩ => ⟨S_, .i32⟩
  | .hbm, ⟨9, _⟩ => ⟨S1, .i32⟩
  | .hbm, ⟨10, _⟩ => ⟨S128x256, .f32⟩
  | .hbm, ⟨11, _⟩ => ⟨S1x256, .f32⟩
  | .hbm, ⟨12, _⟩ => ⟨S8192x512, .f32⟩
  | .hbm, ⟨13, _⟩ => ⟨S8x4x128x128, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x128, .f32⟩
  | .local _ .vmem, ⟨7, _⟩ => ⟨S1024x128, .f32⟩
  | .local _ .vmem, ⟨8, _⟩ => ⟨S128x256, .f32⟩
  | .local _ .vmem, ⟨9, _⟩ => ⟨S1x256, .f32⟩
  | .local _ .vmem, ⟨10, _⟩ => ⟨S1024x512, .f32⟩
  | .local _ .vmem, ⟨11, _⟩ => ⟨S1024x512, .f32⟩
  | .local _ .vmem, ⟨12, _⟩ => ⟨S1x4x128x128, .f32⟩
  | .local _ .vmem, ⟨13, _⟩ => ⟨S1x4x128x128, .f32⟩
  | .local _ .vmem, ⟨14, _⟩ => ⟨S4x128x128, .f32⟩
  | _, _ => ⟨S8192x2592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c20_i32 : BitVec 32 := 20#32
  let c0_i32 : BitVec 32 := 0#32
  ![v0.toNat, c20_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Res.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Tn.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Adam.lean ====
abbrev S4x1024x1408 : Shape := ⟨3, ![4, 1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamIdeal.lean ====
variable {F : FTy → Type} [FloatOps F] [Named F]
def κ : String → Option EReal := fun
  | "inv_c1" => some (((5463681 / 8388608)⁻¹ : ℝ) : EReal)
  | "inv_c2" => some (((2672307 / 268435456)⁻¹ : ℝ) : EReal)
  | _ => none
-- ==== AdamRefIdeal.lean ====
abbrev S4x1024x1408 : Shape := ⟨3, ![4, 1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S_, .f32⟩
  | .hbm, ⟨7, _⟩ => ⟨S4x1024x1408, .f32⟩
  | .hbm, ⟨8, _⟩ => ⟨S4x1024x1408, .f32⟩
  | .hbm, ⟨9, _⟩ => ⟨S_, .f32⟩
  | .hbm, ⟨10, _⟩ => ⟨S4x1024x1408, .f32⟩
  | .hbm, ⟨11, _⟩ => ⟨S4x1024x1408, .f32⟩
  | .hbm, ⟨12, _⟩ => ⟨S4x1024x1408, .f32⟩
  | .hbm, ⟨13, _⟩ => ⟨S_, .f32⟩
  | .hbm, ⟨14, _⟩ => ⟨S4x1024x1408, .f32⟩
  | .hbm, ⟨15, _⟩ => ⟨S4x1024x1408, .f32⟩
  | .hbm, ⟨16, _⟩ => ⟨S4x1024x1408, .f32⟩
  | .hbm, ⟨17, _⟩ => ⟨S_, .f32⟩
  | .hbm, ⟨18, _⟩ => ⟨S4x1024x1408, .f32⟩
  | .hbm, ⟨19, _⟩ => ⟨S4x1024x1408, .f32⟩
  | .hbm, ⟨20, _⟩ => ⟨S4x1024x1408, .f32⟩
  | .hbm, ⟨21, _⟩ => ⟨S_, .f32⟩
  | .hbm, ⟨22, _⟩ => ⟨S4x1024x1408, .f32⟩
  | .hbm, ⟨23, _⟩ => ⟨S4x1024x1408, .f32⟩
  | .hbm, ⟨24, _⟩ => ⟨S_, .f32⟩
  | .hbm, ⟨25, _⟩ => ⟨S4x1024x1408, .f32⟩
  | .hbm, ⟨26, _⟩ => ⟨S4x1024x1408, .f32⟩
  | .hbm, ⟨27, _⟩ => ⟨S4x1024x1408, .f32⟩
  | .hbm, ⟨28, _⟩ => ⟨S_, .f32⟩
  | .hbm, ⟨29, _⟩ => ⟨S4x1024x1408, .f32⟩
  | .hbm, ⟨30, _⟩ => ⟨S4x1024x1408, .f32⟩
  | .hbm, ⟨31, _⟩ => ⟨S4x1024x1408, .f32⟩
  | .hbm, ⟨32, _⟩ => ⟨S_, .f32⟩
  | .hbm, ⟨33, _⟩ => ⟨S4x1024x1408, .f32⟩
  | .hbm, ⟨34, _⟩ => ⟨S4x1024x1408, .f32⟩
  | .hbm, ⟨35, _⟩ => ⟨S4x1024x1408, .f32⟩
  | .hbm, ⟨36, _⟩ => ⟨S_, .f32⟩
  | .hbm, ⟨37, _⟩ => ⟨S4x1024x1408, .f32⟩
  | .hbm, ⟨38, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Consts.lean ====
module

public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.Consts

/-- The single-precision pattern of 1024. -/
theorem ofBits_1024 : Ideal.ofBits .f32 0x44800000#32 = ((1024 : ℝ) : EReal) := by
  simp [Ideal.ofBits, Ideal.ieee, -EReal.coe_mul]; norm_num
/-- The single-precision pattern of 1/1024. -/
theorem ofBits_inv1024 : Ideal.ofBits .f32 0x3A800000#32 = ((1 / 1024 : ℝ) : EReal) := by
  simp [Ideal.ofBits, Ideal.ieee, -EReal.coe_mul]; norm_num
/-- The single-precision pattern of 1/2. -/
theorem ofBits_half : Ideal.ofBits .f32 0x3F000000#32 = ((1 / 2 : ℝ) : EReal) := by
  simp [Ideal.ofBits, Ideal.ieee, -EReal.coe_mul]; norm_num
/-- The single-precision pattern of 2. -/
theorem ofBits_two : Ideal.ofBits .f32 0x40000000#32 = ((2 : ℝ) : EReal) := by
  simp [Ideal.ofBits, Ideal.ieee, -EReal.coe_mul]; norm_num

/-- The integer zero as a value. -/
theorem sitofp_zero : (FloatOps.sitofp (F := Ideal) .bf16 (0#32) : Ideal .bf16) = (0 : EReal) := by
  show ((((0#32 : BitVec 32).toInt : ℝ)) : EReal) = 0
  simp

/-- A nonnegative real factor distributes over a sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast hc) (EReal.coe_ne_top c) _ _

/-- The loss's cotangent, written by the two programs. -/
theorem half_two (e : EReal) :
    Ideal.div ((1 / 2 : ℝ) : EReal) ((1024 : ℝ) : EReal) * (((2 : ℝ) : EReal) * e) = e * ((1 / 1024 : ℝ) : EReal) := by
  rw [Ideal.div_coe (by norm_num), ← mul_assoc, mul_comm]
  congr 1
  norm_cast
  norm_num

end Cert.Consts
-- ==== Proof.Row.lean ====
module

public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem

namespace Cert.Row

/-- The mean square of a row of 1024 features, with the norm's small constant. -/
def ms (x : Fin 1024 → EReal) : EReal :=
  Ideal.div (∑ k, x k * x k) (Ideal.ofBits .f32 0x44800000#32) + Ideal.ofBits .f32 0x358637BD#32

/-- The reciprocal root mean square of a row. -/
def inv (x : Fin 1024 → EReal) : EReal := Ideal.rsqrt (ms x)

/-- The gradient of the root-mean-square norm with respect to the row `x`, for the gain `g` and the
    cotangent `ct`, at feature `k`. -/
def bwd (x g ct : Fin 1024 → EReal) (k : Fin 1024) : EReal :=
  ct k * g k * inv x
    + x k * Ideal.div ((∑ j, x j * (ct j * g j)) * (Ideal.ofBits .f32 0xBF000000#32 * Ideal.div (inv x) (ms x)))
        (Ideal.ofBits .f32 0x44800000#32)
    + Ideal.div ((∑ j, x j * (ct j * g j)) * (Ideal.ofBits .f32 0xBF000000#32 * Ideal.div (inv x) (ms x)))
        (Ideal.ofBits .f32 0x44800000#32) * x k

end Cert.Row
-- ==== Proof.LossRefVal.lean ====
module

public import proofs.«01_k».proof.Proof.Consts
public import proofs.«01_k».proof.Proof.Row
public import proofs.«01_k».proof.Proof.Gen.LossRefIdeal.Read

@[expose] public section
set_option maxRecDepth 16384
noncomputable section
open Idealize.ShloMosaic Idealize.ShloMosaic.TcCoe Idealize.SL.Sem
open Idealize.ShloMosaic.Pipeline (Dat)
namespace Cert.LossVal
open Cert.LossRefIdeal Cert.LossRefIdeal.Read

/-- The residual of row `r` at feature `k`. -/
def err (X : FVec Ideal S8192x1024 .f32) (G : FVec Ideal S1024 .f32) (Y : FVec Ideal S8192x1024 .f32) (r : Fin 8192) (k : Fin 1024) : EReal :=
  X (ix2 r k) * Row.inv (fun k => X (ix2 r k)) * G (ix1 k) - Y (ix2 r k)

variable (X : FVec Ideal S8192x1024 .f32) (G : FVec Ideal S1024 .f32) (Y : FVec Ideal S8192x1024 .f32)

theorem ref_ms (r : Fin 8192) : val_main_v6 (F := Ideal) X (ix2 r 0) = Row.ms (fun k => X (ix2 r k)) := by
  pointwise [val_main_v6, val_main_v5, val_main_v4, val_main_v3, val_main_v2, val_main_v1, val_main_v0, val_main_cst, val_main_cst_0, val_main_cst_1, Row.ms]

theorem ref_inv (r : Fin 8192) : val_main_v7 (F := Ideal) X (ix2 r 0) = Row.inv (fun k => X (ix2 r k)) := by
  pointwise [val_main_v7, Row.inv]
  rw [ref_ms]

theorem ref_err (r : Fin 8192) (k : Fin 1024) : val_main_v16 (F := Ideal) X G Y (ix2 r k) = err X G Y r k := by
  pointwise [val_main_v16, val_main_v15, val_main_v14, val_main_v13, val_main_v12, val_main_v11, err]
  rw [ref_inv]

theorem ref_ct (r : Fin 8192) (k : Fin 1024) : val_main_v30 (F := Ideal) X G Y (ix2 r k) = err X G Y r k * ((1 / 1024 : ℝ) : EReal) := by
  pointwise [val_main_v30, val_main_v29, val_main_v28, val_main_v27, val_main_v26, val_main_v25, val_main_v19, val_main_v18, val_main_cst_3, val_main_cst_8, val_main_cst_9, val_main_cst_10]
  rw [ref_err, Consts.ofBits_1024, Consts.ofBits_half, Consts.ofBits_two]
  exact Consts.half_two _

theorem ref_loss (i) : val_main_v24 (F := Ideal) X G Y i
    = ((1 / 2 : ℝ) : EReal) * ∑ r, Ideal.div (∑ k, err X G Y r k * err X G Y r k) ((1024 : ℝ) : EReal) := by
  pointwise [val_main_v24, val_main_v23, val_main_v22, val_main_v21, val_main_v20, val_main_v17, val_main_cst_4, val_main_cst_5, val_main_cst_6, val_main_cst_7]
  simp only [ref_err, Consts.ofBits_1024, Consts.ofBits_half, zero_add]

theorem ref_dg (k : Fin 1024) : val_main_v36 (F := Ideal) X G Y (ix1 k)
    = ∑ r, X (ix2 r k) * Row.inv (fun k => X (ix2 r k)) * (err X G Y r k * ((1 / 1024 : ℝ) : EReal)) := by
  pointwise [val_main_v36, val_main_v33, val_main_v32, val_main_v31, val_main_v12, val_main_v11, val_main_cst_11, val_main_cst_12]
  simp only [ref_ct, ref_inv, zero_add, Fin.sum_univ_one]

theorem ref_dx (r : Fin 8192) (k : Fin 1024) : val_main_v50 (F := Ideal) X G Y (ix2 r k)
    = Row.bwd (fun k => X (ix2 r k)) (fun k => G (ix1 k)) (fun k => err X G Y r k * ((1 / 1024 : ℝ) : EReal)) k := by
  pointwise [val_main_v50, val_main_v49, val_main_v48, val_main_v47, val_main_v46, val_main_v45, val_main_v44, val_main_v43, val_main_v42, val_main_v41, val_main_v40, val_main_v39, val_main_v38, val_main_v37, val_main_v35, val_main_v34, val_main_v13, val_main_v10, val_main_v9, val_main_v8, val_main_cst_2, val_main_cst_13, val_main_cst_14, val_main_cst_15, Row.bwd]
  simp only [ref_ct, ref_inv, ref_ms, zero_add, Fin.sum_univ_one]

end Cert.LossVal
-- ==== Proof.LossVal.lean ====
module

public import proofs.«01_k».proof.Proof.LossRefVal
public import proofs.«01_k».proof.Proof.Gen.LossIdeal.Frame

@[expose] public section
set_option maxRecDepth 16384
noncomputable section
open Idealize.ShloMosaic Idealize.ShloMosaic.TcCoe Idealize.SL.Sem
open Idealize.ShloMosaic.Pipeline (Dat)
namespace Cert.LossVal
open Cert.LossIdeal Cert.LossIdeal.Gen
variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

section payloads
variable (x : FVec Ideal S512x1024 .f32) (g : FVec Ideal S1x1024 .f32) (y : FVec Ideal S512x1024 .f32)

/-- The residual of a block's row `r` at feature `k`. -/
def berr (r : Fin 512) (k : Fin 1024) : EReal :=
  x (ix2 r k) * Row.inv (fun k => x (ix2 r k)) * g (ix2 0 k) - y (ix2 r k)

theorem pay_ms (r : Fin 512) : k0_pay6 (F := Ideal) x (ix2 r 0) = Row.ms (fun k => x (ix2 r k)) := by
  pointwise [k0_pay6, Row.ms]

theorem pay_inv (r : Fin 512) : k0_pay7 (F := Ideal) x (ix2 r 0) = Row.inv (fun k => x (ix2 r k)) := by
  pointwise [k0_pay7, Row.inv]
  rw [pay_ms]

theorem pay_err (r : Fin 512) (k : Fin 1024) : k0_pay10 (F := Ideal) x g y (ix2 r k) = berr x g y r k := by
  pointwise [k0_pay10, k0_pay9, k0_pay5, berr]
  rw [pay_inv]

theorem pay_ct (r : Fin 512) (k : Fin 1024) : k0_pay12 (F := Ideal) x g y (ix2 r k) = berr x g y r k * ((1 / 1024 : ℝ) : EReal) := by
  pointwise [k0_pay12]
  rw [pay_err, Consts.ofBits_inv1024]

theorem pay_loss (acc : FVec Ideal S1x1024 .f32) (k : Fin 1024) : k0_pay11 (F := Ideal) x g y acc (ix2 0 k)
    = acc (ix2 0 k) + ∑ r : Fin 512, berr x g y r k * berr x g y r k := by
  pointwise [k0_pay11]
  simp only [pay_err]

theorem pay_dg (acc : FVec Ideal S1x1024 .f32) (k : Fin 1024) : k0_pay2 (F := Ideal) (k0_pay13 x g y) acc (ix2 0 k)
    = acc (ix2 0 k) + ∑ r : Fin 512, x (ix2 r k) * Row.inv (fun k => x (ix2 r k)) * (berr x g y r k * ((1 / 1024 : ℝ) : EReal)) := by
  pointwise [k0_pay2, k0_pay13, k0_pay9]
  simp only [pay_ct, pay_inv]

theorem pay_dx (r : Fin 512) (k : Fin 1024) :
    k0_pay1 (F := Ideal) x (k0_pay7 x) (k0_pay8 x) (k0_pay14 x g y) (k0_pay15 x g y) (ix2 r k)
      = Row.bwd (fun k => x (ix2 r k)) (fun k => g (ix2 0 k)) (fun k => berr x g y r k * ((1 / 1024 : ℝ) : EReal)) k := by
  pointwise [k0_pay1, k0_pay8, k0_pay14, k0_pay15, k0_pay5, Row.bwd]
  simp only [pay_ct, pay_inv, pay_ms, Fin.sum_univ_one]

end payloads

/-- What the body leaves of the gradient at a point, in either case. -/
theorem out_dx (c : Dev nD) (t : Fin cfg0.N) (r : Fin 512) (k : Fin 1024) : (outsAt0 m c t.val t.isLt).2.1 (ix2 r k)
    = Row.bwd (fun k => iblk m c 0 t (ix2 r k)) (fun k => iblk m c 1 t (ix2 0 k))
        (fun k => berr (iblk m c 0 t) (iblk m c 1 t) (iblk m c 2 t) r k * ((1 / 1024 : ℝ) : EReal)) k := by
  by_cases h : t.val % 16 = 0
  · rw [outsAt0_A m c t h]
    frame_out
    exact pay_dx _ _ _ r k
  · rw [outsAt0_B m c t h]
    frame_out
    exact pay_dx _ _ _ r k

/-- A row of the block of the point `t` is a row of the array. -/
theorem blk_x (c : Dev nD) (t : Fin cfg0.N) (r : Fin 512) (k : Fin 1024) (h : t.val * 512 + r < 8192) :
    iblk m c 0 t (ix2 r k) = m ((c : Thread nD τ).loc main_arg0) (ix2 ⟨t.val * 512 + r, h⟩ k) := by
  blk_ext [iblk, V, idx t]

theorem blk_y (c : Dev nD) (t : Fin cfg0.N) (r : Fin 512) (k : Fin 1024) (h : t.val * 512 + r < 8192) :
    iblk m c 2 t (ix2 r k) = m ((c : Thread nD τ).loc main_arg2) (ix2 ⟨t.val * 512 + r, h⟩ k) := by
  blk_ext [iblk, V, idx t]

theorem V_v0 (c : Dev nD) : V m c main_v0 = broadcastInDim S1x1024 ![1] bcast_S1024_S1x1024_1 (m ((c : Thread nD τ).loc main_arg1)) := by
  unfold V
  after_results
  try rfl

theorem blk_g (c : Dev nD) (t : Fin cfg0.N) (k : Fin 1024) :
    iblk m c 1 t (ix2 0 k) = m ((c : Thread nD τ).loc main_arg1) (ix1 k) := by
  have e : (win0_1.blk t).view.emb (ix2 0 k : S1x1024.Idx) = (ix2 0 k : S1x1024.Idx) := by
    blk_ext [idx t]
  change V m c main_v0 ((win0_1.blk t).view.emb (ix2 0 k : S1x1024.Idx)) = _
  rw [e, V_v0]
  pointwise

theorem blk_err (c : Dev nD) (t : Fin cfg0.N) (r : Fin 512) (k : Fin 1024) (h : t.val * 512 + r < 8192) :
    berr (iblk m c 0 t) (iblk m c 1 t) (iblk m c 2 t) r k
      = err (m ((c : Thread nD τ).loc main_arg0)) (m ((c : Thread nD τ).loc main_arg1)) (m ((c : Thread nD τ).loc main_arg2)) ⟨t.val * 512 + r, h⟩ k := by
  unfold berr err
  rw [blk_g m c t k, blk_y m c t r k h, blk_x m c t r k h]
  congr 4
  funext k
  exact blk_x m c t r k h

/-- The gradient with respect to the activations, as an array. -/
def DX (X : FVec Ideal S8192x1024 .f32) (G : FVec Ideal S1024 .f32) (Y : FVec Ideal S8192x1024 .f32) : FVec Ideal S8192x1024 .f32 :=
  fun i => Row.bwd (fun k => X (ix2 (i 0) k)) (fun k => G (ix1 k)) (fun k => err X G Y (i 0) k * ((1 / 1024 : ℝ) : EReal)) (i 1)

/-- The squared error of every feature, summed over the rows. -/
def LS (X : FVec Ideal S8192x1024 .f32) (G : FVec Ideal S1024 .f32) (Y : FVec Ideal S8192x1024 .f32) : FVec Ideal S1x1024 .f32 :=
  fun i => ∑ r : Fin 8192, err X G Y r (i 1) * err X G Y r (i 1)

/-- The gradient with respect to the gain. -/
def DG (X : FVec Ideal S8192x1024 .f32) (G : FVec Ideal S1024 .f32) (Y : FVec Ideal S8192x1024 .f32) : FVec Ideal S1x1024 .f32 :=
  fun i => ∑ r : Fin 8192, X (ix2 r (i 1)) * Row.inv (fun k => X (ix2 r k)) * (err X G Y r (i 1) * ((1 / 1024 : ℝ) : EReal))

theorem row_lt (t : Fin cfg0.N) (r : Fin 512) : t.val * 512 + r < 8192 := by
  have := lt_of_lt_of_eq t.isLt N_0
  omega

theorem point_dx (c : Dev nD) (t : Fin cfg0.N) (y : S512x1024.Idx) : (outsAt0 m c t.val t.isLt).2.1 y
    = DX (m ((c : Thread nD τ).loc main_arg0)) (m ((c : Thread nD τ).loc main_arg1)) (m ((c : Thread nD τ).loc main_arg2)) ((win0_4.blk t).view.emb y) := by
  obtain ⟨r, k, rfl⟩ : ∃ (r : Fin 512) (k : Fin 1024), y = ix2 r k := ⟨y 0, y 1, eq_ix2 y⟩
  have e : (win0_4.blk t).view.emb (ix2 r k : S512x1024.Idx) = (ix2 ⟨t.val * 512 + r, row_lt t r⟩ k : S8192x1024.Idx) := by
    blk_ext [idx t]
  rw [e, out_dx]
  simp only [blk_x m c t _ _ (row_lt t _), blk_g, blk_err m c t _ _ (row_lt t _)]
  rfl

theorem final_dx (c : Dev nD) : (dats m 0 c).arrAt 4 (cfgs 0).N
    = DX (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  exact point_dx m c t y

/-- The accumulated blocks: what the last point leaves is the sum over every row of the array. -/
theorem point_loss (c : Dev nD) (t : Fin cfg0.N) (hf : t.val % 16 = 15) (y : S1x1024.Idx) : (outsAt0 m c t.val t.isLt).1 y
    = LS (m ((c : Thread nD τ).loc main_arg0)) (m ((c : Thread nD τ).loc main_arg1)) (m ((c : Thread nD τ).loc main_arg2)) ((win0_3.blk t).view.emb y) := by
  have hN : t.val < 16 := lt_of_lt_of_eq t.isLt N_0
  obtain ⟨z, k, rfl⟩ : ∃ (z : Fin 1) (k : Fin 1024), y = ix2 z k := ⟨y 0, y 1, eq_ix2 y⟩
  obtain rfl : z = 0 := Subsingleton.elim _ _
  have e : (win0_3.blk t).view.emb (ix2 0 k : S1x1024.Idx) = (ix2 0 k : S1x1024.Idx) := by
    blk_ext [idx t]
  rw [e, Pipeline.eq_sum_fin_of_reset_step_apply_last (fun n h k => (outsAt0 m c n h).1 (ix2 0 k)) 16 (fun _ => 0)
    (fun p k => ∑ r : Fin 512, berr (iblk m c 0 p) (iblk m c 1 p) (iblk m c 2 p) r k * berr (iblk m c 0 p) (iblk m c 1 p) (iblk m c 2 p) r k)
    (fun t h k => by
      rw [outsAt0_A m c t h]; frame_out
      exact (pay_loss _ _ _ _ k).trans (congrArg (· + _) (by pointwise [k0_pay3])))
    (fun t h k => by
      rw [outsAt0_B m c t h]; frame_out
      exact pay_loss _ _ _ _ k)
    (le_of_eq N_0) t (by have : cfg0.N = 16 := N_0; omega) k, zero_add]
  refine Fin.sum_mul_add_congr fun s r hl => ?_
  rw [blk_err m c s r k hl]
  rfl

theorem point_dg (c : Dev nD) (t : Fin cfg0.N) (hf : t.val % 16 = 15) (y : S1x1024.Idx) : (outsAt0 m c t.val t.isLt).2.2 y
    = DG (m ((c : Thread nD τ).loc main_arg0)) (m ((c : Thread nD τ).loc main_arg1)) (m ((c : Thread nD τ).loc main_arg2)) ((win0_5.blk t).view.emb y) := by
  have hN : t.val < 16 := lt_of_lt_of_eq t.isLt N_0
  obtain ⟨z, k, rfl⟩ : ∃ (z : Fin 1) (k : Fin 1024), y = ix2 z k := ⟨y 0, y 1, eq_ix2 y⟩
  obtain rfl : z = 0 := Subsingleton.elim _ _
  have e : (win0_5.blk t).view.emb (ix2 0 k : S1x1024.Idx) = (ix2 0 k : S1x1024.Idx) := by
    blk_ext [idx t]
  rw [e, Pipeline.eq_sum_fin_of_reset_step_apply_last (fun n h k => (outsAt0 m c n h).2.2 (ix2 0 k)) 16 (fun _ => 0)
    (fun p k => ∑ r : Fin 512, (show EReal from iblk m c 0 p (ix2 r k)) * Row.inv (fun k => iblk m c 0 p (ix2 r k))
      * (berr (iblk m c 0 p) (iblk m c 1 p) (iblk m c 2 p) r k * ((1 / 1024 : ℝ) : EReal)))
    (fun t h k => by
      rw [outsAt0_A m c t h]; frame_out
      exact (pay_dg _ _ _ _ k).trans (congrArg (· + _) (by pointwise [k0_pay4])))
    (fun t h k => by
      rw [outsAt0_B m c t h]; frame_out
      exact pay_dg _ _ _ _ k)
    (le_of_eq N_0) t (by have : cfg0.N = 16 := N_0; omega) k, zero_add]
  refine Fin.sum_mul_add_congr fun s r hl => ?_
  rw [blk_err m c s r k hl]
  simp only [blk_x m c s r _ hl]
  rfl

theorem final_loss (c : Dev nD) : (dats m 0 c).arrAt 3 (cfgs 0).N
    = LS (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point_loss m c t ((flush0_3 t).mp hf) y

theorem final_dg (c : Dev nD) : (dats m 0 c).arrAt 5 (cfgs 0).N
    = DG (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  exact point_dg m c t ((flush0_5 t).mp hf) y

end Cert.LossVal
-- ==== Proof.LossClaim.lean ====
module

public import proofs.«01_k».proof.Defs
public import proofs.«01_k».proof.Proof.LossVal
public import proofs.«01_k».proof.Proof.Gen.LossRefIdeal.Run
public import proofs.«01_k».proof.Proof.Gen.LossIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.LossVal
open Cert.LossIdeal Cert.LossIdeal.Gen

section tail
variable (m : (ℓ : Loc nD τ sig) → Buf (Elt Ideal) ℓ) (c : Dev nD)

/-- What the host finds in an array of the region once the region has run. -/
theorem tail_arr (w : Fin cfg0.W) : Pipeline.withArrays (cfgs 0).spec c (V0 m c) (fun w => (dats m 0 c).arrAt w (cfgs 0).N)
      (Proc.devRef .tc (Pipeline.arrRef spec0 w)) = (dats m 0 c).arrAt w (cfgs 0).N :=
  Pipeline.withArrays_arr (cfgs 0).spec (by exact (by decide : Function.Injective (Pipeline.arrRef spec0))) c (V0 m c) (fun w => (dats m 0 c).arrAt w (cfgs 0).N) w

/-- The loss, off the column sums: the host's operations after the region. -/
theorem tail_loss (L : FVec Ideal S1x1024 .f32) (h : (dats m 0 c).arrAt 3 (cfgs 0).N = L) :
    Pipeline.afterTail₀ cfgs (dats m) 0 (V0 m) [hostOps1] c main_v4
    = (Host.divf (mulf (constant S_ .f32 0x3F000000#32) (Host.reduceAdd L
        (constant S_ .f32 0x00000000#32) reducesTo_S1x1024_S_d0_1 h_S_)) (constant S_ .f32 0x44800000#32) : FVec Ideal S_ .f32) := by
  have e := (tail_arr m c 3).trans h
  unfold Pipeline.afterTail₀
  simp only [List.flatten_cons, List.flatten_nil, List.append_nil]
  after_results
  exact congrArg (fun z : FVec Ideal S1x1024 .f32 => (Host.divf (mulf (constant S_ .f32 0x3F000000#32) (Host.reduceAdd z
    (constant S_ .f32 0x00000000#32) reducesTo_S1x1024_S_d0_1 h_S_)) (constant S_ .f32 0x44800000#32) : FVec Ideal S_ .f32)) e

theorem tail_dg (L : FVec Ideal S1x1024 .f32) (h : (dats m 0 c).arrAt 5 (cfgs 0).N = L) :
    Pipeline.afterTail₀ cfgs (dats m) 0 (V0 m) [hostOps1] c main_v5
    = (shapeCast S1024 L shapeCasts_S1x1024_S1024 : FVec Ideal S1024 .f32) := by
  have e := (tail_arr m c 5).trans h
  unfold Pipeline.afterTail₀
  simp only [List.flatten_cons, List.flatten_nil, List.append_nil]
  after_results
  exact congrArg (fun z : FVec Ideal S1x1024 .f32 => (shapeCast S1024 z shapeCasts_S1x1024_S1024 : FVec Ideal S1024 .f32)) e
end tail

theorem loss_eq (X : FVec Ideal S8192x1024 .f32) (G : FVec Ideal S1024 .f32) (Y : FVec Ideal S8192x1024 .f32) :
    Host.divf (mulf (constant S_ .f32 0x3F000000#32) (Host.reduceAdd (LS X G Y)
        (constant S_ .f32 0x00000000#32) reducesTo_S1x1024_S_d0_1 h_S_)) (constant S_ .f32 0x44800000#32)
      = Cert.LossRefIdeal.Read.val_main_v24 (F := Ideal) X G Y := by
  funext i
  rw [ref_loss]
  pointwise [LS]
  simp only [Consts.ofBits_1024, Consts.ofBits_half, zero_add, Fin.sum_univ_one, Ideal.div_coe (by norm_num : (1024 : ℝ) ≠ 0)]
  rw [← Consts.sum_mul_coe _ _ _ (by norm_num), mul_assoc, Finset.sum_comm]

theorem dg_eq (X : FVec Ideal S8192x1024 .f32) (G : FVec Ideal S1024 .f32) (Y : FVec Ideal S8192x1024 .f32) :
    shapeCast S1024 (DG X G Y) shapeCasts_S1x1024_S1024
      = Cert.LossRefIdeal.Read.val_main_v36 (F := Ideal) X G Y := by
  funext i
  obtain ⟨k, rfl⟩ : ∃ k : Fin 1024, i = ix1 k := ⟨i 0, eq_ix1 i⟩
  rw [ref_dg]
  pointwise [DG]

theorem dx_eq (X : FVec Ideal S8192x1024 .f32) (G : FVec Ideal S1024 .f32) (Y : FVec Ideal S8192x1024 .f32) :
    DX X G Y = Cert.LossRefIdeal.Read.val_main_v50 (F := Ideal) X G Y := by
  funext i
  obtain ⟨r, k, rfl⟩ : ∃ (r : Fin 8192) (k : Fin 1024), i = ix2 r k := ⟨i 0, i 1, eq_ix2 i⟩
  rw [ref_dx]
  rfl

theorem algebraic : Cert.algebraic_LossIdeal_LossRefIdeal := by
  pair_intro
  · run_from Cert.LossIdeal.Gen.run_main m g
    exact W_main_arg1 m (dats m) c
  · run_from Cert.LossRefIdeal.Value.run m' g'
    · rw [tail_loss m c _ (final_loss m c), loss_eq, Cert.LossRefIdeal.Read.val_main_v24_eq]; try rfl
    · rw [final_dx, dx_eq, Cert.LossRefIdeal.Read.val_main_v50_eq, (hagree c).1, (hagree c).2.1, (hagree c).2.2]
    · rw [tail_dg m c _ (final_dg m c), dg_eq, Cert.LossRefIdeal.Read.val_main_v36_eq]; try rfl

/-- The reference ends with its arguments unchanged; it declares no semaphore. -/
theorem ref_frame : Cert.quiescent_LossRefIdeal := fun m g _ =>
  (θ_run Cert.LossRefIdeal.defs _ _).mono (fun r h => ⟨fun c => (h c).2.2.2, sem_eq_zero_of_no_sems (by decide) r.2⟩)
    (Cert.LossRefIdeal.Value.run (F := Ideal) m g)

end Cert.LossVal
-- ==== Proof.Reals.lean ====
module

public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.Reals
/-- An extended real that is a real. -/
def IsReal (x : EReal) : Prop := ∃ r : ℝ, x = r

/-- The single-precision pattern of the infinity. -/
theorem ofBits_inf : Ideal.ofBits .f32 0x7F800000#32 = ⊤ := by
  simp [Ideal.ofBits, Ideal.ieee]

/-- A magnitude below the infinity is a real's. -/
theorem isReal_of_abs_lt (x : EReal) (h : max x (-x) < ⊤) : IsReal x := by
  induction x with
  | bot => simp at h
  | top => simp at h
  | coe r => exact ⟨r, rfl⟩

/-- What the precondition says of one argument. -/
theorem isReal_of_finite {s : Shape} (hb : (⟨0, ![]⟩ : Shape).BroadcastsInDim s (![] : Fin 0 → Fin s.rank)) (x : FVec Ideal s .f32)
    (h : cmpf (F := Ideal) .olt (Host.absf x) (broadcastInDim s ![] hb (constant ⟨0, ![]⟩ .f32 0x7F800000#32)) = fun _ => 1#1) (i : s.Idx) :
    IsReal (x i) := by
  have e := congrFun h i
  unfold cmpf Host.absf broadcastInDim constant at e
  dsimp at e
  rw [ofBits_inf] at e
  have h2 : Ideal.cmp .olt (max (x i) (-(x i))) ⊤ = 1#1 := e
  refine isReal_of_abs_lt _ ?_
  by_contra hn
  have h3 : Ideal.cmp .olt (max (x i) (-(x i))) ⊤ = BitVec.ofBool (decide (max (x i) (-(x i)) < ⊤)) := rfl
  rw [h3, decide_eq_false hn] at h2
  exact absurd h2 (by decide)

end Cert.Reals
-- ==== Proof.DownVal.lean ====
module

public import proofs.«01_k».proof.Proof.Reals
public import proofs.«01_k».proof.Proof.Consts
public import proofs.«01_k».proof.Proof.Gen.DownIdeal.Value
public import proofs.«01_k».proof.Proof.Gen.DownRefIdeal.Read
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.DownVal
open Cert.DownIdeal Cert.DownIdeal.Gen Cert.Reals

/-- The logistic of `z`. -/
def sg (z : EReal) : EReal := Ideal.div 1 (1 + Ideal.exp (0 - z))

/-- The gradient with respect to the gate's entry `z`, its value's entry `v`, at the cotangent `a` of the product. -/
def gateG (a z v : EReal) : EReal := a * v * (sg z + z * sg z * (1 - sg z))
/-- The gradient with respect to the value's entry. -/
def gateV (a z : EReal) : EReal := a * (z * sg z)

/-- The product of the cotangent's row with a row of `w_down`. -/
def da (X : Fin 1024 → EReal) (W : Fin 2816 → Fin 1024 → EReal) (k : Fin 2816) : EReal := ∑ d : Fin 1024, X d * W k d

/-- One row of the gradient, as the kernel computes it: the first half of the columns the gate's, the second the value's. -/
def row (X : Fin 1024 → EReal) (Z : Fin 5632 → EReal) (W : Fin 2816 → Fin 1024 → EReal) (k : Fin 5632) : EReal :=
  if h : k.val < 2816 then gateG (da X W ⟨k.val, h⟩) (Z k) (Z ⟨k.val + 2816, by omega⟩)
  else gateV (da X W ⟨k.val - 2816, by omega⟩) (Z ⟨k.val - 2816, by omega⟩)

theorem row_gate (X : Fin 1024 → EReal) (Z : Fin 5632 → EReal) (W : Fin 2816 → Fin 1024 → EReal) (k z v : Fin 5632) (a : Fin 2816)
    (ha : k.val = a.val) (hz : z.val = a.val) (hv : v.val = a.val + 2816) :
    row X Z W k = (∑ d : Fin 1024, X d * W a d) * Z v
      * (Ideal.div 1 (1 + Ideal.exp (0 - Z z)) + Z z * Ideal.div 1 (1 + Ideal.exp (0 - Z z)) * (1 - Ideal.div 1 (1 + Ideal.exp (0 - Z z)))) := by
  obtain rfl : k = z := Fin.ext (by omega)
  rw [row, dif_pos (by omega), gateG, sg, da, show (⟨k.val, by omega⟩ : Fin 2816) = a from Fin.ext ha,
    show (⟨k.val + 2816, by omega⟩ : Fin 5632) = v from Fin.ext (show k.val + 2816 = v.val by omega)]

theorem row_val (X : Fin 1024 → EReal) (Z : Fin 5632 → EReal) (W : Fin 2816 → Fin 1024 → EReal) (k z : Fin 5632) (a : Fin 2816)
    (ha : k.val = a.val + 2816) (hz : z.val = a.val) :
    row X Z W k = (∑ d : Fin 1024, X d * W a d) * (Z z * Ideal.div 1 (1 + Ideal.exp (0 - Z z))) := by
  rw [row, dif_neg (by omega), gateV, sg, da, show (⟨k.val - 2816, by omega⟩ : Fin 2816) = a from Fin.ext (show k.val - 2816 = a.val by omega),
    show (⟨k.val - 2816, by omega⟩ : Fin 5632) = z from Fin.ext (show k.val - 2816 = z.val by omega)]

/-- The logistic of `z` in the reference's spelling. -/
def sgn (z : EReal) : EReal := Ideal.div 1 (1 + Ideal.exp (-z))

/-- The gate's gradient by the derivative rules: product rule, then the logistic's. -/
def refG (a z v : EReal) : EReal := a * v * sgn z + z * (a * v) * (sgn z * (1 - sgn z))

/-- One row of the gradient, as the reference computes it. -/
def refrow (X : Fin 1024 → EReal) (Z : Fin 5632 → EReal) (W : Fin 2816 → Fin 1024 → EReal) (k : Fin 5632) : EReal :=
  if h : k.val < 2816 then refG (da X W ⟨k.val, h⟩) (Z k) (Z ⟨k.val + 2816, by omega⟩)
  else Z ⟨k.val - 2816, by omega⟩ * sgn (Z ⟨k.val - 2816, by omega⟩) * da X W ⟨k.val - 2816, by omega⟩

/-- What the body leaves in the block: its 22 stores are the columns of one row function. -/
theorem out_at (x0 : Vec Ideal S512x1024 .f32) (x1 : Vec Ideal S512x5632 .bf16) (x2 : Vec Ideal S2816x1024 .bf16) (y : S512x5632.Idx) (r : Fin 512)
    (k : Fin 5632) (hr : (y 0).val = r.val) (hk : (y 1).val = k.val) :
    out0_3 (F := Ideal) x0 x1 x2 y = row (fun d => x0 (ix2 r d)) (fun j => x1 (ix2 r j)) (fun a d => x2 (ix2 a d)) k := by
  unfold out0_3
  canon_tiles x h
  all_goals
    obtain rfl : x 0 = r := Fin.ext (by omega)
    open_payloads
    pointwise
    first
      | exact (row_gate (fun d => x0 (ix2 (x 0) d)) (fun j => x1 (ix2 (x 0) j)) (fun a d => x2 (ix2 a d)) k _ _ _ (by (try dsimp only); omega) (by (try dsimp only)) (by (try dsimp only); omega)).symm
      | exact (row_val (fun d => x0 (ix2 (x 0) d)) (fun j => x1 (ix2 (x 0) j)) (fun a d => x2 (ix2 a d)) k _ _ (by (try dsimp only); omega) (by (try dsimp only))).symm

section blocks
variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![0, 0]
    ∧ win0_3.index t = ![t.val, 0] := (by decide +kernel : ∀ t : Fin grid0.N, _)

theorem row_lt (r : Fin 512) : t.val * 512 + r.val < 8192 := by
  have : t.val < 16 := lt_of_lt_of_eq t.isLt N_0
  omega

theorem V_v0 : V m c main_v0 = (truncf .bf16 (show FVec Ideal S8192x5632 .f32 from m ((c : Thread nD τ).loc main_arg1)) bitsLt_bf16_f32 : FVec Ideal S8192x5632 .bf16) := by
  unfold V; after_results; try rfl
theorem V_v1 : V m c main_v1 = (truncf .bf16 (show FVec Ideal S2816x1024 .f32 from m ((c : Thread nD τ).loc main_arg2)) bitsLt_bf16_f32 : FVec Ideal S2816x1024 .bf16) := by
  unfold V; after_results; try rfl

theorem blk_x (r : Fin 512) (k : Fin 1024) :
    iblk m c 0 t (ix2 r k) = m ((c : Thread nD τ).loc main_arg0) (ix2 ⟨t.val * 512 + r, row_lt t r⟩ k) := by
  blk_ext [iblk, V, idx t]

theorem blk_z (r : Fin 512) (k : Fin 5632) :
    iblk m c 1 t (ix2 r k) = m ((c : Thread nD τ).loc main_arg1) (ix2 ⟨t.val * 512 + r, row_lt t r⟩ k) := by
  have e : (win0_1.blk t).view.emb (ix2 r k : S512x5632.Idx) = (ix2 ⟨t.val * 512 + r, row_lt t r⟩ k : S8192x5632.Idx) := by
    blk_ext [idx t]
  change V m c main_v0 ((win0_1.blk t).view.emb (ix2 r k : S512x5632.Idx)) = _
  rw [e, V_v0]
  pointwise

theorem blk_w (r : Fin 2816) (k : Fin 1024) :
    iblk m c 2 t (ix2 r k) = m ((c : Thread nD τ).loc main_arg2) (ix2 r k) := by
  have e : (win0_2.blk t).view.emb (ix2 r k : S2816x1024.Idx) = (ix2 r k : S2816x1024.Idx) := by
    blk_ext [idx t]
  change V m c main_v1 ((win0_2.blk t).view.emb (ix2 r k : S2816x1024.Idx)) = _
  rw [e, V_v1]
  pointwise

/-- The gradient as one array. -/
def DZ (X : FVec Ideal S8192x1024 .f32) (Z : FVec Ideal S8192x5632 .f32) (W : FVec Ideal S2816x1024 .f32) : FVec Ideal S8192x5632 .bf16 :=
  fun i => row (fun d => X (ix2 (i 0) d)) (fun j => Z (ix2 (i 0) j)) (fun a d => W (ix2 a d)) (i 1)

theorem point (y : S512x5632.Idx) : out0_3 (iblk m c 0 t) (iblk m c 1 t) (iblk m c 2 t) y
    = DZ (m ((c : Thread nD τ).loc main_arg0)) (m ((c : Thread nD τ).loc main_arg1)) (m ((c : Thread nD τ).loc main_arg2))
      ((win0_3.blk t).view.emb y) := by
  obtain ⟨r, k, rfl⟩ : ∃ (r : Fin 512) (k : Fin 5632), y = ix2 r k := ⟨y 0, y 1, eq_ix2 y⟩
  have e : (win0_3.blk t).view.emb (ix2 r k : S512x5632.Idx) = (ix2 ⟨t.val * 512 + r, row_lt t r⟩ k : S8192x5632.Idx) := by
    blk_ext [idx t]
  rw [e, out_at _ _ _ _ r k rfl rfl]
  simp only [blk_x m c t r, blk_z m c t r, blk_w m c t]
  rfl

theorem final_dz : (dats m 0 c).arrAt 3 cfg0.N
    = DZ (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point m c t y
end blocks

/-! ## The reference -/

theorem ref_dz (X : FVec Ideal S8192x1024 .f32) (Z : FVec Ideal S8192x5632 .f32) (W : FVec Ideal S2816x1024 .f32) (r : Fin 8192) (k : Fin 5632) :
    Cert.DownRefIdeal.Read.val_main_v10 (F := Ideal) X Z W (ix2 r k)
      = refrow (fun d => X (ix2 r d)) (fun j => Z (ix2 r j)) (fun a d => W (ix2 a d)) k := by
  open Cert.DownRefIdeal.Read in
  pointwise [val_main_v10, val_main_v9, val_main_v8, val_main_v6, val_main_v7, val_main_v5, val_main_call1_v2, val_main_call1_v1, val_main_call1_v0,
    val_main_v2_0, val_main_v2_1, val_main_v2_2, val_main_v0, val_main_v1, val_main_call0_v7, val_main_call0_v6, val_main_call0_cst_1,
    val_main_call0_v4, val_main_call0_cst_0, val_main_call0_v3, val_main_call0_v2, val_main_call0_cst, val_main_call0_v1, val_main_call0_v0]
  unfold refrow refG da sgn
  simp only [Nat.add_comm 2816]

theorem sgn_eq (z : EReal) : sgn z = sg z := by rw [sgn, sg, zero_sub]

/-- The logistic of a real is a real. -/
theorem sg_real (z : ℝ) : ∃ s : ℝ, sg z = s := by
  refine ⟨1 / (1 + Real.exp (-z)), ?_⟩
  have h : (1 : EReal) + Ideal.exp (0 - (z : EReal)) = ((1 + Real.exp (-z) : ℝ) : EReal) := by
    rw [zero_sub, ← EReal.coe_neg, Ideal.exp_coe]; norm_cast
  rw [sg, h, Ideal.div_coe (by positivity), one_mul]

theorem da_real (X : Fin 1024 → EReal) (W : Fin 2816 → Fin 1024 → EReal) (hX : ∀ d, IsReal (X d)) (hW : ∀ a d, IsReal (W a d)) (k : Fin 2816) :
    IsReal (da X W k) := by
  choose x hx using hX
  choose w hw using hW
  refine ⟨∑ d, x d * w k d, ?_⟩
  rw [da]
  simp only [hx, hw]
  push_cast
  rfl

theorem row_eq (X : Fin 1024 → EReal) (Z : Fin 5632 → EReal) (W : Fin 2816 → Fin 1024 → EReal) (hX : ∀ d, IsReal (X d)) (hZ : ∀ j, IsReal (Z j))
    (hW : ∀ a d, IsReal (W a d)) (k : Fin 5632) : row X Z W k = refrow X Z W k := by
  unfold row refrow
  split
  · obtain ⟨a, ha⟩ := da_real X W hX hW ⟨k.val, by assumption⟩
    obtain ⟨z, hz⟩ := hZ k
    obtain ⟨v, hv⟩ := hZ ⟨k.val + 2816, by omega⟩
    obtain ⟨s, hs⟩ := sg_real z
    rw [gateG, refG, sgn_eq, ha, hz, hv, hs]
    norm_cast
    ring
  · rw [gateV, sgn_eq, mul_comm]

end Cert.DownVal
-- ==== Proof.DownClaim.lean ====
module

public import proofs.«01_k».proof.Defs
public import proofs.«01_k».proof.Proof.DownVal
public import proofs.«01_k».proof.Proof.Gen.DownRefIdeal.Run
public import proofs.«01_k».proof.Proof.Gen.DownIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.DownVal
open Cert.DownIdeal Cert.DownIdeal.Gen Cert.Reals

theorem dz_eq (X : FVec Ideal S8192x1024 .f32) (Z : FVec Ideal S8192x5632 .f32) (W : FVec Ideal S2816x1024 .f32)
    (hX : ∀ i, IsReal (X i)) (hZ : ∀ i, IsReal (Z i)) (hW : ∀ i, IsReal (W i)) :
    DZ X Z W = Cert.DownRefIdeal.Read.val_main_v10 (F := Ideal) X Z W := by
  funext i
  obtain ⟨r, k, rfl⟩ : ∃ (r : Fin 8192) (k : Fin 5632), i = ix2 r k := ⟨i 0, i 1, eq_ix2 i⟩
  rw [ref_dz]
  exact row_eq _ _ _ (fun d => hX _) (fun j => hZ _) (fun a d => hW _) k

variable [hPre : Cert.Pre_finite_down.Facts]

theorem algebraic : Cert.algebraic_DownIdeal_DownRefIdeal_pre_finite_down := by
  pair_intro
  · run_from Cert.DownIdeal.Value.run_blocks m g
  · run_from Cert.DownRefIdeal.Value.run m' g'
    rw [final_dz, dz_eq _ _ _ (isReal_of_finite _ _ (hpre c).1) (isReal_of_finite _ _ (hpre c).2.1) (isReal_of_finite _ _ (hpre c).2.2), (hagree c).2.2]
    exact Cert.DownRefIdeal.Read.val_main_v10_eq (F := Ideal) _ _ _

/-- The reference ends with its arguments unchanged; it declares no semaphore. -/
theorem ref_frame : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

theorem frame_pre : Cert.quiescent_DownIdeal_pre_finite_down := fun m g _ => Cert.DownIdeal.Gen.frame m g

theorem ref_frame_pre : Cert.quiescent_DownRefIdeal_pre_finite_down := fun m g _ => ref_frame m g trivial

end Cert.DownVal
-- ==== Proof.Fill.lean ====
module

public import Idealize.ShloMosaic.Lib.Pipeline.ReadBack
public import Idealize.ShloMosaic.Lib.Pipeline.ValueKit
public import Idealize.ShloMosaic.Lib.Ring

@[expose] public section
set_option maxRecDepth 16384
noncomputable section
open Idealize.ShloMosaic Idealize.ShloMosaic.TcCoe Idealize.SL.Sem
open Idealize.ShloMosaic.Pipeline (Dat)
namespace Cert.Fill
variable {Val : EltTy → Type} {S : Shape} {e : EltTy}

/-- Where later stores cover an index, the first of all stores may be left out. -/
theorem canon_dropLast [∀ e, Nonempty (Val e)] (L : List (View.Piece Val S e)) (p : View.Piece Val S e) :
    ∀ y : S.Idx, (∃ q ∈ L, y ∈ q.1.set) → View.canon (L ++ [p]) y = View.canon L y := by
  induction L with
  | nil => rintro y ⟨q, hq, _⟩; simp at hq
  | cons a L ih =>
    intro y hy
    by_cases h : y ∈ a.1.set
    · obtain ⟨x, rfl⟩ := a.1.exists_idx_of_mem h
      rw [List.cons_append, show a.1.idx x = a.1.emb x from rfl, View.canon_cons_emb, View.canon_cons_emb]
    · rw [List.cons_append, View.canon_cons_of_not_mem _ _ h, View.canon_cons_of_not_mem _ _ h]
      refine ih y ?_
      obtain ⟨q, hq, hyq⟩ := hy
      rcases List.mem_cons.mp hq with rfl | hq
      · exact absurd hyq h
      · exact ⟨q, hq, hyq⟩

/-- The same, for a list of stores whose first one is not split off: stores of one size cover the whole. -/
theorem canon_of_tiled [∀ e, Nonempty (Val e)] (L : List (View.Piece Val S e)) (size : Fin S.rank → ℕ) (hne : L ≠ [])
    (h : View.Piece.tiledL L.dropLast size = true) (y : S.Idx) : View.canon L y = View.canon L.dropLast y := by
  conv_lhs => rw [← List.dropLast_append_getLast hne]
  exact canon_dropLast _ _ y (View.cover_of_tiledL _ size h y)

/-- A load of a box which all stores but the first lie beside reads the first one, here a constant. -/
theorem readCov_beside [∀ e, Nonempty (Val e)] {sig : RefSig} {κ : Kind} {sp : Space} (v : View sig κ sp S e) (L : List (View.Piece Val S e))
    (R : LoadRect S) (d : Fin S.rank) (hne : L ≠ [])
    (h : L.dropLast.all (fun p => decide (p.1.off d + p.1.stride d * (p.1.size d - 1) < R.off d
      ∨ R.off d + R.stride d * (R.size d - 1) < p.1.off d)) = true)
    (z : Val e) (hz : ∀ x, (L.getLast hne).2 x = z) (hw : ∀ y : S.Idx, y ∈ (L.getLast hne).1.set) : v.readCov L R = fun _ => z := by
  rw [View.readCov_eq_canon']
  funext j
  conv_lhs => rw [← List.dropLast_append_getLast hne]
  have hj : (R.idx j d : ℕ) = R.off d + R.stride d * (j d).val := rfl
  have hl : R.stride d * (j d).val ≤ R.stride d * (R.size d - 1) := Nat.mul_le_mul_left _ (Nat.le_sub_one_of_lt (j d).isLt)
  generalize L.getLast hne = p at hz hw
  generalize L.dropLast = M at h
  generalize R.idx j = y at hj
  induction M with
  | nil =>
    obtain ⟨x, rfl⟩ := p.1.exists_idx_of_mem (hw y)
    rw [List.nil_append, show p.1.idx x = p.1.emb x from rfl, View.canon_cons_emb]
    exact hz x
  | cons a M ih =>
    rw [List.all_cons, Bool.and_eq_true, decide_eq_true_iff] at h
    rw [List.cons_append, View.canon_cons_of_not_mem]
    · exact ih h.2
    · intro hm
      obtain ⟨i, hi, e⟩ := (LoadRect.mem_set _).mp hm d
      have := Nat.mul_le_mul_left (a.1.stride d) (Nat.le_sub_one_of_lt hi)
      have h1 := h.1
      omega

end Cert.Fill
-- ==== Proof.UpBlk.lean ====
module

public import proofs.«01_k».proof.Proof.Row
public import proofs.«01_k».proof.Proof.Consts
public import proofs.«01_k».proof.Proof.Fill
public import proofs.«01_k».proof.Proof.Gen.UpIdeal.Value
public import proofs.«01_k».proof.Proof.Gen.UpRefIdeal.Read
public import Idealize.ShloMosaic.Lib.Claim
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.UpVal
open Cert.UpIdeal Cert.UpIdeal.Gen

section blockrows
variable (x0 : FVec Ideal S256x5632 .bf16) (x1 x2 : FVec Ideal S16x5632 .bf16) (x3 : FVec Ideal S256x5632 .bf16) (x4 : FVec Ideal S3x5632 .f32)
  (x5 : FVec Ideal S1024x5632 .bf16) (i : BitVec 32)

/-- The row of the cotangent below row `r` of a block, zero below the last block. -/
def bup (r : Fin 256) (k : Fin 5632) : EReal :=
  Scalar.select (IntOp.cmpi .eq (BitVec.ofNat 32 r.val) 255#32)
    (Scalar.select (Scalar.cmpi .slt i 31#32) (x2 (ix2 0 k)) 0) (x0 (ix2 ⟨(r.val + 256 - 255) % 256, Nat.mod_lt _ (by decide)⟩ k))

/-- The row of the cotangent above row `r` of a block, zero above the first block. -/
def bdn (r : Fin 256) (k : Fin 5632) : EReal :=
  Scalar.select (IntOp.cmpi .eq (BitVec.ofNat 32 r.val) 0#32)
    (Scalar.select (Scalar.cmpi .sgt i 0#32) (x1 (ix2 15 k)) 0) (x0 (ix2 ⟨(r.val + 256 - 1) % 256, Nat.mod_lt _ (by decide)⟩ k))

/-- A block's gradient of the convolution with respect to its input. -/
def bz (r : Fin 256) (k : Fin 5632) : EReal :=
  bup x0 x2 i r k * x4 (ix2 0 k) + x0 (ix2 r k) * x4 (ix2 1 k) + bdn x0 x1 i r k * x4 (ix2 2 k)

/-- The row of the cotangent which tap `w` of the convolution meets. -/
def btap (w : Fin 3) (r : Fin 256) (k : Fin 5632) : EReal :=
  if w.val = 0 then bup x0 x2 i r k else if w.val = 1 then x0 (ix2 r k) else bdn x0 x1 i r k

theorem btap0 (w : Fin 3) (h : w.val = 0) (r : Fin 256) (k : Fin 5632) : btap x0 x1 x2 i w r k = bup x0 x2 i r k := by
  rw [btap, if_pos h]
theorem btap1 (w : Fin 3) (h : w.val = 1) (r : Fin 256) (k : Fin 5632) : btap x0 x1 x2 i w r k = x0 (ix2 r k) := by
  rw [btap, if_neg (by omega), if_pos h]
theorem btap2 (w : Fin 3) (h : w.val = 2) (r : Fin 256) (k : Fin 5632) : btap x0 x1 x2 i w r k = bdn x0 x1 i r k := by
  rw [btap, if_neg (by omega), if_neg (by omega)]
end blockrows

variable (m : (ℓ : Loc nD τ sig) → Buf (Elt Ideal) ℓ)

/-- The grid coordinate of a point. -/
def gi (t : Fin cfg0.N) : BitVec 32 := BitVec.ofNat 32 (grid0.coords t 0).val

/-- What a point adds to the gradient with respect to tap `w`, at column `k`. -/
def tcw (c : Dev nD) (t : Fin cfg0.N) (w : Fin 3) (k : Fin 5632) : EReal :=
  ∑ s : Fin 256, (show EReal from iblk m c 3 t (ix2 s k)) * btap (iblk m c 0 t) (iblk m c 1 t) (iblk m c 2 t) (gi t) w s k

theorem tcw0 (c : Dev nD) (t : Fin cfg0.N) (w : Fin 3) (h : w.val = 0) (k : Fin 5632) :
    tcw m c t w k = ∑ s : Fin 256, (show EReal from iblk m c 3 t (ix2 s k)) * bup (iblk m c 0 t) (iblk m c 2 t) (gi t) s k := by
  simp only [tcw, btap0 _ _ _ _ w h]
theorem tcw1 (c : Dev nD) (t : Fin cfg0.N) (w : Fin 3) (h : w.val = 1) (k : Fin 5632) :
    tcw m c t w k = ∑ s : Fin 256, (show EReal from iblk m c 3 t (ix2 s k)) * (show EReal from iblk m c 0 t (ix2 s k)) := by
  simp only [tcw, btap1 _ _ _ _ w h]
theorem tcw2 (c : Dev nD) (t : Fin cfg0.N) (w : Fin 3) (h : w.val = 2) (k : Fin 5632) :
    tcw m c t w k = ∑ s : Fin 256, (show EReal from iblk m c 3 t (ix2 s k)) * bdn (iblk m c 0 t) (iblk m c 1 t) (gi t) s k := by
  simp only [tcw, btap2 _ _ _ _ w h]

end Cert.UpVal
-- ==== Proof.UpDzu.lean ====
module

public import proofs.«01_k».proof.Proof.UpBlk

@[expose] public section
set_option maxRecDepth 16384
noncomputable section
open Idealize.ShloMosaic Idealize.ShloMosaic.TcCoe Idealize.SL.Sem
open Idealize.ShloMosaic.Pipeline (Dat)
namespace Cert.UpVal
open Cert.UpIdeal Cert.UpIdeal.Gen
variable (m : (ℓ : Loc nD τ sig) → Buf (Elt Ideal) ℓ)

set_option maxHeartbeats 2000000 in
/-- What the body leaves of the convolution's gradient: its 22 stores are the columns of one row function. -/
theorem out_dzu (c : Dev nD) (t : Fin cfg0.N) (y : S256x5632.Idx) (r : Fin 256) (k : Fin 5632) (hr : (y 0).val = r.val) (hk : (y 1).val = k.val) :
    (outsAt0 m c t.val t.isLt).1 y = bz (iblk m c 0 t) (iblk m c 1 t) (iblk m c 2 t) (iblk m c 4 t) (gi t) r k := by
  obtain ⟨k, hk'⟩ := k
  by_cases ca : t.val % 32 = 0
  · rw [outsAt0_A m c t ca]
    frame_out
    canon_tiles x h
    all_goals
      obtain rfl : x 0 = r := Fin.ext (by omega)
      obtain rfl : _ = k := h1.symm.trans hk
      open_payloads
      pointwise
      rfl
  · rw [outsAt0_B m c t ca]
    frame_out
    canon_tiles x h
    all_goals
      obtain rfl : x 0 = r := Fin.ext (by omega)
      obtain rfl : _ = k := h1.symm.trans hk
      open_payloads
      pointwise
      rfl

end Cert.UpVal
-- ==== Proof.UpAccA.lean ====
module

public import proofs.«01_k».proof.Proof.UpBlk

@[expose] public section
set_option maxRecDepth 16384
noncomputable section
open Idealize.ShloMosaic Idealize.ShloMosaic.TcCoe Idealize.SL.Sem
open Idealize.ShloMosaic.Pipeline (Dat)
namespace Cert.UpVal
open Cert.UpIdeal Cert.UpIdeal.Gen
variable (m : (ℓ : Loc nD τ sig) → Buf (Elt Ideal) ℓ)

set_option maxHeartbeats 8000000 in
/-- The first point leaves its own part of the taps' gradients. -/
theorem out_dcw_A (c : Dev nD) (t : Fin cfg0.N) (ca : t.val % 32 = 0) (y : S3x5632.Idx) (r : Fin 3) (k : Fin 5632) (hr : (y 0).val = r.val) (hk : (y 1).val = k.val) :
    (outsAt0 m c t.val t.isLt).2.2.2.1 y = tcw m c t r k := by
  obtain ⟨k, hk'⟩ := k
  rw [outsAt0_A m c t ca]
  frame_open
  simp (disch := decide) only [↓ View.readCov_skip, ↓ View.readCov_cons_toLoadRect, ↓ View.readCov_fill]
  frame_out
  rw [Fill.canon_of_tiled _ ![1, 256] (List.cons_ne_nil _ _) (by sl_kernel_rfl)]
  simp only [List.dropLast_cons₂, List.dropLast_singleton]
  canon_tiles x h
  all_goals
    obtain rfl : _ = k := h1.symm.trans hk
    first
      | have hw : r.val = 2 := by omega
        obtain rfl : r = 2 := Fin.ext hw
        rw [tcw2 m c t 2 rfl]
      | have hw : r.val = 1 := by omega
        obtain rfl : r = 1 := Fin.ext hw
        rw [tcw1 m c t 1 rfl]
      | have hw : r.val = 0 := by omega
        obtain rfl : r = 0 := Fin.ext hw
        rw [tcw0 m c t 0 rfl]
    open_payloads
    pointwise
    try rfl

set_option maxHeartbeats 4000000 in
/-- The first point leaves its own part of the bias's gradient. -/
theorem out_dcb_A (c : Dev nD) (t : Fin cfg0.N) (ca : t.val % 32 = 0) (y : S1x5632.Idx) (k : Fin 5632) (hk : (y 1).val = k.val) :
    (outsAt0 m c t.val t.isLt).2.2.2.2 y = ∑ s : Fin 256, (show EReal from iblk m c 0 t (ix2 s k)) := by
  obtain ⟨k, hk'⟩ := k
  rw [outsAt0_A m c t ca]
  frame_open
  simp (disch := decide) only [↓ View.readCov_skip, ↓ View.readCov_cons_toLoadRect, ↓ View.readCov_fill]
  frame_out
  rw [Fill.canon_of_tiled _ ![1, 256] (List.cons_ne_nil _ _) (by sl_kernel_rfl)]
  simp only [List.dropLast_cons₂, List.dropLast_singleton]
  canon_tiles x h
  all_goals
    obtain rfl : _ = k := h1.symm.trans hk
    open_payloads
    pointwise
    try rfl

end Cert.UpVal
-- ==== Proof.UpAccB.lean ====
module

public import proofs.«01_k».proof.Proof.UpBlk

@[expose] public section
set_option maxRecDepth 16384
noncomputable section
open Idealize.ShloMosaic Idealize.ShloMosaic.TcCoe Idealize.SL.Sem
open Idealize.ShloMosaic.Pipeline (Dat)
namespace Cert.UpVal
open Cert.UpIdeal Cert.UpIdeal.Gen
variable (m : (ℓ : Loc nD τ sig) → Buf (Elt Ideal) ℓ)

set_option maxHeartbeats 8000000 in
/-- At a later point the taps' gradients grow by the point's part. -/
theorem out_dcw_B (c : Dev nD) (t : Fin cfg0.N) (ca : ¬ t.val % 32 = 0) (y : S3x5632.Idx) (r : Fin 3) (k : Fin 5632) (hr : (y 0).val = r.val) (hk : (y 1).val = k.val) :
    (outsAt0 m c t.val t.isLt).2.2.2.1 y
      = (outsAt0 m c (t.val - 1) (Nat.lt_of_le_of_lt (Nat.sub_le _ _) t.isLt)).2.2.2.1 (ix2 r k) + tcw m c t r k := by
  obtain ⟨k, hk'⟩ := k
  rw [outsAt0_B m c t ca]
  frame_out
  canon_tiles x h
  all_goals
    obtain rfl : _ = k := h1.symm.trans hk
    first
      | have hw : r.val = 2 := by omega
        obtain rfl : r = 2 := Fin.ext hw
        rw [tcw2 m c t 2 rfl]
      | have hw : r.val = 1 := by omega
        obtain rfl : r = 1 := Fin.ext hw
        rw [tcw1 m c t 1 rfl]
      | have hw : r.val = 0 := by omega
        obtain rfl : r = 0 := Fin.ext hw
        rw [tcw0 m c t 0 rfl]
    open_payloads
    pointwise
    try rfl

set_option maxHeartbeats 4000000 in
/-- At a later point the bias's gradient grows by the point's part. -/
theorem out_dcb_B (c : Dev nD) (t : Fin cfg0.N) (ca : ¬ t.val % 32 = 0) (y : S1x5632.Idx) (k : Fin 5632) (hk : (y 1).val = k.val) :
    (outsAt0 m c t.val t.isLt).2.2.2.2 y
      = (outsAt0 m c (t.val - 1) (Nat.lt_of_le_of_lt (Nat.sub_le _ _) t.isLt)).2.2.2.2 (ix2 0 k) + ∑ s : Fin 256, (show EReal from iblk m c 0 t (ix2 s k)) := by
  obtain ⟨k, hk'⟩ := k
  rw [outsAt0_B m c t ca]
  frame_out
  canon_tiles x h
  all_goals
    obtain rfl : _ = k := h1.symm.trans hk
    open_payloads
    pointwise
    try rfl

end Cert.UpVal
-- ==== Proof.UpDx.lean ====
module

public import proofs.«01_k».proof.Proof.UpBlk

@[expose] public section
set_option maxRecDepth 16384
noncomputable section
open Idealize.ShloMosaic Idealize.ShloMosaic.TcCoe Idealize.SL.Sem
open Idealize.ShloMosaic.Pipeline (Dat)
namespace Cert.UpVal
open Cert.UpIdeal Cert.UpIdeal.Gen
variable (m : (ℓ : Loc nD τ sig) → Buf (Elt Ideal) ℓ)

/-- `A` is the product of the rows of `D` and of `W` over their first `n` columns. -/
def IsPart (D : Fin 256 → Fin 5632 → EReal) (W : Fin 1024 → Fin 5632 → EReal) (n : ℕ) (A : FVec Ideal S256x1024 .f32) : Prop :=
  ∀ r k, A (ix2 r k) = ∑ j ∈ Finset.univ.filter (fun j : Fin 5632 => j.val < n), D r j * W k j

variable {D : Fin 256 → Fin 5632 → EReal} {W : Fin 1024 → Fin 5632 → EReal}

theorem isPart_zero : IsPart D W 0 (k0_pay6 (F := Ideal)) := by
  intro r k
  rw [Finset.sum_eq_zero fun j hj => absurd (Finset.mem_filter.mp hj).2 (Nat.not_lt_zero _)]
  pointwise [k0_pay6]

theorem sum_step (f : Fin 5632 → EReal) (n : ℕ) (hn : n + 256 ≤ 5632) :
    (∑ j ∈ Finset.univ.filter (fun j : Fin 5632 => j.val < n), f j) + ∑ i : Fin 256, f ⟨n + i.val, by omega⟩
      = ∑ j ∈ Finset.univ.filter (fun j : Fin 5632 => j.val < n + 256), f j := by
  rw [← Finset.sum_filter_add_sum_filter_not (Finset.univ.filter (fun j : Fin 5632 => j.val < n + 256)) (fun j => j.val < n)]
  congr 1
  · refine Finset.sum_congr ?_ fun _ _ => rfl
    ext j
    simp only [Finset.mem_filter, Finset.mem_univ, true_and]
    omega
  · refine Finset.sum_bij (fun i _ => ⟨n + i.val, by omega⟩) ?_ ?_ ?_ ?_
    · intro i _
      simp only [Finset.mem_filter, Finset.mem_univ, true_and]
      omega
    · intro a _ b _ h
      have := Fin.mk.inj_iff.mp h
      exact Fin.ext (by omega)
    · intro j hj
      simp only [Finset.mem_filter, Finset.mem_univ, true_and] at hj
      exact ⟨⟨j.val - n, by omega⟩, Finset.mem_univ _, Fin.ext (by dsimp only; omega)⟩
    · intro _ _; rfl

theorem isPart_step {n : ℕ} {A : FVec Ideal S256x1024 .f32} {B : FVec Ideal S256x256 .bf16} {C : FVec Ideal S1024x256 .bf16}
    (hA : IsPart D W n A) (hn : n + 256 ≤ 5632) (hB : ∀ r (j : Fin 256), B (ix2 r j) = D r ⟨n + j.val, by omega⟩)
    (hC : ∀ k (j : Fin 256), C (ix2 k j) = W k ⟨n + j.val, by omega⟩) : IsPart D W (n + 256) (k0_pay16 (F := Ideal) A B C) := by
  intro r k
  rw [← sum_step _ n hn, ← hA r k]
  pointwise [k0_pay16]
  simp only [hB, hC]

theorem pay_ms (x : FVec Ideal S256x1024 .f32) (r : Fin 256) :
    k0_pay267 (F := Ideal) (k0_pay266 x) (ix2 r 0) = Row.ms (fun k => x (ix2 r k)) := by
  pointwise [k0_pay267, k0_pay266, Row.ms]

theorem pay_inv (x : FVec Ideal S256x1024 .f32) (r : Fin 256) :
    k0_pay268 (F := Ideal) (k0_pay266 x) (ix2 r 0) = Row.inv (fun k => x (ix2 r k)) := by
  pointwise [k0_pay268, Row.inv]
  rw [pay_ms]

theorem pay_dx {A : FVec Ideal S256x1024 .f32} (hA : IsPart D W 5632 A) (x dres : FVec Ideal S256x1024 .f32) (g : FVec Ideal S1x1024 .f32)
    (r : Fin 256) (k : Fin 1024) :
    k0_pay1 (F := Ideal) A x (k0_pay265 g) (k0_pay268 (k0_pay266 x)) (k0_pay269 (k0_pay266 x)) dres (ix2 r k)
      = dres (ix2 r k) + Row.bwd (fun k => x (ix2 r k)) (fun k => g (ix2 0 k)) (fun k => ∑ j, D r j * W k j) k := by
  have hf : Finset.univ.filter (fun j : Fin 5632 => j.val < 5632) = Finset.univ := Finset.filter_true_of_mem fun j _ => j.isLt
  have hA' : ∀ r k, A (ix2 r k) = ∑ j, D r j * W k j := fun r k => by rw [hA r k, hf]
  pointwise [k0_pay1, k0_pay265, k0_pay269, Row.bwd]
  simp only [hA', pay_inv, pay_ms, Fin.sum_univ_one]

theorem pay_dg {A : FVec Ideal S256x1024 .f32} (hA : IsPart D W 5632 A) (x : FVec Ideal S256x1024 .f32) (acc : FVec Ideal S1x1024 .f32)
    (k : Fin 1024) :
    k0_pay2 (F := Ideal) A x (k0_pay268 (k0_pay266 x)) acc (ix2 0 k)
      = acc (ix2 0 k) + ∑ r : Fin 256, x (ix2 r k) * Row.inv (fun k => x (ix2 r k)) * ∑ j, D r j * W k j := by
  have hf : Finset.univ.filter (fun j : Fin 5632 => j.val < 5632) = Finset.univ := Finset.filter_true_of_mem fun j _ => j.isLt
  have hA' : ∀ r k, A (ix2 r k) = ∑ j, D r j * W k j := fun r k => by rw [hA r k, hf]
  pointwise [k0_pay2]
  simp only [hA', pay_inv]

/-- The rows of a block's gradient of the convolution. -/
def bD (c : Dev nD) (t : Fin cfg0.N) (r : Fin 256) (j : Fin 5632) : EReal :=
  bz (iblk m c 0 t) (iblk m c 1 t) (iblk m c 2 t) (iblk m c 4 t) (gi t) r j

/-- The rows of the block of `w_up`. -/
def bW (c : Dev nD) (t : Fin cfg0.N) (k : Fin 1024) (j : Fin 5632) : EReal := iblk m c 5 t (ix2 k j)

/-- A block's gradient with respect to `x`. -/
def bdx (c : Dev nD) (t : Fin cfg0.N) (r : Fin 256) (k : Fin 1024) : EReal :=
  (show EReal from iblk m c 8 t (ix2 r k))
    + Row.bwd (fun k => iblk m c 6 t (ix2 r k)) (fun k => iblk m c 7 t (ix2 0 k)) (fun k => ∑ j, bD m c t r j * bW m c t k j) k

/-- What a point adds to the gradient with respect to the gain. -/
def bdg (c : Dev nD) (t : Fin cfg0.N) (k : Fin 1024) : EReal :=
  ∑ r : Fin 256, (show EReal from iblk m c 6 t (ix2 r k)) * Row.inv (fun k => iblk m c 6 t (ix2 r k)) * ∑ j, bD m c t r j * bW m c t k j

end Cert.UpVal
-- ==== Proof.UpDxA.lean ====
module

public import proofs.«01_k».proof.Proof.UpDx

@[expose] public section
set_option maxRecDepth 16384
noncomputable section
open Idealize.ShloMosaic Idealize.ShloMosaic.TcCoe Idealize.SL.Sem
open Idealize.ShloMosaic.Pipeline (Dat)
namespace Cert.UpVal
open Cert.UpIdeal Cert.UpIdeal.Gen
variable (m : (ℓ : Loc nD τ sig) → Buf (Elt Ideal) ℓ)

set_option maxHeartbeats 4000000 in
/-- What the body leaves of the gradient with respect to `x`, at the first point. -/
theorem out_dx_A (c : Dev nD) (t : Fin cfg0.N) (h : t.val % 32 = 0) (r : Fin 256) (k : Fin 1024) : (outsAt0 m c t.val t.isLt).2.1 (ix2 r k)
    = bdx m c t r k := by
  rw [outsAt0_A m c t h]
  frame_out
  refine pay_dx (D := bD m c t) (W := bW m c t) ?_ _ _ _ r k
  iterate 22 refine isPart_step ?_ (by decide) ?_ ?_
  exact isPart_zero
  all_goals
    intro r j
    open_payloads
    pointwise
    rfl

set_option maxHeartbeats 4000000 in
/-- What the body leaves of the gradient with respect to the gain, at the first point. -/
theorem out_dg_A (c : Dev nD) (t : Fin cfg0.N) (h : t.val % 32 = 0) (k : Fin 1024) : (outsAt0 m c t.val t.isLt).2.2.1 (ix2 0 k)
    = bdg m c t k := by
  rw [outsAt0_A m c t h]
  frame_out
  refine (pay_dg (D := bD m c t) (W := bW m c t) ?_ _ _ k).trans ?_
  swap
  · pointwise [k0_pay3]
    rfl
  iterate 22 refine isPart_step ?_ (by decide) ?_ ?_
  exact isPart_zero
  all_goals
    intro r j
    open_payloads
    pointwise
    rfl

end Cert.UpVal
-- ==== Proof.UpDxB.lean ====
module

public import proofs.«01_k».proof.Proof.UpDx

@[expose] public section
set_option maxRecDepth 16384
noncomputable section
open Idealize.ShloMosaic Idealize.ShloMosaic.TcCoe Idealize.SL.Sem
open Idealize.ShloMosaic.Pipeline (Dat)
namespace Cert.UpVal
open Cert.UpIdeal Cert.UpIdeal.Gen
variable (m : (ℓ : Loc nD τ sig) → Buf (Elt Ideal) ℓ)

set_option maxHeartbeats 4000000 in
/-- What the body leaves of the gradient with respect to `x`, at a later point. -/
theorem out_dx_B (c : Dev nD) (t : Fin cfg0.N) (h : ¬t.val % 32 = 0) (r : Fin 256) (k : Fin 1024) : (outsAt0 m c t.val t.isLt).2.1 (ix2 r k)
    = bdx m c t r k := by
  rw [outsAt0_B m c t h]
  frame_out
  refine pay_dx (D := bD m c t) (W := bW m c t) ?_ _ _ _ r k
  iterate 22 refine isPart_step ?_ (by decide) ?_ ?_
  exact isPart_zero
  all_goals
    intro r j
    open_payloads
    pointwise
    rfl

set_option maxHeartbeats 4000000 in
/-- What the body leaves of the gradient with respect to the gain, at a later point. -/
theorem out_dg_B (c : Dev nD) (t : Fin cfg0.N) (h : ¬t.val % 32 = 0) (k : Fin 1024) : (outsAt0 m c t.val t.isLt).2.2.1 (ix2 0 k)
    = (outsAt0 m c (t.val - 1) (by omega)).2.2.1 (ix2 0 k) + bdg m c t k := by
  rw [outsAt0_B m c t h]
  frame_out
  refine (pay_dg (D := bD m c t) (W := bW m c t) ?_ _ _ k)
  iterate 22 refine isPart_step ?_ (by decide) ?_ ?_
  exact isPart_zero
  all_goals
    intro r j
    open_payloads
    pointwise
    rfl

end Cert.UpVal
-- ==== Proof.UpVal.lean ====
module

public import proofs.«01_k».proof.Proof.UpDzu
public import proofs.«01_k».proof.Proof.UpAccA
public import proofs.«01_k».proof.Proof.UpAccB
public import proofs.«01_k».proof.Proof.UpDxA
public import proofs.«01_k».proof.Proof.UpDxB

@[expose] public section
set_option maxRecDepth 16384
noncomputable section
open Idealize.ShloMosaic Idealize.ShloMosaic.TcCoe Idealize.SL.Sem
open Idealize.ShloMosaic.Pipeline (Dat)
namespace Cert.UpVal
open Cert.UpIdeal Cert.UpIdeal.Gen

section arrays
variable (X : FVec Ideal S8192x1024 .f32) (G : FVec Ideal S1024 .f32) (U : FVec Ideal S1024x5632 .f32) (C : FVec Ideal S3x5632 .f32)
  (R : FVec Ideal S8192x1024 .f32) (Z : FVec Ideal S8192x5632 .f32)

/-- The cotangent's row below row `r`, zero below the last. -/
def up (r : Fin 8192) (k : Fin 5632) : EReal := if h : r.val + 1 < 8192 then Z (ix2 ⟨r.val + 1, h⟩ k) else 0
/-- The cotangent's row above row `r`, zero above the first. -/
def dn (r : Fin 8192) (k : Fin 5632) : EReal := if h : 0 < r.val then Z (ix2 ⟨r.val - 1, by omega⟩ k) else 0

/-- The gradient with respect to the convolution's input. -/
def cz (r : Fin 8192) (k : Fin 5632) : EReal := up Z r k * C (ix2 0 k) + Z (ix2 r k) * C (ix2 1 k) + dn Z r k * C (ix2 2 k)

/-- The convolution's input: the normed rows' product with `w_up`. -/
def zu (r : Fin 8192) (k : Fin 5632) : EReal :=
  ∑ d : Fin 1024, X (ix2 r d) * Row.inv (fun d => X (ix2 r d)) * G (ix1 d) * U (ix2 d k)

/-- The cotangent's row which tap `w` meets. -/
def tap (w : Fin 3) (r : Fin 8192) (k : Fin 5632) : EReal := if w.val = 0 then up Z r k else if w.val = 1 then Z (ix2 r k) else dn Z r k

/-- The gradient with respect to the normed rows. -/
def ch (r : Fin 8192) (k : Fin 1024) : EReal := ∑ j, cz C Z r j * U (ix2 k j)

def DZU : FVec Ideal S8192x5632 .bf16 := fun i => cz C Z (i 0) (i 1)
def DX : FVec Ideal S8192x1024 .f32 := fun i =>
  R i + Row.bwd (fun k => X (ix2 (i 0) k)) (fun k => G (ix1 k)) (ch U C Z (i 0)) (i 1)
def DG : FVec Ideal S1x1024 .f32 := fun i => ∑ r : Fin 8192, X (ix2 r (i 1)) * Row.inv (fun k => X (ix2 r k)) * ch U C Z r (i 1)
def DCW : FVec Ideal S3x5632 .f32 := fun i => ∑ r : Fin 8192, zu X G U r (i 1) * tap Z (i 0) r (i 1)
def DCB : FVec Ideal S1x5632 .f32 := fun i => ∑ r : Fin 8192, Z (ix2 r (i 1))
end arrays

section blocks
variable (m : (ℓ : Loc nD τ sig) → Buf (Elt Ideal) ℓ) (c : Dev nD) (t : Fin cfg0.N)

abbrev aX (m : (ℓ : Loc nD τ sig) → Buf (Elt Ideal) ℓ) (c : Dev nD) : FVec Ideal S8192x1024 .f32 := m ((c : Thread nD τ).loc main_arg0)
abbrev aG (m : (ℓ : Loc nD τ sig) → Buf (Elt Ideal) ℓ) (c : Dev nD) : FVec Ideal S1024 .f32 := m ((c : Thread nD τ).loc main_arg1)
abbrev aU (m : (ℓ : Loc nD τ sig) → Buf (Elt Ideal) ℓ) (c : Dev nD) : FVec Ideal S1024x5632 .f32 := m ((c : Thread nD τ).loc main_arg2)
abbrev aC (m : (ℓ : Loc nD τ sig) → Buf (Elt Ideal) ℓ) (c : Dev nD) : FVec Ideal S3x5632 .f32 := m ((c : Thread nD τ).loc main_arg3)
abbrev aR (m : (ℓ : Loc nD τ sig) → Buf (Elt Ideal) ℓ) (c : Dev nD) : FVec Ideal S8192x1024 .f32 := m ((c : Thread nD τ).loc main_arg5)
abbrev aZ (m : (ℓ : Loc nD τ sig) → Buf (Elt Ideal) ℓ) (c : Dev nD) : FVec Ideal S8192x5632 .f32 := m ((c : Thread nD τ).loc main_arg6)

theorem idx : ∀ t : Fin cfg0.N, win0_0.index t = ![t.val, 0] ∧ win0_1.index t = ![t.val * 16 - 1, 0] ∧ win0_2.index t = ![min (t.val * 16 + 16) 511, 0]
    ∧ win0_3.index t = ![t.val, 0] ∧ win0_4.index t = ![0, 0] ∧ win0_5.index t = ![0, 0] ∧ win0_6.index t = ![t.val, 0] ∧ win0_7.index t = ![0, 0]
    ∧ win0_8.index t = ![t.val, 0] ∧ win0_9.index t = ![t.val, 0] ∧ win0_10.index t = ![t.val, 0] ∧ win0_11.index t = ![0, 0] ∧ win0_12.index t = ![0, 0]
    ∧ win0_13.index t = ![0, 0] := (by decide +kernel : ∀ t : Fin grid0.N, _)

theorem coord : ∀ t : Fin cfg0.N, (grid0.coords t 0).val = t.val := (by decide +kernel : ∀ t : Fin grid0.N, _)

theorem t_lt : t.val < 32 := lt_of_lt_of_eq t.isLt N_0

theorem row_lt (r : Fin 256) : t.val * 256 + r.val < 8192 := by
  have := t_lt t
  omega

/-- The row of the array which row `r` of the block of the point `t` is. -/
def rw' (r : Fin 256) : Fin 8192 := ⟨t.val * 256 + r.val, row_lt t r⟩

theorem V_v17 : V m c main_v17 = (truncf .bf16 (aZ m c) bitsLt_bf16_f32 : FVec Ideal S8192x5632 .bf16) := by
  unfold V; after_results; try rfl
theorem V_v18 : V m c main_v18 = (truncf .bf16 (aU m c) bitsLt_bf16_f32 : FVec Ideal S1024x5632 .bf16) := by
  unfold V; after_results; try rfl
theorem V_v19 : V m c main_v19 = broadcastInDim S1x1024 ![1] bcast_S1024_S1x1024_1 (aG m c) := by
  unfold V; after_results; try rfl

theorem V_v16 (r : Fin 8192) (k : Fin 5632) : V m c main_v16 (ix2 r k) = zu (aX m c) (aG m c) (aU m c) r k := by
  unfold V
  after_results
  pointwise [zu, Row.inv, Row.ms]
  try rfl

theorem blk_z (r : Fin 256) (k : Fin 5632) : iblk m c 0 t (ix2 r k) = aZ m c (ix2 (rw' t r) k) := by
  have e : (win0_0.blk t).view.emb (ix2 r k : S256x5632.Idx) = (ix2 (rw' t r) k : S8192x5632.Idx) := by blk_ext [idx t, rw']
  change V m c main_v17 ((win0_0.blk t).view.emb (ix2 r k : S256x5632.Idx)) = _
  rw [e, V_v17]
  pointwise

theorem blk_prev (k : Fin 5632) (h : 0 < t.val) : iblk m c 1 t (ix2 15 k) = aZ m c (ix2 ⟨t.val * 256 - 1, by have := t_lt t; omega⟩ k) := by
  have e : (win0_1.blk t).view.emb (ix2 15 k : S16x5632.Idx) = (ix2 ⟨t.val * 256 - 1, by have := t_lt t; omega⟩ k : S8192x5632.Idx) := by blk_ext [idx t]
  change V m c main_v17 ((win0_1.blk t).view.emb (ix2 15 k : S16x5632.Idx)) = _
  rw [e, V_v17]
  pointwise

theorem blk_next (k : Fin 5632) (h : t.val < 31) : iblk m c 2 t (ix2 0 k) = aZ m c (ix2 ⟨t.val * 256 + 256, by omega⟩ k) := by
  have e : (win0_2.blk t).view.emb (ix2 0 k : S16x5632.Idx) = (ix2 ⟨t.val * 256 + 256, by omega⟩ k : S8192x5632.Idx) := by blk_ext [idx t]
  change V m c main_v17 ((win0_2.blk t).view.emb (ix2 0 k : S16x5632.Idx)) = _
  rw [e, V_v17]
  pointwise

theorem blk_zu (r : Fin 256) (k : Fin 5632) : iblk m c 3 t (ix2 r k) = zu (aX m c) (aG m c) (aU m c) (rw' t r) k := by
  have e : (win0_3.blk t).view.emb (ix2 r k : S256x5632.Idx) = (ix2 (rw' t r) k : S8192x5632.Idx) := by blk_ext [idx t, rw']
  change V m c main_v16 ((win0_3.blk t).view.emb (ix2 r k : S256x5632.Idx)) = _
  rw [e, V_v16]

theorem blk_cw (w : Fin 3) (k : Fin 5632) : iblk m c 4 t (ix2 w k) = aC m c (ix2 w k) := by
  blk_ext [iblk, V, idx t]

theorem blk_u (d : Fin 1024) (k : Fin 5632) : iblk m c 5 t (ix2 d k) = aU m c (ix2 d k) := by
  have e : (win0_5.blk t).view.emb (ix2 d k : S1024x5632.Idx) = (ix2 d k : S1024x5632.Idx) := by blk_ext [idx t]
  change V m c main_v18 ((win0_5.blk t).view.emb (ix2 d k : S1024x5632.Idx)) = _
  rw [e, V_v18]
  pointwise

theorem blk_x (r : Fin 256) (k : Fin 1024) : iblk m c 6 t (ix2 r k) = aX m c (ix2 (rw' t r) k) := by
  blk_ext [iblk, V, idx t, rw']

theorem blk_g (k : Fin 1024) : iblk m c 7 t (ix2 0 k) = aG m c (ix1 k) := by
  have e : (win0_7.blk t).view.emb (ix2 0 k : S1x1024.Idx) = (ix2 0 k : S1x1024.Idx) := by blk_ext [idx t]
  change V m c main_v19 ((win0_7.blk t).view.emb (ix2 0 k : S1x1024.Idx)) = _
  rw [e, V_v19]
  pointwise

theorem blk_r (r : Fin 256) (k : Fin 1024) : iblk m c 8 t (ix2 r k) = aR m c (ix2 (rw' t r) k) := by
  blk_ext [iblk, V, idx t, rw']

end blocks

end Cert.UpVal
-- ==== Proof.UpFin.lean ====
module

public import proofs.«01_k».proof.Proof.UpVal

@[expose] public section
set_option maxRecDepth 16384
noncomputable section
open Idealize.ShloMosaic Idealize.ShloMosaic.TcCoe Idealize.SL.Sem
open Idealize.ShloMosaic.Pipeline (Dat)
namespace Cert.UpVal
open Cert.UpIdeal Cert.UpIdeal.Gen
variable (m : (ℓ : Loc nD τ sig) → Buf (Elt Ideal) ℓ) (c : Dev nD) (t : Fin cfg0.N)
theorem last_row : ∀ r : Fin 256, IntOp.cmpi .eq (BitVec.ofNat 32 r.val) 255#32 = if r.val = 255 then 1#1 else 0#1 := by decide +kernel
theorem first_row : ∀ r : Fin 256, IntOp.cmpi .eq (BitVec.ofNat 32 r.val) 0#32 = if r.val = 0 then 1#1 else 0#1 := by decide +kernel
theorem last_blk : ∀ t : Fin cfg0.N, Scalar.cmpi .slt (gi t) 31#32 = if t.val < 31 then 1#1 else 0#1 := (by decide +kernel : ∀ t : Fin grid0.N, _)
theorem first_blk : ∀ t : Fin cfg0.N, Scalar.cmpi .sgt (gi t) 0#32 = if 0 < t.val then 1#1 else 0#1 := (by decide +kernel : ∀ t : Fin grid0.N, _)

theorem bup_eq (r : Fin 256) (k : Fin 5632) : bup (iblk m c 0 t) (iblk m c 2 t) (gi t) r k = up (aZ m c) (rw' t r) k := by
  have ht := t_lt t
  have hw : (rw' t r).val = t.val * 256 + r.val := rfl
  unfold bup up
  rw [last_row, last_blk]
  by_cases h : r.val = 255
  · rw [if_pos h]
    by_cases h2 : t.val < 31
    · rw [if_pos h2, dif_pos (by omega)]
      refine (blk_next m c t k h2).trans (congrArg (fun q => aZ m c (ix2 q k)) (Fin.ext ?_))
      dsimp only; omega
    · rw [if_neg h2, dif_neg (by omega)]
      rfl
  · rw [if_neg h, dif_pos (by omega)]
    refine (blk_z m c t _ k).trans (congrArg (fun q => aZ m c (ix2 q k)) (Fin.ext ?_))
    show t.val * 256 + (r.val + 256 - 255) % 256 = (rw' t r).val + 1
    omega
theorem bdn_eq (r : Fin 256) (k : Fin 5632) : bdn (iblk m c 0 t) (iblk m c 1 t) (gi t) r k = dn (aZ m c) (rw' t r) k := by
  have ht := t_lt t
  have hw : (rw' t r).val = t.val * 256 + r.val := rfl
  unfold bdn dn
  rw [first_row, first_blk]
  by_cases h : r.val = 0
  · rw [if_pos h]
    by_cases h2 : 0 < t.val
    · rw [if_pos h2, dif_pos (by omega)]
      refine (blk_prev m c t k h2).trans (congrArg (fun q => aZ m c (ix2 q k)) (Fin.ext ?_))
      dsimp only; omega
    · rw [if_neg h2, dif_neg (by omega)]
      rfl
  · rw [if_neg h, dif_pos (by omega)]
    refine (blk_z m c t _ k).trans (congrArg (fun q => aZ m c (ix2 q k)) (Fin.ext ?_))
    show t.val * 256 + (r.val + 256 - 1) % 256 = (rw' t r).val - 1
    omega

theorem bz_eq (r : Fin 256) (k : Fin 5632) :
    bz (iblk m c 0 t) (iblk m c 1 t) (iblk m c 2 t) (iblk m c 4 t) (gi t) r k = cz (aC m c) (aZ m c) (rw' t r) k := by
  unfold bz cz
  rw [bup_eq, bdn_eq]
  simp only [blk_z, blk_cw]

theorem btap_eq (w : Fin 3) (r : Fin 256) (k : Fin 5632) :
    btap (iblk m c 0 t) (iblk m c 1 t) (iblk m c 2 t) (gi t) w r k = tap (aZ m c) w (rw' t r) k := by
  unfold btap tap
  rw [bup_eq, bdn_eq]
  simp only [blk_z]

theorem tcw_eq (w : Fin 3) (k : Fin 5632) : tcw m c t w k
    = ∑ s : Fin 256, zu (aX m c) (aG m c) (aU m c) (rw' t s) k * tap (aZ m c) w (rw' t s) k := by
  unfold tcw
  simp only [blk_zu, btap_eq]

theorem bch_eq (r : Fin 256) (k : Fin 1024) : ∑ j, bD m c t r j * bW m c t k j = ch (aU m c) (aC m c) (aZ m c) (rw' t r) k := by
  unfold ch bD bW
  simp only [bz_eq, blk_u]

theorem bdg_eq (k : Fin 1024) : bdg m c t k = ∑ r : Fin 256, aX m c (ix2 (rw' t r) k) * Row.inv (fun k => aX m c (ix2 (rw' t r) k))
    * ch (aU m c) (aC m c) (aZ m c) (rw' t r) k := by
  unfold bdg
  simp only [blk_x, bch_eq]

theorem bdx_eq (r : Fin 256) (k : Fin 1024) : bdx m c t r k
    = DX (aX m c) (aG m c) (aU m c) (aC m c) (aR m c) (aZ m c) (ix2 (rw' t r) k) := by
  unfold bdx DX
  simp only [blk_x, blk_r, blk_g, bch_eq]
  rfl

theorem point_dzu (y : S256x5632.Idx) : (outsAt0 m c t.val t.isLt).1 y
    = DZU (aC m c) (aZ m c) ((win0_9.blk t).view.emb y) := by
  obtain ⟨r, k, rfl⟩ : ∃ (r : Fin 256) (k : Fin 5632), y = ix2 r k := ⟨y 0, y 1, eq_ix2 y⟩
  have e : (win0_9.blk t).view.emb (ix2 r k : S256x5632.Idx) = (ix2 (rw' t r) k : S8192x5632.Idx) := by blk_ext [idx t, rw']
  rw [e, out_dzu m c t _ r k rfl rfl, bz_eq]
  rfl

theorem point_dx (y : S256x1024.Idx) : (outsAt0 m c t.val t.isLt).2.1 y
    = DX (aX m c) (aG m c) (aU m c) (aC m c) (aR m c) (aZ m c) ((win0_10.blk t).view.emb y) := by
  obtain ⟨r, k, rfl⟩ : ∃ (r : Fin 256) (k : Fin 1024), y = ix2 r k := ⟨y 0, y 1, eq_ix2 y⟩
  have e : (win0_10.blk t).view.emb (ix2 r k : S256x1024.Idx) = (ix2 (rw' t r) k : S8192x1024.Idx) := by blk_ext [idx t, rw']
  rw [e, ← bdx_eq]
  by_cases h : t.val % 32 = 0
  · exact out_dx_A m c t h r k
  · exact out_dx_B m c t h r k

theorem final_dzu : (dats m 0 c).arrAt 9 cfg0.N = DZU (aC m c) (aZ m c) := by
  refine (dats m 0 c).arrAt_eq_of_covers 9 _ (by decide +kernel) fun t hf y => ?_
  blk_simp
  rw [after0_9]
  exact point_dzu m c t y

theorem final_dx : (dats m 0 c).arrAt 10 cfg0.N = DX (aX m c) (aG m c) (aU m c) (aC m c) (aR m c) (aZ m c) := by
  refine (dats m 0 c).arrAt_eq_of_covers 10 _ (by decide +kernel) fun t hf y => ?_
  blk_simp
  rw [after0_10]
  exact point_dx m c t y

theorem point_dg (hf : t.val % 32 = 31) (y : S1x1024.Idx) : (outsAt0 m c t.val t.isLt).2.2.1 y
    = DG (aX m c) (aU m c) (aC m c) (aZ m c) ((win0_11.blk t).view.emb y) := by
  have hN := t_lt t
  obtain ⟨z, k, rfl⟩ : ∃ (z : Fin 1) (k : Fin 1024), y = ix2 z k := ⟨y 0, y 1, eq_ix2 y⟩
  obtain rfl : z = 0 := Subsingleton.elim _ _
  have e : (win0_11.blk t).view.emb (ix2 0 k : S1x1024.Idx) = (ix2 0 k : S1x1024.Idx) := by blk_ext [idx t]
  rw [e, Pipeline.eq_sum_fin_of_reset_step_apply_last (fun n h k => (outsAt0 m c n h).2.2.1 (ix2 0 k)) 32 (fun _ => 0) (fun p k => bdg m c p k)
    (fun t h k => (out_dg_A m c t h k).trans (zero_add _).symm) (fun t h k => out_dg_B m c t h k)
    (le_of_eq N_0) t (by have : cfg0.N = 32 := N_0; omega) k, zero_add]
  simp only [bdg_eq]
  exact Fin.sum_mul_add_congr fun s r hl => rfl

theorem point_dcw (hf : t.val % 32 = 31) (y : S3x5632.Idx) : (outsAt0 m c t.val t.isLt).2.2.2.1 y
    = DCW (aX m c) (aG m c) (aU m c) (aZ m c) ((win0_12.blk t).view.emb y) := by
  have hN := t_lt t
  obtain ⟨w, k, rfl⟩ : ∃ (w : Fin 3) (k : Fin 5632), y = ix2 w k := ⟨y 0, y 1, eq_ix2 y⟩
  have e : (win0_12.blk t).view.emb (ix2 w k : S3x5632.Idx) = (ix2 w k : S3x5632.Idx) := by blk_ext [idx t]
  rw [e, Pipeline.eq_sum_fin_of_reset_step_apply_last (fun n h k => (outsAt0 m c n h).2.2.2.1 (ix2 w k)) 32 (fun _ => 0) (fun p k => tcw m c p w k)
    (fun t h k => (out_dcw_A m c t h _ w k rfl rfl).trans (zero_add _).symm) (fun t h k => out_dcw_B m c t h _ w k rfl rfl)
    (le_of_eq N_0) t (by have : cfg0.N = 32 := N_0; omega) k, zero_add]
  simp only [tcw_eq]
  exact Fin.sum_mul_add_congr fun s r hl => rfl

theorem point_dcb (hf : t.val % 32 = 31) (y : S1x5632.Idx) : (outsAt0 m c t.val t.isLt).2.2.2.2 y
    = DCB (aZ m c) ((win0_13.blk t).view.emb y) := by
  have hN := t_lt t
  obtain ⟨z, k, rfl⟩ : ∃ (z : Fin 1) (k : Fin 5632), y = ix2 z k := ⟨y 0, y 1, eq_ix2 y⟩
  obtain rfl : z = 0 := Subsingleton.elim _ _
  have e : (win0_13.blk t).view.emb (ix2 0 k : S1x5632.Idx) = (ix2 0 k : S1x5632.Idx) := by blk_ext [idx t]
  rw [e, Pipeline.eq_sum_fin_of_reset_step_apply_last (fun n h k => (outsAt0 m c n h).2.2.2.2 (ix2 0 k)) 32 (fun _ => 0)
    (fun p k => ∑ s : Fin 256, (show EReal from iblk m c 0 p (ix2 s k)))
    (fun t h k => (out_dcb_A m c t h _ k rfl).trans (zero_add _).symm) (fun t h k => out_dcb_B m c t h _ k rfl)
    (le_of_eq N_0) t (by have : cfg0.N = 32 := N_0; omega) k, zero_add]
  simp only [blk_z]
  exact Fin.sum_mul_add_congr fun s r hl => rfl

theorem final_dg : (dats m 0 c).arrAt 11 cfg0.N = DG (aX m c) (aU m c) (aC m c) (aZ m c) := by
  refine (dats m 0 c).arrAt_eq_of_covers 11 _ (by decide +kernel) fun t hf y => ?_
  blk_simp
  rw [after0_11]
  exact point_dg m c t ((flush0_11 t).mp hf) y

theorem final_dcw : (dats m 0 c).arrAt 12 cfg0.N = DCW (aX m c) (aG m c) (aU m c) (aZ m c) := by
  refine (dats m 0 c).arrAt_eq_of_covers 12 _ (by decide +kernel) fun t hf y => ?_
  blk_simp
  rw [after0_12]
  exact point_dcw m c t ((flush0_12 t).mp hf) y

theorem final_dcb : (dats m 0 c).arrAt 13 cfg0.N = DCB (aZ m c) := by
  refine (dats m 0 c).arrAt_eq_of_covers 13 _ (by decide +kernel) fun t hf y => ?_
  blk_simp
  rw [after0_13]
  exact point_dcb m c t ((flush0_13 t).mp hf) y

end Cert.UpVal
-- ==== Proof.UpRef.lean ====
module

public import proofs.«01_k».proof.Proof.UpVal

@[expose] public section
set_option maxRecDepth 16384
noncomputable section
open Idealize.ShloMosaic Idealize.ShloMosaic.TcCoe Idealize.SL.Sem
open Idealize.ShloMosaic.Pipeline (Dat)
namespace Cert.UpVal
open Cert.UpIdeal Cert.UpRefIdeal.Read
variable (X : FVec Ideal S8192x1024 .f32) (G : FVec Ideal S1024 .f32) (U : FVec Ideal S1024x5632 .f32) (C : FVec Ideal S3x5632 .f32)
  (R : FVec Ideal S8192x1024 .f32) (Z : FVec Ideal S8192x5632 .f32)

/-- The taps' gradients, spread over the rows and summed, in the reference's order. -/
theorem cz_eq (r : Fin 8192) (k : Fin 5632) :
    ((if h : 2 ≤ 1 + r.val ∧ 1 + r.val - 2 < 8192 then Z (ix2 ⟨1 + r.val - 2, h.2⟩ k) * C (ix2 2 k) else 0) + Z (ix2 r k) * C (ix2 1 k)
      + if h : 1 + r.val < 8192 then Z (ix2 ⟨1 + r.val, h⟩ k) * C (ix2 0 k) else 0) = cz C Z r k := by
  have h1 : (if h : 2 ≤ 1 + r.val ∧ 1 + r.val - 2 < 8192 then Z (ix2 ⟨1 + r.val - 2, h.2⟩ k) * C (ix2 2 k) else 0) = dn Z r k * C (ix2 2 k) := by
    unfold dn
    by_cases h : 0 < r.val
    · rw [dif_pos h, dif_pos (by omega)]
      exact congrArg (fun q => Z (ix2 q k) * C (ix2 2 k)) (Fin.ext (by dsimp only; omega))
    · rw [dif_neg h, dif_neg (by omega), zero_mul]
  have h2 : (if h : 1 + r.val < 8192 then Z (ix2 ⟨1 + r.val, h⟩ k) * C (ix2 0 k) else 0) = up Z r k * C (ix2 0 k) := by
    unfold up
    by_cases h : r.val + 1 < 8192
    · rw [dif_pos h, dif_pos (by omega)]
      exact congrArg (fun q => Z (ix2 q k) * C (ix2 0 k)) (Fin.ext (by dsimp only; omega))
    · rw [dif_neg h, dif_neg (by omega), zero_mul]
  rw [h1, h2, cz, add_comm, add_comm (dn Z r k * _), add_assoc]

theorem ref_dzu (r : Fin 8192) (k : Fin 5632) : val_main_v162 (F := Ideal) C Z (ix2 r k) = cz C Z r k := by
  rw [← cz_eq]
  pointwise [val_main_v162, val_main_v55, val_main_v53, val_main_v52, val_main_cst_7, val_main_v51, val_main_v50, val_main_v49, val_main_v48, val_main_cst_6,
    val_main_v47, val_main_v46, val_main_v45, val_main_cst_5, val_main_v44, val_main_v43, val_main_v42, val_main_v41, val_main_v21, val_main_v20, val_main_v19,
    val_main_v37, val_main_v36, val_main_v35, val_main_v30, val_main_v29, val_main_v28]

theorem ref_dz (r : Fin 8192) (k : Fin 5632) : val_main_v138 (F := Ideal) C Z (ix2 r k) = cz C Z r k := by
  rw [← cz_eq]
  pointwise [val_main_v138, val_main_v136, val_main_v135, val_main_cst_28, val_main_v130, val_main_v129, val_main_v122, val_main_v121, val_main_cst_22,
    val_main_v116, val_main_v115, val_main_v111, val_main_cst_18, val_main_v107, val_main_v106, val_main_v102, val_main_v101, val_main_v81, val_main_v80, val_main_v79,
    val_main_v97, val_main_v96, val_main_v95, val_main_v90, val_main_v89, val_main_v88]

theorem ref_zu (r : Fin 8192) (k : Fin 5632) : val_main_v73 (F := Ideal) X G U (ix2 r k) = zu X G U r k := by
  pointwise [val_main_v73, val_main_v72, val_main_v71, val_main_v70, val_main_v69, val_main_v68, val_main_v64, val_main_v63, val_main_v62, val_main_cst_10,
    val_main_v61, val_main_v60, val_main_cst_9, val_main_v59, val_main_v58, val_main_cst_8, val_main_v57, zu, Row.inv, Row.ms]

/-- A sum whose first factor is one row further on, and zero at the end, is the sum whose second factor is one row back. -/
theorem sum_shift {n : ℕ} (a b : Fin (n + 1) → EReal) :
    ∑ x : Fin (n + 1), (if h : x.val + 1 < n + 1 then a ⟨x.val + 1, h⟩ else 0) * b x
      = ∑ x : Fin (n + 1), a x * (if h : 0 < x.val then b ⟨x.val - 1, by omega⟩ else 0) := by
  rw [Fin.sum_univ_castSucc, Fin.sum_univ_succ]
  rw [dif_neg (by simp), dif_neg (by simp), zero_mul, mul_zero, add_zero, zero_add]
  refine Finset.sum_congr rfl fun x _ => ?_
  rw [dif_pos (by simp), dif_pos (by simp)]
  rfl

theorem ref_dcw (w : Fin 3) (k : Fin 5632) : val_main_v134 (F := Ideal) X G U Z (ix2 w k) = ∑ r : Fin 8192, zu X G U r k * tap Z w r k := by
  have hL : ∑ x : Fin 8192, (if h : 2 + x.val < 1 then 0 else if h : 2 + x.val - 1 < 8192 then zu X G U ⟨2 + x.val - 1, h⟩ k else 0) * Z (ix2 x k)
      = ∑ x : Fin 8192, zu X G U x k * dn Z x k := by
    refine Eq.trans (Finset.sum_congr rfl fun x _ => ?_) (sum_shift (n := 8191) (fun x => zu X G U x k) (fun x => Z (ix2 x k)))
    rw [dif_neg (by omega)]
    by_cases h : x.val + 1 < 8192
    · rw [dif_pos (show 2 + x.val - 1 < 8192 by omega), dif_pos h]
      exact congrArg (fun q => zu X G U q k * Z (ix2 x k)) (Fin.ext (by dsimp only; omega))
    · rw [dif_neg (show ¬ 2 + x.val - 1 < 8192 by omega), dif_neg h]
  have hF : ∑ x : Fin 8192, (if h : x.val < 1 then 0 else if h : x.val - 1 < 8192 then zu X G U ⟨x.val - 1, h⟩ k else 0) * Z (ix2 x k)
      = ∑ x : Fin 8192, zu X G U x k * up Z x k := by
    refine Eq.trans (Finset.sum_congr rfl fun x _ => ?_) ((sum_shift (n := 8191) (fun x => Z (ix2 x k)) (fun x => zu X G U x k)).symm.trans
      (Finset.sum_congr rfl fun x _ => mul_comm _ _))
    rw [mul_comm]
    congr 1
    by_cases h : x.val < 1
    · rw [dif_pos h, dif_neg (by omega)]
    · rw [dif_neg h, dif_pos (by omega), dif_pos (by omega)]
  unfold tap
  have h3 := w.isLt
  by_cases h0 : w.val = 0
  · simp only [if_pos h0]
    rw [← hF]
    pointwise [val_main_v134, val_main_v133, val_main_cst_27, val_main_v132, val_main_v131, val_main_cst_26, val_main_v128, val_main_v127, val_main_cst_25,
      val_main_v126, val_main_v120, val_main_v119, val_main_cst_21, val_main_v118, val_main_v117, val_main_cst_20, val_main_v114, val_main_v113,
      val_main_cst_19, val_main_v112, val_main_v110, val_main_cst_17, val_main_v109, val_main_v108, val_main_cst_16, val_main_v105, val_main_v104,
      val_main_cst_15, val_main_v103, val_main_v102, val_main_v101, val_main_v94, val_main_v87, val_main_v78, val_main_v75, val_main_v74, val_main_cst_12]
    rw [dif_neg (by omega), dif_neg (by omega), dif_pos (by omega), Fin.sum_univ_one, zero_add, zero_add]
    simp only [ref_zu]
  · simp only [if_neg h0]
    by_cases h1 : w.val = 1
    · simp only [if_pos h1]
      pointwise [val_main_v134, val_main_v133, val_main_cst_27, val_main_v132, val_main_v131, val_main_cst_26, val_main_v128, val_main_v127, val_main_cst_25,
        val_main_v126, val_main_v120, val_main_v119, val_main_cst_21, val_main_v118, val_main_v117, val_main_cst_20, val_main_v114, val_main_v113,
        val_main_cst_19, val_main_v112, val_main_v110, val_main_cst_17, val_main_v109, val_main_v108, val_main_cst_16, val_main_v105, val_main_v104,
        val_main_cst_15, val_main_v103, val_main_v102, val_main_v101, val_main_v94, val_main_v87, val_main_v78, val_main_v75, val_main_v74, val_main_cst_12]
      rw [dif_neg (by omega), dif_pos (by omega), dif_neg (by omega), Fin.sum_univ_one, zero_add, add_zero]
      simp only [ref_zu]
    · simp only [if_neg h1]
      rw [← hL]
      pointwise [val_main_v134, val_main_v133, val_main_cst_27, val_main_v132, val_main_v131, val_main_cst_26, val_main_v128, val_main_v127, val_main_cst_25,
        val_main_v126, val_main_v120, val_main_v119, val_main_cst_21, val_main_v118, val_main_v117, val_main_cst_20, val_main_v114, val_main_v113,
        val_main_cst_19, val_main_v112, val_main_v110, val_main_cst_17, val_main_v109, val_main_v108, val_main_cst_16, val_main_v105, val_main_v104,
        val_main_cst_15, val_main_v103, val_main_v102, val_main_v101, val_main_v94, val_main_v87, val_main_v78, val_main_v75, val_main_v74, val_main_cst_12]
      rw [dif_pos (by omega), dif_neg (by omega), dif_neg (by omega), Fin.sum_univ_one, add_zero, add_zero]
      simp only [ref_zu]

theorem ref_ch (r : Fin 8192) (k : Fin 1024) : val_main_v140 (F := Ideal) U C Z (ix2 r k) = ch U C Z r k := by
  pointwise [val_main_v140, ch]
  simp only [ref_dz]

theorem ref_dcb (k : Fin 5632) : val_main_v164 (F := Ideal) Z (ix2 0 k) = ∑ r : Fin 8192, Z (ix2 r k) := by
  pointwise [val_main_v164, val_main_v125, val_main_cst_24, val_main_v124, val_main_v123, val_main_cst_23, val_main_v101]
  rw [Fin.sum_univ_one]

theorem ref_dg (k : Fin 1024) : val_main_v163 (F := Ideal) X U C Z (ix2 0 k) = DG X U C Z (ix2 0 k) := by
  pointwise [val_main_v163, val_main_v146, val_main_cst_30, val_main_v143, val_main_v142, val_main_cst_29, val_main_v141, val_main_v69, val_main_v68, val_main_v64,
    val_main_v63, val_main_v62, val_main_cst_10, val_main_v61, val_main_v60, val_main_cst_9, val_main_v59, val_main_v58, val_main_cst_8, val_main_v57,
    DG, Row.inv, Row.ms]
  rw [Fin.sum_univ_one]
  simp only [ref_ch]
  try rfl

theorem ref_dx (r : Fin 8192) (k : Fin 1024) : val_main_v161 (F := Ideal) X G U C R Z (ix2 r k) = DX X G U C R Z (ix2 r k) := by
  pointwise [val_main_v161, val_main_v160, val_main_v159, val_main_v158, val_main_v157, val_main_v156, val_main_cst_33, val_main_v155, val_main_v154, val_main_cst_32,
    val_main_v153, val_main_v152, val_main_v151, val_main_v150, val_main_v149, val_main_v148, val_main_cst_31, val_main_v147, val_main_v145, val_main_v144,
    val_main_v70, val_main_v67, val_main_v66, val_main_cst_11, val_main_v65, val_main_v64,
    val_main_v63, val_main_v62, val_main_cst_10, val_main_v61, val_main_v60, val_main_cst_9, val_main_v59, val_main_v58, val_main_cst_8, val_main_v57,
    DX, Row.bwd, Row.inv, Row.ms]
  simp only [ref_ch, Fin.sum_univ_one]
  rw [add_assoc, add_assoc, add_assoc]
  try rfl

end Cert.UpVal
-- ==== Proof.UpClaim.lean ====
module

public import proofs.«01_k».proof.Defs
public import proofs.«01_k».proof.Proof.UpVal
public import proofs.«01_k».proof.Proof.UpFin
public import proofs.«01_k».proof.Proof.UpRef
public import proofs.«01_k».proof.Proof.Gen.UpRefIdeal.Run
public import proofs.«01_k».proof.Proof.Gen.UpIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.UpVal
open Cert.UpIdeal Cert.UpIdeal.Gen

section values
variable (X : FVec Ideal S8192x1024 .f32) (G : FVec Ideal S1024 .f32) (U : FVec Ideal S1024x5632 .f32) (C : FVec Ideal S3x5632 .f32)
  (R : FVec Ideal S8192x1024 .f32) (Z : FVec Ideal S8192x5632 .f32)
theorem dzu_eq : DZU C Z = Cert.UpRefIdeal.Read.val_main_v162 (F := Ideal) C Z := by
  funext i
  obtain ⟨r, k, rfl⟩ : ∃ (r : Fin 8192) (k : Fin 5632), i = ix2 r k := ⟨i 0, i 1, eq_ix2 i⟩
  exact (ref_dzu C Z r k).symm
theorem dx_eq : DX X G U C R Z = Cert.UpRefIdeal.Read.val_main_v161 (F := Ideal) X G U C R Z := by
  funext i
  obtain ⟨r, k, rfl⟩ : ∃ (r : Fin 8192) (k : Fin 1024), i = ix2 r k := ⟨i 0, i 1, eq_ix2 i⟩
  exact (ref_dx X G U C R Z r k).symm
theorem dg_eq : DG X U C Z = Cert.UpRefIdeal.Read.val_main_v163 (F := Ideal) X U C Z := by
  funext i
  obtain ⟨z, k, rfl⟩ : ∃ (z : Fin 1) (k : Fin 1024), i = ix2 z k := ⟨i 0, i 1, eq_ix2 i⟩
  obtain rfl : z = 0 := Subsingleton.elim _ _
  exact (ref_dg X U C Z k).symm
theorem dcw_eq : DCW X G U Z = Cert.UpRefIdeal.Read.val_main_v134 (F := Ideal) X G U Z := by
  funext i
  obtain ⟨w, k, rfl⟩ : ∃ (w : Fin 3) (k : Fin 5632), i = ix2 w k := ⟨i 0, i 1, eq_ix2 i⟩
  exact (ref_dcw X G U Z w k).symm
theorem dcb_eq : DCB Z = Cert.UpRefIdeal.Read.val_main_v164 (F := Ideal) Z := by
  funext i
  obtain ⟨z, k, rfl⟩ : ∃ (z : Fin 1) (k : Fin 5632), i = ix2 z k := ⟨i 0, i 1, eq_ix2 i⟩
  obtain rfl : z = 0 := Subsingleton.elim _ _
  exact (ref_dcb Z k).symm
end values

/-- What the reference is launched with, read off the kernel's arguments. -/
structure Args (V0 : Valuation Cert.UpRefIdeal.τ Cert.UpRefIdeal.sig (Elt Ideal)) (m : (ℓ : Loc nD τ sig) → Buf (Elt Ideal) ℓ) (c : Dev nD) : Prop where
  h0 : V0 (Proc.devRef .tc Cert.UpRefIdeal.main_arg0) = aX m c
  h1 : V0 (Proc.devRef .tc Cert.UpRefIdeal.main_arg1) = aG m c
  h2 : V0 (Proc.devRef .tc Cert.UpRefIdeal.main_arg2) = aU m c
  h3 : V0 (Proc.devRef .tc Cert.UpRefIdeal.main_arg3) = aC m c
  h5 : V0 (Proc.devRef .tc Cert.UpRefIdeal.main_arg5) = aR m c
  h6 : V0 (Proc.devRef .tc Cert.UpRefIdeal.main_arg6) = aZ m c

set_option maxHeartbeats 4000000 in
theorem algebraic : Cert.algebraic_UpIdeal_UpRefIdeal := by
  pair_intro
  · run_from Cert.UpIdeal.Gen.run_main m g
  have H : ∀ c, Args (StableHlo.launchContents m' c) m c := fun c => ⟨(hagree c).1, (hagree c).2.1, (hagree c).2.2.1, (hagree c).2.2.2.1, (hagree c).2.2.2.2.2.1, (hagree c).2.2.2.2.2.2⟩
  · run_from Cert.UpRefIdeal.Value.run m' g'
    · rw [final_dzu, dzu_eq]
      refine (Cert.UpRefIdeal.Read.val_main_v162_eq (F := Ideal) (StableHlo.launchContents m' c)).trans ?_
      rw [(H c).h3, (H c).h6]
    · rw [final_dx, dx_eq]
      have e := Cert.UpRefIdeal.Read.val_main_v161_eq (F := Ideal) (StableHlo.launchContents m' c)
      rw [(H c).h0, (H c).h1, (H c).h2, (H c).h3, (H c).h5, (H c).h6] at e
      exact e
    · rw [final_dg, dg_eq]
      refine (Cert.UpRefIdeal.Read.val_main_v163_eq (F := Ideal) (StableHlo.launchContents m' c)).trans ?_
      rw [(H c).h0, (H c).h2, (H c).h3, (H c).h6]
    · rw [final_dcw, dcw_eq]
      refine (Cert.UpRefIdeal.Read.val_main_v134_eq (F := Ideal) (StableHlo.launchContents m' c)).trans ?_
      rw [(H c).h0, (H c).h1, (H c).h2, (H c).h6]
    · rw [final_dcb, dcb_eq]
      refine (Cert.UpRefIdeal.Read.val_main_v164_eq (F := Ideal) (StableHlo.launchContents m' c)).trans ?_
      rw [(H c).h6]

/-- The reference ends with its arguments unchanged; it declares no semaphore. -/
theorem ref_frame : Cert.quiescent_UpRefIdeal := fun m g _ =>
  (θ_run Cert.UpRefIdeal.defs _ _).mono (fun r h => ⟨fun c => (h c).2.2.2.2.2, sem_eq_zero_of_no_sems (by decide) r.2⟩)
    (Cert.UpRefIdeal.Value.run (F := Ideal) m g)

end Cert.UpVal
-- ==== Proof.Spatial.lean ====
module

public import proofs.«01_k».proof.Proof.Row
public import proofs.«01_k».proof.Proof.Consts

@[expose] public section
set_option maxRecDepth 16384
noncomputable section
open Idealize.ShloMosaic Idealize.ShloMosaic.TcCoe Idealize.SL.Sem
open Idealize.ShloMosaic.Pipeline (Dat)
namespace Cert.Spatial
/-- The exact gelu and its gradient for the cotangent `y`, as the kernel computes them. -/
def gel (x : EReal) : EReal := Ideal.ofBits .f32 0x3F000000#32 * x * (1 + Ideal.erf (x * Ideal.ofBits .f32 0x3F3504F3#32))
def dgel (x y : EReal) : EReal :=
  Ideal.ofBits .f32 0x3F906EBB#32 * (Ideal.ofBits .f32 0x3F000000#32 * x * y)
      * Ideal.exp (-(x * Ideal.ofBits .f32 0x3F3504F3#32 * (x * Ideal.ofBits .f32 0x3F3504F3#32))) * Ideal.ofBits .f32 0x3F3504F3#32
    + Ideal.ofBits .f32 0x3F000000#32 * (y * (1 + Ideal.erf (x * Ideal.ofBits .f32 0x3F3504F3#32)))

section norm
variable (v : Fin 128 → EReal)
/-- The layer norm of a row: its mean, its centred row, its variance with the small constant, its reciprocal root. -/
def mu : EReal := Ideal.div (∑ k, v k) (Ideal.ofBits .f32 0x43000000#32)
def xm (k : Fin 128) : EReal := v k - mu v
def var : EReal := Ideal.div (∑ k, xm v k * xm v k) (Ideal.ofBits .f32 0x43000000#32) + Ideal.ofBits .f32 0x358637BD#32
def rs : EReal := Ideal.rsqrt (var v)
def hat (k : Fin 128) : EReal := xm v k * rs v
/-- The gradient's part through the variance, and the whole, for the cotangent `y` of the normed row. -/
def tv (y : Fin 128 → EReal) (k : Fin 128) : EReal :=
  Ideal.div ((∑ k, xm v k * y k) * (Ideal.ofBits .f32 0xBF000000#32 * Ideal.div (rs v) (var v))) (Ideal.ofBits .f32 0x43000000#32)
    * (Ideal.ofBits .f32 0x40000000#32 * xm v k)
def dln (y : Fin 128 → EReal) (k : Fin 128) : EReal :=
  y k * rs v + tv v y k
    + Ideal.div ((∑ k, -(y k * rs v)) + ∑ k, -tv v y k) (Ideal.ofBits .f32 0x43000000#32)
end norm

section chunk
/- A chunk of 128 rows of a head: the two halves before the gelu `a` `b`, the cotangent `d`, the mixing `w` with its bias
   `s`, and the layer norm's `g` `l`. -/
variable (a b d w : Fin 128 → Fin 128 → EReal) (s g l : Fin 128 → EReal)
def V (j k : Fin 128) : EReal := gel (b j k)
def vn (j k : Fin 128) : EReal := hat (V b j) k * g k + l k
def mix (i k : Fin 128) : EReal := (∑ j, w i j * vn b g l j k) + s i
/-- The cotangent of the mixed half, and of the normed half. -/
def dm (i k : Fin 128) : EReal := gel (a i k) * d i k
def dn (j k : Fin 128) : EReal := ∑ i, w i j * dm a d i k
def du (i k : Fin 128) : EReal := dgel (a i k) (d i k * mix b w s g l i k)
def dv (j k : Fin 128) : EReal := dgel (b j k) (dln (V b j) (fun k => dn a d w j k * g k) k)
def dw (i j : Fin 128) : EReal := ∑ k, dm a d i k * vn b g l j k
def ds (i : Fin 128) : EReal := ∑ k, dm a d i k
def dg (k : Fin 128) : EReal := ∑ j, hat (V b j) k * dn a d w j k
def dl (k : Fin 128) : EReal := ∑ j, dn a d w j k
end chunk

end Cert.Spatial
-- ==== Proof.GmlpBlk.lean ====
module

public import proofs.«01_k».proof.Proof.Spatial
public import proofs.«01_k».proof.Proof.Fill
public import proofs.«01_k».proof.Proof.Gen.GmlpIdeal.Value
public import proofs.«01_k».proof.Proof.Gen.GmlpRefIdeal.Read
public import Idealize.ShloMosaic.Lib.Claim
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.GmlpVal
open Cert.GmlpIdeal Cert.GmlpIdeal.Gen

section arrays
variable (P : FVec Ideal S8192x2592 .f32) (C : FVec Ideal S8192x512 .f32) (W : FVec Ideal S4x128x128 .f32) (S G L : FVec Ideal S4x128 .f32)

/-- The chunks' rows and the heads' features, of the arrays. -/
def ga (n : Fin 64) (h : Fin 4) (i k : Fin 128) : EReal := P (ix2 ⟨n.val * 128 + i.val, by omega⟩ ⟨h.val * 128 + k.val, by omega⟩)
def gb (n : Fin 64) (h : Fin 4) (i k : Fin 128) : EReal := P (ix2 ⟨n.val * 128 + i.val, by omega⟩ ⟨512 + h.val * 128 + k.val, by omega⟩)
def gd (n : Fin 64) (h : Fin 4) (i k : Fin 128) : EReal := C (ix2 ⟨n.val * 128 + i.val, by omega⟩ ⟨h.val * 128 + k.val, by omega⟩)
def gw (h : Fin 4) (i j : Fin 128) : EReal := W (ix3 h i j)
def gs (h : Fin 4) (i : Fin 128) : EReal := S (ix2 h i)

/-- Where a row, and a column of either half, lies among the chunks and the heads. -/
def cn (r : Fin 8192) : Fin 64 := ⟨r.val / 128, by omega⟩
def ci (r : Fin 8192) : Fin 128 := ⟨r.val % 128, by omega⟩
def hd (k : Fin 1024) : Fin 4 := ⟨k.val % 512 / 128, by omega⟩
def ft (k : Fin 1024) : Fin 128 := ⟨k.val % 128, by omega⟩

def DPA : FVec Ideal S8192x1024 .bf16 := fun x =>
  if (x 1).val < 512 then
    Spatial.du (ga P (cn (x 0)) (hd (x 1))) (gb P (cn (x 0)) (hd (x 1))) (gd C (cn (x 0)) (hd (x 1))) (gw W (hd (x 1))) (gs S (hd (x 1)))
      (gs G (hd (x 1))) (gs L (hd (x 1))) (ci (x 0)) (ft (x 1))
  else
    Spatial.dv (ga P (cn (x 0)) (hd (x 1))) (gb P (cn (x 0)) (hd (x 1))) (gd C (cn (x 0)) (hd (x 1))) (gw W (hd (x 1)))
      (gs G (hd (x 1))) (ci (x 0)) (ft (x 1))
def DW : FVec Ideal S4x128x128 .f32 := fun x =>
  ∑ n : Fin 64, Spatial.dw (ga P n (x 0)) (gb P n (x 0)) (gd C n (x 0)) (gs G (x 0)) (gs L (x 0)) (x 1) (x 2)
def DS : FVec Ideal S4x128x1 .f32 := fun x => ∑ n : Fin 64, Spatial.ds (ga P n (x 0)) (gd C n (x 0)) (x 1)
def DG : FVec Ideal S4x1x128 .f32 := fun x =>
  ∑ n : Fin 64, Spatial.dg (ga P n (x 0)) (gb P n (x 0)) (gd C n (x 0)) (gw W (x 0)) (x 2)
def DL : FVec Ideal S4x1x128 .f32 := fun x => ∑ n : Fin 64, Spatial.dl (ga P n (x 0)) (gd C n (x 0)) (gw W (x 0)) (x 2)
end arrays

section blocks
variable (m : (ℓ : Loc nD τ sig) → Buf (Elt Ideal) ℓ) (c : Dev nD) (t : Fin cfg0.N)

abbrev aP (m : (ℓ : Loc nD τ sig) → Buf (Elt Ideal) ℓ) (c : Dev nD) : FVec Ideal S8192x2592 .f32 := m ((c : Thread nD τ).loc main_arg0)
abbrev aC (m : (ℓ : Loc nD τ sig) → Buf (Elt Ideal) ℓ) (c : Dev nD) : FVec Ideal S8192x512 .f32 := m ((c : Thread nD τ).loc main_arg1)
abbrev aW (m : (ℓ : Loc nD τ sig) → Buf (Elt Ideal) ℓ) (c : Dev nD) : FVec Ideal S4x128x128 .f32 := m ((c : Thread nD τ).loc main_arg2)
abbrev aS (m : (ℓ : Loc nD τ sig) → Buf (Elt Ideal) ℓ) (c : Dev nD) : FVec Ideal S4x128 .f32 := m ((c : Thread nD τ).loc main_arg3)
abbrev aG (m : (ℓ : Loc nD τ sig) → Buf (Elt Ideal) ℓ) (c : Dev nD) : FVec Ideal S4x128 .f32 := m ((c : Thread nD τ).loc main_arg4)
abbrev aL (m : (ℓ : Loc nD τ sig) → Buf (Elt Ideal) ℓ) (c : Dev nD) : FVec Ideal S4x128 .f32 := m ((c : Thread nD τ).loc main_arg5)

theorem idx : ∀ t : Fin cfg0.N, win0_0.index t = ![t.val, 0] ∧ win0_1.index t = ![t.val, 0] ∧ win0_2.index t = ![0, 0, 0]
    ∧ win0_3.index t = ![0, 0, 0] ∧ win0_4.index t = ![0, 0, 0] ∧ win0_5.index t = ![0, 0, 0] ∧ win0_6.index t = ![t.val, 0]
    ∧ win0_7.index t = ![0, 0, 0] ∧ win0_8.index t = ![0, 0, 0] ∧ win0_9.index t = ![0, 0, 0] ∧ win0_10.index t = ![0, 0, 0]
    := (by decide +kernel : ∀ t : Fin grid0.N, _)

theorem t_lt : t.val < 16 := lt_of_lt_of_eq t.isLt N_0

theorem row_lt (r : Fin 512) : t.val * 512 + r.val < 8192 := by
  have := t_lt t
  omega

/-- The row of the array which row `r` of the block of the point `t` is. -/
def rw' (r : Fin 512) : Fin 8192 := ⟨t.val * 512 + r.val, row_lt t r⟩

theorem V_v0 : V m c main_v0 = (pad S8192x2688 ![0, 0] ![0, 96] ![0, 0] (aP m c)
    (sitofp .f32 (constantI S_ 32 0#32)) pads_S8192x2592_S8192x2688_000_0960 h_S_ : FVec Ideal S8192x2688 .f32) := rfl
theorem V_v1 : V m c main_v1 = broadcastInDim S4x128x1 ![0, 1] bcast_S4x128_S4x128x1_0_1 (aS m c) := rfl
theorem V_v2 : V m c main_v2 = broadcastInDim S4x1x128 ![0, 2] bcast_S4x128_S4x1x128_0_2 (aG m c) := rfl
theorem V_v3 : V m c main_v3 = broadcastInDim S4x1x128 ![0, 2] bcast_S4x128_S4x1x128_0_2 (aL m c) := rfl

theorem blk_p (r : Fin 512) (k : Fin 1024) : X0_0 m c t (ix2 r k) = aP m c (ix2 (rw' t r) ⟨k.val, by omega⟩) := by
  unfold X0_0 Pipeline.Window.fill
  rw [dif_pos (moved0_0 t _)]
  refine (congrArg (V m c main_v0) (?_ : _ = (ix2 (rw' t r) ⟨k.val, by omega⟩ : S8192x2688.Idx))).trans ?_
  · blk_ext [idx t, rw']
  rw [V_v0]
  pointwise
  exact dif_pos (by omega)

theorem blk_d (r : Fin 512) (k : Fin 512) : iblk m c 1 t (ix2 r k) = aC m c (ix2 (rw' t r) k) := by
  blk_ext [iblk, V, idx t, rw']

theorem blk_w (h : Fin 4) (i j : Fin 128) : iblk m c 2 t (ix3 h i j) = aW m c (ix3 h i j) := by
  blk_ext [iblk, V, idx t]

theorem blk_s (h : Fin 4) (k : Fin 128) : iblk m c 3 t (ix3 h k 0) = aS m c (ix2 h k) := by
  have e : (win0_3.blk t).view.emb (ix3 h k 0 : S4x128x1.Idx) = (ix3 h k 0 : S4x128x1.Idx) := by blk_ext [idx t]
  change V m c main_v1 ((win0_3.blk t).view.emb (ix3 h k 0 : S4x128x1.Idx)) = _
  rw [e, V_v1]
  pointwise

theorem blk_g (h : Fin 4) (k : Fin 128) : iblk m c 4 t (ix3 h 0 k) = aG m c (ix2 h k) := by
  have e : (win0_4.blk t).view.emb (ix3 h 0 k : S4x1x128.Idx) = (ix3 h 0 k : S4x1x128.Idx) := by blk_ext [idx t]
  change V m c main_v2 ((win0_4.blk t).view.emb (ix3 h 0 k : S4x1x128.Idx)) = _
  rw [e, V_v2]
  pointwise

theorem blk_l (h : Fin 4) (k : Fin 128) : iblk m c 5 t (ix3 h 0 k) = aL m c (ix2 h k) := by
  have e : (win0_5.blk t).view.emb (ix3 h 0 k : S4x1x128.Idx) = (ix3 h 0 k : S4x1x128.Idx) := by blk_ext [idx t]
  change V m c main_v3 ((win0_5.blk t).view.emb (ix3 h 0 k : S4x1x128.Idx)) = _
  rw [e, V_v3]
  pointwise

/-- The chunks and the heads of the point's blocks. -/
def ba (q : Fin 4) (h : Fin 4) (i k : Fin 128) : EReal := X0_0 m c t (ix2 ⟨q.val * 128 + i.val, by omega⟩ ⟨h.val * 128 + k.val, by omega⟩)
def bb (q : Fin 4) (h : Fin 4) (i k : Fin 128) : EReal := X0_0 m c t (ix2 ⟨q.val * 128 + i.val, by omega⟩ ⟨512 + h.val * 128 + k.val, by omega⟩)
def bd (q : Fin 4) (h : Fin 4) (i k : Fin 128) : EReal := iblk m c 1 t (ix2 ⟨q.val * 128 + i.val, by omega⟩ ⟨h.val * 128 + k.val, by omega⟩)
def bw (h : Fin 4) (i j : Fin 128) : EReal := iblk m c 2 t (ix3 h i j)
def bs (h : Fin 4) (i : Fin 128) : EReal := iblk m c 3 t (ix3 h i 0)
def bg (h : Fin 4) (k : Fin 128) : EReal := iblk m c 4 t (ix3 h 0 k)
def bl (h : Fin 4) (k : Fin 128) : EReal := iblk m c 5 t (ix3 h 0 k)

/-- The chunk of the array which chunk `q` of the point is. -/
def ch (q : Fin 4) : Fin 64 := ⟨t.val * 4 + q.val, by have := t_lt t; omega⟩

theorem rw_ch (q : Fin 4) (i : Fin 128) : rw' t ⟨q.val * 128 + i.val, by omega⟩ = ⟨(ch t q).val * 128 + i.val, by omega⟩ :=
  Fin.ext (by simp only [rw', ch]; omega)

theorem ba_eq (q h : Fin 4) : ba m c t q h = ga (aP m c) (ch t q) h := by
  funext i k
  simp only [ba, ga, blk_p, rw_ch]
theorem bb_eq (q h : Fin 4) : bb m c t q h = gb (aP m c) (ch t q) h := by
  funext i k
  simp only [bb, gb, blk_p, rw_ch]
theorem bd_eq (q h : Fin 4) : bd m c t q h = gd (aC m c) (ch t q) h := by
  funext i k
  simp only [bd, gd, blk_d, rw_ch]
theorem bw_eq (h : Fin 4) : bw m c t h = gw (aW m c) h := by
  funext i j
  exact blk_w m c t h i j
theorem bs_eq (h : Fin 4) : bs m c t h = gs (aS m c) h := by
  funext i
  exact blk_s m c t h i
theorem bg_eq (h : Fin 4) : bg m c t h = gs (aG m c) h := by
  funext i
  exact blk_g m c t h i
theorem bl_eq (h : Fin 4) : bl m c t h = gs (aL m c) h := by
  funext i
  exact blk_l m c t h i
end blocks

end Cert.GmlpVal
-- ==== Proof.GmlpDpa.lean ====
module

public import proofs.«01_k».proof.Proof.GmlpBlk

@[expose] public section
set_option maxRecDepth 16384
noncomputable section
open Idealize.ShloMosaic Idealize.ShloMosaic.TcCoe Idealize.SL.Sem
open Idealize.ShloMosaic.Pipeline (Dat)
namespace Cert.GmlpVal
open Cert.GmlpIdeal Cert.GmlpIdeal.Gen
variable (m : (ℓ : Loc nD τ sig) → Buf (Elt Ideal) ℓ) (c : Dev nD) (t : Fin cfg0.N)

set_option maxHeartbeats 16000000 in
theorem out_u (y : S512x1024.Idx) (q h : Fin 4) (i k : Fin 128)
    (hr : (y 0).val = q.val * 128 + i.val) (hk : (y 1).val = h.val * 128 + k.val) :
    (outsAt0 m c t.val t.isLt).1 y
      = Spatial.du (ba m c t q h) (bb m c t q h) (bd m c t q h) (bw m c t h) (bs m c t h) (bg m c t h) (bl m c t h) i k := by
  by_cases ca : t.val % 16 = 0
  on_goal 1 => rw [outsAt0_A m c t ca]
  on_goal 2 => rw [outsAt0_B m c t ca]
  all_goals
    frame_out
    canon_tiles x hx
  all_goals have hkl := k.isLt
  all_goals have hil := i.isLt
  all_goals have hhl := h.isLt
  all_goals have hql := q.isLt
  all_goals try (exfalso; omega)
  all_goals
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    first
      | have hw : q.val = 3 := by omega
        obtain rfl : q = 3 := Fin.ext hw
      | have hw : q.val = 2 := by omega
        obtain rfl : q = 2 := Fin.ext hw
      | have hw : q.val = 1 := by omega
        obtain rfl : q = 1 := Fin.ext hw
      | have hw : q.val = 0 := by omega
        obtain rfl : q = 0 := Fin.ext hw
    obtain rfl : x = ix2 i k := (eq_ix2 x).trans ((ix2_inj _ _ _ _).mpr ⟨Fin.ext (show _ = i.val by simp at hr; omega),
      Fin.ext (show _ = k.val by simp at hk; omega)⟩)
    open_payloads
    pointwise [ba, bb, bd, bw, bs, bg, bl, Spatial.du, Spatial.dv, Spatial.dw, Spatial.ds, Spatial.dg, Spatial.dl, Spatial.dn, Spatial.dm,
      Spatial.mix, Spatial.vn, Spatial.V, Spatial.dln, Spatial.tv, Spatial.hat, Spatial.rs, Spatial.var, Spatial.xm, Spatial.mu, Spatial.dgel,
      Spatial.gel, X0_0]
    try simp only [zero_sub, Fin.sum_univ_one, Ideal.erf_def]

set_option maxHeartbeats 16000000 in
theorem out_v (y : S512x1024.Idx) (q h : Fin 4) (i k : Fin 128)
    (hr : (y 0).val = q.val * 128 + i.val) (hk : (y 1).val = 512 + h.val * 128 + k.val) :
    (outsAt0 m c t.val t.isLt).1 y
      = Spatial.dv (ba m c t q h) (bb m c t q h) (bd m c t q h) (bw m c t h) (bg m c t h) i k := by
  by_cases ca : t.val % 16 = 0
  on_goal 1 => rw [outsAt0_A m c t ca]
  on_goal 2 => rw [outsAt0_B m c t ca]
  all_goals
    frame_out
    canon_tiles x hx
  all_goals have hkl := k.isLt
  all_goals have hil := i.isLt
  all_goals have hhl := h.isLt
  all_goals have hql := q.isLt
  all_goals try (exfalso; omega)
  all_goals
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    first
      | have hw : q.val = 3 := by omega
        obtain rfl : q = 3 := Fin.ext hw
      | have hw : q.val = 2 := by omega
        obtain rfl : q = 2 := Fin.ext hw
      | have hw : q.val = 1 := by omega
        obtain rfl : q = 1 := Fin.ext hw
      | have hw : q.val = 0 := by omega
        obtain rfl : q = 0 := Fin.ext hw
    obtain rfl : x = ix2 i k := (eq_ix2 x).trans ((ix2_inj _ _ _ _).mpr ⟨Fin.ext (show _ = i.val by simp at hr; omega),
      Fin.ext (show _ = k.val by simp at hk; omega)⟩)
    open_payloads
    pointwise [ba, bb, bd, bw, bs, bg, bl, Spatial.du, Spatial.dv, Spatial.dw, Spatial.ds, Spatial.dg, Spatial.dl, Spatial.dn, Spatial.dm,
      Spatial.mix, Spatial.vn, Spatial.V, Spatial.dln, Spatial.tv, Spatial.hat, Spatial.rs, Spatial.var, Spatial.xm, Spatial.mu, Spatial.dgel,
      Spatial.gel, X0_0]
    try simp only [zero_sub, Fin.sum_univ_one, Ideal.erf_def]

end Cert.GmlpVal
-- ==== Proof.GmlpAcc.lean ====
module

public import proofs.«01_k».proof.Proof.GmlpBlk

@[expose] public section
set_option maxRecDepth 16384
noncomputable section
open Idealize.ShloMosaic Idealize.ShloMosaic.TcCoe Idealize.SL.Sem
open Idealize.ShloMosaic.Pipeline (Dat)
namespace Cert.GmlpVal
open Cert.GmlpIdeal Cert.GmlpIdeal.Gen
variable (m : (ℓ : Loc nD τ sig) → Buf (Elt Ideal) ℓ) (c : Dev nD) (t : Fin cfg0.N)

set_option maxHeartbeats 16000000 in
theorem out_dw_A (ca : t.val % 16 = 0) (y : S4x128x128.Idx) (h : Fin 4) (i k : Fin 128) (hh : (y 0).val = h.val) (hi : (y 1).val = i.val) (hk : (y 2).val = k.val) :
    (outsAt0 m c t.val t.isLt).2.1 y = Spatial.dw (ba m c t 3 h) (bb m c t 3 h) (bd m c t 3 h) (bg m c t h) (bl m c t h) i k
        + Spatial.dw (ba m c t 2 h) (bb m c t 2 h) (bd m c t 2 h) (bg m c t h) (bl m c t h) i k
        + Spatial.dw (ba m c t 1 h) (bb m c t 1 h) (bd m c t 1 h) (bg m c t h) (bl m c t h) i k
        + Spatial.dw (ba m c t 0 h) (bb m c t 0 h) (bd m c t 0 h) (bg m c t h) (bl m c t h) i k := by
  rw [outsAt0_A m c t ca]
  frame_open
  simp (disch := decide) only [↓ View.readCov_skip, ↓ View.readCov_cons_toLoadRect, ↓ View.readCov_fill]
  frame_out
  rw [Fill.canon_of_tiled _ ![1, 128, 128] (List.cons_ne_nil _ _) (by sl_kernel_rfl)]
  simp only [List.dropLast_cons₂, List.dropLast_singleton]
  canon_tiles x hx
  all_goals have hhl := h.isLt
  all_goals
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix3 0 i k := (eq_ix3 x).trans ((ix3_inj _ _ _ _ _ _).mpr ⟨Subsingleton.elim _ _, Fin.ext (hx1.symm.trans hi), Fin.ext (hx2.symm.trans hk)⟩)
    open_payloads
    pointwise [ba, bb, bd, bw, bs, bg, bl, Spatial.du, Spatial.dv, Spatial.dw, Spatial.ds, Spatial.dg, Spatial.dl, Spatial.dn, Spatial.dm,
      Spatial.mix, Spatial.vn, Spatial.V, Spatial.dln, Spatial.tv, Spatial.hat, Spatial.rs, Spatial.var, Spatial.xm, Spatial.mu, Spatial.dgel,
      Spatial.gel, X0_0]
    try simp only [zero_sub, Fin.sum_univ_one, Ideal.erf_def]

set_option maxHeartbeats 16000000 in
theorem out_dw_B (ca : ¬ t.val % 16 = 0) (y : S4x128x128.Idx) (h : Fin 4) (i k : Fin 128) (hh : (y 0).val = h.val) (hi : (y 1).val = i.val) (hk : (y 2).val = k.val) :
    (outsAt0 m c t.val t.isLt).2.1 y = (outsAt0 m c (t.val - 1) (Nat.lt_of_le_of_lt (Nat.sub_le _ _) t.isLt)).2.1 (ix3 h i k)
      + (Spatial.dw (ba m c t 3 h) (bb m c t 3 h) (bd m c t 3 h) (bg m c t h) (bl m c t h) i k
        + Spatial.dw (ba m c t 2 h) (bb m c t 2 h) (bd m c t 2 h) (bg m c t h) (bl m c t h) i k
        + Spatial.dw (ba m c t 1 h) (bb m c t 1 h) (bd m c t 1 h) (bg m c t h) (bl m c t h) i k
        + Spatial.dw (ba m c t 0 h) (bb m c t 0 h) (bd m c t 0 h) (bg m c t h) (bl m c t h) i k) := by
  rw [outsAt0_B m c t ca]
  frame_out
  canon_tiles x hx
  all_goals have hhl := h.isLt
  all_goals
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix3 0 i k := (eq_ix3 x).trans ((ix3_inj _ _ _ _ _ _).mpr ⟨Subsingleton.elim _ _, Fin.ext (hx1.symm.trans hi), Fin.ext (hx2.symm.trans hk)⟩)
    open_payloads
    pointwise [ba, bb, bd, bw, bs, bg, bl, Spatial.du, Spatial.dv, Spatial.dw, Spatial.ds, Spatial.dg, Spatial.dl, Spatial.dn, Spatial.dm,
      Spatial.mix, Spatial.vn, Spatial.V, Spatial.dln, Spatial.tv, Spatial.hat, Spatial.rs, Spatial.var, Spatial.xm, Spatial.mu, Spatial.dgel,
      Spatial.gel, X0_0]
    try simp only [zero_sub, Fin.sum_univ_one, Ideal.erf_def]

set_option maxHeartbeats 16000000 in
theorem out_ds_A (ca : t.val % 16 = 0) (y : S4x128x1.Idx) (h : Fin 4) (i : Fin 128) (hh : (y 0).val = h.val) (hi : (y 1).val = i.val) :
    (outsAt0 m c t.val t.isLt).2.2.1 y = Spatial.ds (ba m c t 3 h) (bd m c t 3 h) i
        + Spatial.ds (ba m c t 2 h) (bd m c t 2 h) i
        + Spatial.ds (ba m c t 1 h) (bd m c t 1 h) i
        + Spatial.ds (ba m c t 0 h) (bd m c t 0 h) i := by
  rw [outsAt0_A m c t ca]
  frame_open
  simp (disch := decide) only [↓ View.readCov_skip, ↓ View.readCov_cons_toLoadRect, ↓ View.readCov_fill]
  frame_out
  rw [Fill.canon_of_tiled _ ![1, 128, 1] (List.cons_ne_nil _ _) (by sl_kernel_rfl)]
  simp only [List.dropLast_cons₂, List.dropLast_singleton]
  canon_tiles x hx
  all_goals have hhl := h.isLt
  all_goals
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix3 0 i 0 := (eq_ix3 x).trans ((ix3_inj _ _ _ _ _ _).mpr ⟨Subsingleton.elim _ _, Fin.ext (hx1.symm.trans hi), Subsingleton.elim _ _⟩)
    open_payloads
    pointwise [ba, bb, bd, bw, bs, bg, bl, Spatial.du, Spatial.dv, Spatial.dw, Spatial.ds, Spatial.dg, Spatial.dl, Spatial.dn, Spatial.dm,
      Spatial.mix, Spatial.vn, Spatial.V, Spatial.dln, Spatial.tv, Spatial.hat, Spatial.rs, Spatial.var, Spatial.xm, Spatial.mu, Spatial.dgel,
      Spatial.gel, X0_0]
    try simp only [zero_sub, Fin.sum_univ_one, Ideal.erf_def]

set_option maxHeartbeats 16000000 in
theorem out_ds_B (ca : ¬ t.val % 16 = 0) (y : S4x128x1.Idx) (h : Fin 4) (i : Fin 128) (hh : (y 0).val = h.val) (hi : (y 1).val = i.val) :
    (outsAt0 m c t.val t.isLt).2.2.1 y = (outsAt0 m c (t.val - 1) (Nat.lt_of_le_of_lt (Nat.sub_le _ _) t.isLt)).2.2.1 (ix3 h i 0)
      + (Spatial.ds (ba m c t 3 h) (bd m c t 3 h) i
        + Spatial.ds (ba m c t 2 h) (bd m c t 2 h) i
        + Spatial.ds (ba m c t 1 h) (bd m c t 1 h) i
        + Spatial.ds (ba m c t 0 h) (bd m c t 0 h) i) := by
  rw [outsAt0_B m c t ca]
  frame_out
  canon_tiles x hx
  all_goals have hhl := h.isLt
  all_goals
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix3 0 i 0 := (eq_ix3 x).trans ((ix3_inj _ _ _ _ _ _).mpr ⟨Subsingleton.elim _ _, Fin.ext (hx1.symm.trans hi), Subsingleton.elim _ _⟩)
    open_payloads
    pointwise [ba, bb, bd, bw, bs, bg, bl, Spatial.du, Spatial.dv, Spatial.dw, Spatial.ds, Spatial.dg, Spatial.dl, Spatial.dn, Spatial.dm,
      Spatial.mix, Spatial.vn, Spatial.V, Spatial.dln, Spatial.tv, Spatial.hat, Spatial.rs, Spatial.var, Spatial.xm, Spatial.mu, Spatial.dgel,
      Spatial.gel, X0_0]
    try simp only [zero_sub, Fin.sum_univ_one, Ideal.erf_def]

set_option maxHeartbeats 16000000 in
theorem out_dg_A (ca : t.val % 16 = 0) (y : S4x1x128.Idx) (h : Fin 4) (k : Fin 128) (hh : (y 0).val = h.val) (hk : (y 2).val = k.val) :
    (outsAt0 m c t.val t.isLt).2.2.2.1 y = Spatial.dg (ba m c t 3 h) (bb m c t 3 h) (bd m c t 3 h) (bw m c t h) k
        + Spatial.dg (ba m c t 2 h) (bb m c t 2 h) (bd m c t 2 h) (bw m c t h) k
        + Spatial.dg (ba m c t 1 h) (bb m c t 1 h) (bd m c t 1 h) (bw m c t h) k
        + Spatial.dg (ba m c t 0 h) (bb m c t 0 h) (bd m c t 0 h) (bw m c t h) k := by
  rw [outsAt0_A m c t ca]
  frame_open
  simp (disch := decide) only [↓ View.readCov_skip, ↓ View.readCov_cons_toLoadRect, ↓ View.readCov_fill]
  frame_out
  rw [Fill.canon_of_tiled _ ![1, 1, 128] (List.cons_ne_nil _ _) (by sl_kernel_rfl)]
  simp only [List.dropLast_cons₂, List.dropLast_singleton]
  canon_tiles x hx
  all_goals have hhl := h.isLt
  all_goals
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix3 0 0 k := (eq_ix3 x).trans ((ix3_inj _ _ _ _ _ _).mpr ⟨Subsingleton.elim _ _, Subsingleton.elim _ _, Fin.ext (hx2.symm.trans hk)⟩)
    open_payloads
    pointwise [ba, bb, bd, bw, bs, bg, bl, Spatial.du, Spatial.dv, Spatial.dw, Spatial.ds, Spatial.dg, Spatial.dl, Spatial.dn, Spatial.dm,
      Spatial.mix, Spatial.vn, Spatial.V, Spatial.dln, Spatial.tv, Spatial.hat, Spatial.rs, Spatial.var, Spatial.xm, Spatial.mu, Spatial.dgel,
      Spatial.gel, X0_0]
    try simp only [zero_sub, Fin.sum_univ_one, Ideal.erf_def]

set_option maxHeartbeats 16000000 in
theorem out_dg_B (ca : ¬ t.val % 16 = 0) (y : S4x1x128.Idx) (h : Fin 4) (k : Fin 128) (hh : (y 0).val = h.val) (hk : (y 2).val = k.val) :
    (outsAt0 m c t.val t.isLt).2.2.2.1 y = (outsAt0 m c (t.val - 1) (Nat.lt_of_le_of_lt (Nat.sub_le _ _) t.isLt)).2.2.2.1 (ix3 h 0 k)
      + (Spatial.dg (ba m c t 3 h) (bb m c t 3 h) (bd m c t 3 h) (bw m c t h) k
        + Spatial.dg (ba m c t 2 h) (bb m c t 2 h) (bd m c t 2 h) (bw m c t h) k
        + Spatial.dg (ba m c t 1 h) (bb m c t 1 h) (bd m c t 1 h) (bw m c t h) k
        + Spatial.dg (ba m c t 0 h) (bb m c t 0 h) (bd m c t 0 h) (bw m c t h) k) := by
  rw [outsAt0_B m c t ca]
  frame_out
  canon_tiles x hx
  all_goals have hhl := h.isLt
  all_goals
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix3 0 0 k := (eq_ix3 x).trans ((ix3_inj _ _ _ _ _ _).mpr ⟨Subsingleton.elim _ _, Subsingleton.elim _ _, Fin.ext (hx2.symm.trans hk)⟩)
    open_payloads
    pointwise [ba, bb, bd, bw, bs, bg, bl, Spatial.du, Spatial.dv, Spatial.dw, Spatial.ds, Spatial.dg, Spatial.dl, Spatial.dn, Spatial.dm,
      Spatial.mix, Spatial.vn, Spatial.V, Spatial.dln, Spatial.tv, Spatial.hat, Spatial.rs, Spatial.var, Spatial.xm, Spatial.mu, Spatial.dgel,
      Spatial.gel, X0_0]
    try simp only [zero_sub, Fin.sum_univ_one, Ideal.erf_def]

set_option maxHeartbeats 16000000 in
theorem out_dl_A (ca : t.val % 16 = 0) (y : S4x1x128.Idx) (h : Fin 4) (k : Fin 128) (hh : (y 0).val = h.val) (hk : (y 2).val = k.val) :
    (outsAt0 m c t.val t.isLt).2.2.2.2 y = Spatial.dl (ba m c t 3 h) (bd m c t 3 h) (bw m c t h) k
        + Spatial.dl (ba m c t 2 h) (bd m c t 2 h) (bw m c t h) k
        + Spatial.dl (ba m c t 1 h) (bd m c t 1 h) (bw m c t h) k
        + Spatial.dl (ba m c t 0 h) (bd m c t 0 h) (bw m c t h) k := by
  rw [outsAt0_A m c t ca]
  frame_open
  simp (disch := decide) only [↓ View.readCov_skip, ↓ View.readCov_cons_toLoadRect, ↓ View.readCov_fill]
  frame_out
  rw [Fill.canon_of_tiled _ ![1, 1, 128] (List.cons_ne_nil _ _) (by sl_kernel_rfl)]
  simp only [List.dropLast_cons₂, List.dropLast_singleton]
  canon_tiles x hx
  all_goals have hhl := h.isLt
  all_goals
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix3 0 0 k := (eq_ix3 x).trans ((ix3_inj _ _ _ _ _ _).mpr ⟨Subsingleton.elim _ _, Subsingleton.elim _ _, Fin.ext (hx2.symm.trans hk)⟩)
    open_payloads
    pointwise [ba, bb, bd, bw, bs, bg, bl, Spatial.du, Spatial.dv, Spatial.dw, Spatial.ds, Spatial.dg, Spatial.dl, Spatial.dn, Spatial.dm,
      Spatial.mix, Spatial.vn, Spatial.V, Spatial.dln, Spatial.tv, Spatial.hat, Spatial.rs, Spatial.var, Spatial.xm, Spatial.mu, Spatial.dgel,
      Spatial.gel, X0_0]
    try simp only [zero_sub, Fin.sum_univ_one, Ideal.erf_def]

set_option maxHeartbeats 16000000 in
theorem out_dl_B (ca : ¬ t.val % 16 = 0) (y : S4x1x128.Idx) (h : Fin 4) (k : Fin 128) (hh : (y 0).val = h.val) (hk : (y 2).val = k.val) :
    (outsAt0 m c t.val t.isLt).2.2.2.2 y = (outsAt0 m c (t.val - 1) (Nat.lt_of_le_of_lt (Nat.sub_le _ _) t.isLt)).2.2.2.2 (ix3 h 0 k)
      + (Spatial.dl (ba m c t 3 h) (bd m c t 3 h) (bw m c t h) k
        + Spatial.dl (ba m c t 2 h) (bd m c t 2 h) (bw m c t h) k
        + Spatial.dl (ba m c t 1 h) (bd m c t 1 h) (bw m c t h) k
        + Spatial.dl (ba m c t 0 h) (bd m c t 0 h) (bw m c t h) k) := by
  rw [outsAt0_B m c t ca]
  frame_out
  canon_tiles x hx
  all_goals have hhl := h.isLt
  all_goals
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix3 0 0 k := (eq_ix3 x).trans ((ix3_inj _ _ _ _ _ _).mpr ⟨Subsingleton.elim _ _, Subsingleton.elim _ _, Fin.ext (hx2.symm.trans hk)⟩)
    open_payloads
    pointwise [ba, bb, bd, bw, bs, bg, bl, Spatial.du, Spatial.dv, Spatial.dw, Spatial.ds, Spatial.dg, Spatial.dl, Spatial.dn, Spatial.dm,
      Spatial.mix, Spatial.vn, Spatial.V, Spatial.dln, Spatial.tv, Spatial.hat, Spatial.rs, Spatial.var, Spatial.xm, Spatial.mu, Spatial.dgel,
      Spatial.gel, X0_0]
    try simp only [zero_sub, Fin.sum_univ_one, Ideal.erf_def]

end Cert.GmlpVal
-- ==== Proof.GmlpFin.lean ====
module

public import proofs.«01_k».proof.Proof.GmlpDpa
public import proofs.«01_k».proof.Proof.GmlpAcc

@[expose] public section
set_option maxRecDepth 16384
noncomputable section
open Idealize.ShloMosaic Idealize.ShloMosaic.TcCoe Idealize.SL.Sem
open Idealize.ShloMosaic.Pipeline (Dat)
namespace Cert.GmlpVal
open Cert.GmlpIdeal Cert.GmlpIdeal.Gen
variable (m : (ℓ : Loc nD τ sig) → Buf (Elt Ideal) ℓ) (c : Dev nD) (t : Fin cfg0.N)

/-- The row of the block, and its column in either half, by chunk and head. -/
theorem blk_row (r : Fin 512) : ∃ q i, ∀ (_ : r.val < 512), r.val = (q : Fin 4).val * 128 + (i : Fin 128).val :=
  ⟨⟨r.val / 128, by omega⟩, ⟨r.val % 128, by omega⟩, fun _ => by simp only; omega⟩

theorem cn_rw (r : Fin 512) (q : Fin 4) (i : Fin 128) (hr : r.val = q.val * 128 + i.val) : cn (rw' t r) = ch t q ∧ ci (rw' t r) = i :=
  ⟨Fin.ext (by simp only [cn, rw', ch]; omega), Fin.ext (by simp only [ci, rw']; omega)⟩

theorem point_dpa (y : S512x1024.Idx) : (outsAt0 m c t.val t.isLt).1 y
    = DPA (aP m c) (aC m c) (aW m c) (aS m c) (aG m c) (aL m c) ((win0_6.blk t).view.emb y) := by
  obtain ⟨r, k, rfl⟩ : ∃ (r : Fin 512) (k : Fin 1024), y = ix2 r k := ⟨y 0, y 1, eq_ix2 y⟩
  have e : (win0_6.blk t).view.emb (ix2 r k : S512x1024.Idx) = (ix2 (rw' t r) k : S8192x1024.Idx) := by blk_ext [idx t, rw']
  obtain ⟨q, i, hr⟩ := blk_row r
  have hr := hr r.isLt
  obtain ⟨h0, h1⟩ := cn_rw t r q i hr
  rw [e]
  by_cases hk : k.val < 512
  · refine (out_u m c t (ix2 r k) q (hd k) i (ft k) hr (show k.val = _ by simp only [hd, ft]; omega)).trans ?_
    refine Eq.trans ?_ (if_pos hk).symm
    change _ = Spatial.du (ga (aP m c) (cn (rw' t r)) (hd k)) (gb (aP m c) (cn (rw' t r)) (hd k)) (gd (aC m c) (cn (rw' t r)) (hd k))
      (gw (aW m c) (hd k)) (gs (aS m c) (hd k)) (gs (aG m c) (hd k)) (gs (aL m c) (hd k)) (ci (rw' t r)) (ft k)
    rw [ba_eq, bb_eq, bd_eq, bw_eq, bs_eq, bg_eq, bl_eq, h0, h1]
  · refine (out_v m c t (ix2 r k) q (hd k) i (ft k) hr (show k.val = _ by simp only [hd, ft]; omega)).trans ?_
    refine Eq.trans ?_ (if_neg hk).symm
    change _ = Spatial.dv (ga (aP m c) (cn (rw' t r)) (hd k)) (gb (aP m c) (cn (rw' t r)) (hd k)) (gd (aC m c) (cn (rw' t r)) (hd k))
      (gw (aW m c) (hd k)) (gs (aG m c) (hd k)) (ci (rw' t r)) (ft k)
    rw [ba_eq, bb_eq, bd_eq, bw_eq, bg_eq, h0, h1]

/-- The chunks of all the points, four of each. -/
theorem sum_chunks (f : Fin 64 → EReal) : ∑ p : Fin cfg0.N, (f (ch p 3) + f (ch p 2) + f (ch p 1) + f (ch p 0)) = ∑ n : Fin 64, f n := by
  have e : ∀ p : Fin cfg0.N, f (ch p 3) + f (ch p 2) + f (ch p 1) + f (ch p 0) = ∑ q : Fin 4, f (ch p q) := fun p => by
    rw [Fin.sum_univ_four]
    ac_rfl
  simp only [e]
  exact Fin.sum_mul_add_congr fun s r hl => rfl

section acc
variable (hf : t.val % 16 = 15)
include hf

/-- What is accumulated holds, after the last point, the chunks' sum. -/
theorem sum_points (o : (n : ℕ) → n < cfg0.N → EReal) (f : Fin 64 → EReal)
    (hA : ∀ (t : Fin cfg0.N), t.val % 16 = 0 → o t.val t.isLt = f (ch t 3) + f (ch t 2) + f (ch t 1) + f (ch t 0))
    (hB : ∀ (t : Fin cfg0.N), ¬ t.val % 16 = 0 → o t.val t.isLt
      = o (t.val - 1) (Nat.lt_of_le_of_lt (Nat.sub_le _ _) t.isLt) + (f (ch t 3) + f (ch t 2) + f (ch t 1) + f (ch t 0))) :
    o t.val t.isLt = ∑ n : Fin 64, f n := by
  have hN := t_lt t
  rw [← sum_chunks]
  exact (Pipeline.eq_sum_fin_of_reset_step_apply_last (fun n hn (_ : Unit) => o n hn) 16 (fun _ => 0)
    (fun p _ => f (ch p 3) + f (ch p 2) + f (ch p 1) + f (ch p 0)) (fun t h _ => (hA t h).trans (zero_add _).symm) (fun t h _ => hB t h)
    (le_of_eq N_0) t (by have : cfg0.N = 16 := N_0; omega) ()).trans (zero_add _)

theorem point_dw (y : S4x128x128.Idx) : (outsAt0 m c t.val t.isLt).2.1 y
    = DW (aP m c) (aC m c) (aG m c) (aL m c) ((win0_7.blk t).view.emb y) := by
  obtain ⟨h, i, k, rfl⟩ : ∃ (h : Fin 4) (i k : Fin 128), y = ix3 h i k := ⟨y 0, y 1, y 2, eq_ix3 y⟩
  have e : (win0_7.blk t).view.emb (ix3 h i k : S4x128x128.Idx) = (ix3 h i k : S4x128x128.Idx) := by blk_ext [idx t]
  rw [e]
  refine sum_points t hf (fun n hn => (outsAt0 m c n hn).2.1 (ix3 h i k))
    (fun n => Spatial.dw (ga (aP m c) n h) (gb (aP m c) n h) (gd (aC m c) n h) (gs (aG m c) h) (gs (aL m c) h) i k) (fun t ht => ?_) (fun t ht => ?_)
  · simp only [out_dw_A m c t ht (ix3 h i k) h i k rfl rfl rfl, ba_eq, bb_eq, bd_eq, bg_eq, bl_eq]
  · simp only [out_dw_B m c t ht (ix3 h i k) h i k rfl rfl rfl, ba_eq, bb_eq, bd_eq, bg_eq, bl_eq]

theorem point_ds (y : S4x128x1.Idx) : (outsAt0 m c t.val t.isLt).2.2.1 y = DS (aP m c) (aC m c) ((win0_8.blk t).view.emb y) := by
  obtain ⟨h, i, z, rfl⟩ : ∃ (h : Fin 4) (i : Fin 128) (z : Fin 1), y = ix3 h i z := ⟨y 0, y 1, y 2, eq_ix3 y⟩
  obtain rfl : z = 0 := Subsingleton.elim _ _
  have e : (win0_8.blk t).view.emb (ix3 h i 0 : S4x128x1.Idx) = (ix3 h i 0 : S4x128x1.Idx) := by blk_ext [idx t]
  rw [e]
  refine sum_points t hf (fun n hn => (outsAt0 m c n hn).2.2.1 (ix3 h i 0))
    (fun n => Spatial.ds (ga (aP m c) n h) (gd (aC m c) n h) i) (fun t ht => ?_) (fun t ht => ?_)
  · simp only [out_ds_A m c t ht (ix3 h i 0) h i rfl rfl, ba_eq, bd_eq]
  · simp only [out_ds_B m c t ht (ix3 h i 0) h i rfl rfl, ba_eq, bd_eq]

theorem point_dg (y : S4x1x128.Idx) : (outsAt0 m c t.val t.isLt).2.2.2.1 y = DG (aP m c) (aC m c) (aW m c) ((win0_9.blk t).view.emb y) := by
  obtain ⟨h, z, k, rfl⟩ : ∃ (h : Fin 4) (z : Fin 1) (k : Fin 128), y = ix3 h z k := ⟨y 0, y 1, y 2, eq_ix3 y⟩
  obtain rfl : z = 0 := Subsingleton.elim _ _
  have e : (win0_9.blk t).view.emb (ix3 h 0 k : S4x1x128.Idx) = (ix3 h 0 k : S4x1x128.Idx) := by blk_ext [idx t]
  rw [e]
  refine sum_points t hf (fun n hn => (outsAt0 m c n hn).2.2.2.1 (ix3 h 0 k))
    (fun n => Spatial.dg (ga (aP m c) n h) (gb (aP m c) n h) (gd (aC m c) n h) (gw (aW m c) h) k) (fun t ht => ?_) (fun t ht => ?_)
  · simp only [out_dg_A m c t ht (ix3 h 0 k) h k rfl rfl, ba_eq, bb_eq, bd_eq, bw_eq]
  · simp only [out_dg_B m c t ht (ix3 h 0 k) h k rfl rfl, ba_eq, bb_eq, bd_eq, bw_eq]

theorem point_dl (y : S4x1x128.Idx) : (outsAt0 m c t.val t.isLt).2.2.2.2 y = DL (aP m c) (aC m c) (aW m c) ((win0_10.blk t).view.emb y) := by
  obtain ⟨h, z, k, rfl⟩ : ∃ (h : Fin 4) (z : Fin 1) (k : Fin 128), y = ix3 h z k := ⟨y 0, y 1, y 2, eq_ix3 y⟩
  obtain rfl : z = 0 := Subsingleton.elim _ _
  have e : (win0_10.blk t).view.emb (ix3 h 0 k : S4x1x128.Idx) = (ix3 h 0 k : S4x1x128.Idx) := by blk_ext [idx t]
  rw [e]
  refine sum_points t hf (fun n hn => (outsAt0 m c n hn).2.2.2.2 (ix3 h 0 k))
    (fun n => Spatial.dl (ga (aP m c) n h) (gd (aC m c) n h) (gw (aW m c) h) k) (fun t ht => ?_) (fun t ht => ?_)
  · simp only [out_dl_A m c t ht (ix3 h 0 k) h k rfl rfl, ba_eq, bd_eq, bw_eq]
  · simp only [out_dl_B m c t ht (ix3 h 0 k) h k rfl rfl, ba_eq, bd_eq, bw_eq]
end acc

theorem final_dpa : (dats m 0 c).arrAt 6 cfg0.N = DPA (aP m c) (aC m c) (aW m c) (aS m c) (aG m c) (aL m c) := by
  refine (dats m 0 c).arrAt_eq_of_covers 6 _ (by decide +kernel) fun t hf y => ?_
  blk_simp
  rw [after0_6]
  exact point_dpa m c t y

theorem final_dw : (dats m 0 c).arrAt 7 cfg0.N = DW (aP m c) (aC m c) (aG m c) (aL m c) := by
  refine (dats m 0 c).arrAt_eq_of_covers 7 _ (by decide +kernel) fun t hf y => ?_
  blk_simp
  rw [after0_7]
  exact point_dw m c t ((flush0_7 t).mp hf) y

theorem final_ds : (dats m 0 c).arrAt 8 cfg0.N = DS (aP m c) (aC m c) := by
  refine (dats m 0 c).arrAt_eq_of_covers 8 _ (by decide +kernel) fun t hf y => ?_
  blk_simp
  rw [after0_8]
  exact point_ds m c t ((flush0_8 t).mp hf) y

theorem final_dg : (dats m 0 c).arrAt 9 cfg0.N = DG (aP m c) (aC m c) (aW m c) := by
  refine (dats m 0 c).arrAt_eq_of_covers 9 _ (by decide +kernel) fun t hf y => ?_
  blk_simp
  rw [after0_9]
  exact point_dg m c t ((flush0_9 t).mp hf) y

theorem final_dl : (dats m 0 c).arrAt 10 cfg0.N = DL (aP m c) (aC m c) (aW m c) := by
  refine (dats m 0 c).arrAt_eq_of_covers 10 _ (by decide +kernel) fun t hf y => ?_
  blk_simp
  rw [after0_10]
  exact point_dl m c t ((flush0_10 t).mp hf) y

end Cert.GmlpVal
-- ==== Proof.GmlpRef.lean ====
module

public import proofs.«01_k».proof.Proof.GmlpBlk
public import Idealize.ShloMosaic.PureOps.Ideal.Laws

@[expose] public section
set_option maxRecDepth 16384
noncomputable section
open Idealize.ShloMosaic Idealize.ShloMosaic.TcCoe Idealize.SL.Sem
open Idealize.ShloMosaic.Pipeline (Dat)
namespace Cert.GmlpVal
open Cert.GmlpIdeal Cert.GmlpRefIdeal.Read
variable (P : FVec Ideal S8192x2592 .f32) (C : FVec Ideal S8192x512 .f32) (W : FVec Ideal S4x128x128 .f32) (S G L : FVec Ideal S4x128 .f32)

/-- A sum over the first and the last of four axes. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (j : Fin n1) (k : Fin n2) :
    Ideal.hostReduceAdd h v init (ix2 j k) = init + ∑ a : Fin n0, ∑ b : Fin n3, v (ix4 a j k b) := by
  refine congrArg (init + ·) ((Finset.sum_filter_eq_sum_of_fiber _ (fun p : Fin n0 × Fin n3 => ix4 p.1 j k p.2)
    (fun _ _ e => Prod.ext (congrFun e 0) (congrFun e 3)) (fun i => ⟨fun e => ⟨(i 0, i 3), ?_⟩, ?_⟩) v).trans (Fintype.sum_prod_type _))
  · funext a
    match a with
    | ⟨0, _⟩ => rfl
    | ⟨1, _⟩ => exact Fin.ext (congrArg Fin.val (congrFun e 0)).symm
    | ⟨2, _⟩ => exact Fin.ext (congrArg Fin.val (congrFun e 1)).symm
    | ⟨3, _⟩ => rfl
  · rintro ⟨p, rfl⟩
    funext b
    match b with
    | ⟨0, _⟩ => rfl
    | ⟨1, _⟩ => rfl

/-- The reference's gelu and its gradient are the kernel's. -/
theorem gel_ref (x : EReal) : Ideal.ofBits .f32 0x3F000000#32 * x * Ideal.erfc (-x * Ideal.ofBits .f32 0x3F3504F3#32) = Spatial.gel x := by
  rw [EReal.neg_mul, Ideal.erfc_neg]
  rfl
theorem neg_const : Ideal.ofBits .f32 0xBF906EBB#32 = -Ideal.ofBits .f32 0x3F906EBB#32 := by
  simp [Ideal.ofBits, Ideal.ieee, -EReal.coe_mul]
theorem dgel_ref (x y : EReal) :
    -(Ideal.ofBits .f32 0xBF906EBB#32 * (Ideal.ofBits .f32 0x3F000000#32 * x * y)
        * Ideal.exp (-(-x * Ideal.ofBits .f32 0x3F3504F3#32 * (-x * Ideal.ofBits .f32 0x3F3504F3#32))) * Ideal.ofBits .f32 0x3F3504F3#32)
      + Ideal.ofBits .f32 0x3F000000#32 * (y * Ideal.erfc (-x * Ideal.ofBits .f32 0x3F3504F3#32)) = Spatial.dgel x y := by
  rw [EReal.neg_mul, Ideal.erfc_neg, neg_const, EReal.neg_mul, EReal.neg_mul, EReal.neg_mul, neg_neg, EReal.neg_mul, mul_neg, neg_neg]
  rfl

theorem ref_U (r : Fin 8192) (h : Fin 4) (k : Fin 128) : val_main_v12 (F := Ideal) P (ix3 r h k)
    = Spatial.gel (P (ix2 r ⟨h.val * 128 + k.val, by omega⟩)) := by
  rw [← gel_ref]
  pointwise [val_main_v12, val_main_v11, val_main_v7, val_main_v6, val_main_v5, val_main_cst_0, val_main_v4, val_main_v1, val_main_v0, val_main_v3,
    val_main_v2, val_main_cst]

theorem ref_V (r : Fin 8192) (h : Fin 4) (k : Fin 128) : val_main_v24 (F := Ideal) P (ix3 r h k)
    = Spatial.gel (P (ix2 r ⟨512 + h.val * 128 + k.val, by omega⟩)) := by
  rw [← gel_ref]
  pointwise [val_main_v24, val_main_v23, val_main_v19, val_main_v18, val_main_v17, val_main_cst_2, val_main_v16, val_main_v13, val_main_v0, val_main_v15,
    val_main_v14, val_main_cst_1]
  simp only [Nat.add_assoc]

theorem ref_hat (n : Fin 64) (h : Fin 4) (j k : Fin 128) : val_main_v47 (F := Ideal) P (ix3 ⟨n.val * 128 + j.val, by omega⟩ h k)
    = Spatial.hat (Spatial.V (gb P n h) j) k := by
  pointwise [val_main_v47, val_main_v46, val_main_v42, val_main_v41, val_main_v40, val_main_cst_8, val_main_v37, val_main_v36, val_main_cst_7, val_main_v35,
    val_main_v34, val_main_v31, val_main_v30, val_main_v29, val_main_v28, val_main_v27, val_main_cst_4, val_main_v26, val_main_v25, val_main_cst_3,
    val_main_cst_6, val_main_v39, val_main_v38, Spatial.hat, Spatial.rs, Spatial.var, Spatial.xm, Spatial.mu, Spatial.V, gb]
  simp only [ref_V]

theorem ref_vn (n : Fin 64) (h : Fin 4) (j k : Fin 128) : val_main_v54 (F := Ideal) P G L (ix4 n j h k)
    = Spatial.vn (gb P n h) (gs G h) (gs L h) j k := by
  pointwise [val_main_v54, val_main_v53, val_main_v52, val_main_v51, val_main_v50, val_main_v49, val_main_v48, Spatial.vn, gs]
  simp only [ref_hat]

theorem ref_mix (n : Fin 64) (h : Fin 4) (i k : Fin 128) : val_main_v61 (F := Ideal) P W S G L (ix3 ⟨n.val * 128 + i.val, by omega⟩ h k)
    = Spatial.mix (gb P n h) (gw W h) (gs S h) (gs G h) (gs L h) i k := by
  pointwise [val_main_v61, val_main_v60, val_main_v59, val_main_v58, val_main_v57, val_main_v56, val_main_v55, Spatial.mix, gw]
  simp only [ref_vn, gs, mul_comm]

theorem ref_dm (n : Fin 64) (h : Fin 4) (i k : Fin 128) : val_main_v65 (F := Ideal) P C (ix3 ⟨n.val * 128 + i.val, by omega⟩ h k)
    = Spatial.dm (ga P n h) (gd C n h) i k := by
  pointwise [val_main_v65, val_main_v64, Spatial.dm, ga, gd]
  simp only [ref_U]

theorem ref_dn (n : Fin 64) (h : Fin 4) (j k : Fin 128) : val_main_v76 (F := Ideal) P C W (ix3 ⟨n.val * 128 + j.val, by omega⟩ h k)
    = Spatial.dn (ga P n h) (gd C n h) (gw W h) j k := by
  pointwise [val_main_v76, val_main_v75, val_main_v74, val_main_v72, val_main_v67, Spatial.dn, gw]
  simp only [ref_dm, mul_comm]

theorem ref_dln (n : Fin 64) (h : Fin 4) (j k : Fin 128) : val_main_v109 (F := Ideal) P C W G (ix3 ⟨n.val * 128 + j.val, by omega⟩ h k)
    = Spatial.dln (Spatial.V (gb P n h) j) (fun k => Spatial.dn (ga P n h) (gd C n h) (gw W h) j k * gs G h k) k := by
  pointwise [val_main_v109, val_main_v108, val_main_v107, val_main_v106, val_main_v105, val_main_cst_21, val_main_v104, val_main_v102, val_main_v101,
    val_main_v100, val_main_v99, val_main_v98, val_main_v97, val_main_v96, val_main_v95, val_main_cst_18, val_main_v91, val_main_v88, val_main_v87,
    val_main_v86, val_main_v84, val_main_v83, val_main_v48, val_main_v39, val_main_v38, val_main_v28, val_main_v27, val_main_cst_4, val_main_v26, val_main_v25,
    val_main_cst_3, val_main_cst_16, val_main_v45, val_main_v44, val_main_cst_9, val_main_v43, val_main_v42, val_main_v41, val_main_v40, val_main_cst_8,
    val_main_v37, val_main_v36, val_main_cst_7, val_main_v35, val_main_v34, val_main_v31, val_main_v30, val_main_v29, val_main_cst_6, val_main_cst_19,
    val_main_v33, val_main_v32, val_main_cst_5, val_main_cst_20, val_main_v94, val_main_v93, val_main_v92, val_main_v90, val_main_v89, val_main_cst_17,
    val_main_cst_22, val_main_v103, Spatial.dln, Spatial.tv, Spatial.rs, Spatial.var, Spatial.xm, Spatial.mu,
    Spatial.V, gb, gs]
  simp only [ref_V, ref_dn, Fin.sum_univ_one]

theorem ref_du (n : Fin 64) (h : Fin 4) (i k : Fin 128) :
    val_main_v134 (F := Ideal) P C W S G L (ix2 ⟨n.val * 128 + i.val, by omega⟩ ⟨h.val * 128 + k.val, by omega⟩)
    = Spatial.du (ga P n h) (gb P n h) (gd C n h) (gw W h) (gs S h) (gs G h) (gs L h) i k := by
  unfold Spatial.du
  rw [← dgel_ref]
  pointwise [val_main_v134, val_main_v133, val_main_v132, val_main_cst_29, val_main_v125, val_main_v123, val_main_v66, val_main_v64, val_main_v7, val_main_v6,
    val_main_v5, val_main_cst_0, val_main_v4, val_main_v1, val_main_v0, val_main_v131, val_main_v130, val_main_v129, val_main_cst_28, val_main_v128,
    val_main_v127, val_main_v126, val_main_cst_27, val_main_v124, val_main_v3, val_main_v2, val_main_cst, val_main_v10, val_main_v9, val_main_v8, ga, gd]
  simp only [ref_mix]

theorem ref_dv (n : Fin 64) (h : Fin 4) (i k : Fin 128) :
    val_main_v121 (F := Ideal) P C W G (ix2 ⟨n.val * 128 + i.val, by omega⟩ ⟨h.val * 128 + k.val, by omega⟩)
    = Spatial.dv (ga P n h) (gb P n h) (gd C n h) (gw W h) (gs G h) i k := by
  unfold Spatial.dv
  rw [← dgel_ref]
  pointwise [val_main_v121, val_main_v120, val_main_v119, val_main_cst_25, val_main_v112, val_main_v110, val_main_v19, val_main_v18, val_main_v17,
    val_main_cst_2, val_main_v16, val_main_v13, val_main_v0, val_main_v118, val_main_v117, val_main_v116, val_main_cst_24, val_main_v115, val_main_v114,
    val_main_v113, val_main_cst_23, val_main_v111, val_main_v15, val_main_v14, val_main_cst_1, val_main_v22, val_main_v21, val_main_v20, gb]
  simp only [ref_dln, Nat.add_assoc]

/-- A row's index is its chunk's and its place there. -/
theorem row_split (r : Fin 8192) : ∃ (n : Fin 64) (i : Fin 128), r = ⟨n.val * 128 + i.val, by omega⟩ :=
  ⟨cn r, ci r, Fin.ext (by simp only [cn, ci]; omega)⟩
theorem lo_split (k : Fin 1024) : ∃ (h : Fin 4) (j : Fin 128), k.val < 512 → k = ⟨h.val * 128 + j.val, by omega⟩ :=
  ⟨⟨k.val % 512 / 128, by omega⟩, ⟨k.val % 128, by omega⟩, fun hk => Fin.ext (by simp only; omega)⟩
theorem hi_split (k : Fin 1024) : ∃ (h : Fin 4) (j : Fin 128), ¬ k.val < 512 → k = ⟨512 + h.val * 128 + j.val, by omega⟩ :=
  ⟨⟨k.val % 512 / 128, by omega⟩, ⟨k.val % 128, by omega⟩, fun hk => Fin.ext (by simp only; omega)⟩
theorem cn_row (n : Fin 64) (i : Fin 128) : cn ⟨n.val * 128 + i.val, by omega⟩ = n := Fin.ext (by simp only [cn]; omega)
theorem ci_row (n : Fin 64) (i : Fin 128) : ci ⟨n.val * 128 + i.val, by omega⟩ = i := Fin.ext (by simp only [ci]; omega)
theorem hd_lo (h : Fin 4) (k : Fin 128) : hd ⟨h.val * 128 + k.val, by omega⟩ = h := Fin.ext (by simp only [hd]; omega)
theorem ft_lo (h : Fin 4) (k : Fin 128) : ft ⟨h.val * 128 + k.val, by omega⟩ = k := Fin.ext (by simp only [ft]; omega)
theorem hd_hi (h : Fin 4) (k : Fin 128) : hd ⟨512 + h.val * 128 + k.val, by omega⟩ = h := Fin.ext (by simp only [hd]; omega)
theorem ft_hi (h : Fin 4) (k : Fin 128) : ft ⟨512 + h.val * 128 + k.val, by omega⟩ = k := Fin.ext (by simp only [ft]; omega)

theorem ref_lo (n : Fin 64) (h : Fin 4) (i k : Fin 128) :
    val_main_v137 (F := Ideal) P C W S G L (ix2 ⟨n.val * 128 + i.val, by omega⟩ ⟨h.val * 128 + k.val, by omega⟩)
    = Spatial.du (ga P n h) (gb P n h) (gd C n h) (gw W h) (gs S h) (gs G h) (gs L h) i k := by
  rw [← ref_du]
  pointwise [val_main_v137, val_main_v136, val_main_v122, val_main_v135, val_main_cst_26, val_main_cst_30]
  rw [dif_neg (by omega), dif_pos (by omega), zero_add]

theorem ref_hi (n : Fin 64) (h : Fin 4) (i k : Fin 128) :
    val_main_v137 (F := Ideal) P C W S G L (ix2 ⟨n.val * 128 + i.val, by omega⟩ ⟨512 + h.val * 128 + k.val, by omega⟩)
    = Spatial.dv (ga P n h) (gb P n h) (gd C n h) (gw W h) (gs G h) i k := by
  rw [← ref_dv]
  pointwise [val_main_v137, val_main_v136, val_main_v122, val_main_v135, val_main_cst_26, val_main_cst_30]
  rw [dif_pos (by omega), dif_neg (by omega), add_zero]
  exact congrArg (fun z : Fin 512 => val_main_v121 (F := Ideal) P C W G (ix2 ⟨n.val * 128 + i.val, by omega⟩ z)) (Fin.ext (by simp only; omega))

theorem ref_dpa (x : S8192x1024.Idx) : val_main_v137 (F := Ideal) P C W S G L x = DPA P C W S G L x := by
  obtain ⟨r, k, rfl⟩ : ∃ (r : Fin 8192) (k : Fin 1024), x = ix2 r k := ⟨x 0, x 1, eq_ix2 x⟩
  obtain ⟨n, i, rfl⟩ := row_split r
  by_cases hk : k.val < 512
  · obtain ⟨h, j, e⟩ := lo_split k
    obtain rfl := e hk
    rw [ref_lo]
    refine Eq.trans ?_ (if_pos hk).symm
    change _ = Spatial.du (ga P (cn ⟨n.val * 128 + i.val, by omega⟩) (hd ⟨h.val * 128 + j.val, by omega⟩)) (gb P (cn ⟨n.val * 128 + i.val, by omega⟩)
      (hd ⟨h.val * 128 + j.val, by omega⟩)) (gd C (cn ⟨n.val * 128 + i.val, by omega⟩) (hd ⟨h.val * 128 + j.val, by omega⟩))
      (gw W (hd ⟨h.val * 128 + j.val, by omega⟩)) (gs S (hd ⟨h.val * 128 + j.val, by omega⟩)) (gs G (hd ⟨h.val * 128 + j.val, by omega⟩))
      (gs L (hd ⟨h.val * 128 + j.val, by omega⟩)) (ci ⟨n.val * 128 + i.val, by omega⟩) (ft ⟨h.val * 128 + j.val, by omega⟩)
    rw [cn_row, ci_row, hd_lo, ft_lo]
  · obtain ⟨h, j, e⟩ := hi_split k
    obtain rfl := e hk
    rw [ref_hi]
    refine Eq.trans ?_ (if_neg hk).symm
    change _ = Spatial.dv (ga P (cn ⟨n.val * 128 + i.val, by omega⟩) (hd ⟨512 + h.val * 128 + j.val, by omega⟩)) (gb P (cn ⟨n.val * 128 + i.val, by omega⟩)
      (hd ⟨512 + h.val * 128 + j.val, by omega⟩)) (gd C (cn ⟨n.val * 128 + i.val, by omega⟩) (hd ⟨512 + h.val * 128 + j.val, by omega⟩))
      (gw W (hd ⟨512 + h.val * 128 + j.val, by omega⟩)) (gs G (hd ⟨512 + h.val * 128 + j.val, by omega⟩))
      (ci ⟨n.val * 128 + i.val, by omega⟩) (ft ⟨512 + h.val * 128 + j.val, by omega⟩)
    rw [cn_row, ci_row, hd_hi, ft_hi]

theorem ref_dw (h : Fin 4) (i j : Fin 128) : val_main_v73 (F := Ideal) P C G L (ix3 h i j) = DW P C G L (ix3 h i j) := by
  pointwise [val_main_v73, val_main_v72, val_main_v67, DW, Spatial.dw]
  simp only [ref_vn, ref_dm]

theorem ref_ds (h : Fin 4) (i : Fin 128) : val_main_v138 (F := Ideal) P C (ix3 h i 0) = DS P C (ix3 h i 0) := by
  pointwise [val_main_v138, val_main_v71, val_main_v70, val_main_v69, val_main_v68, val_main_v67, val_main_cst_10, val_main_cst_11, DS, Spatial.ds, sum_outer]
  simp only [Fin.sum_univ_one, ref_dm]

theorem ref_dg (h : Fin 4) (k : Fin 128) : val_main_v139 (F := Ideal) P C W (ix3 h 0 k) = DG P C W (ix3 h 0 k) := by
  pointwise [val_main_v139, val_main_v85, val_main_v82, val_main_v81, val_main_v80, val_main_cst_14, val_main_cst_15, DG, Spatial.dg]
  simp only [Fin.sum_univ_one]
  exact (Fin.sum_mul_add_congr fun n j hl => (congrArg₂ (· * ·) (ref_hat P n h j k) (ref_dn P C W n h j k)).symm).symm

theorem ref_dl (h : Fin 4) (k : Fin 128) : val_main_v140 (F := Ideal) P C W (ix3 h 0 k) = DL P C W (ix3 h 0 k) := by
  pointwise [val_main_v140, val_main_v79, val_main_v78, val_main_v77, val_main_cst_12, val_main_cst_13, DL, Spatial.dl]
  simp only [Fin.sum_univ_one]
  exact (Fin.sum_mul_add_congr fun n j hl => (ref_dn P C W n h j k).symm).symm

end Cert.GmlpVal
-- ==== Proof.GmlpClaim.lean ====
module

public import proofs.«01_k».proof.Defs
public import proofs.«01_k».proof.Proof.GmlpFin
public import proofs.«01_k».proof.Proof.GmlpRef
public import proofs.«01_k».proof.Proof.Gen.GmlpRefIdeal.Run
public import proofs.«01_k».proof.Proof.Gen.GmlpIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.GmlpVal
open Cert.GmlpIdeal Cert.GmlpIdeal.Gen

section values
variable (P : FVec Ideal S8192x2592 .f32) (C : FVec Ideal S8192x512 .f32) (W : FVec Ideal S4x128x128 .f32) (S G L : FVec Ideal S4x128 .f32)
theorem dpa_eq : DPA P C W S G L = Cert.GmlpRefIdeal.Read.val_main_v137 (F := Ideal) P C W S G L :=
  funext fun i => (ref_dpa P C W S G L i).symm
theorem dw_eq : DW P C G L = Cert.GmlpRefIdeal.Read.val_main_v73 (F := Ideal) P C G L := by
  funext i
  obtain ⟨h, j, k, rfl⟩ : ∃ (h : Fin 4) (j k : Fin 128), i = ix3 h j k := ⟨i 0, i 1, i 2, eq_ix3 i⟩
  exact (ref_dw P C G L h j k).symm
theorem ds_eq : DS P C = Cert.GmlpRefIdeal.Read.val_main_v138 (F := Ideal) P C := by
  funext i
  obtain ⟨h, j, z, rfl⟩ : ∃ (h : Fin 4) (j : Fin 128) (z : Fin 1), i = ix3 h j z := ⟨i 0, i 1, i 2, eq_ix3 i⟩
  obtain rfl : z = 0 := Subsingleton.elim _ _
  exact (ref_ds P C h j).symm
theorem dg_eq : DG P C W = Cert.GmlpRefIdeal.Read.val_main_v139 (F := Ideal) P C W := by
  funext i
  obtain ⟨h, z, k, rfl⟩ : ∃ (h : Fin 4) (z : Fin 1) (k : Fin 128), i = ix3 h z k := ⟨i 0, i 1, i 2, eq_ix3 i⟩
  obtain rfl : z = 0 := Subsingleton.elim _ _
  exact (ref_dg P C W h k).symm
theorem dl_eq : DL P C W = Cert.GmlpRefIdeal.Read.val_main_v140 (F := Ideal) P C W := by
  funext i
  obtain ⟨h, z, k, rfl⟩ : ∃ (h : Fin 4) (z : Fin 1) (k : Fin 128), i = ix3 h z k := ⟨i 0, i 1, i 2, eq_ix3 i⟩
  obtain rfl : z = 0 := Subsingleton.elim _ _
  exact (ref_dl P C W h k).symm
end values

/-- What the reference is launched with, read off the kernel's arguments. -/
structure Args (m' : (ℓ : Loc Cert.GmlpRefIdeal.nD Cert.GmlpRefIdeal.τ Cert.GmlpRefIdeal.sig) → Buf (Elt Ideal) ℓ) (m : (ℓ : Loc nD τ sig) → Buf (Elt Ideal) ℓ) (c : Dev nD) : Prop where
  h0 : m' ((c.tc : Thread Cert.GmlpRefIdeal.nD Cert.GmlpRefIdeal.τ).loc Cert.GmlpRefIdeal.main_arg0) = aP m c
  h1 : m' ((c.tc : Thread Cert.GmlpRefIdeal.nD Cert.GmlpRefIdeal.τ).loc Cert.GmlpRefIdeal.main_arg1) = aC m c
  h2 : m' ((c.tc : Thread Cert.GmlpRefIdeal.nD Cert.GmlpRefIdeal.τ).loc Cert.GmlpRefIdeal.main_arg2) = aW m c
  h3 : m' ((c.tc : Thread Cert.GmlpRefIdeal.nD Cert.GmlpRefIdeal.τ).loc Cert.GmlpRefIdeal.main_arg3) = aS m c
  h4 : m' ((c.tc : Thread Cert.GmlpRefIdeal.nD Cert.GmlpRefIdeal.τ).loc Cert.GmlpRefIdeal.main_arg4) = aG m c
  h5 : m' ((c.tc : Thread Cert.GmlpRefIdeal.nD Cert.GmlpRefIdeal.τ).loc Cert.GmlpRefIdeal.main_arg5) = aL m c

set_option maxHeartbeats 4000000 in
theorem algebraic : Cert.algebraic_GmlpIdeal_GmlpRefIdeal := by
  pair_intro
  · run_from Cert.GmlpIdeal.Gen.run_main m g
    all_goals rfl
  have H : ∀ c, Args m' m c := fun c => ⟨(hagree c).1, (hagree c).2.1, (hagree c).2.2.1, (hagree c).2.2.2.1, (hagree c).2.2.2.2.1, (hagree c).2.2.2.2.2⟩
  · run_from Cert.GmlpRefIdeal.Value.run m' g'
    · rw [final_dpa, dpa_eq]
      have e := Cert.GmlpRefIdeal.Read.val_main_v137_eq (F := Ideal) m' c
      rw [(H c).h0, (H c).h1, (H c).h2, (H c).h3, (H c).h4, (H c).h5] at e
      exact e
    · rw [final_dw, dw_eq]
      have e := Cert.GmlpRefIdeal.Read.val_main_v73_eq (F := Ideal) m' c
      rw [(H c).h0, (H c).h1, (H c).h4, (H c).h5] at e
      exact e
    · rw [final_ds, ds_eq]
      exact Cert.GmlpRefIdeal.Read.val_main_v138_eq (F := Ideal) _ _
    · rw [final_dg, dg_eq]
      have e := Cert.GmlpRefIdeal.Read.val_main_v139_eq (F := Ideal) m' c
      rw [(H c).h0, (H c).h1, (H c).h2] at e
      exact e
    · rw [final_dl, dl_eq]
      exact Cert.GmlpRefIdeal.Read.val_main_v140_eq (F := Ideal) _ _ _

/-- The reference ends with its arguments unchanged; it declares no semaphore. -/
theorem ref_frame : Cert.quiescent_GmlpRefIdeal := fun m g _ =>
  (θ_run Cert.GmlpRefIdeal.defs _ _).mono (fun r h => ⟨fun c => (h c).2.2.2.2.2, sem_eq_zero_of_no_sems (by decide) r.2⟩)
    (Cert.GmlpRefIdeal.Value.run (F := Ideal) m g)

end Cert.GmlpVal
-- ==== Proof.MixInBlk.lean ====
module

public import proofs.«01_k».proof.Proof.Row
public import proofs.«01_k».proof.Proof.Consts
public import proofs.«01_k».proof.Proof.Fill
public import proofs.«01_k».proof.Proof.Gen.MixInIdeal.Value
public import proofs.«01_k».proof.Proof.Gen.MixInRefIdeal.Read
public import Idealize.ShloMosaic.Lib.Claim
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.MixInVal
open Cert.MixInIdeal Cert.MixInIdeal.Gen

section arrays
variable (X : FVec Ideal S8192x1024 .f32) (G : FVec Ideal S1024 .f32) (W : FVec Ideal S1024x2592 .f32) (R : FVec Ideal S8192x1024 .f32)
  (D : FVec Ideal S8192x2592 .f32)

/-- The gradient with respect to the normed rows. -/
def ch (r : Fin 8192) (k : Fin 1024) : EReal := ∑ j : Fin 2592, D (ix2 r j) * W (ix2 k j)

def DX : FVec Ideal S8192x1024 .f32 := fun i =>
  R i + Row.bwd (fun k => X (ix2 (i 0) k)) (fun k => G (ix1 k)) (ch W D (i 0)) (i 1)
def DG : FVec Ideal S1x1024 .f32 := fun i => ∑ r : Fin 8192, X (ix2 r (i 1)) * Row.inv (fun k => X (ix2 r k)) * ch W D r (i 1)
end arrays

/-- A sum over 2592 columns, split at column 1024, the second part padded with zeros. -/
theorem sum_split (f : Fin 2592 → EReal) :
    (∑ j : Fin 1024, f ⟨j.val, by omega⟩) + ∑ j : Fin 1664, (if h : 1024 + j.val < 2592 then f ⟨1024 + j.val, h⟩ else 0) = ∑ j, f j := by
  have e1 : ∑ j : Fin 1664, (if h : 1024 + j.val < 2592 then f ⟨1024 + j.val, h⟩ else 0) = ∑ j : Fin 1568, f ⟨1024 + j.val, by omega⟩ := by
    rw [Fin.sum_univ_add (a := 1568) (b := 96) (fun j : Fin 1664 => if h : 1024 + j.val < 2592 then f ⟨1024 + j.val, h⟩ else 0)]
    have z : ∑ i : Fin 96, (if h : 1024 + (Fin.natAdd 1568 i).val < 2592 then f ⟨1024 + (Fin.natAdd 1568 i).val, h⟩ else 0) = 0 :=
      Finset.sum_eq_zero fun i _ => dif_neg (by simp only [Fin.val_natAdd]; omega)
    rw [z, add_zero]
    refine Finset.sum_congr rfl fun i _ => ?_
    rw [dif_pos (by simp only [Fin.val_castAdd]; omega)]
    rfl
  rw [e1]
  exact (Fin.sum_univ_add (a := 1024) (b := 1568) f).symm

section blocks
variable (m : (ℓ : Loc nD τ sig) → Buf (Elt Ideal) ℓ) (c : Dev nD) (t : Fin cfg0.N)

abbrev aX (m : (ℓ : Loc nD τ sig) → Buf (Elt Ideal) ℓ) (c : Dev nD) : FVec Ideal S8192x1024 .f32 := m ((c : Thread nD τ).loc main_arg0)
abbrev aG (m : (ℓ : Loc nD τ sig) → Buf (Elt Ideal) ℓ) (c : Dev nD) : FVec Ideal S1024 .f32 := m ((c : Thread nD τ).loc main_arg1)
abbrev aW (m : (ℓ : Loc nD τ sig) → Buf (Elt Ideal) ℓ) (c : Dev nD) : FVec Ideal S1024x2592 .f32 := m ((c : Thread nD τ).loc main_arg2)
abbrev aR (m : (ℓ : Loc nD τ sig) → Buf (Elt Ideal) ℓ) (c : Dev nD) : FVec Ideal S8192x1024 .f32 := m ((c : Thread nD τ).loc main_arg3)
abbrev aD (m : (ℓ : Loc nD τ sig) → Buf (Elt Ideal) ℓ) (c : Dev nD) : FVec Ideal S8192x2592 .f32 := m ((c : Thread nD τ).loc main_arg4)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0] ∧ win0_7.index t = ![0, 0]
    := (by decide +kernel : ∀ t : Fin grid0.N, _)

theorem t_lt : t.val < 16 := lt_of_lt_of_eq t.isLt N_0

theorem row_lt (r : Fin 512) : t.val * 512 + r.val < 8192 := by
  have := t_lt t
  omega

/-- The row of the array which row `r` of the block of the point `t` is. -/
def rw' (r : Fin 512) : Fin 8192 := ⟨t.val * 512 + r.val, row_lt t r⟩

theorem V_v1 : V m c main_v1 = (pad S1024x2688 ![0, 0] ![0, 96] ![0, 0] (truncf .bf16 (aW m c) bitsLt_bf16_f32 : FVec Ideal S1024x2592 .bf16)
    (sitofp .bf16 (constantI S_ 32 0#32)) pads_S1024x2592_S1024x2688_000_0960 h_S_ : FVec Ideal S1024x2688 .bf16) := rfl
theorem V_v4 : V m c main_v4 = (pad S8192x1664 ![0, 0] ![0, 96] ![0, 0] (extractStridedSlice S8192x1568 ![0, 1024]
    (truncf .bf16 (aD m c) bitsLt_bf16_f32 : FVec Ideal S8192x2592 .bf16) slices_S8192x2592_S8192x1568_0_1024)
    (sitofp .bf16 (constantI S_ 32 0#32)) pads_S8192x1568_S8192x1664_000_0960 h_S_ : FVec Ideal S8192x1664 .bf16) := rfl
theorem V_v5 : V m c main_v5 = (extractStridedSlice S8192x1024 ![0, 0]
    (truncf .bf16 (aD m c) bitsLt_bf16_f32 : FVec Ideal S8192x2592 .bf16) slices_S8192x2592_S8192x1024_0_0 : FVec Ideal S8192x1024 .bf16) := rfl
theorem V_v6 : V m c main_v6 = broadcastInDim S1x1024 ![1] bcast_S1024_S1x1024_1 (aG m c) := by
  rfl

theorem blk_a (r : Fin 512) (j : Fin 1024) : iblk m c 0 t (ix2 r j) = aD m c (ix2 (rw' t r) ⟨j.val, by omega⟩) := by
  have e : (win0_0.blk t).view.emb (ix2 r j : S512x1024.Idx) = (ix2 (rw' t r) j : S8192x1024.Idx) := by blk_ext [idx t, rw']
  change V m c main_v5 ((win0_0.blk t).view.emb (ix2 r j : S512x1024.Idx)) = _
  rw [e, V_v5]
  pointwise
  try rfl

theorem blk_b (r : Fin 512) (j : Fin 1664) : iblk m c 1 t (ix2 r j) = if h : j.val < 1568 then aD m c (ix2 (rw' t r) ⟨1024 + j.val, by omega⟩) else 0 := by
  have e : (win0_1.blk t).view.emb (ix2 r j : S512x1664.Idx) = (ix2 (rw' t r) j : S8192x1664.Idx) := by blk_ext [idx t, rw']
  change V m c main_v4 ((win0_1.blk t).view.emb (ix2 r j : S512x1664.Idx)) = _
  rw [e, V_v4]
  pointwise
  rw [Consts.sitofp_zero]

theorem blk_w (k : Fin 1024) (j : Fin 2688) : iblk m c 2 t (ix2 k j) = if h : j.val < 2592 then aW m c (ix2 k ⟨j.val, h⟩) else 0 := by
  have e : (win0_2.blk t).view.emb (ix2 k j : S1024x2688.Idx) = (ix2 k j : S1024x2688.Idx) := by blk_ext [idx t]
  change V m c main_v1 ((win0_2.blk t).view.emb (ix2 k j : S1024x2688.Idx)) = _
  rw [e, V_v1]
  pointwise
  rw [Consts.sitofp_zero]

theorem blk_x (r : Fin 512) (k : Fin 1024) : iblk m c 3 t (ix2 r k) = aX m c (ix2 (rw' t r) k) := by
  blk_ext [iblk, V, idx t, rw']

theorem blk_g (k : Fin 1024) : iblk m c 4 t (ix2 0 k) = aG m c (ix1 k) := by
  have e : (win0_4.blk t).view.emb (ix2 0 k : S1x1024.Idx) = (ix2 0 k : S1x1024.Idx) := by blk_ext [idx t]
  change V m c main_v6 ((win0_4.blk t).view.emb (ix2 0 k : S1x1024.Idx)) = _
  rw [e, V_v6]
  pointwise

theorem blk_r (r : Fin 512) (k : Fin 1024) : iblk m c 5 t (ix2 r k) = aR m c (ix2 (rw' t r) k) := by
  blk_ext [iblk, V, idx t, rw']

/-- The gradient with respect to the normed rows, off the point's blocks. -/
def bh (r : Fin 512) (k : Fin 1024) : EReal :=
  (∑ j : Fin 1024, (show EReal from iblk m c 0 t (ix2 r j)) * (show EReal from iblk m c 2 t (ix2 k ⟨j.val, by omega⟩)))
    + ∑ j : Fin 1664, (show EReal from iblk m c 1 t (ix2 r j)) * (show EReal from iblk m c 2 t (ix2 k ⟨1024 + j.val, by omega⟩))

theorem bh_eq (r : Fin 512) (k : Fin 1024) : bh m c t r k = ch (aW m c) (aD m c) (rw' t r) k := by
  unfold bh ch
  rw [← sum_split]
  congr 1
  · refine Finset.sum_congr rfl fun j _ => ?_
    rw [blk_a, blk_w, dif_pos (show (⟨j.val, by omega⟩ : Fin 2688).val < 2592 by dsimp only; omega)]
  · refine Finset.sum_congr rfl fun j _ => ?_
    rw [blk_b, blk_w]
    by_cases h : j.val < 1568
    · rw [dif_pos h, dif_pos (show (⟨1024 + j.val, by omega⟩ : Fin 2688).val < 2592 by dsimp only; omega), dif_pos (by omega)]
    · have hc : ¬ 1024 + j.val < 2592 := by omega
      rw [dif_neg h, dif_neg hc, dif_neg hc]
      exact zero_mul (M₀ := EReal) _

theorem pay_ms (x : FVec Ideal S512x1024 .f32) (r : Fin 512) : k0_pay5 (F := Ideal) x (ix2 r 0) = Row.ms (fun k => x (ix2 r k)) := by
  pointwise [k0_pay5, Row.ms]

theorem pay_inv (x : FVec Ideal S512x1024 .f32) (r : Fin 512) : k0_pay6 (F := Ideal) x (ix2 r 0) = Row.inv (fun k => x (ix2 r k)) := by
  pointwise [k0_pay6, Row.inv]
  rw [pay_ms]

/-- What the body leaves of the gradient with respect to `x`. -/
def bdx (r : Fin 512) (k : Fin 1024) : EReal :=
  (show EReal from iblk m c 5 t (ix2 r k)) + Row.bwd (fun k => iblk m c 3 t (ix2 r k)) (fun k => iblk m c 4 t (ix2 0 k)) (bh m c t r) k
/-- What the point adds to the gain's gradient. -/
def bdg (k : Fin 1024) : EReal :=
  ∑ r : Fin 512, (show EReal from iblk m c 3 t (ix2 r k)) * Row.inv (fun k => iblk m c 3 t (ix2 r k)) * bh m c t r k

set_option maxHeartbeats 1000000 in
theorem bdx_eq (r : Fin 512) (k : Fin 1024) : bdx m c t r k = DX (aX m c) (aG m c) (aW m c) (aR m c) (aD m c) (ix2 (rw' t r) k) := by
  have hb : bh m c t r = ch (aW m c) (aD m c) (rw' t r) := funext fun k => bh_eq m c t r k
  unfold bdx DX
  simp only [blk_x, blk_r, blk_g, hb]
  rfl

theorem bdg_eq (k : Fin 1024) : bdg m c t k = ∑ r : Fin 512, aX m c (ix2 (rw' t r) k) * Row.inv (fun k => aX m c (ix2 (rw' t r) k))
    * ch (aW m c) (aD m c) (rw' t r) k := by
  unfold bdg
  simp only [blk_x, bh_eq]
end blocks

end Cert.MixInVal
-- ==== Proof.MixInVal.lean ====
module

public import proofs.«01_k».proof.Proof.MixInBlk

@[expose] public section
set_option maxRecDepth 16384
noncomputable section
open Idealize.ShloMosaic Idealize.ShloMosaic.TcCoe Idealize.SL.Sem
open Idealize.ShloMosaic.Pipeline (Dat)
namespace Cert.MixInVal
open Cert.MixInIdeal Cert.MixInIdeal.Gen
variable (m : (ℓ : Loc nD τ sig) → Buf (Elt Ideal) ℓ) (c : Dev nD) (t : Fin cfg0.N)

theorem pay_h (a : FVec Ideal S512x1024 .bf16) (b : FVec Ideal S1024x1024 .bf16) (d : FVec Ideal S512x1664 .bf16) (e : FVec Ideal S1024x1664 .bf16)
    (r : Fin 512) (k : Fin 1024) : k0_pay4 (F := Ideal) a b d e (ix2 r k) = (∑ j, a (ix2 r j) * b (ix2 k j)) + ∑ j, d (ix2 r j) * e (ix2 k j) := by
  pointwise [k0_pay4]

theorem pay_dx (a : FVec Ideal S512x1024 .bf16) (b : FVec Ideal S1024x1024 .bf16) (d : FVec Ideal S512x1664 .bf16) (e : FVec Ideal S1024x1664 .bf16)
    (x dres : FVec Ideal S512x1024 .f32) (g : FVec Ideal S1x1024 .f32) (r : Fin 512) (k : Fin 1024) :
    k0_pay1 (F := Ideal) x (k0_pay6 x) (k0_pay7 x) (k0_pay9 a b d e g) (k0_pay10 a b d e x g) dres (ix2 r k)
      = dres (ix2 r k) + Row.bwd (fun k => x (ix2 r k)) (fun k => g (ix2 0 k)) (fun k => k0_pay4 (F := Ideal) a b d e (ix2 r k)) k := by
  pointwise [k0_pay1, k0_pay10, k0_pay9, k0_pay7, Row.bwd]
  simp only [pay_inv, pay_ms, Fin.sum_univ_one]

theorem pay_dg (a : FVec Ideal S512x1024 .bf16) (b : FVec Ideal S1024x1024 .bf16) (d : FVec Ideal S512x1664 .bf16) (e : FVec Ideal S1024x1664 .bf16)
    (x : FVec Ideal S512x1024 .f32) (acc : FVec Ideal S1x1024 .f32) (k : Fin 1024) :
    k0_pay2 (F := Ideal) (k0_pay8 a b d e x) acc (ix2 0 k)
      = acc (ix2 0 k) + ∑ r : Fin 512, x (ix2 r k) * Row.inv (fun k => x (ix2 r k)) * k0_pay4 (F := Ideal) a b d e (ix2 r k) := by
  pointwise [k0_pay2, k0_pay8]
  simp only [pay_inv]

set_option maxHeartbeats 2000000 in
theorem out_dx_A (h : t.val % 16 = 0) (r : Fin 512) (k : Fin 1024) : (outsAt0 m c t.val t.isLt).1 (ix2 r k) = bdx m c t r k := by
  rw [outsAt0_A m c t h]
  frame_out
  refine (pay_dx _ _ _ _ _ _ _ r k).trans ?_
  simp only [pay_h]
  open_payloads
  pointwise
  rfl

set_option maxHeartbeats 2000000 in
theorem out_dx_B (h : ¬ t.val % 16 = 0) (r : Fin 512) (k : Fin 1024) : (outsAt0 m c t.val t.isLt).1 (ix2 r k) = bdx m c t r k := by
  rw [outsAt0_B m c t h]
  frame_out
  refine (pay_dx _ _ _ _ _ _ _ r k).trans ?_
  simp only [pay_h]
  open_payloads
  pointwise
  rfl

set_option maxHeartbeats 2000000 in
theorem out_dg_A (h : t.val % 16 = 0) (k : Fin 1024) : (outsAt0 m c t.val t.isLt).2 (ix2 0 k) = bdg m c t k := by
  rw [outsAt0_A m c t h]
  frame_out
  refine (pay_dg _ _ _ _ _ _ k).trans ?_
  simp only [pay_h]
  open_payloads
  pointwise
  try rfl

set_option maxHeartbeats 2000000 in
theorem out_dg_B (h : ¬ t.val % 16 = 0) (k : Fin 1024) : (outsAt0 m c t.val t.isLt).2 (ix2 0 k)
    = (outsAt0 m c (t.val - 1) (Nat.lt_of_le_of_lt (Nat.sub_le _ _) t.isLt)).2 (ix2 0 k) + bdg m c t k := by
  rw [outsAt0_B m c t h]
  frame_out
  refine (pay_dg _ _ _ _ _ _ k).trans ?_
  simp only [pay_h]
  open_payloads
  pointwise
  try rfl

theorem point_dx (y : S512x1024.Idx) : (outsAt0 m c t.val t.isLt).1 y
    = DX (aX m c) (aG m c) (aW m c) (aR m c) (aD m c) ((win0_6.blk t).view.emb y) := by
  obtain ⟨r, k, rfl⟩ : ∃ (r : Fin 512) (k : Fin 1024), y = ix2 r k := ⟨y 0, y 1, eq_ix2 y⟩
  have e : (win0_6.blk t).view.emb (ix2 r k : S512x1024.Idx) = (ix2 (rw' t r) k : S8192x1024.Idx) := by blk_ext [idx t, rw']
  rw [e, ← bdx_eq]
  by_cases h : t.val % 16 = 0
  · exact out_dx_A m c t h r k
  · exact out_dx_B m c t h r k

theorem point_dg (hf : t.val % 16 = 15) (y : S1x1024.Idx) : (outsAt0 m c t.val t.isLt).2 y
    = DG (aX m c) (aW m c) (aD m c) ((win0_7.blk t).view.emb y) := by
  have hN := t_lt t
  obtain ⟨z, k, rfl⟩ : ∃ (z : Fin 1) (k : Fin 1024), y = ix2 z k := ⟨y 0, y 1, eq_ix2 y⟩
  obtain rfl : z = 0 := Subsingleton.elim _ _
  have e : (win0_7.blk t).view.emb (ix2 0 k : S1x1024.Idx) = (ix2 0 k : S1x1024.Idx) := by blk_ext [idx t]
  rw [e, Pipeline.eq_sum_fin_of_reset_step_apply_last (fun n h k => (outsAt0 m c n h).2 (ix2 0 k)) 16 (fun _ => 0) (fun p k => bdg m c p k)
    (fun t h k => (out_dg_A m c t h k).trans (zero_add _).symm) (fun t h k => out_dg_B m c t h k)
    (le_of_eq N_0) t (by have : cfg0.N = 16 := N_0; omega) k, zero_add]
  simp only [bdg_eq]
  exact Fin.sum_mul_add_congr fun s r hl => rfl

theorem final_dx : (dats m 0 c).arrAt 6 cfg0.N = DX (aX m c) (aG m c) (aW m c) (aR m c) (aD m c) := by
  refine (dats m 0 c).arrAt_eq_of_covers 6 _ (by decide +kernel) fun t hf y => ?_
  blk_simp
  rw [after0_6]
  exact point_dx m c t y

theorem final_dg : (dats m 0 c).arrAt 7 cfg0.N = DG (aX m c) (aW m c) (aD m c) := by
  refine (dats m 0 c).arrAt_eq_of_covers 7 _ (by decide +kernel) fun t hf y => ?_
  blk_simp
  rw [after0_7]
  exact point_dg m c t ((flush0_7 t).mp hf) y

end Cert.MixInVal
-- ==== Proof.MixInRef.lean ====
module

public import proofs.«01_k».proof.Proof.MixInBlk

@[expose] public section
set_option maxRecDepth 16384
noncomputable section
open Idealize.ShloMosaic Idealize.ShloMosaic.TcCoe Idealize.SL.Sem
open Idealize.ShloMosaic.Pipeline (Dat)
namespace Cert.MixInVal
open Cert.MixInIdeal Cert.MixInRefIdeal.Read
variable (X : FVec Ideal S8192x1024 .f32) (G : FVec Ideal S1024 .f32) (W : FVec Ideal S1024x2592 .f32) (R : FVec Ideal S8192x1024 .f32)
  (D : FVec Ideal S8192x2592 .f32)

theorem ref_ch (r : Fin 8192) (k : Fin 1024) : val_main_v17 (F := Ideal) W D (ix2 r k) = ch W D r k := by
  pointwise [val_main_v17, ch]

theorem ref_dg (k : Fin 1024) : val_main_v39 (F := Ideal) X W D (ix2 0 k) = DG X W D (ix2 0 k) := by
  pointwise [val_main_v39, val_main_v23, val_main_v20, val_main_v19, val_main_v18, val_main_v12, val_main_v11, val_main_v7, val_main_v6, val_main_v5,
    val_main_cst_1, val_main_v4, val_main_v3, val_main_cst_0, val_main_v2, val_main_v1, val_main_v0, val_main_cst, val_main_cst_3, val_main_cst_4, DG, Row.inv,
    Row.ms]
  rw [Fin.sum_univ_one]
  simp only [ref_ch]
  try rfl

theorem ref_dx (r : Fin 8192) (k : Fin 1024) : val_main_v38 (F := Ideal) X G W R D (ix2 r k) = DX X G W R D (ix2 r k) := by
  pointwise [val_main_v38, val_main_v37, val_main_v34, val_main_v33, val_main_v32, val_main_v31, val_main_cst_6, val_main_v30, val_main_v26, val_main_v25,
    val_main_v24, val_main_v22, val_main_v21, val_main_v13, val_main_cst_5, val_main_v10, val_main_v9, val_main_cst_2, val_main_v8, val_main_v7, val_main_v6,
    val_main_v5, val_main_cst_1, val_main_v4, val_main_v3, val_main_cst_0, val_main_v2, val_main_v1, val_main_v0, val_main_cst, val_main_cst_7, val_main_v36,
    val_main_v35, val_main_v29, val_main_v28, val_main_v27, DX, Row.bwd, Row.inv, Row.ms]
  simp only [ref_ch, Fin.sum_univ_one]
  rw [add_assoc, add_assoc, add_assoc]
  try rfl

end Cert.MixInVal
-- ==== Proof.MixInClaim.lean ====
module

public import proofs.«01_k».proof.Defs
public import proofs.«01_k».proof.Proof.MixInVal
public import proofs.«01_k».proof.Proof.MixInRef
public import proofs.«01_k».proof.Proof.Gen.MixInRefIdeal.Run
public import proofs.«01_k».proof.Proof.Gen.MixInIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.MixInVal
open Cert.MixInIdeal Cert.MixInIdeal.Gen

section values
variable (X : FVec Ideal S8192x1024 .f32) (G : FVec Ideal S1024 .f32) (W : FVec Ideal S1024x2592 .f32) (R : FVec Ideal S8192x1024 .f32)
  (D : FVec Ideal S8192x2592 .f32)
theorem dx_eq : DX X G W R D = Cert.MixInRefIdeal.Read.val_main_v38 (F := Ideal) X G W R D := by
  funext i
  obtain ⟨r, k, rfl⟩ : ∃ (r : Fin 8192) (k : Fin 1024), i = ix2 r k := ⟨i 0, i 1, eq_ix2 i⟩
  exact (ref_dx X G W R D r k).symm
theorem dg_eq : DG X W D = Cert.MixInRefIdeal.Read.val_main_v39 (F := Ideal) X W D := by
  funext i
  obtain ⟨z, k, rfl⟩ : ∃ (z : Fin 1) (k : Fin 1024), i = ix2 z k := ⟨i 0, i 1, eq_ix2 i⟩
  obtain rfl : z = 0 := Subsingleton.elim _ _
  exact (ref_dg X W D k).symm
end values

/-- What the reference is launched with, read off the kernel's arguments. -/
structure Args (m' : (ℓ : Loc Cert.MixInRefIdeal.nD Cert.MixInRefIdeal.τ Cert.MixInRefIdeal.sig) → Buf (Elt Ideal) ℓ) (m : (ℓ : Loc nD τ sig) → Buf (Elt Ideal) ℓ) (c : Dev nD) : Prop where
  h0 : m' ((c.tc : Thread Cert.MixInRefIdeal.nD Cert.MixInRefIdeal.τ).loc Cert.MixInRefIdeal.main_arg0) = aX m c
  h1 : m' ((c.tc : Thread Cert.MixInRefIdeal.nD Cert.MixInRefIdeal.τ).loc Cert.MixInRefIdeal.main_arg1) = aG m c
  h2 : m' ((c.tc : Thread Cert.MixInRefIdeal.nD Cert.MixInRefIdeal.τ).loc Cert.MixInRefIdeal.main_arg2) = aW m c
  h3 : m' ((c.tc : Thread Cert.MixInRefIdeal.nD Cert.MixInRefIdeal.τ).loc Cert.MixInRefIdeal.main_arg3) = aR m c
  h4 : m' ((c.tc : Thread Cert.MixInRefIdeal.nD Cert.MixInRefIdeal.τ).loc Cert.MixInRefIdeal.main_arg4) = aD m c

set_option maxHeartbeats 4000000 in
theorem algebraic : Cert.algebraic_MixInIdeal_MixInRefIdeal := by
  pair_intro
  · run_from Cert.MixInIdeal.Gen.run_main m g
    all_goals rfl
  have H : ∀ c, Args m' m c := fun c => ⟨(hagree c).1, (hagree c).2.1, (hagree c).2.2.1, (hagree c).2.2.2.1, (hagree c).2.2.2.2⟩
  · run_from Cert.MixInRefIdeal.Value.run m' g'
    · rw [final_dx, dx_eq]
      have e := Cert.MixInRefIdeal.Read.val_main_v38_eq (F := Ideal) m' c
      rw [(H c).h0, (H c).h1, (H c).h2, (H c).h3, (H c).h4] at e
      exact e
    · rw [final_dg, dg_eq]
      exact Cert.MixInRefIdeal.Read.val_main_v39_eq (F := Ideal) _ _ _

/-- The reference ends with its arguments unchanged; it declares no semaphore. -/
theorem ref_frame : Cert.quiescent_MixInRefIdeal := fun m g _ =>
  (θ_run Cert.MixInRefIdeal.defs _ _).mono (fun r h => ⟨fun c => (h c).2.2, sem_eq_zero_of_no_sems (by decide) r.2⟩)
    (Cert.MixInRefIdeal.Value.run (F := Ideal) m g)

end Cert.MixInVal
-- ==== Proof.Head.lean ====
module

public import proofs.«01_k».proof.Proof.Row
public import proofs.«01_k».proof.Proof.Consts

@[expose] public section
set_option maxRecDepth 16384
noncomputable section
open Idealize.ShloMosaic Idealize.ShloMosaic.TcCoe Idealize.SL.Sem
open Idealize.ShloMosaic.Pipeline (Dat)
namespace Cert.Head
/-- The mean square of a row of 128 features, with the norm's small constant. -/
def ms (x : Fin 128 → EReal) : EReal :=
  Ideal.div (∑ k, x k * x k) (Ideal.ofBits .f32 0x43000000#32) + Ideal.ofBits .f32 0x358637BD#32

/-- The reciprocal root mean square of a row. -/
def inv (x : Fin 128 → EReal) : EReal := Ideal.rsqrt (ms x)

/-- The gradient of the root-mean-square norm with respect to the row `x`, for the gain `g` and the
    cotangent `ct`, at feature `k`. -/
def bwd (x g ct : Fin 128 → EReal) (k : Fin 128) : EReal :=
  ct k * g k * inv x
    + x k * Ideal.div ((∑ j, x j * (ct j * g j)) * (Ideal.ofBits .f32 0xBF000000#32 * Ideal.div (inv x) (ms x)))
        (Ideal.ofBits .f32 0x43000000#32)
    + Ideal.div ((∑ j, x j * (ct j * g j)) * (Ideal.ofBits .f32 0xBF000000#32 * Ideal.div (inv x) (ms x)))
        (Ideal.ofBits .f32 0x43000000#32) * x k

/-- The logistic function. -/
def sig (x : EReal) : EReal := Ideal.div 1 (1 + Ideal.exp (-x))

/-- The logistic function's slope: the kernel squares the denominator, the reference takes `s (1 - s)`. -/
theorem slope (x : EReal) :
    Ideal.div 1 ((1 + Ideal.exp (-x)) * (1 + Ideal.exp (-x))) * Ideal.exp (-x) = sig x * (1 - sig x) := by
  unfold sig
  induction x using EReal.rec with
  | bot =>
    have h : (1 : EReal) + ⊤ = ⊤ := EReal.add_top_of_ne_bot (by decide)
    simp [Ideal.div, h, EReal.top_mul_top]
  | top =>
    have h : (1 : EReal) - 1 = 0 := by rw [← EReal.coe_one, ← EReal.coe_sub, sub_self, EReal.coe_zero]
    simp [Ideal.div, h]
  | coe r =>
    have h0 : (0 : ℝ) < Real.exp (-r) := Real.exp_pos _
    have h1 : (1 : ℝ) + Real.exp (-r) ≠ 0 := by positivity
    have h : (1 : EReal) + Ideal.exp (-(r : EReal)) = ((1 + Real.exp (-r) : ℝ) : EReal) := by
      rw [← EReal.coe_neg, Ideal.exp_coe]; norm_cast
    rw [h, ← EReal.coe_mul, Ideal.div_coe (mul_ne_zero h1 h1), Ideal.div_coe h1, ← EReal.coe_neg, Ideal.exp_coe, one_mul, one_mul]
    norm_cast
    field_simp
    ring

/-- The swish gate's gradient with respect to the gate, for the cotangent `y`. -/
def gate (x y : EReal) : EReal := y * sig x + x * y * (sig x * (1 - sig x))

/-- The same in the order and with the signs of the kernel. -/
theorem gate_eq (x y : EReal) :
    y * Ideal.div 1 (1 + Ideal.exp (0 - x)) + (0 - (0 - x * y * Ideal.div 1 ((1 + Ideal.exp (0 - x)) * (1 + Ideal.exp (0 - x))) * 1)
      * Ideal.exp (0 - x)) = gate x y := by
  unfold gate
  rw [← slope, zero_sub, zero_sub, zero_sub, mul_one, EReal.neg_mul, neg_neg, mul_assoc]
  rfl

end Cert.Head
-- ==== Proof.MixOutBlk.lean ====
module

public import proofs.«01_k».proof.Proof.Head
public import proofs.«01_k».proof.Proof.Fill
public import proofs.«01_k».proof.Proof.Gen.MixOutIdeal.Value
public import proofs.«01_k».proof.Proof.Gen.MixOutRefIdeal.Read
public import Idealize.ShloMosaic.Lib.Claim
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.MixOutVal
open Cert.MixOutIdeal Cert.MixOutIdeal.Gen

section arrays
variable (X : FVec Ideal S8192x1024 .f32) (W : FVec Ideal S1024x1024 .f32) (A B : FVec Ideal S8192x512 .f32) (P : FVec Ideal S8192x2592 .f32)
  (G : FVec Ideal S4x128 .f32)

/-- The feature `k` of head `h` among the 512 of a row. -/
def col (h : Fin 4) (k : Fin 128) : Fin 512 := ⟨h.val * 128 + k.val, by omega⟩

/-- The heads' sum, a row of a head. -/
def o (r : Fin 8192) (h : Fin 4) (k : Fin 128) : EReal := A (ix2 r (col h k)) + B (ix2 r (col h k))
/-- The gate's argument. -/
def pg (r : Fin 8192) (h : Fin 4) (k : Fin 128) : EReal := P (ix2 r ⟨2048 + (h.val * 128 + k.val), by omega⟩)
/-- The gradient with respect to the gated heads. -/
def dm (r : Fin 8192) (h : Fin 4) (k : Fin 128) : EReal :=
  ∑ j : Fin 1024, X (ix2 r j) * W (ix2 ⟨512 + h.val * 128 + k.val, by omega⟩ j)
/-- The gradient with respect to the normed heads. -/
def ct (r : Fin 8192) (h : Fin 4) (k : Fin 128) : EReal := dm X W r h k * (pg P r h k * Head.sig (pg P r h k))

def DA : FVec Ideal S8192x512 .f32 := fun i => ∑ j : Fin 1024, X (ix2 (i 0) j) * W (ix2 ⟨(i 1).val, by have := (i 1).isLt; simp at this; omega⟩ j)
/-- The head, and the feature in it, of a column. -/
def hd (k : Fin 512) : Fin 4 := ⟨k.val / 128, by omega⟩
def ft (k : Fin 512) : Fin 128 := ⟨k.val % 128, by omega⟩
theorem hd_col (h : Fin 4) (k : Fin 128) : hd (col h k) = h := Fin.ext (by simp only [hd, col]; omega)
theorem ft_col (h : Fin 4) (k : Fin 128) : ft (col h k) = k := Fin.ext (by simp only [ft, col]; omega)

def DO : FVec Ideal S8192x512 .f32 := fun i =>
  Head.bwd (o A B (i 0) (hd (i 1))) (fun k => G (ix2 (hd (i 1)) k)) (ct X W P (i 0) (hd (i 1))) (ft (i 1))
def DP : FVec Ideal S8192x512 .f32 := fun i =>
  Head.gate (pg P (i 0) (hd (i 1)) (ft (i 1)))
    (o A B (i 0) (hd (i 1)) (ft (i 1)) * Head.inv (o A B (i 0) (hd (i 1))) * G (ix2 (hd (i 1)) (ft (i 1))) * dm X W (i 0) (hd (i 1)) (ft (i 1)))
def DG : FVec Ideal S4x1x128 .f32 := fun i =>
  ∑ r : Fin 8192, o A B r (i 0) (i 2) * Head.inv (o A B r (i 0)) * ct X W P r (i 0) (i 2)
end arrays

section blocks
variable (m : (ℓ : Loc nD τ sig) → Buf (Elt Ideal) ℓ) (c : Dev nD) (t : Fin cfg0.N)

abbrev aX (m : (ℓ : Loc nD τ sig) → Buf (Elt Ideal) ℓ) (c : Dev nD) : FVec Ideal S8192x1024 .f32 := m ((c : Thread nD τ).loc main_arg0)
abbrev aW (m : (ℓ : Loc nD τ sig) → Buf (Elt Ideal) ℓ) (c : Dev nD) : FVec Ideal S1024x1024 .f32 := m ((c : Thread nD τ).loc main_arg1)
abbrev aA (m : (ℓ : Loc nD τ sig) → Buf (Elt Ideal) ℓ) (c : Dev nD) : FVec Ideal S8192x512 .f32 := m ((c : Thread nD τ).loc main_arg2)
abbrev aB (m : (ℓ : Loc nD τ sig) → Buf (Elt Ideal) ℓ) (c : Dev nD) : FVec Ideal S8192x512 .f32 := m ((c : Thread nD τ).loc main_arg3)
abbrev aP (m : (ℓ : Loc nD τ sig) → Buf (Elt Ideal) ℓ) (c : Dev nD) : FVec Ideal S8192x2592 .f32 := m ((c : Thread nD τ).loc main_arg4)
abbrev aG (m : (ℓ : Loc nD τ sig) → Buf (Elt Ideal) ℓ) (c : Dev nD) : FVec Ideal S4x128 .f32 := m ((c : Thread nD τ).loc main_arg5)

theorem idx : ∀ t : Fin cfg0.N, win0_0.index t = ![t.val, 0] ∧ win0_1.index t = ![0, 0] ∧ win0_2.index t = ![t.val, 0]
    ∧ win0_3.index t = ![t.val, 0] ∧ win0_4.index t = ![t.val, 4] ∧ win0_5.index t = ![0, 0, 0] ∧ win0_6.index t = ![t.val, 0]
    ∧ win0_7.index t = ![t.val, 0] ∧ win0_8.index t = ![t.val, 0] ∧ win0_9.index t = ![0, 0, 0]
    := (by decide +kernel : ∀ t : Fin grid0.N, _)

theorem t_lt : t.val < 8 := lt_of_lt_of_eq t.isLt N_0

theorem row_lt (r : Fin 1024) : t.val * 1024 + r.val < 8192 := by
  have := t_lt t
  omega

/-- The row of the array which row `r` of the block of the point `t` is. -/
def rw' (r : Fin 1024) : Fin 8192 := ⟨t.val * 1024 + r.val, row_lt t r⟩

theorem V_v0 : V m c main_v0 = (truncf .bf16 (aW m c) bitsLt_bf16_f32 : FVec Ideal S1024x1024 .bf16) := rfl
theorem V_v1 : V m c main_v1 = (pad S8192x2688 ![0, 0] ![0, 96] ![0, 0] (aP m c)
    (sitofp .f32 (constantI S_ 32 0#32)) pads_S8192x2592_S8192x2688_000_0960 h_S_ : FVec Ideal S8192x2688 .f32) := rfl
theorem V_v2 : V m c main_v2 = broadcastInDim S4x1x128 ![0, 2] bcast_S4x128_S4x1x128_0_2 (aG m c) := rfl

theorem blk_x (r : Fin 1024) (j : Fin 1024) : iblk m c 0 t (ix2 r j) = aX m c (ix2 (rw' t r) j) := by
  blk_ext [iblk, V, idx t, rw']

theorem blk_w (k : Fin 1024) (j : Fin 1024) : iblk m c 1 t (ix2 k j) = aW m c (ix2 k j) := by
  have e : (win0_1.blk t).view.emb (ix2 k j : S1024x1024.Idx) = (ix2 k j : S1024x1024.Idx) := by blk_ext [idx t]
  change V m c main_v0 ((win0_1.blk t).view.emb (ix2 k j : S1024x1024.Idx)) = _
  rw [e, V_v0]
  pointwise
  try rfl

theorem blk_of (r : Fin 1024) (k : Fin 512) : iblk m c 2 t (ix2 r k) = aA m c (ix2 (rw' t r) k) := by
  blk_ext [iblk, V, idx t, rw']

theorem blk_ob (r : Fin 1024) (k : Fin 512) : iblk m c 3 t (ix2 r k) = aB m c (ix2 (rw' t r) k) := by
  blk_ext [iblk, V, idx t, rw']

theorem blk_p (r : Fin 1024) (k : Fin 512) : X0_4 m c t (ix2 r k) = aP m c (ix2 (rw' t r) ⟨2048 + k.val, by omega⟩) := by
  unfold X0_4 Pipeline.Window.fill
  rw [dif_pos (moved0_4 t _)]
  refine (congrArg (V m c main_v1) (?_ : _ = (ix2 (rw' t r) ⟨2048 + k.val, by omega⟩ : S8192x2688.Idx))).trans ?_
  · blk_ext [idx t, rw']
  rw [V_v1]
  pointwise
  exact dif_pos (by omega)

theorem blk_g (h : Fin 4) (k : Fin 128) : iblk m c 5 t (ix3 h 0 k) = aG m c (ix2 h k) := by
  have e : (win0_5.blk t).view.emb (ix3 h 0 k : S4x1x128.Idx) = (ix3 h 0 k : S4x1x128.Idx) := by blk_ext [idx t]
  change V m c main_v2 ((win0_5.blk t).view.emb (ix3 h 0 k : S4x1x128.Idx)) = _
  rw [e, V_v2]
  pointwise

/-- The rows of a head, off the point's blocks. -/
def bo (r : Fin 1024) (h : Fin 4) (k : Fin 128) : EReal :=
  (show EReal from iblk m c 2 t (ix2 r (col h k))) + (show EReal from iblk m c 3 t (ix2 r (col h k)))
def bp (r : Fin 1024) (h : Fin 4) (k : Fin 128) : EReal := X0_4 m c t (ix2 r (col h k))
def bm (r : Fin 1024) (h : Fin 4) (k : Fin 128) : EReal :=
  ∑ j : Fin 1024, (show EReal from iblk m c 0 t (ix2 r j)) * (show EReal from iblk m c 1 t (ix2 ⟨512 + h.val * 128 + k.val, by omega⟩ j))
def bg (h : Fin 4) (k : Fin 128) : EReal := iblk m c 5 t (ix3 h 0 k)
def bct (r : Fin 1024) (h : Fin 4) (k : Fin 128) : EReal := bm m c t r h k * (bp m c t r h k * Head.sig (bp m c t r h k))

theorem bo_eq (r : Fin 1024) (h : Fin 4) : bo m c t r h = o (aA m c) (aB m c) (rw' t r) h := by
  funext k
  simp only [bo, o, blk_of, blk_ob]
theorem bp_eq (r : Fin 1024) (h : Fin 4) : bp m c t r h = pg (aP m c) (rw' t r) h := by
  funext k
  exact blk_p m c t r (col h k)
theorem bm_eq (r : Fin 1024) (h : Fin 4) : bm m c t r h = dm (aX m c) (aW m c) (rw' t r) h := by
  funext k
  simp only [bm, dm, blk_x, blk_w]
theorem bg_eq (h : Fin 4) : bg m c t h = fun k => aG m c (ix2 h k) := by
  funext k
  exact blk_g m c t h k
theorem bct_eq (r : Fin 1024) (h : Fin 4) : bct m c t r h = ct (aX m c) (aW m c) (aP m c) (rw' t r) h := by
  funext k
  simp only [bct, ct, bm_eq, bp_eq]
end blocks

end Cert.MixOutVal
-- ==== Proof.MixOutVal.lean ====
module

public import proofs.«01_k».proof.Proof.MixOutBlk

@[expose] public section
set_option maxRecDepth 16384
noncomputable section
open Idealize.ShloMosaic Idealize.ShloMosaic.TcCoe Idealize.SL.Sem
open Idealize.ShloMosaic.Pipeline (Dat)
namespace Cert.MixOutVal
open Cert.MixOutIdeal Cert.MixOutIdeal.Gen
variable (m : (ℓ : Loc nD τ sig) → Buf (Elt Ideal) ℓ) (c : Dev nD) (t : Fin cfg0.N)

set_option maxHeartbeats 4000000 in
theorem out_da_A (ca : t.val % 8 = 0) (r : Fin 1024) (k : Fin 512) : (outsAt0 m c t.val t.isLt).1 (ix2 r k)
    = ∑ j : Fin 1024, (show EReal from iblk m c 0 t (ix2 r j)) * (show EReal from iblk m c 1 t (ix2 ⟨k.val, by omega⟩ j)) := by
  rw [outsAt0_A m c t ca]
  frame_out
  open_payloads
  pointwise
  try rfl

set_option maxHeartbeats 4000000 in
theorem out_do_A (ca : t.val % 8 = 0) (y : S1024x512.Idx) (r : Fin 1024) (h : Fin 4) (k : Fin 128) (hr : (y 0).val = r.val)
    (hk : (y 1).val = h.val * 128 + k.val) :
    (outsAt0 m c t.val t.isLt).2.1 y = Head.bwd (bo m c t r h) (bg m c t h) (bct m c t r h) k := by
  rw [outsAt0_A m c t ca]
  frame_out
  canon_tiles x hx
  all_goals
    have hkl := k.isLt
    have hhl := h.isLt
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix2 r k := (eq_ix2 x).trans ((ix2_inj _ _ _ _).mpr ⟨Fin.ext (by omega), Fin.ext (show _ = k.val by simp at hk; omega)⟩)
    open_payloads
    pointwise [Head.bwd, bo, bp, bm, bg, bct, Head.sig, Head.inv, Head.ms, col, X0_4]
    try simp only [zero_sub, Fin.sum_univ_one]

set_option maxHeartbeats 4000000 in
theorem out_dp_A (ca : t.val % 8 = 0) (y : S1024x512.Idx) (r : Fin 1024) (h : Fin 4) (k : Fin 128) (hr : (y 0).val = r.val)
    (hk : (y 1).val = h.val * 128 + k.val) :
    (outsAt0 m c t.val t.isLt).2.2.1 y
      = Head.gate (bp m c t r h k) (bo m c t r h k * Head.inv (bo m c t r h) * bg m c t h k * bm m c t r h k) := by
  rw [outsAt0_A m c t ca, ← Head.gate_eq]
  frame_out
  canon_tiles x hx
  all_goals
    have hkl := k.isLt
    have hhl := h.isLt
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix2 r k := (eq_ix2 x).trans ((ix2_inj _ _ _ _).mpr ⟨Fin.ext (by omega), Fin.ext (show _ = k.val by simp at hk; omega)⟩)
    open_payloads
    pointwise [bo, bp, bm, bg, bct, Head.inv, Head.ms, col, X0_4]
    try simp only [zero_sub]

set_option maxHeartbeats 4000000 in
theorem out_da_B (ca : ¬ t.val % 8 = 0) (r : Fin 1024) (k : Fin 512) : (outsAt0 m c t.val t.isLt).1 (ix2 r k)
    = ∑ j : Fin 1024, (show EReal from iblk m c 0 t (ix2 r j)) * (show EReal from iblk m c 1 t (ix2 ⟨k.val, by omega⟩ j)) := by
  rw [outsAt0_B m c t ca]
  frame_out
  open_payloads
  pointwise
  try rfl

set_option maxHeartbeats 4000000 in
theorem out_do_B (ca : ¬ t.val % 8 = 0) (y : S1024x512.Idx) (r : Fin 1024) (h : Fin 4) (k : Fin 128) (hr : (y 0).val = r.val)
    (hk : (y 1).val = h.val * 128 + k.val) :
    (outsAt0 m c t.val t.isLt).2.1 y = Head.bwd (bo m c t r h) (bg m c t h) (bct m c t r h) k := by
  rw [outsAt0_B m c t ca]
  frame_out
  canon_tiles x hx
  all_goals
    have hkl := k.isLt
    have hhl := h.isLt
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix2 r k := (eq_ix2 x).trans ((ix2_inj _ _ _ _).mpr ⟨Fin.ext (by omega), Fin.ext (show _ = k.val by simp at hk; omega)⟩)
    open_payloads
    pointwise [Head.bwd, bo, bp, bm, bg, bct, Head.sig, Head.inv, Head.ms, col, X0_4]
    try simp only [zero_sub, Fin.sum_univ_one]

set_option maxHeartbeats 4000000 in
theorem out_dp_B (ca : ¬ t.val % 8 = 0) (y : S1024x512.Idx) (r : Fin 1024) (h : Fin 4) (k : Fin 128) (hr : (y 0).val = r.val)
    (hk : (y 1).val = h.val * 128 + k.val) :
    (outsAt0 m c t.val t.isLt).2.2.1 y
      = Head.gate (bp m c t r h k) (bo m c t r h k * Head.inv (bo m c t r h) * bg m c t h k * bm m c t r h k) := by
  rw [outsAt0_B m c t ca, ← Head.gate_eq]
  frame_out
  canon_tiles x hx
  all_goals
    have hkl := k.isLt
    have hhl := h.isLt
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix2 r k := (eq_ix2 x).trans ((ix2_inj _ _ _ _).mpr ⟨Fin.ext (by omega), Fin.ext (show _ = k.val by simp at hk; omega)⟩)
    open_payloads
    pointwise [bo, bp, bm, bg, bct, Head.inv, Head.ms, col, X0_4]
    try simp only [zero_sub]

set_option maxHeartbeats 8000000 in
theorem out_dg_A (ca : t.val % 8 = 0) (y : S4x1x128.Idx) (h : Fin 4) (k : Fin 128) (hh : (y 0).val = h.val) (hk : (y 2).val = k.val) :
    (outsAt0 m c t.val t.isLt).2.2.2 y = ∑ r : Fin 1024, bo m c t r h k * Head.inv (bo m c t r h) * bct m c t r h k := by
  rw [outsAt0_A m c t ca]
  frame_open
  simp (disch := decide) only [↓ View.readCov_skip, ↓ View.readCov_cons_toLoadRect, ↓ View.readCov_fill]
  frame_out
  rw [Fill.canon_of_tiled _ ![1, 1, 128] (List.cons_ne_nil _ _) (by sl_kernel_rfl)]
  simp only [List.dropLast_cons₂, List.dropLast_singleton]
  canon_tiles x hx
  all_goals
    have hkl := k.isLt
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix3 0 0 k := (eq_ix3 x).trans ((ix3_inj _ _ _ _ _ _).mpr ⟨Subsingleton.elim _ _, Subsingleton.elim _ _, Fin.ext (hx2.symm.trans hk)⟩)
    open_payloads
    pointwise [bo, bp, bm, bct, Head.sig, Head.inv, Head.ms, col, X0_4]
    try simp only [zero_sub]

set_option maxHeartbeats 8000000 in
theorem out_dg_B (ca : ¬ t.val % 8 = 0) (y : S4x1x128.Idx) (h : Fin 4) (k : Fin 128) (hh : (y 0).val = h.val) (hk : (y 2).val = k.val) :
    (outsAt0 m c t.val t.isLt).2.2.2 y = (outsAt0 m c (t.val - 1) (Nat.lt_of_le_of_lt (Nat.sub_le _ _) t.isLt)).2.2.2 (ix3 h 0 k)
      + ∑ r : Fin 1024, bo m c t r h k * Head.inv (bo m c t r h) * bct m c t r h k := by
  rw [outsAt0_B m c t ca]
  frame_out
  canon_tiles x hx
  all_goals
    have hkl := k.isLt
    first
      | have hw : h.val = 3 := by omega
        obtain rfl : h = 3 := Fin.ext hw
      | have hw : h.val = 2 := by omega
        obtain rfl : h = 2 := Fin.ext hw
      | have hw : h.val = 1 := by omega
        obtain rfl : h = 1 := Fin.ext hw
      | have hw : h.val = 0 := by omega
        obtain rfl : h = 0 := Fin.ext hw
    obtain rfl : x = ix3 0 0 k := (eq_ix3 x).trans ((ix3_inj _ _ _ _ _ _).mpr ⟨Subsingleton.elim _ _, Subsingleton.elim _ _, Fin.ext (hx2.symm.trans hk)⟩)
    open_payloads
    pointwise [bo, bp, bm, bct, Head.sig, Head.inv, Head.ms, col, X0_4]
    try simp only [zero_sub]

end Cert.MixOutVal
-- ==== Proof.MixOutFin.lean ====
module

public import proofs.«01_k».proof.Proof.MixOutVal

@[expose] public section
set_option maxRecDepth 16384
noncomputable section
open Idealize.ShloMosaic Idealize.ShloMosaic.TcCoe Idealize.SL.Sem
open Idealize.ShloMosaic.Pipeline (Dat)
namespace Cert.MixOutVal
open Cert.MixOutIdeal Cert.MixOutIdeal.Gen
variable (m : (ℓ : Loc nD τ sig) → Buf (Elt Ideal) ℓ) (c : Dev nD) (t : Fin cfg0.N)

theorem point_da (y : S1024x512.Idx) : (outsAt0 m c t.val t.isLt).1 y = DA (aX m c) (aW m c) ((win0_6.blk t).view.emb y) := by
  obtain ⟨r, k, rfl⟩ : ∃ (r : Fin 1024) (k : Fin 512), y = ix2 r k := ⟨y 0, y 1, eq_ix2 y⟩
  have e : (win0_6.blk t).view.emb (ix2 r k : S1024x512.Idx) = (ix2 (rw' t r) k : S8192x512.Idx) := by blk_ext [idx t, rw']
  have h : (outsAt0 m c t.val t.isLt).1 (ix2 r k)
      = ∑ j : Fin 1024, (show EReal from iblk m c 0 t (ix2 r j)) * (show EReal from iblk m c 1 t (ix2 ⟨k.val, by omega⟩ j)) := by
    by_cases h : t.val % 8 = 0
    · exact out_da_A m c t h r k
    · exact out_da_B m c t h r k
  rw [e, h]
  simp only [blk_x, blk_w]
  rfl

theorem col_hd (k : Fin 512) : k.val = (hd k).val * 128 + (ft k).val := by
  simp only [hd, ft]
  omega

theorem point_do (y : S1024x512.Idx) : (outsAt0 m c t.val t.isLt).2.1 y
    = DO (aX m c) (aW m c) (aA m c) (aB m c) (aP m c) (aG m c) ((win0_7.blk t).view.emb y) := by
  obtain ⟨r, k, rfl⟩ : ∃ (r : Fin 1024) (k : Fin 512), y = ix2 r k := ⟨y 0, y 1, eq_ix2 y⟩
  have e : (win0_7.blk t).view.emb (ix2 r k : S1024x512.Idx) = (ix2 (rw' t r) k : S8192x512.Idx) := by blk_ext [idx t, rw']
  have h : (outsAt0 m c t.val t.isLt).2.1 (ix2 r k) = Head.bwd (bo m c t r (hd k)) (bg m c t (hd k)) (bct m c t r (hd k)) (ft k) := by
    by_cases h : t.val % 8 = 0
    · exact out_do_A m c t h (ix2 r k) r (hd k) (ft k) rfl (col_hd k)
    · exact out_do_B m c t h (ix2 r k) r (hd k) (ft k) rfl (col_hd k)
  rw [e, h, bo_eq, bg_eq, bct_eq]
  rfl

theorem point_dp (y : S1024x512.Idx) : (outsAt0 m c t.val t.isLt).2.2.1 y
    = DP (aX m c) (aW m c) (aA m c) (aB m c) (aP m c) (aG m c) ((win0_8.blk t).view.emb y) := by
  obtain ⟨r, k, rfl⟩ : ∃ (r : Fin 1024) (k : Fin 512), y = ix2 r k := ⟨y 0, y 1, eq_ix2 y⟩
  have e : (win0_8.blk t).view.emb (ix2 r k : S1024x512.Idx) = (ix2 (rw' t r) k : S8192x512.Idx) := by blk_ext [idx t, rw']
  have h : (outsAt0 m c t.val t.isLt).2.2.1 (ix2 r k) = Head.gate (bp m c t r (hd k) (ft k))
      (bo m c t r (hd k) (ft k) * Head.inv (bo m c t r (hd k)) * bg m c t (hd k) (ft k) * bm m c t r (hd k) (ft k)) := by
    by_cases h : t.val % 8 = 0
    · exact out_dp_A m c t h (ix2 r k) r (hd k) (ft k) rfl (col_hd k)
    · exact out_dp_B m c t h (ix2 r k) r (hd k) (ft k) rfl (col_hd k)
  rw [e, h, bo_eq, bg_eq, bp_eq, bm_eq]
  rfl

theorem point_dg (hf : t.val % 8 = 7) (y : S4x1x128.Idx) : (outsAt0 m c t.val t.isLt).2.2.2 y
    = DG (aX m c) (aW m c) (aA m c) (aB m c) (aP m c) ((win0_9.blk t).view.emb y) := by
  have hN := t_lt t
  obtain ⟨h, z, k, rfl⟩ : ∃ (h : Fin 4) (z : Fin 1) (k : Fin 128), y = ix3 h z k := ⟨y 0, y 1, y 2, eq_ix3 y⟩
  obtain rfl : z = 0 := Subsingleton.elim _ _
  have e : (win0_9.blk t).view.emb (ix3 h 0 k : S4x1x128.Idx) = (ix3 h 0 k : S4x1x128.Idx) := by blk_ext [idx t]
  rw [e, Pipeline.eq_sum_fin_of_reset_step_apply_last (fun n hn k => (outsAt0 m c n hn).2.2.2 (ix3 h 0 k)) 8 (fun _ => 0)
    (fun p k => ∑ r : Fin 1024, bo m c p r h k * Head.inv (bo m c p r h) * bct m c p r h k)
    (fun t ht k => (out_dg_A m c t ht (ix3 h 0 k) h k rfl rfl).trans (zero_add _).symm) (fun t ht k => out_dg_B m c t ht (ix3 h 0 k) h k rfl rfl)
    (le_of_eq N_0) t (by have : cfg0.N = 8 := N_0; omega) k, zero_add]
  simp only [bo_eq, bct_eq]
  exact Fin.sum_mul_add_congr fun s r hl => rfl

theorem final_da : (dats m 0 c).arrAt 6 cfg0.N = DA (aX m c) (aW m c) := by
  refine (dats m 0 c).arrAt_eq_of_covers 6 _ (by decide +kernel) fun t hf y => ?_
  blk_simp
  rw [after0_6]
  exact point_da m c t y

theorem final_do : (dats m 0 c).arrAt 7 cfg0.N = DO (aX m c) (aW m c) (aA m c) (aB m c) (aP m c) (aG m c) := by
  refine (dats m 0 c).arrAt_eq_of_covers 7 _ (by decide +kernel) fun t hf y => ?_
  blk_simp
  rw [after0_7]
  exact point_do m c t y

theorem final_dp : (dats m 0 c).arrAt 8 cfg0.N = DP (aX m c) (aW m c) (aA m c) (aB m c) (aP m c) (aG m c) := by
  refine (dats m 0 c).arrAt_eq_of_covers 8 _ (by decide +kernel) fun t hf y => ?_
  blk_simp
  rw [after0_8]
  exact point_dp m c t y

theorem final_dg : (dats m 0 c).arrAt 9 cfg0.N = DG (aX m c) (aW m c) (aA m c) (aB m c) (aP m c) := by
  refine (dats m 0 c).arrAt_eq_of_covers 9 _ (by decide +kernel) fun t hf y => ?_
  blk_simp
  rw [after0_9]
  exact point_dg m c t ((flush0_9 t).mp hf) y

end Cert.MixOutVal
-- ==== Proof.MixOutRef.lean ====
module

public import proofs.«01_k».proof.Proof.MixOutBlk

@[expose] public section
set_option maxRecDepth 16384
noncomputable section
open Idealize.ShloMosaic Idealize.ShloMosaic.TcCoe Idealize.SL.Sem
open Idealize.ShloMosaic.Pipeline (Dat)
namespace Cert.MixOutVal
open Cert.MixOutIdeal Cert.MixOutRefIdeal.Read
variable (X : FVec Ideal S8192x1024 .f32) (W : FVec Ideal S1024x1024 .f32) (A B : FVec Ideal S8192x512 .f32) (P : FVec Ideal S8192x2592 .f32)
  (G : FVec Ideal S4x128 .f32)

theorem ref_o (r : Fin 8192) (h : Fin 4) (k : Fin 128) : val_main_v3 (F := Ideal) A B (ix3 r h k) = o A B r h k := by
  pointwise [val_main_v3, val_main_v1, o, col]

theorem ref_dm (r : Fin 8192) (h : Fin 4) (k : Fin 128) : val_main_v29 (F := Ideal) X W (ix3 r h k) = dm X W r h k := by
  pointwise [val_main_v29, val_main_v28, val_main_v26, dm]
  simp only [Nat.add_assoc]

theorem ref_pg (r : Fin 8192) (h : Fin 4) (k : Fin 128) : val_main_v20 (F := Ideal) P (ix3 r h k) = pg P r h k := by
  pointwise [val_main_v20, val_main_v2, pg]

theorem ref_da (r : Fin 8192) (k : Fin 512) : val_main_v27 (F := Ideal) X W (ix2 r k) = DA X W (ix2 r k) := by
  pointwise [val_main_v27, val_main_v26, DA]

theorem ref_dp (r : Fin 8192) (k : Fin 512) : val_main_v33 (F := Ideal) X W A B P G (ix2 r k) = DP X W A B P G (ix2 r k) := by
  pointwise [val_main_v33, val_main_v32, val_main_call1_v2, val_main_v21_1, val_main_v21_2, val_main_call0_v4, val_main_call0_cst_0, val_main_call0_v3,
    val_main_call0_v2, val_main_call0_cst, val_main_call0_v1, val_main_call0_v0, val_main_call0_v7, val_main_call0_v6, val_main_call0_cst_1, val_main_call1_v0,
    val_main_v30, val_main_v19, val_main_v18, val_main_v17, val_main_v16, val_main_v15, val_main_v11, val_main_v10, val_main_v9, val_main_cst_2, val_main_v8,
    val_main_v7, val_main_cst_1, val_main_v6, val_main_v5, val_main_v4, val_main_cst_0, val_main_call1_v1, DP, Head.gate, Head.sig, Head.inv, Head.ms, hd, ft]
  simp only [ref_o, ref_dm, ref_pg]

theorem ref_do (r : Fin 8192) (k : Fin 512) : val_main_v54 (F := Ideal) X W A B P G (ix2 r k) = DO X W A B P G (ix2 r k) := by
  pointwise [val_main_v54, val_main_v53, val_main_v52, val_main_v49, val_main_v48, val_main_v47, val_main_v46, val_main_cst_7, val_main_v45, val_main_v42,
    val_main_v41, val_main_v40, val_main_v38, val_main_v37, val_main_v17, val_main_v31, val_main_v21_0, val_main_v21_2, val_main_call0_v4,
    val_main_call0_cst_0, val_main_call0_v3, val_main_call0_v2, val_main_call0_cst, val_main_call0_v1, val_main_call0_v0, val_main_cst_6, val_main_v14,
    val_main_v13, val_main_cst_3, val_main_v12, val_main_v11, val_main_v10, val_main_v9, val_main_cst_2, val_main_v8, val_main_v7, val_main_cst_1, val_main_v6,
    val_main_v5, val_main_v4, val_main_cst_0, val_main_cst_8, val_main_v51, val_main_v50, val_main_v44, val_main_v43, DO, Head.bwd, ct, Head.sig, Head.inv,
    Head.ms, hd, ft]
  simp only [ref_o, ref_dm, ref_pg, Fin.sum_univ_one]

theorem ref_dg (h : Fin 4) (k : Fin 128) : val_main_v55 (F := Ideal) X W A B P (ix3 h 0 k) = DG X W A B P (ix3 h 0 k) := by
  pointwise [val_main_v55, val_main_v39, val_main_v36, val_main_v35, val_main_v34, val_main_v31, val_main_v21_0, val_main_v21_2, val_main_call0_v4,
    val_main_call0_cst_0, val_main_call0_v3, val_main_call0_v2, val_main_call0_cst, val_main_call0_v1, val_main_call0_v0, val_main_v16, val_main_v15,
    val_main_v11, val_main_v10, val_main_v9, val_main_cst_2, val_main_v8, val_main_v7, val_main_cst_1, val_main_v6, val_main_v5, val_main_v4, val_main_cst_0,
    val_main_cst_4, val_main_cst_5, DG, ct, Head.sig, Head.inv, Head.ms]
  simp only [ref_o, ref_dm, ref_pg, Fin.sum_univ_one]

end Cert.MixOutVal
-- ==== Proof.MixOutClaim.lean ====
module

public import proofs.«01_k».proof.Defs
public import proofs.«01_k».proof.Proof.MixOutVal
public import proofs.«01_k».proof.Proof.MixOutFin
public import proofs.«01_k».proof.Proof.MixOutRef
public import proofs.«01_k».proof.Proof.Gen.MixOutRefIdeal.Run
public import proofs.«01_k».proof.Proof.Gen.MixOutIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.MixOutVal
open Cert.MixOutIdeal Cert.MixOutIdeal.Gen

section values
variable (X : FVec Ideal S8192x1024 .f32) (W : FVec Ideal S1024x1024 .f32) (A B : FVec Ideal S8192x512 .f32) (P : FVec Ideal S8192x2592 .f32)
  (G : FVec Ideal S4x128 .f32)
theorem da_eq : DA X W = Cert.MixOutRefIdeal.Read.val_main_v27 (F := Ideal) X W := by
  funext i
  obtain ⟨r, k, rfl⟩ : ∃ (r : Fin 8192) (k : Fin 512), i = ix2 r k := ⟨i 0, i 1, eq_ix2 i⟩
  exact (ref_da X W r k).symm
theorem do_eq : DO X W A B P G = Cert.MixOutRefIdeal.Read.val_main_v54 (F := Ideal) X W A B P G := by
  funext i
  obtain ⟨r, k, rfl⟩ : ∃ (r : Fin 8192) (k : Fin 512), i = ix2 r k := ⟨i 0, i 1, eq_ix2 i⟩
  exact (ref_do X W A B P G r k).symm
theorem dp_eq : DP X W A B P G = Cert.MixOutRefIdeal.Read.val_main_v33 (F := Ideal) X W A B P G := by
  funext i
  obtain ⟨r, k, rfl⟩ : ∃ (r : Fin 8192) (k : Fin 512), i = ix2 r k := ⟨i 0, i 1, eq_ix2 i⟩
  exact (ref_dp X W A B P G r k).symm
theorem dg_eq : DG X W A B P = Cert.MixOutRefIdeal.Read.val_main_v55 (F := Ideal) X W A B P := by
  funext i
  obtain ⟨h, z, k, rfl⟩ : ∃ (h : Fin 4) (z : Fin 1) (k : Fin 128), i = ix3 h z k := ⟨i 0, i 1, i 2, eq_ix3 i⟩
  obtain rfl : z = 0 := Subsingleton.elim _ _
  exact (ref_dg X W A B P h k).symm
end values

/-- What the reference is launched with, read off the kernel's arguments. -/
structure Args (m' : (ℓ : Loc Cert.MixOutRefIdeal.nD Cert.MixOutRefIdeal.τ Cert.MixOutRefIdeal.sig) → Buf (Elt Ideal) ℓ) (m : (ℓ : Loc nD τ sig) → Buf (Elt Ideal) ℓ) (c : Dev nD) : Prop where
  h0 : m' ((c.tc : Thread Cert.MixOutRefIdeal.nD Cert.MixOutRefIdeal.τ).loc Cert.MixOutRefIdeal.main_arg0) = aX m c
  h1 : m' ((c.tc : Thread Cert.MixOutRefIdeal.nD Cert.MixOutRefIdeal.τ).loc Cert.MixOutRefIdeal.main_arg1) = aW m c
  h2 : m' ((c.tc : Thread Cert.MixOutRefIdeal.nD Cert.MixOutRefIdeal.τ).loc Cert.MixOutRefIdeal.main_arg2) = aA m c
  h3 : m' ((c.tc : Thread Cert.MixOutRefIdeal.nD Cert.MixOutRefIdeal.τ).loc Cert.MixOutRefIdeal.main_arg3) = aB m c
  h4 : m' ((c.tc : Thread Cert.MixOutRefIdeal.nD Cert.MixOutRefIdeal.τ).loc Cert.MixOutRefIdeal.main_arg4) = aP m c
  h5 : m' ((c.tc : Thread Cert.MixOutRefIdeal.nD Cert.MixOutRefIdeal.τ).loc Cert.MixOutRefIdeal.main_arg5) = aG m c

set_option maxHeartbeats 4000000 in
theorem algebraic : Cert.algebraic_MixOutIdeal_MixOutRefIdeal := by
  pair_intro
  · run_from Cert.MixOutIdeal.Gen.run_main m g
    all_goals rfl
  have H : ∀ c, Args m' m c := fun c => ⟨(hagree c).1, (hagree c).2.1, (hagree c).2.2.1, (hagree c).2.2.2.1, (hagree c).2.2.2.2.1, (hagree c).2.2.2.2.2⟩
  · run_from Cert.MixOutRefIdeal.Value.run m' g'
    · rw [final_da, da_eq]
      exact Cert.MixOutRefIdeal.Read.val_main_v27_eq (F := Ideal) _ _
    · rw [final_do, do_eq]
      have e := Cert.MixOutRefIdeal.Read.val_main_v54_eq (F := Ideal) m' c
      rw [(H c).h0, (H c).h1, (H c).h2, (H c).h3, (H c).h4, (H c).h5] at e
      exact e
    · rw [final_dp, dp_eq]
      have e := Cert.MixOutRefIdeal.Read.val_main_v33_eq (F := Ideal) m' c
      rw [(H c).h0, (H c).h1, (H c).h2, (H c).h3, (H c).h4, (H c).h5] at e
      exact e
    · rw [final_dg, dg_eq]
      exact Cert.MixOutRefIdeal.Read.val_main_v55_eq (F := Ideal) _ _ _ _ _

/-- The reference ends with its arguments unchanged; it declares no semaphore. -/
theorem ref_frame : Cert.quiescent_MixOutRefIdeal := fun m g _ =>
  (θ_run Cert.MixOutRefIdeal.defs _ _).mono (fun r h => ⟨fun c => (h c).2.2.2.2, sem_eq_zero_of_no_sems (by decide) r.2⟩)
    (Cert.MixOutRefIdeal.Value.run (F := Ideal) m g)

end Cert.MixOutVal
-- ==== Proof.FfnFBlk.lean ====
module

public import proofs.«01_k».proof.Proof.Row
public import proofs.«01_k».proof.Proof.Head
public import proofs.«01_k».proof.Proof.Gen.FfnFIdeal.Value
public import proofs.«01_k».proof.Proof.Gen.FfnFRefIdeal.Read

@[expose] public section
set_option maxRecDepth 16384
noncomputable section
open Idealize.ShloMosaic Idealize.ShloMosaic.TcCoe Idealize.SL.Sem
open Idealize.ShloMosaic.Pipeline (Dat)
namespace Cert.FfnFVal
open Cert.FfnFIdeal Cert.FfnFIdeal.Gen

section arrays
variable (X : FVec Ideal S8192x1024 .f32) (G : FVec Ideal S1024 .f32) (U : FVec Ideal S1024x5632 .f32) (C : FVec Ideal S3x5632 .f32)
  (B : FVec Ideal S5632 .f32)

/-- The normed rows, and their product with `w_up`. -/
def nr (r : Fin 8192) (k : Fin 1024) : EReal := X (ix2 r k) * Row.inv (fun k => X (ix2 r k)) * G (ix1 k)
def zu (r : Fin 8192) (k : Fin 5632) : EReal := ∑ d, nr X G r d * U (ix2 d k)

/-- The product's row above row `r`, zero above the first; the row below, zero below the last. -/
def dn (r : Fin 8192) (k : Fin 5632) : EReal := if h : 0 < r.val then zu X G U ⟨r.val - 1, by omega⟩ k else 0
def up (r : Fin 8192) (k : Fin 5632) : EReal := if h : r.val + 1 < 8192 then zu X G U ⟨r.val + 1, h⟩ k else 0

/-- The convolution over the rows. -/
def cv (r : Fin 8192) (k : Fin 5632) : EReal :=
  B (ix1 k) + dn X G U r k * C (ix2 0 k) + zu X G U r k * C (ix2 1 k) + up X G U r k * C (ix2 2 k)

def ZU : FVec Ideal S8192x5632 .bf16 := fun i => zu X G U (i 0) (i 1)
def H : FVec Ideal S8192x1024 .bf16 := fun i => nr X G (i 0) (i 1)
def Z : FVec Ideal S8192x5632 .bf16 := fun i => cv X G U C B (i 0) (i 1)
/-- The gate: the first half of the columns through the swish, times the second. -/
def gate (z : Fin 5632 → EReal) (k : Fin 2816) : EReal := z ⟨k.val, by omega⟩ * Head.sig (z ⟨k.val, by omega⟩) * z ⟨2816 + k.val, by omega⟩
def A : FVec Ideal S8192x2816 .bf16 := fun i => gate (cv X G U C B (i 0)) (i 1)
end arrays

section blocks
variable (m : (ℓ : Loc nD τ sig) → Buf (Elt Ideal) ℓ) (c : Dev nD) (t : Fin cfg0.N)

abbrev aX (m : (ℓ : Loc nD τ sig) → Buf (Elt Ideal) ℓ) (c : Dev nD) : FVec Ideal S8192x1024 .f32 := m ((c : Thread nD τ).loc main_arg0)
abbrev aG (m : (ℓ : Loc nD τ sig) → Buf (Elt Ideal) ℓ) (c : Dev nD) : FVec Ideal S1024 .f32 := m ((c : Thread nD τ).loc main_arg1)
abbrev aU (m : (ℓ : Loc nD τ sig) → Buf (Elt Ideal) ℓ) (c : Dev nD) : FVec Ideal S1024x5632 .f32 := m ((c : Thread nD τ).loc main_arg2)
abbrev aC (m : (ℓ : Loc nD τ sig) → Buf (Elt Ideal) ℓ) (c : Dev nD) : FVec Ideal S3x5632 .f32 := m ((c : Thread nD τ).loc main_arg3)
abbrev aB (m : (ℓ : Loc nD τ sig) → Buf (Elt Ideal) ℓ) (c : Dev nD) : FVec Ideal S5632 .f32 := m ((c : Thread nD τ).loc main_arg4)

theorem idx : ∀ t : Fin cfg0.N, win0_0.index t = ![min t.val 63, 0] ∧ win0_1.index t = ![0, 0] ∧ win0_2.index t = ![0, 0]
    ∧ win0_3.index t = ![0, 0] ∧ win0_4.index t = ![0, 0] ∧ win0_5.index t = ![min t.val 63, 0] ∧ win0_6.index t = ![min t.val 63, 0]
    ∧ win0_7.index t = ![t.val - 1, 0] ∧ win0_8.index t = ![t.val - 1, 0] := (by decide +kernel : ∀ t : Fin grid0.N, _)

theorem coord : ∀ t : Fin cfg0.N, (grid0.coords t 0).val = t.val := (by decide +kernel : ∀ t : Fin grid0.N, _)

theorem t_lt : t.val < 65 := lt_of_lt_of_eq t.isLt N_0

theorem row_lt (r : Fin 128) : min t.val 63 * 128 + r.val < 8192 := by omega
theorem late_lt (r : Fin 128) : (t.val - 1) * 128 + r.val < 8192 := by
  have := t_lt t
  omega

/-- The rows of the arrays which row `r` of the blocks of the point `t` is: of the early windows, and of the late. -/
def rw' (r : Fin 128) : Fin 8192 := ⟨min t.val 63 * 128 + r.val, row_lt t r⟩
def lw (r : Fin 128) : Fin 8192 := ⟨(t.val - 1) * 128 + r.val, late_lt t r⟩

theorem V_v0 : V m c main_v0 = broadcastInDim S1x1024 ![1] bcast_S1024_S1x1024_1 (aG m c) := by
  unfold V; after_results; try rfl
theorem V_v1 : V m c main_v1 = (truncf .bf16 (aU m c) bitsLt_bf16_f32 : FVec Ideal S1024x5632 .bf16) := by
  unfold V; after_results; try rfl
theorem V_v2 : V m c main_v2 = broadcastInDim S1x5632 ![1] bcast_S5632_S1x5632_1 (aB m c) := by
  unfold V; after_results; try rfl

theorem blk_x (r : Fin 128) (k : Fin 1024) : iblk m c 0 t (ix2 r k) = aX m c (ix2 (rw' t r) k) := by
  blk_ext [iblk, V, idx t, rw']

theorem blk_g (k : Fin 1024) : iblk m c 1 t (ix2 0 k) = aG m c (ix1 k) := by
  have e : (win0_1.blk t).view.emb (ix2 0 k : S1x1024.Idx) = (ix2 0 k : S1x1024.Idx) := by blk_ext [idx t]
  change V m c main_v0 ((win0_1.blk t).view.emb (ix2 0 k : S1x1024.Idx)) = _
  rw [e, V_v0]
  pointwise

theorem blk_u (d : Fin 1024) (k : Fin 5632) : iblk m c 2 t (ix2 d k) = aU m c (ix2 d k) := by
  have e : (win0_2.blk t).view.emb (ix2 d k : S1024x5632.Idx) = (ix2 d k : S1024x5632.Idx) := by blk_ext [idx t]
  change V m c main_v1 ((win0_2.blk t).view.emb (ix2 d k : S1024x5632.Idx)) = _
  rw [e, V_v1]
  pointwise

theorem blk_c (w : Fin 3) (k : Fin 5632) : iblk m c 3 t (ix2 w k) = aC m c (ix2 w k) := by
  blk_ext [iblk, V, idx t]

theorem blk_b (k : Fin 5632) : iblk m c 4 t (ix2 0 k) = aB m c (ix1 k) := by
  have e : (win0_4.blk t).view.emb (ix2 0 k : S1x5632.Idx) = (ix2 0 k : S1x5632.Idx) := by blk_ext [idx t]
  change V m c main_v2 ((win0_4.blk t).view.emb (ix2 0 k : S1x5632.Idx)) = _
  rw [e, V_v2]
  pointwise

/-- The normed rows of the point's block, and their product with `w_up`. -/
def bnr (r : Fin 128) (k : Fin 1024) : EReal :=
  (show EReal from iblk m c 0 t (ix2 r k)) * Row.inv (fun k => iblk m c 0 t (ix2 r k)) * (show EReal from iblk m c 1 t (ix2 0 k))
def bzu (r : Fin 128) (k : Fin 5632) : EReal := ∑ d, bnr m c t r d * (show EReal from iblk m c 2 t (ix2 d k))

theorem bnr_eq (r : Fin 128) (k : Fin 1024) : bnr m c t r k = nr (aX m c) (aG m c) (rw' t r) k := by
  simp only [bnr, nr, blk_x, blk_g]
theorem bzu_eq (r : Fin 128) (k : Fin 5632) : bzu m c t r k = zu (aX m c) (aG m c) (aU m c) (rw' t r) k := by
  simp only [bzu, zu, bnr_eq, blk_u]

/-- The convolution as the body takes it: of the block `p` which the point before left, with the last row of `q` above
    it and the point's own first row below. -/
def bcv (p : FVec Ideal S128x5632 .bf16) (q : FVec Ideal S16x5632 .bf16) (r : Fin 128) (k : Fin 5632) : EReal :=
  (show EReal from iblk m c 4 t (ix2 0 k))
    + Scalar.select (IntOp.cmpi .eq (BitVec.ofNat 32 r.val) 0#32) (q (ix2 15 k)) (p (ix2 ⟨(r.val + 128 - 1) % 128, Nat.mod_lt _ (by decide)⟩ k))
      * (show EReal from iblk m c 3 t (ix2 0 k))
    + p (ix2 r k) * (show EReal from iblk m c 3 t (ix2 1 k))
    + Scalar.select (IntOp.cmpi .eq (BitVec.ofNat 32 r.val) 127#32)
        (Scalar.select (Scalar.cmpi .slt (BitVec.ofNat 32 (grid0.coords t 0).val) 64#32) (bzu m c t 0 k) 0)
        (p (ix2 ⟨(r.val + 128 - 127) % 128, Nat.mod_lt _ (by decide)⟩ k))
      * (show EReal from iblk m c 3 t (ix2 2 k))
end blocks

end Cert.FfnFVal
-- ==== Proof.FfnFOut.lean ====
module

public import proofs.«01_k».proof.Proof.FfnFBlk
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.FfnFVal
open Cert.FfnFIdeal Cert.FfnFIdeal.Gen
variable (m : (ℓ : Loc nD τ sig) → Buf (Elt Ideal) ℓ) (c : Dev nD) (t : Fin cfg0.N)

set_option maxHeartbeats 2000000 in
/-- What the body leaves of the normed rows. -/
theorem out_h (r : Fin 128) (k : Fin 1024) : (outsAt0 m c t.val t.isLt).2.1 (ix2 r k) = bnr m c t r k := by
  by_cases ca : t.val % 65 = 0
  · rw [outsAt0_A m c t ca]
    frame_out
    open_payloads
    pointwise [bnr, Row.inv, Row.ms]
  · rw [outsAt0_B m c t ca]
    frame_out
    open_payloads
    pointwise [bnr, Row.inv, Row.ms]

set_option maxHeartbeats 2000000 in
/-- What the body leaves of the product: its 22 stores are the columns of one row function. -/
theorem out_zu (y : S128x5632.Idx) (r : Fin 128) (k : Fin 5632) (hr : (y 0).val = r.val) (hk : (y 1).val = k.val) :
    (outsAt0 m c t.val t.isLt).1 y = bzu m c t r k := by
  obtain ⟨k, hk'⟩ := k
  by_cases ca : t.val % 65 = 0
  · rw [outsAt0_A m c t ca]
    frame_out
    canon_tiles x h
    all_goals
      obtain rfl : x 0 = r := Fin.ext (by omega)
      obtain rfl : _ = k := h1.symm.trans hk
      open_payloads
      pointwise [bzu, bnr, Row.inv, Row.ms]
  · rw [outsAt0_B m c t ca]
    frame_out
    canon_tiles x h
    all_goals
      obtain rfl : x 0 = r := Fin.ext (by omega)
      obtain rfl : _ = k := h1.symm.trans hk
      open_payloads
      pointwise [bzu, bnr, Row.inv, Row.ms]

end Cert.FfnFVal
-- ==== Proof.FfnFSc.lean ====
module

public import proofs.«01_k».proof.Proof.FfnFBlk
public import proofs.«01_k».proof.Proof.Fill
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.FfnFVal
open Cert.FfnFIdeal Cert.FfnFIdeal.Gen
variable (m : (ℓ : Loc nD τ sig) → Buf (Elt Ideal) ℓ) (c : Dev nD) (t : Fin cfg0.N)

set_option maxHeartbeats 2000000 in
/-- What the body leaves for the next point: the product of its own block. -/
theorem out_prev (y : S128x5632.Idx) (r : Fin 128) (k : Fin 5632) (hr : (y 0).val = r.val) (hk : (y 1).val = k.val) :
    (outsAt0 m c t.val t.isLt).2.2.2.2.1 y = bzu m c t r k := by
  obtain ⟨k, hk'⟩ := k
  by_cases ca : t.val % 65 = 0
  · rw [outsAt0_A m c t ca]
    frame_out
    rw [Fill.canon_of_tiled _ ![128, 256] (List.cons_ne_nil _ _) (by sl_kernel_rfl)]
    simp only [List.dropLast_cons₂, List.dropLast_singleton]
    canon_tiles x h
    all_goals
      obtain rfl : x 0 = r := Fin.ext (by omega)
      obtain rfl : _ = k := h1.symm.trans hk
      open_payloads
      pointwise [bzu, bnr, Row.inv, Row.ms]
  · rw [outsAt0_B m c t ca]
    frame_out
    canon_tiles x h
    all_goals
      obtain rfl : x 0 = r := Fin.ext (by omega)
      obtain rfl : _ = k := h1.symm.trans hk
      open_payloads
      pointwise [bzu, bnr, Row.inv, Row.ms]

theorem zero_store (x : S128x5632.Idx) : (k0_pay3 : FVec Ideal S128x5632 .bf16) x = (0 : EReal) := by
  open_payloads
  pointwise

theorem whole_store (y : S128x5632.Idx) : y ∈ (Rect.unit ![0, 0] ![128, 5632] inb_S128x5632_S128x5632_0_0).set :=
  Rect.mem_set_unit.mpr (Fin.forall_fin_two.mpr ⟨⟨Nat.zero_le _, (Nat.zero_add 128).symm ▸ (y 0).isLt⟩,
    ⟨Nat.zero_le _, (Nat.zero_add 5632).symm ▸ (y 1).isLt⟩⟩)

set_option maxHeartbeats 2000000 in
/-- What the body leaves for the next point of the block before: its last rows, and zeros at the first point. -/
theorem out_tail_zero (ca : t.val % 65 = 0) (y : S16x5632.Idx) : (outsAt0 m c t.val t.isLt).2.2.2.2.2 y = 0 := by
  rw [outsAt0_A m c t ca]
  frame_out
  rw [Fill.canon_of_tiled _ ![16, 256] (List.cons_ne_nil _ _) (by sl_kernel_rfl)]
  simp only [List.dropLast_cons₂, List.dropLast_singleton]
  canon_tiles x h
  all_goals
    conv =>
      lhs
      arg 1
      tactic =>
        refine Fill.readCov_beside _ _ _ 1 (List.cons_ne_nil _ _) ?_ (0 : EReal) ?_ ?_
        · sl_kernel_rfl
        · exact zero_store
        · exact whole_store
    open_payloads
    pointwise

set_option maxHeartbeats 2000000 in
theorem out_tail (ca : ¬t.val % 65 = 0) (y : S16x5632.Idx) (r : Fin 16) (k : Fin 5632) (hr : (y 0).val = r.val) (hk : (y 1).val = k.val) :
    (outsAt0 m c t.val t.isLt).2.2.2.2.2 y = (outsAt0 m c (t.val - 1) (Nat.lt_of_le_of_lt (Nat.sub_le _ _) t.isLt)).2.2.2.2.1 (ix2 ⟨112 + r.val, by omega⟩ k) := by
  obtain ⟨k, hk'⟩ := k
  rw [outsAt0_B m c t ca]
  generalize (outsAt0 m c (t.val - 1) _).2.2.2.2.1 = P
  generalize (outsAt0 m c (t.val - 1) _).2.2.2.2.2 = Q
  frame_out
  canon_tiles x h
  all_goals
    obtain rfl : x 0 = r := Fin.ext (by omega)
    obtain rfl : _ = k := h1.symm.trans hk
    open_payloads
    pointwise [read_unread_whole]

end Cert.FfnFVal
-- ==== Proof.FfnFZ.lean ====
module

public import proofs.«01_k».proof.Proof.FfnFBlk
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.FfnFVal
open Cert.FfnFIdeal Cert.FfnFIdeal.Gen
variable (m : (ℓ : Loc nD τ sig) → Buf (Elt Ideal) ℓ) (c : Dev nD) (t : Fin cfg0.N)

set_option maxHeartbeats 4000000 in
/-- What the body leaves of the convolution at every point but the first. -/
theorem out_z (ca : ¬t.val % 65 = 0) (y : S128x5632.Idx) (r : Fin 128) (k : Fin 5632) (hr : (y 0).val = r.val) (hk : (y 1).val = k.val) :
    (outsAt0 m c t.val t.isLt).2.2.1 y = bcv m c t (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 r k := by
  obtain ⟨k, hk'⟩ := k
  rw [outsAt0_B m c t ca]
  generalize (outsAt0 m c (t.val - 1) _).2.2.2.2.1 = P
  generalize (outsAt0 m c (t.val - 1) _).2.2.2.2.2 = Q
  frame_out
  canon_tiles x h
  all_goals
    obtain rfl : x 0 = r := Fin.ext (by omega)
    obtain rfl : _ = k := h1.symm.trans hk
    open_payloads
    pointwise [read_unread_whole, bcv, bzu, bnr, Row.inv, Row.ms]

set_option maxHeartbeats 4000000 in
/-- What the body leaves of the gate at every point but the first. -/
theorem out_a (ca : ¬t.val % 65 = 0) (y : S128x2816.Idx) (r : Fin 128) (k : Fin 2816) (hr : (y 0).val = r.val) (hk : (y 1).val = k.val) :
    (outsAt0 m c t.val t.isLt).2.2.2.1 y = gate (bcv m c t (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 r) k := by
  obtain ⟨k, hk'⟩ := k
  rw [outsAt0_B m c t ca]
  generalize (outsAt0 m c (t.val - 1) _).2.2.2.2.1 = P
  generalize (outsAt0 m c (t.val - 1) _).2.2.2.2.2 = Q
  frame_out
  canon_tiles x h
  all_goals
    obtain rfl : x 0 = r := Fin.ext (by omega)
    obtain rfl : _ = k := h1.symm.trans hk
    open_payloads
    pointwise [read_unread_whole, gate, Head.sig, bcv, bzu, bnr, Row.inv, Row.ms]
    simp only [zero_sub, ← Nat.add_assoc, Nat.reduceAdd]

end Cert.FfnFVal
-- ==== Proof.FfnFFin.lean ====
module

public import proofs.«01_k».proof.Proof.FfnFOut
public import proofs.«01_k».proof.Proof.FfnFSc
public import proofs.«01_k».proof.Proof.FfnFZ

@[expose] public section
set_option maxRecDepth 16384
noncomputable section
open Idealize.ShloMosaic Idealize.ShloMosaic.TcCoe Idealize.SL.Sem
open Idealize.ShloMosaic.Pipeline (Dat)
namespace Cert.FfnFVal
open Cert.FfnFIdeal Cert.FfnFIdeal.Gen

section kernel
variable (m : (ℓ : Loc nD τ sig) → Buf (Elt Ideal) ℓ) (c : Dev nD) (t : Fin cfg0.N)

theorem point_zu (y : S128x5632.Idx) : (outsAt0 m c t.val t.isLt).1 y = ZU (aX m c) (aG m c) (aU m c) ((win0_5.blk t).view.emb y) := by
  obtain ⟨r, k, rfl⟩ : ∃ (r : Fin 128) (k : Fin 5632), y = ix2 r k := ⟨y 0, y 1, eq_ix2 y⟩
  have e : (win0_5.blk t).view.emb (ix2 r k : S128x5632.Idx) = (ix2 (rw' t r) k : S8192x5632.Idx) := by blk_ext [idx t, rw']
  rw [e, out_zu m c t (ix2 r k) r k rfl rfl, bzu_eq]
  rfl

theorem point_h (y : S128x1024.Idx) : (outsAt0 m c t.val t.isLt).2.1 y = H (aX m c) (aG m c) ((win0_6.blk t).view.emb y) := by
  obtain ⟨r, k, rfl⟩ : ∃ (r : Fin 128) (k : Fin 1024), y = ix2 r k := ⟨y 0, y 1, eq_ix2 y⟩
  have e : (win0_6.blk t).view.emb (ix2 r k : S128x1024.Idx) = (ix2 (rw' t r) k : S8192x1024.Idx) := by blk_ext [idx t, rw']
  rw [e, out_h, bnr_eq]
  rfl

/-- The block which the point before left, as rows of the product; and of the rows before those the last one. -/
theorem prev_eq (ht : t.val ≠ 0) (r : Fin 128) (k : Fin 5632) :
    (outsAt0 m c (t.val - 1) (Nat.lt_of_le_of_lt (Nat.sub_le _ _) t.isLt)).2.2.2.2.1 (ix2 r k) = zu (aX m c) (aG m c) (aU m c) (lw t r) k := by
  have hl := t_lt t
  refine (out_prev m c ⟨t.val - 1, Nat.lt_of_le_of_lt (Nat.sub_le _ _) t.isLt⟩ (ix2 r k) r k rfl rfl).trans ((bzu_eq m c _ r k).trans ?_)
  exact congrArg (fun q => zu (aX m c) (aG m c) (aU m c) q k) (Fin.ext (by simp only [rw', lw]; omega))

theorem tail_eq (ht : t.val ≠ 0) (r : Fin 128) (hr : r.val = 0) (k : Fin 5632) :
    (outsAt0 m c (t.val - 1) (Nat.lt_of_le_of_lt (Nat.sub_le _ _) t.isLt)).2.2.2.2.2 (ix2 15 k) = dn (aX m c) (aG m c) (aU m c) (lw t r) k := by
  have hl := t_lt t
  by_cases h1 : t.val = 1
  · refine (out_tail_zero m c ⟨t.val - 1, Nat.lt_of_le_of_lt (Nat.sub_le _ _) t.isLt⟩ (by show (t.val - 1) % 65 = 0; omega) _).trans ?_
    unfold dn
    rw [dif_neg]
    simp only [lw]
    omega
  · refine (out_tail m c ⟨t.val - 1, Nat.lt_of_le_of_lt (Nat.sub_le _ _) t.isLt⟩ (by show ¬(t.val - 1) % 65 = 0; omega) (ix2 15 k) 15 k rfl rfl).trans ?_
    refine (prev_eq m c ⟨t.val - 1, Nat.lt_of_le_of_lt (Nat.sub_le _ _) t.isLt⟩ (by show t.val - 1 ≠ 0; omega) _ k).trans ?_
    refine Eq.trans ?_ (dif_pos (by simp only [lw]; omega)).symm
    exact congrArg (fun q => zu (aX m c) (aG m c) (aU m c) q k) (Fin.ext (by simp only [lw]; omega))

theorem first_row : ∀ r : Fin 128, IntOp.cmpi .eq (BitVec.ofNat 32 r.val) 0#32 = if r.val = 0 then 1#1 else 0#1 := by decide +kernel
theorem last_row : ∀ r : Fin 128, IntOp.cmpi .eq (BitVec.ofNat 32 r.val) 127#32 = if r.val = 127 then 1#1 else 0#1 := by decide +kernel
theorem more_blk : ∀ t : Fin cfg0.N, Scalar.cmpi .slt (BitVec.ofNat 32 (grid0.coords t 0).val) 64#32 = if t.val < 64 then 1#1 else 0#1 :=
  (by decide +kernel : ∀ t : Fin grid0.N, _)
theorem late_z : ∀ t : Fin cfg0.N, (cfg0.win 7).flush t = true → t.val ≠ 0 := by decide +kernel
theorem late_a : ∀ t : Fin cfg0.N, (cfg0.win 8).flush t = true → t.val ≠ 0 := by decide +kernel

theorem bcv_eq (ht : t.val ≠ 0) (r : Fin 128) (k : Fin 5632) :
    bcv m c t (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 r k
      = cv (aX m c) (aG m c) (aU m c) (aC m c) (aB m c) (lw t r) k := by
  have hl := t_lt t
  have hr := r.isLt
  have hz := prev_eq m c t ht
  simp only [bcv, cv, blk_b, blk_c, hz, first_row, last_row, more_blk]
  congr 1
  · congr 3
    by_cases h0 : r.val = 0
    · rw [if_pos h0, ValueIdx.select_one]
      exact tail_eq m c t ht r h0 k
    · rw [if_neg h0, ValueIdx.select_zero]
      refine Eq.trans ?_ (dif_pos (by simp only [lw]; omega)).symm
      exact congrArg (fun q => zu (aX m c) (aG m c) (aU m c) q k) (Fin.ext (by simp only [lw]; omega))
  · congr 1
    by_cases h0 : r.val = 127
    · rw [if_pos h0, ValueIdx.select_one]
      by_cases h1 : t.val < 64
      · rw [if_pos h1, ValueIdx.select_one, bzu_eq]
        refine Eq.trans ?_ (dif_pos (by simp only [lw]; omega)).symm
        exact congrArg (fun q => zu (aX m c) (aG m c) (aU m c) q k) (Fin.ext (by simp only [lw, rw']; omega))
      · rw [if_neg h1, ValueIdx.select_zero]
        unfold up
        rw [dif_neg]
        simp only [lw]
        omega
    · rw [if_neg h0, ValueIdx.select_zero]
      refine Eq.trans ?_ (dif_pos (by simp only [lw]; omega)).symm
      exact congrArg (fun q => zu (aX m c) (aG m c) (aU m c) q k) (Fin.ext (by simp only [lw]; omega))

theorem point_z (ht : t.val ≠ 0) (y : S128x5632.Idx) : (outsAt0 m c t.val t.isLt).2.2.1 y
    = Z (aX m c) (aG m c) (aU m c) (aC m c) (aB m c) ((win0_7.blk t).view.emb y) := by
  have hl := t_lt t
  obtain ⟨r, k, rfl⟩ : ∃ (r : Fin 128) (k : Fin 5632), y = ix2 r k := ⟨y 0, y 1, eq_ix2 y⟩
  have e : (win0_7.blk t).view.emb (ix2 r k : S128x5632.Idx) = (ix2 (lw t r) k : S8192x5632.Idx) := by blk_ext [idx t, lw]
  rw [e, out_z m c t (by omega) (ix2 r k) r k rfl rfl, bcv_eq m c t ht]
  rfl

theorem point_a (ht : t.val ≠ 0) (y : S128x2816.Idx) : (outsAt0 m c t.val t.isLt).2.2.2.1 y
    = A (aX m c) (aG m c) (aU m c) (aC m c) (aB m c) ((win0_8.blk t).view.emb y) := by
  have hl := t_lt t
  obtain ⟨r, k, rfl⟩ : ∃ (r : Fin 128) (k : Fin 2816), y = ix2 r k := ⟨y 0, y 1, eq_ix2 y⟩
  have e : (win0_8.blk t).view.emb (ix2 r k : S128x2816.Idx) = (ix2 (lw t r) k : S8192x2816.Idx) := by blk_ext [idx t, lw]
  rw [e, out_a m c t (by omega) (ix2 r k) r k rfl rfl]
  exact congrArg (fun q => gate q k) (funext fun k => bcv_eq m c t ht r k)

theorem final_zu : (dats m 0 c).arrAt 5 cfg0.N = ZU (aX m c) (aG m c) (aU m c) := by
  refine (dats m 0 c).arrAt_eq_of_covers 5 _ (by decide +kernel) fun t hf y => ?_
  blk_simp
  rw [after0_5]
  exact point_zu m c t y

theorem final_h : (dats m 0 c).arrAt 6 cfg0.N = H (aX m c) (aG m c) := by
  refine (dats m 0 c).arrAt_eq_of_covers 6 _ (by decide +kernel) fun t hf y => ?_
  blk_simp
  rw [after0_6]
  exact point_h m c t y

theorem final_z : (dats m 0 c).arrAt 7 cfg0.N = Z (aX m c) (aG m c) (aU m c) (aC m c) (aB m c) := by
  refine (dats m 0 c).arrAt_eq_of_covers 7 _ (by decide +kernel) fun t hf y => ?_
  blk_simp
  rw [after0_7]
  exact point_z m c t (late_z t hf) y

theorem final_a : (dats m 0 c).arrAt 8 cfg0.N = A (aX m c) (aG m c) (aU m c) (aC m c) (aB m c) := by
  refine (dats m 0 c).arrAt_eq_of_covers 8 _ (by decide +kernel) fun t hf y => ?_
  blk_simp
  rw [after0_8]
  exact point_a m c t (late_a t hf) y
end kernel

section reference
open Cert.FfnFRefIdeal.Read
variable (X : FVec Ideal S8192x1024 .f32) (G : FVec Ideal S1024 .f32) (U : FVec Ideal S1024x5632 .f32) (C : FVec Ideal S3x5632 .f32)
  (B : FVec Ideal S5632 .f32)

theorem ref_nr (r : Fin 8192) (k : Fin 1024) : val_main_v12 (F := Ideal) X G (ix2 r k) = nr X G r k := by
  pointwise [val_main_v12, val_main_v11, val_main_v10, val_main_v9, val_main_v8, val_main_v7, val_main_v6, val_main_v5, val_main_cst_1, val_main_v4,
    val_main_v3, val_main_cst_0, val_main_v2, val_main_v1, val_main_v0, val_main_cst, nr, Row.inv, Row.ms]

theorem ref_z13 (r : Fin 8192) (k : Fin 5632) : val_main_v13 (F := Ideal) X G U (ix2 r k) = zu X G U r k := by
  pointwise [val_main_v13, zu]
  simp only [ref_nr]

theorem ref_cv (r : Fin 8192) (k : Fin 5632) : val_main_v38 (F := Ideal) X G U C B (ix2 r k) = cv X G U C B r k := by
  have hr := r.isLt
  have h1 : (if h : r.val < 1 then 0 else if h : r.val - 1 < 8192 then zu X G U ⟨r.val - 1, h⟩ k else 0)
      = if h : 0 < r.val then zu X G U ⟨r.val - 1, by omega⟩ k else 0 := by
    by_cases h : 0 < r.val
    · rw [dif_neg (by omega), dif_pos (by omega), dif_pos h]
    · rw [dif_pos (by omega), dif_neg h]
  have h2 : (if h : 2 + r.val < 1 then 0 else if h : 2 + r.val - 1 < 8192 then zu X G U ⟨2 + r.val - 1, h⟩ k else 0)
      = if h : r.val + 1 < 8192 then zu X G U ⟨r.val + 1, h⟩ k else 0 := by
    rw [dif_neg (by omega)]
    by_cases h : r.val + 1 < 8192
    · rw [dif_pos (by omega), dif_pos h]
      exact congrArg (fun q => zu X G U q k) (Fin.ext (by dsimp only; omega))
    · rw [dif_neg (by omega), dif_neg h]
  pointwise [val_main_v38, val_main_v37, val_main_v36, val_main_v35, val_main_v34, val_main_v33, val_main_v32, val_main_v15, val_main_v14, val_main_cst_2,
    val_main_v31, val_main_v30, val_main_v29, val_main_v28, val_main_v27, val_main_v26, val_main_v25, val_main_v24, val_main_v23, val_main_v22, val_main_v21,
    val_main_v20, val_main_v19, val_main_v18, val_main_v17, val_main_v16, cv, dn, up]
  simp only [ref_z13]
  rw [h1, h2]

theorem ref_zu (r : Fin 8192) (k : Fin 5632) : val_main_v41 (F := Ideal) X G U (ix2 r k) = ZU X G U (ix2 r k) := by
  pointwise [val_main_v41]
  exact ref_z13 X G U r k

theorem ref_h (r : Fin 8192) (k : Fin 1024) : val_main_v42 (F := Ideal) X G (ix2 r k) = H X G (ix2 r k) := by
  pointwise [val_main_v42]
  exact ref_nr X G r k

theorem ref_z (r : Fin 8192) (k : Fin 5632) : val_main_v43 (F := Ideal) X G U C B (ix2 r k) = Z X G U C B (ix2 r k) := by
  pointwise [val_main_v43]
  exact ref_cv X G U C B r k

theorem ref_a (r : Fin 8192) (k : Fin 2816) : val_main_v46 (F := Ideal) X G U C B (ix2 r k) = A X G U C B (ix2 r k) := by
  pointwise [val_main_v46, val_main_v45, val_main_v44, val_main_v39, val_main_call0_v5, val_main_call0_v4, val_main_call0_cst_0, val_main_call0_v3,
    val_main_call0_v2, val_main_call0_cst, val_main_call0_v1, val_main_call0_v0, val_main_v40, A, gate, Head.sig]
  simp only [ref_cv]
end reference

end Cert.FfnFVal
-- ==== Proof.FfnFClaim.lean ====
module

public import proofs.«01_k».proof.Defs
public import proofs.«01_k».proof.Proof.FfnFFin
public import proofs.«01_k».proof.Proof.Gen.FfnFRefIdeal.Run
public import proofs.«01_k».proof.Proof.Gen.FfnFIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.FfnFVal
open Cert.FfnFIdeal Cert.FfnFIdeal.Gen

section values
variable (X : FVec Ideal S8192x1024 .f32) (G : FVec Ideal S1024 .f32) (U : FVec Ideal S1024x5632 .f32) (C : FVec Ideal S3x5632 .f32) (B : FVec Ideal S5632 .f32)
theorem zu_eq : ZU X G U = Cert.FfnFRefIdeal.Read.val_main_v41 (F := Ideal) X G U := by
  funext i
  obtain ⟨r, k, rfl⟩ : ∃ (r : Fin 8192) (k : Fin 5632), i = ix2 r k := ⟨i 0, i 1, eq_ix2 i⟩
  exact (ref_zu X G U r k).symm
theorem h_eq : H X G = Cert.FfnFRefIdeal.Read.val_main_v42 (F := Ideal) X G := by
  funext i
  obtain ⟨r, k, rfl⟩ : ∃ (r : Fin 8192) (k : Fin 1024), i = ix2 r k := ⟨i 0, i 1, eq_ix2 i⟩
  exact (ref_h X G r k).symm
theorem z_eq : Z X G U C B = Cert.FfnFRefIdeal.Read.val_main_v43 (F := Ideal) X G U C B := by
  funext i
  obtain ⟨r, k, rfl⟩ : ∃ (r : Fin 8192) (k : Fin 5632), i = ix2 r k := ⟨i 0, i 1, eq_ix2 i⟩
  exact (ref_z X G U C B r k).symm
theorem a_eq : A X G U C B = Cert.FfnFRefIdeal.Read.val_main_v46 (F := Ideal) X G U C B := by
  funext i
  obtain ⟨r, k, rfl⟩ : ∃ (r : Fin 8192) (k : Fin 2816), i = ix2 r k := ⟨i 0, i 1, eq_ix2 i⟩
  exact (ref_a X G U C B r k).symm
end values

/-- What the reference is launched with, read off the kernel's arguments. -/
structure Args (m' : (ℓ : Loc Cert.FfnFRefIdeal.nD Cert.FfnFRefIdeal.τ Cert.FfnFRefIdeal.sig) → Buf (Elt Ideal) ℓ) (m : (ℓ : Loc nD τ sig) → Buf (Elt Ideal) ℓ) (c : Dev nD) : Prop where
  h0 : m' ((c.tc : Thread Cert.FfnFRefIdeal.nD Cert.FfnFRefIdeal.τ).loc Cert.FfnFRefIdeal.main_arg0) = aX m c
  h1 : m' ((c.tc : Thread Cert.FfnFRefIdeal.nD Cert.FfnFRefIdeal.τ).loc Cert.FfnFRefIdeal.main_arg1) = aG m c
  h2 : m' ((c.tc : Thread Cert.FfnFRefIdeal.nD Cert.FfnFRefIdeal.τ).loc Cert.FfnFRefIdeal.main_arg2) = aU m c
  h3 : m' ((c.tc : Thread Cert.FfnFRefIdeal.nD Cert.FfnFRefIdeal.τ).loc Cert.FfnFRefIdeal.main_arg3) = aC m c
  h4 : m' ((c.tc : Thread Cert.FfnFRefIdeal.nD Cert.FfnFRefIdeal.τ).loc Cert.FfnFRefIdeal.main_arg4) = aB m c

set_option maxHeartbeats 4000000 in
theorem algebraic : Cert.algebraic_FfnFIdeal_FfnFRefIdeal := by
  pair_intro
  · run_from Cert.FfnFIdeal.Gen.run_main m g
    all_goals rfl
  have H : ∀ c, Args m' m c := fun c => ⟨(hagree c).1, (hagree c).2.1, (hagree c).2.2.1, (hagree c).2.2.2.1, (hagree c).2.2.2.2⟩
  · run_from Cert.FfnFRefIdeal.Value.run m' g'
    · rw [final_zu, zu_eq]
      exact Cert.FfnFRefIdeal.Read.val_main_v41_eq (F := Ideal) _ _ _
    · rw [final_h, h_eq]
      exact Cert.FfnFRefIdeal.Read.val_main_v42_eq (F := Ideal) _ _
    · rw [final_z, z_eq]
      have e := Cert.FfnFRefIdeal.Read.val_main_v43_eq (F := Ideal) m' c
      rw [(H c).h0, (H c).h1, (H c).h2, (H c).h3, (H c).h4] at e
      exact e
    · rw [final_a, a_eq]
      have e := Cert.FfnFRefIdeal.Read.val_main_v46_eq (F := Ideal) m' c
      rw [(H c).h0, (H c).h1, (H c).h2, (H c).h3, (H c).h4] at e
      exact e

/-- The reference ends with its arguments unchanged; it declares no semaphore. -/
theorem ref_frame : Cert.quiescent_FfnFRefIdeal := fun m g _ =>
  (θ_run Cert.FfnFRefIdeal.defs _ _).mono (fun r h => ⟨fun c => (h c).2.2.2.2, sem_eq_zero_of_no_sems (by decide) r.2⟩)
    (Cert.FfnFRefIdeal.Value.run (F := Ideal) m g)

end Cert.FfnFVal
-- ==== Proof.GmlpFBlk.lean ====
module

public import proofs.«01_k».proof.Proof.GmlpBlk
public import proofs.«01_k».proof.Proof.Gen.GmlpFIdeal.Value
public import proofs.«01_k».proof.Proof.Gen.GmlpFRefIdeal.Read

@[expose] public section
set_option maxRecDepth 16384
noncomputable section
open Idealize.ShloMosaic Idealize.ShloMosaic.TcCoe Idealize.SL.Sem
open Idealize.ShloMosaic.Pipeline (Dat)
namespace Cert.GmlpFVal
open Cert.GmlpFIdeal Cert.GmlpFIdeal.Gen
open Cert.GmlpVal (ga gb gw gs)

section arrays
variable (P : FVec Ideal S8192x2592 .f32) (W : FVec Ideal S4x128x128 .f32) (S G L : FVec Ideal S4x128 .f32)

/-- The gate of a chunk of 128 rows of a head. -/
def gate (a b w : Fin 128 → Fin 128 → EReal) (s g l : Fin 128 → EReal) (i k : Fin 128) : EReal :=
  Spatial.gel (a i k) * Spatial.mix b w s g l i k

def cn (r : Fin 8192) : Fin 64 := ⟨r.val / 128, by omega⟩
def ci (r : Fin 8192) : Fin 128 := ⟨r.val % 128, by omega⟩
def hd (k : Fin 512) : Fin 4 := ⟨k.val / 128, by omega⟩
def ft (k : Fin 512) : Fin 128 := ⟨k.val % 128, by omega⟩

def out (n : Fin 64) (h : Fin 4) (i k : Fin 128) : EReal := gate (ga P n h) (gb P n h) (gw W h) (gs S h) (gs G h) (gs L h) i k
def O : FVec Ideal S8192x512 .bf16 := fun x => out P W S G L (cn (x 0)) (hd (x 1)) (ci (x 0)) (ft (x 1))
end arrays

section blocks
variable (m : (ℓ : Loc nD τ sig) → Buf (Elt Ideal) ℓ) (c : Dev nD) (t : Fin cfg0.N)

abbrev aP (m : (ℓ : Loc nD τ sig) → Buf (Elt Ideal) ℓ) (c : Dev nD) : FVec Ideal S8192x2592 .f32 := m ((c : Thread nD τ).loc main_arg0)
abbrev aW (m : (ℓ : Loc nD τ sig) → Buf (Elt Ideal) ℓ) (c : Dev nD) : FVec Ideal S4x128x128 .f32 := m ((c : Thread nD τ).loc main_arg1)
abbrev aS (m : (ℓ : Loc nD τ sig) → Buf (Elt Ideal) ℓ) (c : Dev nD) : FVec Ideal S4x128 .f32 := m ((c : Thread nD τ).loc main_arg2)
abbrev aG (m : (ℓ : Loc nD τ sig) → Buf (Elt Ideal) ℓ) (c : Dev nD) : FVec Ideal S4x128 .f32 := m ((c : Thread nD τ).loc main_arg3)
abbrev aL (m : (ℓ : Loc nD τ sig) → Buf (Elt Ideal) ℓ) (c : Dev nD) : FVec Ideal S4x128 .f32 := m ((c : Thread nD τ).loc main_arg4)

theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] := (by decide +kernel : ∀ t : Fin grid0.N, _)

theorem t_lt : t.val < 8 := lt_of_lt_of_eq t.isLt N_0

/-- The chunk of the arrays which chunk `q` of the point is, and the row of the arrays which row `r` of its blocks is. -/
def ch (q : Fin 8) : Fin 64 := ⟨t.val * 8 + q.val, by have := t_lt t; omega⟩
def rw' (r : Fin 1024) : Fin 8192 := ⟨t.val * 1024 + r.val, by have := t_lt t; omega⟩

theorem V_v0 : V m c main_v0 = (pad S8192x2688 ![0, 0] ![0, 96] ![0, 0] (aP m c)
    (sitofp .f32 (constantI S_ 32 0#32)) pads_S8192x2592_S8192x2688_000_0960 h_S_ : FVec Ideal S8192x2688 .f32) := rfl
theorem V_v1 : V m c main_v1 = broadcastInDim S4x128x1 ![0, 1] bcast_S4x128_S4x128x1_0_1 (aS m c) := rfl
theorem V_v2 : V m c main_v2 = broadcastInDim S4x1x128 ![0, 2] bcast_S4x128_S4x1x128_0_2 (aG m c) := rfl
theorem V_v3 : V m c main_v3 = broadcastInDim S4x1x128 ![0, 2] bcast_S4x128_S4x1x128_0_2 (aL m c) := rfl

theorem blk_p (r k : Fin 1024) : X0_0 m c t (ix2 r k) = aP m c (ix2 (rw' t r) ⟨k.val, by omega⟩) := by
  unfold X0_0 Pipeline.Window.fill
  rw [dif_pos (moved0_0 t _)]
  refine (congrArg (V m c main_v0) (?_ : _ = (ix2 (rw' t r) ⟨k.val, by omega⟩ : S8192x2688.Idx))).trans ?_
  · blk_ext [idx t, rw']
  rw [V_v0]
  pointwise
  exact dif_pos (by omega)

theorem blk_w (h : Fin 4) (i j : Fin 128) : iblk m c 1 t (ix3 h i j) = aW m c (ix3 h i j) := by
  blk_ext [iblk, V, idx t]

theorem blk_s (h : Fin 4) (k : Fin 128) : iblk m c 2 t (ix3 h k 0) = aS m c (ix2 h k) := by
  refine (congrArg (V m c main_v1) (?_ : _ = (ix3 h k 0 : S4x128x1.Idx))).trans ?_
  · blk_ext [idx t]
  rw [V_v1]
  pointwise

theorem blk_g (h : Fin 4) (k : Fin 128) : iblk m c 3 t (ix3 h 0 k) = aG m c (ix2 h k) := by
  refine (congrArg (V m c main_v2) (?_ : _ = (ix3 h 0 k : S4x1x128.Idx))).trans ?_
  · blk_ext [idx t]
  rw [V_v2]
  pointwise

theorem blk_l (h : Fin 4) (k : Fin 128) : iblk m c 4 t (ix3 h 0 k) = aL m c (ix2 h k) := by
  refine (congrArg (V m c main_v3) (?_ : _ = (ix3 h 0 k : S4x1x128.Idx))).trans ?_
  · blk_ext [idx t]
  rw [V_v3]
  pointwise

/-- The chunks and the heads of the point's blocks. -/
def ba (q : Fin 8) (h : Fin 4) (i k : Fin 128) : EReal := X0_0 m c t (ix2 ⟨q.val * 128 + i.val, by omega⟩ ⟨h.val * 128 + k.val, by omega⟩)
def bb (q : Fin 8) (h : Fin 4) (i k : Fin 128) : EReal := X0_0 m c t (ix2 ⟨q.val * 128 + i.val, by omega⟩ ⟨512 + h.val * 128 + k.val, by omega⟩)
def bw (h : Fin 4) (i j : Fin 128) : EReal := iblk m c 1 t (ix3 h i j)
def bs (h : Fin 4) (i : Fin 128) : EReal := iblk m c 2 t (ix3 h i 0)
def bg (h : Fin 4) (k : Fin 128) : EReal := iblk m c 3 t (ix3 h 0 k)
def bl (h : Fin 4) (k : Fin 128) : EReal := iblk m c 4 t (ix3 h 0 k)

theorem rw_ch (q : Fin 8) (i : Fin 128) : rw' t ⟨q.val * 128 + i.val, by omega⟩ = ⟨(ch t q).val * 128 + i.val, by omega⟩ :=
  Fin.ext (by simp only [rw', ch]; omega)

theorem ba_eq (q : Fin 8) (h : Fin 4) : ba m c t q h = ga (aP m c) (ch t q) h := by
  funext i k
  simp only [ba, ga, blk_p, rw_ch]
theorem bb_eq (q : Fin 8) (h : Fin 4) : bb m c t q h = gb (aP m c) (ch t q) h := by
  funext i k
  simp only [bb, gb, blk_p, rw_ch]
theorem bw_eq (h : Fin 4) : bw m c t h = gw (aW m c) h := funext fun i => funext fun j => blk_w m c t h i j
theorem bs_eq (h : Fin 4) : bs m c t h = gs (aS m c) h := funext fun i => blk_s m c t h i
theorem bg_eq (h : Fin 4) : bg m c t h = gs (aG m c) h := funext fun i => blk_g m c t h i
theorem bl_eq (h : Fin 4) : bl m c t h = gs (aL m c) h := funext fun i => blk_l m c t h i
end blocks

end Cert.GmlpFVal
-- ==== Proof.GmlpFVal.lean ====
module

public import proofs.«01_k».proof.Proof.GmlpFBlk

@[expose] public section
set_option maxRecDepth 16384
noncomputable section
open Idealize.ShloMosaic Idealize.ShloMosaic.TcCoe Idealize.SL.Sem
open Idealize.ShloMosaic.Pipeline (Dat)
namespace Cert.GmlpFVal
open Cert.GmlpFIdeal Cert.GmlpFIdeal.Gen
variable (m : (ℓ : Loc nD τ sig) → Buf (Elt Ideal) ℓ) (c : Dev nD) (t : Fin cfg0.N)

set_option maxHeartbeats 16000000 in
/-- The body leaves the gate of each chunk and each head of its block. -/
theorem out_o (y : S1024x512.Idx) (q : Fin 8) (h : Fin 4) (i k : Fin 128)
    (hr : (y 0).val = q.val * 128 + i.val) (hk : (y 1).val = h.val * 128 + k.val) :
    outsAt0 m c t y = gate (ba m c t q h) (bb m c t q h) (bw m c t h) (bs m c t h) (bg m c t h) (bl m c t h) i k := by
  obtain ⟨q, hql⟩ := q
  obtain ⟨h, hhl⟩ := h
  unfold outsAt0
  frame_out
  canon_tiles x hx
  all_goals
    have hil := i.isLt
    have hkl := k.isLt
    simp only at hr hk
    obtain rfl : x = ix2 i k := (eq_ix2 x).trans ((ix2_inj _ _ _ _).mpr ⟨Fin.ext (by omega), Fin.ext (by omega)⟩)
    first
      | have hw : h = 3 := by omega
        subst hw
      | have hw : h = 2 := by omega
        subst hw
      | have hw : h = 1 := by omega
        subst hw
      | have hw : h = 0 := by omega
        subst hw
    first
      | have hw : q = 7 := by omega
        subst hw
      | have hw : q = 6 := by omega
        subst hw
      | have hw : q = 5 := by omega
        subst hw
      | have hw : q = 4 := by omega
        subst hw
      | have hw : q = 3 := by omega
        subst hw
      | have hw : q = 2 := by omega
        subst hw
      | have hw : q = 1 := by omega
        subst hw
      | have hw : q = 0 := by omega
        subst hw
    open_payloads
    pointwise [gate, ba, bb, bw, bs, bg, bl, Spatial.mix, Spatial.vn, Spatial.V, Spatial.hat, Spatial.rs, Spatial.var, Spatial.xm, Spatial.mu,
      Spatial.gel, X0_0]
    try simp only [zero_sub, Fin.sum_univ_one, Ideal.erf_def]

end Cert.GmlpFVal
-- ==== Proof.GmlpFFin.lean ====
module

public import proofs.«01_k».proof.Proof.GmlpFVal

@[expose] public section
set_option maxRecDepth 16384
noncomputable section
open Idealize.ShloMosaic Idealize.ShloMosaic.TcCoe Idealize.SL.Sem
open Idealize.ShloMosaic.Pipeline (Dat)
namespace Cert.GmlpFVal
open Cert.GmlpFIdeal Cert.GmlpFIdeal.Gen
open Cert.GmlpVal (ga gb gw gs)

theorem row_split (r : Fin 8192) : ∃ (n : Fin 64) (i : Fin 128), r = ⟨n.val * 128 + i.val, by omega⟩ :=
  ⟨cn r, ci r, Fin.ext (by simp only [cn, ci]; omega)⟩
theorem col_split (k : Fin 512) : ∃ (h : Fin 4) (j : Fin 128), k = ⟨h.val * 128 + j.val, by omega⟩ :=
  ⟨hd k, ft k, Fin.ext (by simp only [hd, ft]; omega)⟩
theorem blk_split (r : Fin 1024) : ∃ (q : Fin 8) (i : Fin 128), r = ⟨q.val * 128 + i.val, by omega⟩ :=
  ⟨⟨r.val / 128, by omega⟩, ⟨r.val % 128, by omega⟩, Fin.ext (by simp only; omega)⟩

/-- The result at a chunk's row and a head's feature. -/
theorem O_at (P : FVec Ideal S8192x2592 .f32) (W : FVec Ideal S4x128x128 .f32) (S G L : FVec Ideal S4x128 .f32) (n : Fin 64) (h : Fin 4) (i k : Fin 128) :
    O P W S G L (ix2 ⟨n.val * 128 + i.val, by omega⟩ ⟨h.val * 128 + k.val, by omega⟩) = out P W S G L n h i k := by
  have e1 : cn ⟨n.val * 128 + i.val, by omega⟩ = n := Fin.ext (by simp only [cn]; omega)
  have e2 : hd ⟨h.val * 128 + k.val, by omega⟩ = h := Fin.ext (by simp only [hd]; omega)
  have e3 : ci ⟨n.val * 128 + i.val, by omega⟩ = i := Fin.ext (by simp only [ci]; omega)
  have e4 : ft ⟨h.val * 128 + k.val, by omega⟩ = k := Fin.ext (by simp only [ft]; omega)
  change out P W S G L (cn ⟨n.val * 128 + i.val, by omega⟩) (hd ⟨h.val * 128 + k.val, by omega⟩) (ci ⟨n.val * 128 + i.val, by omega⟩)
    (ft ⟨h.val * 128 + k.val, by omega⟩) = _
  rw [e1, e2, e3, e4]

section kernel
variable (m : (ℓ : Loc nD τ sig) → Buf (Elt Ideal) ℓ) (c : Dev nD) (t : Fin cfg0.N)

theorem point_o (y : S1024x512.Idx) : outsAt0 m c t y = O (aP m c) (aW m c) (aS m c) (aG m c) (aL m c) ((win0_5.blk t).view.emb y) := by
  obtain ⟨r, k, rfl⟩ : ∃ (r : Fin 1024) (k : Fin 512), y = ix2 r k := ⟨y 0, y 1, eq_ix2 y⟩
  have e : (win0_5.blk t).view.emb (ix2 r k : S1024x512.Idx) = (ix2 (rw' t r) k : S8192x512.Idx) := by blk_ext [idx t, rw']
  rw [e]
  obtain ⟨q, i, rfl⟩ := blk_split r
  obtain ⟨h, j, rfl⟩ := col_split k
  rw [rw_ch, O_at, out_o m c t (ix2 _ _) q h i j rfl rfl, ba_eq, bb_eq, bw_eq, bs_eq, bg_eq, bl_eq]
  rfl

theorem final_o : (dats m 0 c).arrAt 5 cfg0.N = O (aP m c) (aW m c) (aS m c) (aG m c) (aL m c) := by
  refine (dats m 0 c).arrAt_eq_of_covers 5 _ (by decide +kernel) fun t hf y => ?_
  blk_simp
  rw [after0_5]
  exact point_o m c t y
end kernel

section reference
open Cert.GmlpFRefIdeal.Read
variable (P : FVec Ideal S8192x2592 .f32) (W : FVec Ideal S4x128x128 .f32) (S G L : FVec Ideal S4x128 .f32)

theorem gel_ref (x : EReal) : Ideal.ofBits .f32 0x3F000000#32 * x * Ideal.erfc (-x * Ideal.ofBits .f32 0x3F3504F3#32) = Spatial.gel x := by
  rw [EReal.neg_mul, Ideal.erfc_neg]
  rfl

theorem ref_U (r : Fin 8192) (h : Fin 4) (k : Fin 128) : val_main_v9 (F := Ideal) P (ix3 r h k)
    = Spatial.gel (P (ix2 r ⟨h.val * 128 + k.val, by omega⟩)) := by
  rw [← gel_ref]
  pointwise [val_main_v9, val_main_v8, val_main_v7, val_main_v6, val_main_v5, val_main_cst_0, val_main_v4, val_main_v1, val_main_v0, val_main_v3, val_main_v2,
    val_main_cst]

theorem ref_V (r : Fin 8192) (h : Fin 4) (k : Fin 128) : val_main_v18 (F := Ideal) P (ix3 r h k)
    = Spatial.gel (P (ix2 r ⟨512 + h.val * 128 + k.val, by omega⟩)) := by
  rw [← gel_ref]
  pointwise [val_main_v18, val_main_v17, val_main_v16, val_main_v15, val_main_v14, val_main_cst_2, val_main_v13, val_main_v10, val_main_v0, val_main_v12,
    val_main_v11, val_main_cst_1]
  simp only [Nat.add_assoc]

theorem ref_hat (n : Fin 64) (h : Fin 4) (j k : Fin 128) : val_main_v36 (F := Ideal) P (ix3 ⟨n.val * 128 + j.val, by omega⟩ h k)
    = Spatial.hat (Spatial.V (gb P n h) j) k := by
  pointwise [val_main_v36, val_main_v35, val_main_v34, val_main_v33, val_main_v32, val_main_cst_7, val_main_v29, val_main_v28, val_main_cst_6, val_main_v27,
    val_main_v26, val_main_v25, val_main_v24, val_main_v23, val_main_v22, val_main_v21, val_main_cst_4, val_main_v20, val_main_v19, val_main_cst_3,
    val_main_cst_5, val_main_v31, val_main_v30, Spatial.hat, Spatial.rs, Spatial.var, Spatial.xm, Spatial.mu, Spatial.V, gb]
  simp only [ref_V]

theorem ref_vn (n : Fin 64) (h : Fin 4) (j k : Fin 128) : val_main_v43 (F := Ideal) P G L (ix4 n j h k)
    = Spatial.vn (gb P n h) (gs G h) (gs L h) j k := by
  pointwise [val_main_v43, val_main_v42, val_main_v41, val_main_v40, val_main_v39, val_main_v38, val_main_v37, Spatial.vn, gs]
  simp only [ref_hat]

theorem ref_mix (n : Fin 64) (h : Fin 4) (i k : Fin 128) : val_main_v50 (F := Ideal) P W S G L (ix3 ⟨n.val * 128 + i.val, by omega⟩ h k)
    = Spatial.mix (gb P n h) (gw W h) (gs S h) (gs G h) (gs L h) i k := by
  pointwise [val_main_v50, val_main_v49, val_main_v48, val_main_v47, val_main_v46, val_main_v45, val_main_v44, Spatial.mix, gw]
  simp only [ref_vn, gs, mul_comm]

theorem ref_o (r : Fin 8192) (k : Fin 512) : val_main_v53 (F := Ideal) P W S G L (ix2 r k) = O P W S G L (ix2 r k) := by
  obtain ⟨n, i, rfl⟩ := row_split r
  obtain ⟨h, j, rfl⟩ := col_split k
  rw [O_at]
  pointwise [val_main_v53, val_main_v52, val_main_v51, out, gate, ga]
  simp only [ref_mix, ref_U]
end reference

end Cert.GmlpFVal
-- ==== Proof.GmlpFClaim.lean ====
module

public import proofs.«01_k».proof.Defs
public import proofs.«01_k».proof.Proof.GmlpFFin
public import proofs.«01_k».proof.Proof.Gen.GmlpFRefIdeal.Run
public import proofs.«01_k».proof.Proof.Gen.GmlpFIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.GmlpFVal
open Cert.GmlpFIdeal Cert.GmlpFIdeal.Gen

section values
variable (P : FVec Ideal S8192x2592 .f32) (W : FVec Ideal S4x128x128 .f32) (S G L : FVec Ideal S4x128 .f32)
theorem o_eq : O P W S G L = Cert.GmlpFRefIdeal.Read.val_main_v53 (F := Ideal) P W S G L := by
  funext i
  obtain ⟨r, k, rfl⟩ : ∃ (r : Fin 8192) (k : Fin 512), i = ix2 r k := ⟨i 0, i 1, eq_ix2 i⟩
  exact (ref_o P W S G L r k).symm
end values

/-- What the reference is launched with, read off the kernel's arguments. -/
structure Args (m' : (ℓ : Loc Cert.GmlpFRefIdeal.nD Cert.GmlpFRefIdeal.τ Cert.GmlpFRefIdeal.sig) → Buf (Elt Ideal) ℓ) (m : (ℓ : Loc nD τ sig) → Buf (Elt Ideal) ℓ) (c : Dev nD) : Prop where
  h0 : m' ((c.tc : Thread Cert.GmlpFRefIdeal.nD Cert.GmlpFRefIdeal.τ).loc Cert.GmlpFRefIdeal.main_arg0) = aP m c
  h1 : m' ((c.tc : Thread Cert.GmlpFRefIdeal.nD Cert.GmlpFRefIdeal.τ).loc Cert.GmlpFRefIdeal.main_arg1) = aW m c
  h2 : m' ((c.tc : Thread Cert.GmlpFRefIdeal.nD Cert.GmlpFRefIdeal.τ).loc Cert.GmlpFRefIdeal.main_arg2) = aS m c
  h3 : m' ((c.tc : Thread Cert.GmlpFRefIdeal.nD Cert.GmlpFRefIdeal.τ).loc Cert.GmlpFRefIdeal.main_arg3) = aG m c
  h4 : m' ((c.tc : Thread Cert.GmlpFRefIdeal.nD Cert.GmlpFRefIdeal.τ).loc Cert.GmlpFRefIdeal.main_arg4) = aL m c

set_option maxHeartbeats 4000000 in
theorem algebraic : Cert.algebraic_GmlpFIdeal_GmlpFRefIdeal := by
  pair_intro
  · run_from Cert.GmlpFIdeal.Gen.run_main m g
    all_goals rfl
  have H : ∀ c, Args m' m c := fun c => ⟨(hagree c).1, (hagree c).2.1, (hagree c).2.2.1, (hagree c).2.2.2.1, (hagree c).2.2.2.2⟩
  · run_from Cert.GmlpFRefIdeal.Value.run m' g'
    · rw [final_o, o_eq]
      have e := Cert.GmlpFRefIdeal.Read.val_main_v53_eq (F := Ideal) m' c
      rw [(H c).h0, (H c).h1, (H c).h2, (H c).h3, (H c).h4] at e
      exact e

/-- The reference ends with its arguments unchanged; it declares no semaphore. -/
theorem ref_frame : Cert.quiescent_GmlpFRefIdeal := fun m g _ =>
  (θ_run Cert.GmlpFRefIdeal.defs _ _).mono (fun r h => ⟨fun c => (h c).2, sem_eq_zero_of_no_sems (by decide) r.2⟩)
    (Cert.GmlpFRefIdeal.Value.run (F := Ideal) m g)

end Cert.GmlpFVal
-- ==== Proof.MixFBlk.lean ====
module

public import proofs.«01_k».proof.Proof.Head
public import proofs.«01_k».proof.Proof.Consts
public import proofs.«01_k».proof.Proof.Gen.MixFIdeal.Value

@[expose] public section
set_option maxRecDepth 16384
noncomputable section
open Idealize.ShloMosaic Idealize.ShloMosaic.TcCoe Idealize.SL.Sem
open Idealize.ShloMosaic.Pipeline (Dat)
namespace Cert.MixFVal
open Cert.MixFIdeal Cert.MixFIdeal.Gen

section arrays
variable (X : FVec Ideal S8192x1024 .f32) (A B : FVec Ideal S8192x512 .f32) (P : FVec Ideal S8192x2592 .f32) (Q : FVec Ideal S8192x512 .f32)
  (G : FVec Ideal S4x128 .f32) (W : FVec Ideal S1024x1024 .f32)

/-- The feature `k` of head `h` among the 512 of a row; the head of a column, and the feature in it. -/
def col (h : Fin 4) (k : Fin 128) : Fin 512 := ⟨h.val * 128 + k.val, by omega⟩
def hd (k : Fin 512) : Fin 4 := ⟨k.val / 128, by omega⟩
def ft (k : Fin 512) : Fin 128 := ⟨k.val % 128, by omega⟩
theorem col_hd (k : Fin 512) : col (hd k) (ft k) = k := Fin.ext (by simp only [hd, ft, col]; omega)

/-- The heads' sum, a row of a head; the gate's argument; the normed and gated head. -/
def o (r : Fin 8192) (h : Fin 4) (k : Fin 128) : EReal := A (ix2 r (col h k)) + B (ix2 r (col h k))
def pg (r : Fin 8192) (h : Fin 4) (k : Fin 128) : EReal := P (ix2 r ⟨2048 + (h.val * 128 + k.val), by omega⟩)
def gt (r : Fin 8192) (h : Fin 4) (k : Fin 128) : EReal :=
  o A B r h k * Head.inv (o A B r h) * G (ix2 h k) * (pg P r h k * Head.sig (pg P r h k))

/-- The rows before the product with `w_out`: the first half given, the second the gated heads. -/
def mx (r : Fin 8192) (k : Fin 1024) : EReal :=
  if h : k.val < 512 then Q (ix2 r ⟨k.val, h⟩) else gt A B P G r (hd ⟨k.val - 512, by omega⟩) (ft ⟨k.val - 512, by omega⟩)

def MX : FVec Ideal S8192x1024 .bf16 := fun i => mx A B P Q G (i 0) (i 1)
def X1 : FVec Ideal S8192x1024 .f32 := fun i => X i + ∑ k, mx A B P Q G (i 0) k * W (ix2 k (i 1))
end arrays

section blocks
variable (m : (ℓ : Loc nD τ sig) → Buf (Elt Ideal) ℓ) (c : Dev nD) (t : Fin cfg0.N)

abbrev aX (m : (ℓ : Loc nD τ sig) → Buf (Elt Ideal) ℓ) (c : Dev nD) : FVec Ideal S8192x1024 .f32 := m ((c : Thread nD τ).loc main_arg0)
abbrev aA (m : (ℓ : Loc nD τ sig) → Buf (Elt Ideal) ℓ) (c : Dev nD) : FVec Ideal S8192x512 .f32 := m ((c : Thread nD τ).loc main_arg1)
abbrev aB (m : (ℓ : Loc nD τ sig) → Buf (Elt Ideal) ℓ) (c : Dev nD) : FVec Ideal S8192x512 .f32 := m ((c : Thread nD τ).loc main_arg2)
abbrev aP (m : (ℓ : Loc nD τ sig) → Buf (Elt Ideal) ℓ) (c : Dev nD) : FVec Ideal S8192x2592 .f32 := m ((c : Thread nD τ).loc main_arg3)
abbrev aQ (m : (ℓ : Loc nD τ sig) → Buf (Elt Ideal) ℓ) (c : Dev nD) : FVec Ideal S8192x512 .f32 := m ((c : Thread nD τ).loc main_arg4)
abbrev aG (m : (ℓ : Loc nD τ sig) → Buf (Elt Ideal) ℓ) (c : Dev nD) : FVec Ideal S4x128 .f32 := m ((c : Thread nD τ).loc main_arg5)
abbrev aW (m : (ℓ : Loc nD τ sig) → Buf (Elt Ideal) ℓ) (c : Dev nD) : FVec Ideal S1024x1024 .f32 := m ((c : Thread nD τ).loc main_arg6)

theorem idx : ∀ t : Fin cfg0.N, win0_0.index t = ![t.val, 0] ∧ win0_1.index t = ![t.val, 0] ∧ win0_2.index t = ![t.val, 0]
    ∧ win0_3.index t = ![t.val, 4] ∧ win0_4.index t = ![t.val, 0] ∧ win0_5.index t = ![0, 0, 0] ∧ win0_6.index t = ![0, 0]
    ∧ win0_7.index t = ![t.val, 0] ∧ win0_8.index t = ![t.val, 0] := (by decide +kernel : ∀ t : Fin grid0.N, _)

theorem row_lt (r : Fin 1024) : t.val * 1024 + r.val < 8192 := by
  have : t.val < 8 := lt_of_lt_of_eq t.isLt N_0
  omega

/-- The row of the array which row `r` of the block of the point `t` is. -/
def rw' (r : Fin 1024) : Fin 8192 := ⟨t.val * 1024 + r.val, row_lt t r⟩

theorem V_v0 : V m c main_v0 = (pad S8192x2688 ![0, 0] ![0, 96] ![0, 0] (aP m c)
    (sitofp .f32 (constantI S_ 32 0#32)) pads_S8192x2592_S8192x2688_000_0960 h_S_ : FVec Ideal S8192x2688 .f32) := rfl
theorem V_v1 : V m c main_v1 = (truncf .bf16 (aQ m c) bitsLt_bf16_f32 : FVec Ideal S8192x512 .bf16) := rfl
theorem V_v2 : V m c main_v2 = broadcastInDim S4x1x128 ![0, 2] bcast_S4x128_S4x1x128_0_2 (aG m c) := rfl
theorem V_v3 : V m c main_v3 = (truncf .bf16 (aW m c) bitsLt_bf16_f32 : FVec Ideal S1024x1024 .bf16) := rfl

theorem blk_x (r : Fin 1024) (j : Fin 1024) : iblk m c 0 t (ix2 r j) = aX m c (ix2 (rw' t r) j) := by
  blk_ext [iblk, V, idx t, rw']
theorem blk_of (r : Fin 1024) (k : Fin 512) : iblk m c 1 t (ix2 r k) = aA m c (ix2 (rw' t r) k) := by
  blk_ext [iblk, V, idx t, rw']
theorem blk_ob (r : Fin 1024) (k : Fin 512) : iblk m c 2 t (ix2 r k) = aB m c (ix2 (rw' t r) k) := by
  blk_ext [iblk, V, idx t, rw']

theorem blk_p (r : Fin 1024) (k : Fin 512) : X0_3 m c t (ix2 r k) = aP m c (ix2 (rw' t r) ⟨2048 + k.val, by omega⟩) := by
  unfold X0_3 Pipeline.Window.fill
  rw [dif_pos (moved0_3 t _)]
  refine (congrArg (V m c main_v0) (?_ : _ = (ix2 (rw' t r) ⟨2048 + k.val, by omega⟩ : S8192x2688.Idx))).trans ?_
  · blk_ext [idx t, rw']
  rw [V_v0]
  pointwise
  exact dif_pos (by omega)

theorem blk_q (r : Fin 1024) (k : Fin 512) : iblk m c 4 t (ix2 r k) = aQ m c (ix2 (rw' t r) k) := by
  have e : (win0_4.blk t).view.emb (ix2 r k : S1024x512.Idx) = (ix2 (rw' t r) k : S8192x512.Idx) := by blk_ext [idx t, rw']
  change V m c main_v1 ((win0_4.blk t).view.emb (ix2 r k : S1024x512.Idx)) = _
  rw [e, V_v1]
  pointwise

theorem blk_g (h : Fin 4) (k : Fin 128) : iblk m c 5 t (ix3 h 0 k) = aG m c (ix2 h k) := by
  have e : (win0_5.blk t).view.emb (ix3 h 0 k : S4x1x128.Idx) = (ix3 h 0 k : S4x1x128.Idx) := by blk_ext [idx t]
  change V m c main_v2 ((win0_5.blk t).view.emb (ix3 h 0 k : S4x1x128.Idx)) = _
  rw [e, V_v2]
  pointwise

theorem blk_w (k : Fin 1024) (j : Fin 1024) : iblk m c 6 t (ix2 k j) = aW m c (ix2 k j) := by
  have e : (win0_6.blk t).view.emb (ix2 k j : S1024x1024.Idx) = (ix2 k j : S1024x1024.Idx) := by blk_ext [idx t]
  change V m c main_v3 ((win0_6.blk t).view.emb (ix2 k j : S1024x1024.Idx)) = _
  rw [e, V_v3]
  pointwise

/-- The rows of a head, off the point's blocks. -/
def bo (r : Fin 1024) (h : Fin 4) (k : Fin 128) : EReal :=
  (show EReal from iblk m c 1 t (ix2 r (col h k))) + (show EReal from iblk m c 2 t (ix2 r (col h k)))
def bp (r : Fin 1024) (h : Fin 4) (k : Fin 128) : EReal := X0_3 m c t (ix2 r (col h k))
def bg (h : Fin 4) (k : Fin 128) : EReal := iblk m c 5 t (ix3 h 0 k)
def bgt (r : Fin 1024) (h : Fin 4) (k : Fin 128) : EReal :=
  bo m c t r h k * Head.inv (bo m c t r h) * bg m c t h k * (bp m c t r h k * Head.sig (bp m c t r h k))
def bmx (r : Fin 1024) (k : Fin 1024) : EReal :=
  if h : k.val < 512 then iblk m c 4 t (ix2 r ⟨k.val, h⟩) else bgt m c t r (hd ⟨k.val - 512, by omega⟩) (ft ⟨k.val - 512, by omega⟩)

theorem bo_eq (r : Fin 1024) (h : Fin 4) : bo m c t r h = o (aA m c) (aB m c) (rw' t r) h := by
  funext k
  simp only [bo, o, blk_of, blk_ob]
theorem bp_eq (r : Fin 1024) (h : Fin 4) : bp m c t r h = pg (aP m c) (rw' t r) h := by
  funext k
  exact blk_p m c t r (col h k)
theorem bmx_eq (r k : Fin 1024) : bmx m c t r k = mx (aA m c) (aB m c) (aP m c) (aQ m c) (aG m c) (rw' t r) k := by
  simp only [bmx, mx, bgt, gt, bo_eq, bp_eq, bg, blk_g, blk_q]

/-- A column of the second half. -/
theorem bmx_gt (r k : Fin 1024) (h : Fin 4) (j : Fin 128) (e : k.val = 512 + (h.val * 128 + j.val)) : bmx m c t r k = bgt m c t r h j := by
  have e1 : hd ⟨k.val - 512, by omega⟩ = h := Fin.ext (by simp only [hd]; omega)
  have e2 : ft ⟨k.val - 512, by omega⟩ = j := Fin.ext (by simp only [ft]; omega)
  refine (dif_neg (by omega)).trans ?_
  rw [e1, e2]
end blocks

end Cert.MixFVal
-- ==== Proof.MixFVal.lean ====
module

public import proofs.«01_k».proof.Proof.MixFBlk
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.MixFVal
open Cert.MixFIdeal Cert.MixFIdeal.Gen
variable (m : (ℓ : Loc nD τ sig) → Buf (Elt Ideal) ℓ) (c : Dev nD) (t : Fin cfg0.N)

set_option maxHeartbeats 2000000 in
/-- What the body leaves of the mixed rows: its five stores are the columns of one row function. -/
theorem out_mx (y : S1024x1024.Idx) (r k : Fin 1024) (hr : (y 0).val = r.val) (hk : (y 1).val = k.val) : (outsAt0 m c t).2 y = bmx m c t r k := by
  unfold outsAt0
  frame_out
  canon_tiles x h using View.cover_of_tiledBy _ ![1024, 128] (by sl_kernel_rfl) y
  all_goals
    have hx := (x 1).isLt
    obtain rfl : x 0 = r := Fin.ext (by omega)
    open_payloads
  on_goal 5 =>
    refine Eq.trans ?_ (dif_pos (by omega)).symm
    pointwise
    exact congrArg (iblk m c 4 t) ((eq_ix2 x).trans ((ix2_inj _ _ _ _).mpr ⟨rfl, Fin.ext (by show (x 1).val = k.val; omega)⟩))
  all_goals
    first
      | rw [bmx_gt m c t (x 0) k 3 (x 1) (by omega)]
      | rw [bmx_gt m c t (x 0) k 2 (x 1) (by omega)]
      | rw [bmx_gt m c t (x 0) k 1 (x 1) (by omega)]
      | rw [bmx_gt m c t (x 0) k 0 (x 1) (by omega)]
    pointwise [bgt, bo, bp, bg, col, Head.inv, Head.ms, Head.sig, X0_3]
    simp only [zero_sub]

set_option maxHeartbeats 2000000 in
theorem out_x1 (r k : Fin 1024) : (outsAt0 m c t).1 (ix2 r k)
    = (show EReal from iblk m c 0 t (ix2 r k)) + ∑ j, bmx m c t r j * (show EReal from iblk m c 6 t (ix2 j k)) := by
  have e : ∀ j, bmx m c t r j = (show EReal from (outsAt0 m c t).2 (ix2 r j)) := fun j => (out_mx m c t (ix2 r j) r j rfl rfl).symm
  simp only [e]
  unfold outsAt0
  frame_out
  rw [View.readCov_eq_canon']
  generalize hM : View.canon (Val := Elt Ideal) (s := S1024x1024) (e := .bf16) _ = M
  open_payloads
  pointwise

end Cert.MixFVal
-- ==== Proof.MixFFin.lean ====
module

public import proofs.«01_k».proof.Proof.MixFVal
public import proofs.«01_k».proof.Proof.Gen.MixFRefIdeal.Read

@[expose] public section
set_option maxRecDepth 16384
noncomputable section
open Idealize.ShloMosaic Idealize.ShloMosaic.TcCoe Idealize.SL.Sem
open Idealize.ShloMosaic.Pipeline (Dat)
namespace Cert.MixFVal
open Cert.MixFIdeal Cert.MixFIdeal.Gen

section kernel
variable (m : (ℓ : Loc nD τ sig) → Buf (Elt Ideal) ℓ) (c : Dev nD) (t : Fin cfg0.N)

theorem point_x1 (y : S1024x1024.Idx) : (outsAt0 m c t).1 y
    = X1 (aX m c) (aA m c) (aB m c) (aP m c) (aQ m c) (aG m c) (aW m c) ((win0_7.blk t).view.emb y) := by
  obtain ⟨r, k, rfl⟩ : ∃ (r : Fin 1024) (k : Fin 1024), y = ix2 r k := ⟨y 0, y 1, eq_ix2 y⟩
  have e : (win0_7.blk t).view.emb (ix2 r k : S1024x1024.Idx) = (ix2 (rw' t r) k : S8192x1024.Idx) := by blk_ext [idx t, rw']
  rw [e, out_x1]
  simp only [bmx_eq, blk_x, blk_w]
  rfl

theorem point_mx (y : S1024x1024.Idx) : (outsAt0 m c t).2 y
    = MX (aA m c) (aB m c) (aP m c) (aQ m c) (aG m c) ((win0_8.blk t).view.emb y) := by
  obtain ⟨r, k, rfl⟩ : ∃ (r : Fin 1024) (k : Fin 1024), y = ix2 r k := ⟨y 0, y 1, eq_ix2 y⟩
  have e : (win0_8.blk t).view.emb (ix2 r k : S1024x1024.Idx) = (ix2 (rw' t r) k : S8192x1024.Idx) := by blk_ext [idx t, rw']
  rw [e, out_mx m c t (ix2 r k) r k rfl rfl, bmx_eq]
  rfl

theorem final_x1 : (dats m 0 c).arrAt 7 cfg0.N = X1 (aX m c) (aA m c) (aB m c) (aP m c) (aQ m c) (aG m c) (aW m c) := by
  refine (dats m 0 c).arrAt_eq_of_covers 7 _ (by decide +kernel) fun t hf y => ?_
  blk_simp
  rw [after0_7]
  exact point_x1 m c t y

theorem final_mx : (dats m 0 c).arrAt 8 cfg0.N = MX (aA m c) (aB m c) (aP m c) (aQ m c) (aG m c) := by
  refine (dats m 0 c).arrAt_eq_of_covers 8 _ (by decide +kernel) fun t hf y => ?_
  blk_simp
  rw [after0_8]
  exact point_mx m c t y
end kernel

section reference
open Cert.MixFRefIdeal.Read
variable (X : FVec Ideal S8192x1024 .f32) (A B : FVec Ideal S8192x512 .f32) (P : FVec Ideal S8192x2592 .f32) (Q : FVec Ideal S8192x512 .f32)
  (G : FVec Ideal S4x128 .f32) (W : FVec Ideal S1024x1024 .f32)

theorem ref_gt (r : Fin 8192) (h : Fin 4) (k : Fin 128) : val_main_v18 (F := Ideal) A B P G (ix3 r h k) = gt A B P G r h k := by
  pointwise [val_main_v18, val_main_v18, val_main_v17, val_main_v16, val_main_v15, val_main_call0_v5, val_main_call0_v4, val_main_call0_cst_0,
    val_main_call0_v3, val_main_call0_v2, val_main_call0_cst, val_main_call0_v1, val_main_call0_v0, val_main_v14, val_main_v13, val_main_v12, val_main_v11,
    val_main_v10, val_main_v9, val_main_v8, val_main_v7, val_main_cst_1, val_main_v6, val_main_v5, val_main_cst_0, val_main_v4, val_main_v3, val_main_v2,
    val_main_v1, val_main_v0, val_main_cst, gt, o, pg, col, Head.inv, Head.ms, Head.sig]

theorem ref_m (r : Fin 8192) (k : Fin 1024) : val_main_v20 (F := Ideal) A B P Q G (ix2 r k) = mx A B P Q G r k := by
  pointwise [val_main_v20, val_main_v19, mx]
  simp only [ref_gt]
  rfl

theorem ref_mx (r : Fin 8192) (k : Fin 1024) : val_main_v23 (F := Ideal) A B P Q G (ix2 r k) = MX A B P Q G (ix2 r k) := by
  pointwise [val_main_v23]
  exact ref_m A B P Q G r k

theorem ref_x1 (r : Fin 8192) (k : Fin 1024) : val_main_v22 (F := Ideal) X A B P Q G W (ix2 r k) = X1 X A B P Q G W (ix2 r k) := by
  pointwise [val_main_v22, val_main_v21, X1]
  simp only [ref_m]
end reference

end Cert.MixFVal
-- ==== Proof.MixFClaim.lean ====
module

public import proofs.«01_k».proof.Defs
public import proofs.«01_k».proof.Proof.MixFFin
public import proofs.«01_k».proof.Proof.Gen.MixFRefIdeal.Run
public import proofs.«01_k».proof.Proof.Gen.MixFIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.MixFVal
open Cert.MixFIdeal Cert.MixFIdeal.Gen

section values
variable (X : FVec Ideal S8192x1024 .f32) (A B : FVec Ideal S8192x512 .f32) (P : FVec Ideal S8192x2592 .f32) (Q : FVec Ideal S8192x512 .f32)
  (G : FVec Ideal S4x128 .f32) (W : FVec Ideal S1024x1024 .f32)
theorem x1_eq : X1 X A B P Q G W = Cert.MixFRefIdeal.Read.val_main_v22 (F := Ideal) X A B P Q G W := by
  funext i
  obtain ⟨r, k, rfl⟩ : ∃ (r : Fin 8192) (k : Fin 1024), i = ix2 r k := ⟨i 0, i 1, eq_ix2 i⟩
  exact (ref_x1 X A B P Q G W r k).symm
theorem mx_eq : MX A B P Q G = Cert.MixFRefIdeal.Read.val_main_v23 (F := Ideal) A B P Q G := by
  funext i
  obtain ⟨r, k, rfl⟩ : ∃ (r : Fin 8192) (k : Fin 1024), i = ix2 r k := ⟨i 0, i 1, eq_ix2 i⟩
  exact (ref_mx A B P Q G r k).symm
end values

/-- What the reference is launched with, read off the kernel's arguments. -/
structure Args (m' : (ℓ : Loc Cert.MixFRefIdeal.nD Cert.MixFRefIdeal.τ Cert.MixFRefIdeal.sig) → Buf (Elt Ideal) ℓ) (m : (ℓ : Loc nD τ sig) → Buf (Elt Ideal) ℓ) (c : Dev nD) : Prop where
  h0 : m' ((c.tc : Thread Cert.MixFRefIdeal.nD Cert.MixFRefIdeal.τ).loc Cert.MixFRefIdeal.main_arg0) = aX m c
  h1 : m' ((c.tc : Thread Cert.MixFRefIdeal.nD Cert.MixFRefIdeal.τ).loc Cert.MixFRefIdeal.main_arg1) = aA m c
  h2 : m' ((c.tc : Thread Cert.MixFRefIdeal.nD Cert.MixFRefIdeal.τ).loc Cert.MixFRefIdeal.main_arg2) = aB m c
  h3 : m' ((c.tc : Thread Cert.MixFRefIdeal.nD Cert.MixFRefIdeal.τ).loc Cert.MixFRefIdeal.main_arg3) = aP m c
  h4 : m' ((c.tc : Thread Cert.MixFRefIdeal.nD Cert.MixFRefIdeal.τ).loc Cert.MixFRefIdeal.main_arg4) = aQ m c
  h5 : m' ((c.tc : Thread Cert.MixFRefIdeal.nD Cert.MixFRefIdeal.τ).loc Cert.MixFRefIdeal.main_arg5) = aG m c
  h6 : m' ((c.tc : Thread Cert.MixFRefIdeal.nD Cert.MixFRefIdeal.τ).loc Cert.MixFRefIdeal.main_arg6) = aW m c

set_option maxHeartbeats 4000000 in
theorem algebraic : Cert.algebraic_MixFIdeal_MixFRefIdeal := by
  pair_intro
  · run_from Cert.MixFIdeal.Gen.run_main m g
    all_goals rfl
  have H : ∀ c, Args m' m c := fun c => ⟨(hagree c).1, (hagree c).2.1, (hagree c).2.2.1, (hagree c).2.2.2.1, (hagree c).2.2.2.2.1, (hagree c).2.2.2.2.2.1, (hagree c).2.2.2.2.2.2⟩
  · run_from Cert.MixFRefIdeal.Value.run m' g'
    · rw [final_x1, x1_eq, ← (H c).h1, ← (H c).h2, ← (H c).h3, ← (H c).h4, ← (H c).h5]
      exact Cert.MixFRefIdeal.Read.val_main_v22_eq (F := Ideal) _ _ _ _ _ _ _
    · rw [final_mx, mx_eq, ← (H c).h1, ← (H c).h2, ← (H c).h3, ← (H c).h4, ← (H c).h5]
      exact Cert.MixFRefIdeal.Read.val_main_v23_eq (F := Ideal) _ _ _ _ _

/-- The reference ends with its arguments unchanged; it declares no semaphore. -/
theorem ref_frame : Cert.quiescent_MixFRefIdeal := fun m g _ =>
  (θ_run Cert.MixFRefIdeal.defs _ _).mono (fun r h => ⟨fun c => (h c).2.2, sem_eq_zero_of_no_sems (by decide) r.2⟩)
    (Cert.MixFRefIdeal.Value.run (F := Ideal) m g)

end Cert.MixFVal
-- ==== Proof.NormFVal.lean ====
module

public import proofs.«01_k».proof.Proof.Row
public import proofs.«01_k».proof.Proof.Consts
public import proofs.«01_k».proof.Proof.Gen.NormFIdeal.Value
public import proofs.«01_k».proof.Proof.Gen.NormFRefIdeal.Read

@[expose] public section
set_option maxRecDepth 16384
noncomputable section
open Idealize.ShloMosaic Idealize.ShloMosaic.TcCoe Idealize.SL.Sem
open Idealize.ShloMosaic.Pipeline (Dat)
namespace Cert.NormFVal
open Cert.NormFIdeal Cert.NormFIdeal.Gen

section arrays
variable (X : FVec Ideal S8192x1024 .f32) (G : FVec Ideal S1024 .f32) (W : FVec Ideal S1024x2592 .f32)

/-- The normed rows. -/
def nr (r : Fin 8192) (k : Fin 1024) : EReal := X (ix2 r k) * Row.inv (fun k => X (ix2 r k)) * G (ix1 k)

/-- Their product with `w_in`, zero in the columns after the last. -/
def Y : FVec Ideal S8192x2688 .f32 := fun i => if h : (i 1).val < 2592 then ∑ k, nr X G (i 0) k * W (ix2 k ⟨(i 1).val, h⟩) else 0
def H : FVec Ideal S8192x1024 .bf16 := fun i => nr X G (i 0) (i 1)
end arrays

section blocks
variable (m : (ℓ : Loc nD τ sig) → Buf (Elt Ideal) ℓ) (c : Dev nD) (t : Fin cfg0.N)

abbrev aX (m : (ℓ : Loc nD τ sig) → Buf (Elt Ideal) ℓ) (c : Dev nD) : FVec Ideal S8192x1024 .f32 := m ((c : Thread nD τ).loc main_arg0)
abbrev aG (m : (ℓ : Loc nD τ sig) → Buf (Elt Ideal) ℓ) (c : Dev nD) : FVec Ideal S1024 .f32 := m ((c : Thread nD τ).loc main_arg1)
abbrev aW (m : (ℓ : Loc nD τ sig) → Buf (Elt Ideal) ℓ) (c : Dev nD) : FVec Ideal S1024x2592 .f32 := m ((c : Thread nD τ).loc main_arg2)

theorem idx : ∀ t : Fin cfg0.N, win0_0.index t = ![t.val, 0] ∧ win0_1.index t = ![0, 0] ∧ win0_2.index t = ![0, 0]
    ∧ win0_3.index t = ![t.val, 0] ∧ win0_4.index t = ![t.val, 0] := (by decide +kernel : ∀ t : Fin grid0.N, _)

theorem row_lt (r : Fin 512) : t.val * 512 + r.val < 8192 := by
  have : t.val < 16 := lt_of_lt_of_eq t.isLt N_0
  omega

/-- The row of the array which row `r` of the block of the point `t` is. -/
def rw' (r : Fin 512) : Fin 8192 := ⟨t.val * 512 + r.val, row_lt t r⟩

theorem V_v0 : V m c main_v0 = broadcastInDim S1x1024 ![1] bcast_S1024_S1x1024_1 (aG m c) := rfl
theorem V_v2 : V m c main_v2 = (pad S1024x2688 ![0, 0] ![0, 96] ![0, 0] (truncf .bf16 (aW m c) bitsLt_bf16_f32 : FVec Ideal S1024x2592 .bf16)
    (sitofp .bf16 (constantI S_ 32 0#32)) pads_S1024x2592_S1024x2688_000_0960 h_S_ : FVec Ideal S1024x2688 .bf16) := rfl

theorem blk_x (r : Fin 512) (k : Fin 1024) : iblk m c 0 t (ix2 r k) = aX m c (ix2 (rw' t r) k) := by
  blk_ext [iblk, V, idx t, rw']

theorem blk_g (k : Fin 1024) : iblk m c 1 t (ix2 0 k) = aG m c (ix1 k) := by
  have e : (win0_1.blk t).view.emb (ix2 0 k : S1x1024.Idx) = (ix2 0 k : S1x1024.Idx) := by blk_ext [idx t]
  change V m c main_v0 ((win0_1.blk t).view.emb (ix2 0 k : S1x1024.Idx)) = _
  rw [e, V_v0]
  pointwise

theorem blk_w (k : Fin 1024) (j : Fin 2688) : iblk m c 2 t (ix2 k j) = if h : j.val < 2592 then aW m c (ix2 k ⟨j.val, h⟩) else 0 := by
  have e : (win0_2.blk t).view.emb (ix2 k j : S1024x2688.Idx) = (ix2 k j : S1024x2688.Idx) := by blk_ext [idx t]
  change V m c main_v2 ((win0_2.blk t).view.emb (ix2 k j : S1024x2688.Idx)) = _
  rw [e, V_v2]
  pointwise
  rw [Consts.sitofp_zero]

/-- What the body leaves in the two blocks. -/
theorem out_h (x0 : Vec Ideal S512x1024 .f32) (x1 : Vec Ideal S1x1024 .f32) (x2 : Vec Ideal S1024x2688 .bf16) (r : Fin 512) (k : Fin 1024) :
    out0_4 (F := Ideal) x0 x1 x2 (ix2 r k) = (show EReal from x0 (ix2 r k)) * Row.inv (fun k => x0 (ix2 r k)) * (show EReal from x1 (ix2 0 k)) := by
  unfold out0_4
  canon_tiles x h
  obtain rfl : x = ix2 r k := (eq_ix2 x).trans ((ix2_inj _ _ _ _).mpr ⟨Fin.ext (by simp at h0; omega), Fin.ext (by simp at h1; omega)⟩)
  open_payloads
  pointwise [Row.inv, Row.ms]

theorem out_y (x0 : Vec Ideal S512x1024 .f32) (x1 : Vec Ideal S1x1024 .f32) (x2 : Vec Ideal S1024x2688 .bf16) (r : Fin 512) (k : Fin 2688) :
    out0_3 (F := Ideal) x0 x1 x2 (ix2 r k)
      = ∑ j : Fin 1024, (show EReal from x0 (ix2 r j)) * Row.inv (fun k => x0 (ix2 r k)) * (show EReal from x1 (ix2 0 j)) * (show EReal from x2 (ix2 j k)) := by
  unfold out0_3
  canon_tiles x h
  obtain rfl : x = ix2 r k := (eq_ix2 x).trans ((ix2_inj _ _ _ _).mpr ⟨Fin.ext (by simp at h0; omega), Fin.ext (by simp at h1; omega)⟩)
  open_payloads
  pointwise [Row.inv, Row.ms]

theorem point_y (y : S512x2688.Idx) : out0_3 (iblk m c 0 t) (iblk m c 1 t) (iblk m c 2 t) y = Y (aX m c) (aG m c) (aW m c) ((win0_3.blk t).view.emb y) := by
  obtain ⟨r, k, rfl⟩ : ∃ (r : Fin 512) (k : Fin 2688), y = ix2 r k := ⟨y 0, y 1, eq_ix2 y⟩
  have e : (win0_3.blk t).view.emb (ix2 r k : S512x2688.Idx) = (ix2 (rw' t r) k : S8192x2688.Idx) := by blk_ext [idx t, rw']
  rw [e]
  refine (out_y (iblk m c 0 t) (iblk m c 1 t) (iblk m c 2 t) r k).trans ?_
  simp only [blk_x, blk_g, blk_w]
  by_cases h : k.val < 2592
  · refine Eq.trans ?_ (dif_pos h).symm
    simp only [dif_pos h]
    rfl
  · refine Eq.trans ?_ (dif_neg h).symm
    simp only [dif_neg h, mul_zero, Finset.sum_const_zero]

theorem point_h (y : S512x1024.Idx) : out0_4 (iblk m c 0 t) (iblk m c 1 t) (iblk m c 2 t) y = H (aX m c) (aG m c) ((win0_4.blk t).view.emb y) := by
  obtain ⟨r, k, rfl⟩ : ∃ (r : Fin 512) (k : Fin 1024), y = ix2 r k := ⟨y 0, y 1, eq_ix2 y⟩
  have e : (win0_4.blk t).view.emb (ix2 r k : S512x1024.Idx) = (ix2 (rw' t r) k : S8192x1024.Idx) := by blk_ext [idx t, rw']
  rw [e]
  refine (out_h (iblk m c 0 t) (iblk m c 1 t) (iblk m c 2 t) r k).trans ?_
  simp only [blk_x, blk_g]
  rfl

theorem final_y : (dats m 0 c).arrAt 3 cfg0.N = Y (aX m c) (aG m c) (aW m c) := by
  refine (dats m 0 c).arrAt_eq_of_covers 3 _ (by decide +kernel) fun t hf y => ?_
  blk_simp
  rw [after0_3]
  exact point_y m c t y

theorem final_h : (dats m 0 c).arrAt 4 cfg0.N = H (aX m c) (aG m c) := by
  refine (dats m 0 c).arrAt_eq_of_covers 4 _ (by decide +kernel) fun t hf y => ?_
  blk_simp
  rw [after0_4]
  exact point_h m c t y
end blocks

section reference
open Cert.NormFRefIdeal.Read
variable (X : FVec Ideal S8192x1024 .f32) (G : FVec Ideal S1024 .f32) (W : FVec Ideal S1024x2592 .f32)

theorem ref_nr (r : Fin 8192) (k : Fin 1024) : val_main_v12 (F := Ideal) X G (ix2 r k) = nr X G r k := by
  pointwise [val_main_v12, val_main_v11, val_main_v10, val_main_v9, val_main_v8, val_main_v7, val_main_v6, val_main_v5, val_main_cst_1, val_main_v4,
    val_main_v3, val_main_cst_0, val_main_v2, val_main_v1, val_main_cst, val_main_v0, nr, Row.inv, Row.ms]

theorem ref_h (r : Fin 8192) (k : Fin 1024) : val_main_v15 (F := Ideal) X G (ix2 r k) = nr X G r k := by
  pointwise [val_main_v15]
  exact ref_nr X G r k

theorem ref_y (r : Fin 8192) (k : Fin 2688) : val_main_v14 (F := Ideal) X G W (ix2 r k) = Y X G W (ix2 r k) := by
  pointwise [val_main_v14, val_main_v13, val_main_call0_v0, val_main_c, Y]
  have z : (FloatOps.sitofp (F := Ideal) .f32 (0#32) : Ideal .f32) = (0 : EReal) := by
    show ((((0#32 : BitVec 32).toInt : ℝ)) : EReal) = 0
    simp
  simp only [ref_nr, z]
end reference

end Cert.NormFVal
-- ==== Proof.NormFClaim.lean ====
module

public import proofs.«01_k».proof.Defs
public import proofs.«01_k».proof.Proof.NormFVal
public import proofs.«01_k».proof.Proof.Gen.NormFRefIdeal.Run
public import proofs.«01_k».proof.Proof.Gen.NormFIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.NormFVal
open Cert.NormFIdeal Cert.NormFIdeal.Gen

section values
variable (X : FVec Ideal S8192x1024 .f32) (G : FVec Ideal S1024 .f32) (W : FVec Ideal S1024x2592 .f32)
theorem y_eq : Y X G W = Cert.NormFRefIdeal.Read.val_main_v14 (F := Ideal) X G W := by
  funext i
  obtain ⟨r, k, rfl⟩ : ∃ (r : Fin 8192) (k : Fin 2688), i = ix2 r k := ⟨i 0, i 1, eq_ix2 i⟩
  exact (ref_y X G W r k).symm
theorem h_eq : H X G = Cert.NormFRefIdeal.Read.val_main_v15 (F := Ideal) X G := by
  funext i
  obtain ⟨r, k, rfl⟩ : ∃ (r : Fin 8192) (k : Fin 1024), i = ix2 r k := ⟨i 0, i 1, eq_ix2 i⟩
  exact (ref_h X G r k).symm
end values

/-- What the reference is launched with, read off the kernel's arguments. -/
structure Args (m' : (ℓ : Loc Cert.NormFRefIdeal.nD Cert.NormFRefIdeal.τ Cert.NormFRefIdeal.sig) → Buf (Elt Ideal) ℓ) (m : (ℓ : Loc nD τ sig) → Buf (Elt Ideal) ℓ) (c : Dev nD) : Prop where
  h0 : m' ((c.tc : Thread Cert.NormFRefIdeal.nD Cert.NormFRefIdeal.τ).loc Cert.NormFRefIdeal.main_arg0) = aX m c
  h1 : m' ((c.tc : Thread Cert.NormFRefIdeal.nD Cert.NormFRefIdeal.τ).loc Cert.NormFRefIdeal.main_arg1) = aG m c
  h2 : m' ((c.tc : Thread Cert.NormFRefIdeal.nD Cert.NormFRefIdeal.τ).loc Cert.NormFRefIdeal.main_arg2) = aW m c

set_option maxHeartbeats 4000000 in
theorem algebraic : Cert.algebraic_NormFIdeal_NormFRefIdeal := by
  pair_intro
  · run_from Cert.NormFIdeal.Gen.run_main m g
    all_goals rfl
  have H : ∀ c, Args m' m c := fun c => ⟨(hagree c).1, (hagree c).2.1, (hagree c).2.2⟩
  · run_from Cert.NormFRefIdeal.Value.run m' g'
    · rw [final_y, y_eq]
      exact Cert.NormFRefIdeal.Read.val_main_v14_eq (F := Ideal) _ _ _
    · rw [final_h, h_eq]
      exact Cert.NormFRefIdeal.Read.val_main_v15_eq (F := Ideal) _ _

/-- The reference ends with its arguments unchanged; it declares no semaphore. -/
theorem ref_frame : Cert.quiescent_NormFRefIdeal := fun m g _ =>
  (θ_run Cert.NormFRefIdeal.defs _ _).mono (fun r h => ⟨fun c => (h c).2.2, sem_eq_zero_of_no_sems (by decide) r.2⟩)
    (Cert.NormFRefIdeal.Value.run (F := Ideal) m g)

end Cert.NormFVal
-- ==== Proof.AdamVal.lean ====
module

public import proofs.«01_k».proof.Proof.Consts
public import proofs.«01_k».proof.Proof.Gen.AdamIdeal.Value
public import proofs.«01_k».proof.Proof.Gen.AdamRefIdeal.Read

@[expose] public section
set_option maxRecDepth 16384
noncomputable section
open Idealize.ShloMosaic Idealize.ShloMosaic.TcCoe Idealize.SL.Sem
open Idealize.ShloMosaic.Pipeline (Dat)
namespace Cert.AdamVal
open Cert.AdamIdeal Cert.AdamIdeal.Gen

/-- The literal of the first moment's bias correction, `1 - 0.9 ^ 10`. -/
theorem ofBits_c1 : Ideal.ofBits .f32 0x3F26BD02#32 = ((5463681 / 8388608 : ℝ) : EReal) := by
  simp [Ideal.ofBits, Ideal.ieee, -EReal.coe_mul]; norm_num
/-- The literal of the second moment's bias correction, `1 - 0.999 ^ 10`. -/
theorem ofBits_c2 : Ideal.ofBits .f32 0x3C231ACC#32 = ((2672307 / 268435456 : ℝ) : EReal) := by
  simp [Ideal.ofBits, Ideal.ieee, -EReal.coe_mul]; norm_num

theorem inv_c1 : Named.named (F := Ideal) Cert.AdamIdeal.κ "inv_c1" (φ := .f32) 0x3FC48605#32 = (((5463681 / 8388608)⁻¹ : ℝ) : EReal) :=
  IdealRules.named_const.ideal_named_scalar _ _ _ _ rfl
theorem inv_c2 : Named.named (F := Ideal) Cert.AdamIdeal.κ "inv_c2" (φ := .f32) 0x42C8E6D3#32 = (((2672307 / 268435456)⁻¹ : ℝ) : EReal) :=
  IdealRules.named_const.ideal_named_scalar _ _ _ _ rfl

section scalars
/-- The new first and second moment of an entry, from the old one and the gradient. -/
def mom (x g : EReal) : EReal := Ideal.ofBits .f32 0x3F666666#32 * x + Ideal.ofBits .f32 0x3DCCCCCD#32 * g
def sqm (x g : EReal) : EReal := Ideal.ofBits .f32 0x3F7FBE77#32 * x + Ideal.ofBits .f32 0x3A83126F#32 * (g * g)
/-- The step, from the weight and the corrected moments. -/
def stp (w x y : EReal) : EReal := Ideal.ofBits .f32 0xBA83126F#32
  * (Ideal.div x (Ideal.sqrt y + Ideal.ofBits .f32 0x322BCC77#32) + Ideal.ofBits .f32 0x3C23D70A#32 * w)
end scalars

section arrays
variable (W A B M V' : FVec Ideal S4x1024x1408 .f32)
/-- The gradient, the new moments and the step. -/
def G : FVec Ideal S4x1024x1408 .f32 := fun i => A i + B i
def NM : FVec Ideal S4x1024x1408 .f32 := fun i => mom (M i) (A i + B i)
def NV : FVec Ideal S4x1024x1408 .f32 := fun i => sqm (V' i) (A i + B i)
def D : FVec Ideal S4x1024x1408 .f32 := fun i => stp (W i) (Ideal.div (mom (M i) (A i + B i)) ((5463681 / 8388608 : ℝ) : EReal))
  (Ideal.div (sqm (V' i) (A i + B i)) ((2672307 / 268435456 : ℝ) : EReal))
end arrays

section blocks
variable (m : (ℓ : Loc nD τ sig) → Buf (Elt Ideal) ℓ) (c : Dev nD) (t : Fin cfg0.N)

abbrev aW (m : (ℓ : Loc nD τ sig) → Buf (Elt Ideal) ℓ) (c : Dev nD) : FVec Ideal S4x1024x1408 .f32 := m ((c : Thread nD τ).loc main_arg0)
abbrev aA (m : (ℓ : Loc nD τ sig) → Buf (Elt Ideal) ℓ) (c : Dev nD) : FVec Ideal S4x1024x1408 .f32 := m ((c : Thread nD τ).loc main_arg1)
abbrev aB (m : (ℓ : Loc nD τ sig) → Buf (Elt Ideal) ℓ) (c : Dev nD) : FVec Ideal S4x1024x1408 .f32 := m ((c : Thread nD τ).loc main_arg2)
abbrev aM (m : (ℓ : Loc nD τ sig) → Buf (Elt Ideal) ℓ) (c : Dev nD) : FVec Ideal S4x1024x1408 .f32 := m ((c : Thread nD τ).loc main_arg3)
abbrev aV (m : (ℓ : Loc nD τ sig) → Buf (Elt Ideal) ℓ) (c : Dev nD) : FVec Ideal S4x1024x1408 .f32 := m ((c : Thread nD τ).loc main_arg4)

/-- Every window's block of the point `t` is the same part of its array. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0] ∧ win0_7.index t = ![t.val / 4, t.val % 4, 0]
    ∧ win0_8.index t = ![t.val / 4, t.val % 4, 0] := (by decide +kernel : ∀ t : Fin grid0.N, _)

theorem t_lt : t.val < 16 := lt_of_lt_of_eq t.isLt N_0

/-- The layer, and the row of the array which row `r` of the block of the point `t` is. -/
def ly : Fin 4 := ⟨t.val / 4, by have := t_lt t; omega⟩
def rw' (r : Fin 256) : Fin 1024 := ⟨t.val % 4 * 256 + r.val, by omega⟩

theorem blk_w (r : Fin 256) (k : Fin 1408) : iblk m c 0 t (ix3 0 r k) = aW m c (ix3 (ly t) (rw' t r) k) := by
  blk_ext [iblk, V, idx t, rw', ly]
theorem blk_ga (r : Fin 256) (k : Fin 1408) : iblk m c 1 t (ix3 0 r k) = aA m c (ix3 (ly t) (rw' t r) k) := by
  blk_ext [iblk, V, idx t, rw', ly]
theorem blk_gb (r : Fin 256) (k : Fin 1408) : iblk m c 2 t (ix3 0 r k) = aB m c (ix3 (ly t) (rw' t r) k) := by
  blk_ext [iblk, V, idx t, rw', ly]
theorem blk_m (r : Fin 256) (k : Fin 1408) : iblk m c 3 t (ix3 0 r k) = aM m c (ix3 (ly t) (rw' t r) k) := by
  blk_ext [iblk, V, idx t, rw', ly]
theorem blk_v (r : Fin 256) (k : Fin 1408) : iblk m c 4 t (ix3 0 r k) = aV m c (ix3 (ly t) (rw' t r) k) := by
  blk_ext [iblk, V, idx t, rw', ly]

section body
variable (w a b x y : Vec Ideal S1x256x1408 .f32) (r : Fin 256) (k : Fin 1408)

/-- What the body leaves in the four blocks. -/
theorem out_g : out0_5 (F := Ideal) w a b x y (ix3 0 r k) = (show EReal from a (ix3 0 r k)) + (show EReal from b (ix3 0 r k)) := by
  unfold out0_5
  canon_tiles z h
  obtain rfl : z = ix3 0 r k := (eq_ix3 z).trans ((ix3_inj _ _ _ _ _ _).mpr ⟨Subsingleton.elim _ _, Fin.ext (by simp at h1; omega), Fin.ext (by simp at h2; omega)⟩)
  open_payloads
  pointwise

theorem out_d : out0_6 (F := Ideal) w a b x y (ix3 0 r k) = stp (w (ix3 0 r k))
    (Ideal.div (mom (x (ix3 0 r k)) ((show EReal from a (ix3 0 r k)) + (show EReal from b (ix3 0 r k)))) ((5463681 / 8388608 : ℝ) : EReal))
    (Ideal.div (sqm (y (ix3 0 r k)) ((show EReal from a (ix3 0 r k)) + (show EReal from b (ix3 0 r k)))) ((2672307 / 268435456 : ℝ) : EReal)) := by
  rw [Ideal.div_coe (by norm_num), Ideal.div_coe (by norm_num), one_div, one_div, ← inv_c1, ← inv_c2]
  unfold out0_6
  canon_tiles z h
  obtain rfl : z = ix3 0 r k := (eq_ix3 z).trans ((ix3_inj _ _ _ _ _ _).mpr ⟨Subsingleton.elim _ _, Fin.ext (by simp at h1; omega), Fin.ext (by simp at h2; omega)⟩)
  open_payloads
  pointwise [stp, mom, sqm]

theorem out_m : out0_7 (F := Ideal) w a b x y (ix3 0 r k) = mom (x (ix3 0 r k)) ((show EReal from a (ix3 0 r k)) + (show EReal from b (ix3 0 r k))) := by
  unfold out0_7
  canon_tiles z h
  obtain rfl : z = ix3 0 r k := (eq_ix3 z).trans ((ix3_inj _ _ _ _ _ _).mpr ⟨Subsingleton.elim _ _, Fin.ext (by simp at h1; omega), Fin.ext (by simp at h2; omega)⟩)
  open_payloads
  pointwise [mom]

theorem out_v : out0_8 (F := Ideal) w a b x y (ix3 0 r k) = sqm (y (ix3 0 r k)) ((show EReal from a (ix3 0 r k)) + (show EReal from b (ix3 0 r k))) := by
  unfold out0_8
  canon_tiles z h
  obtain rfl : z = ix3 0 r k := (eq_ix3 z).trans ((ix3_inj _ _ _ _ _ _).mpr ⟨Subsingleton.elim _ _, Fin.ext (by simp at h1; omega), Fin.ext (by simp at h2; omega)⟩)
  open_payloads
  pointwise [sqm]
end body

theorem ex_idx (y : S1x256x1408.Idx) : ∃ (r : Fin 256) (k : Fin 1408), y = ix3 0 r k :=
  ⟨y 1, y 2, (eq_ix3 y).trans ((ix3_inj _ _ _ _ _ _).mpr ⟨Subsingleton.elim _ _, rfl, rfl⟩)⟩

theorem final_g : (dats m 0 c).arrAt 5 cfg0.N = G (aA m c) (aB m c) := by
  refine (dats m 0 c).arrAt_eq_of_covers 5 _ (by decide +kernel) fun t hf y => ?_
  blk_simp
  rw [after0_5]
  obtain ⟨r, k, rfl⟩ := ex_idx y
  have e : (win0_5.blk t).view.emb (ix3 0 r k : S1x256x1408.Idx) = (ix3 (ly t) (rw' t r) k : S4x1024x1408.Idx) := by blk_ext [idx t, rw', ly]
  refine (out_g _ _ _ _ _ r k).trans ((?_ : _ = G (aA m c) (aB m c) (ix3 (ly t) (rw' t r) k)).trans (congrArg _ e.symm))
  rw [blk_ga, blk_gb]
  rfl

theorem final_d : (dats m 0 c).arrAt 6 cfg0.N = D (aW m c) (aA m c) (aB m c) (aM m c) (aV m c) := by
  refine (dats m 0 c).arrAt_eq_of_covers 6 _ (by decide +kernel) fun t hf y => ?_
  blk_simp
  rw [after0_6]
  obtain ⟨r, k, rfl⟩ := ex_idx y
  have e : (win0_6.blk t).view.emb (ix3 0 r k : S1x256x1408.Idx) = (ix3 (ly t) (rw' t r) k : S4x1024x1408.Idx) := by blk_ext [idx t, rw', ly]
  refine (out_d _ _ _ _ _ r k).trans ((?_ : _ = D (aW m c) (aA m c) (aB m c) (aM m c) (aV m c) (ix3 (ly t) (rw' t r) k)).trans (congrArg _ e.symm))
  rw [blk_w, blk_ga, blk_gb, blk_m, blk_v]
  rfl

theorem final_m : (dats m 0 c).arrAt 7 cfg0.N = NM (aA m c) (aB m c) (aM m c) := by
  refine (dats m 0 c).arrAt_eq_of_covers 7 _ (by decide +kernel) fun t hf y => ?_
  blk_simp
  rw [after0_7]
  obtain ⟨r, k, rfl⟩ := ex_idx y
  have e : (win0_7.blk t).view.emb (ix3 0 r k : S1x256x1408.Idx) = (ix3 (ly t) (rw' t r) k : S4x1024x1408.Idx) := by blk_ext [idx t, rw', ly]
  refine (out_m _ _ _ _ _ r k).trans ((?_ : _ = NM (aA m c) (aB m c) (aM m c) (ix3 (ly t) (rw' t r) k)).trans (congrArg _ e.symm))
  rw [blk_ga, blk_gb, blk_m]
  rfl

theorem final_v : (dats m 0 c).arrAt 8 cfg0.N = NV (aA m c) (aB m c) (aV m c) := by
  refine (dats m 0 c).arrAt_eq_of_covers 8 _ (by decide +kernel) fun t hf y => ?_
  blk_simp
  rw [after0_8]
  obtain ⟨r, k, rfl⟩ := ex_idx y
  have e : (win0_8.blk t).view.emb (ix3 0 r k : S1x256x1408.Idx) = (ix3 (ly t) (rw' t r) k : S4x1024x1408.Idx) := by blk_ext [idx t, rw', ly]
  refine (out_v _ _ _ _ _ r k).trans ((?_ : _ = NV (aA m c) (aB m c) (aV m c) (ix3 (ly t) (rw' t r) k)).trans (congrArg _ e.symm))
  rw [blk_ga, blk_gb, blk_v]
  rfl
end blocks

section reference
open Cert.AdamRefIdeal.Read
variable (W A B M V' : FVec Ideal S4x1024x1408 .f32)

theorem ref_g : val_main_v0 (F := Ideal) A B = G A B := rfl

theorem ref_m : val_main_v5 (F := Ideal) A B M = NM A B M := by
  funext i
  pointwise [val_main_v5, val_main_v4, val_main_v3, val_main_v2, val_main_v1, val_main_v0, val_main_cst, val_main_cst_0, NM, mom]

theorem ref_v : val_main_v11 (F := Ideal) A B V' = NV A B V' := by
  funext i
  pointwise [val_main_v11, val_main_v10, val_main_v9, val_main_v8, val_main_v7, val_main_v6, val_main_v0, val_main_cst_1, val_main_cst_2, NV, sqm]

theorem ref_d : val_main_v24 (F := Ideal) W A B M V' = D W A B M V' := by
  funext i
  have e1 : val_main_v5 (F := Ideal) A B M i = mom (M i) (A i + B i) := congrFun (ref_m A B M) i
  have e2 : val_main_v11 (F := Ideal) A B V' i = sqm (V' i) (A i + B i) := congrFun (ref_v A B V') i
  unfold D
  rw [← e1, ← e2, ← ofBits_c1, ← ofBits_c2]
  pointwise [val_main_v24, val_main_v23, val_main_v22, val_main_v21, val_main_v20, val_main_v19, val_main_v18, val_main_v17, val_main_v16, val_main_v15,
    val_main_v14, val_main_v13, val_main_v12, val_main_cst_3, val_main_cst_4, val_main_cst_5, val_main_cst_6, val_main_cst_7, stp]
end reference

end Cert.AdamVal
-- ==== Proof.AdamClaim.lean ====
module

public import proofs.«01_k».proof.Defs
public import proofs.«01_k».proof.Proof.AdamVal
public import proofs.«01_k».proof.Proof.Gen.AdamRefIdeal.Run
public import proofs.«01_k».proof.Proof.Gen.AdamIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.AdamVal
open Cert.AdamIdeal Cert.AdamIdeal.Gen
/-- What the reference is launched with, read off the kernel's arguments. -/
structure Args (m' : (ℓ : Loc Cert.AdamRefIdeal.nD Cert.AdamRefIdeal.τ Cert.AdamRefIdeal.sig) → Buf (Elt Ideal) ℓ) (m : (ℓ : Loc nD τ sig) → Buf (Elt Ideal) ℓ) (c : Dev nD) : Prop where
  h0 : m' ((c.tc : Thread Cert.AdamRefIdeal.nD Cert.AdamRefIdeal.τ).loc Cert.AdamRefIdeal.main_arg0) = aW m c
  h1 : m' ((c.tc : Thread Cert.AdamRefIdeal.nD Cert.AdamRefIdeal.τ).loc Cert.AdamRefIdeal.main_arg1) = aA m c
  h2 : m' ((c.tc : Thread Cert.AdamRefIdeal.nD Cert.AdamRefIdeal.τ).loc Cert.AdamRefIdeal.main_arg2) = aB m c
  h3 : m' ((c.tc : Thread Cert.AdamRefIdeal.nD Cert.AdamRefIdeal.τ).loc Cert.AdamRefIdeal.main_arg3) = aM m c
  h4 : m' ((c.tc : Thread Cert.AdamRefIdeal.nD Cert.AdamRefIdeal.τ).loc Cert.AdamRefIdeal.main_arg4) = aV m c

/-- The two constants the kernel multiplies by are the reciprocals of the reference's divisors. -/
theorem preserves : Cert.preserves_Adam_AdamIdeal :=
  ⟨IdealRules.named_const.statement Cert.AdamIdeal.κ "inv_c1" .f32 0x3FC48605#32 (((5463681 / 8388608)⁻¹ : ℝ) : EReal) rfl,
    IdealRules.named_const.statement Cert.AdamIdeal.κ "inv_c2" .f32 0x42C8E6D3#32 (((2672307 / 268435456)⁻¹ : ℝ) : EReal) rfl⟩

theorem algebraic : Cert.algebraic_AdamIdeal_AdamRefIdeal := by
  pair_intro
  · run_from Cert.AdamIdeal.Gen.run_main m g
    all_goals rfl
  have H : ∀ c, Args m' m c := fun c => ⟨(hagree c).1, (hagree c).2.1, (hagree c).2.2.1, (hagree c).2.2.2.1, (hagree c).2.2.2.2⟩
  · run_from Cert.AdamRefIdeal.Value.run m' g'
    · rw [final_g, ← ref_g]
      exact Cert.AdamRefIdeal.Read.val_main_v0_eq (F := Ideal) _ _
    · rw [final_d, ← ref_d]
      exact Cert.AdamRefIdeal.Read.val_main_v24_eq (F := Ideal) _ _ _ _ _
    · rw [final_m, ← ref_m]
      exact Cert.AdamRefIdeal.Read.val_main_v5_eq (F := Ideal) _ _ _
    · rw [final_v, ← ref_v]
      exact Cert.AdamRefIdeal.Read.val_main_v11_eq (F := Ideal) _ _ _

/-- The reference ends with its arguments unchanged; it declares no semaphore. -/
theorem ref_frame : Cert.quiescent_AdamRefIdeal := fun m g _ =>
  (θ_run Cert.AdamRefIdeal.defs _ _).mono (fun r h => ⟨fun c => (h c).2.2.2.2, sem_eq_zero_of_no_sems (by decide) r.2⟩)
    (Cert.AdamRefIdeal.Value.run (F := Ideal) m g)

end Cert.AdamVal
-- ==== Proof.ResVal.lean ====
module

public import proofs.«01_k».proof.Proof.Consts
public import proofs.«01_k».proof.Proof.Gen.ResIdeal.Value
public import proofs.«01_k».proof.Proof.Gen.ResRefIdeal.Read

@[expose] public section
set_option maxRecDepth 16384
noncomputable section
open Idealize.ShloMosaic Idealize.ShloMosaic.TcCoe Idealize.SL.Sem
open Idealize.ShloMosaic.Pipeline (Dat)
namespace Cert.ResVal
open Cert.ResIdeal Cert.ResIdeal.Gen

section arrays
variable (A : FVec Ideal S8192x2816 .f32) (W : FVec Ideal S2816x1024 .f32) (X : FVec Ideal S8192x1024 .f32)
/-- The product with `w_down`, and the residual. -/
def O : FVec Ideal S8192x1024 .f32 := fun i => X (ix2 (i 0) (i 1)) + ∑ k, A (ix2 (i 0) k) * W (ix2 k (i 1))
end arrays

section blocks
variable (m : (ℓ : Loc nD τ sig) → Buf (Elt Ideal) ℓ) (c : Dev nD) (t : Fin cfg0.N)

abbrev aA (m : (ℓ : Loc nD τ sig) → Buf (Elt Ideal) ℓ) (c : Dev nD) : FVec Ideal S8192x2816 .f32 := m ((c : Thread nD τ).loc main_arg0)
abbrev aW (m : (ℓ : Loc nD τ sig) → Buf (Elt Ideal) ℓ) (c : Dev nD) : FVec Ideal S2816x1024 .f32 := m ((c : Thread nD τ).loc main_arg1)
abbrev aX (m : (ℓ : Loc nD τ sig) → Buf (Elt Ideal) ℓ) (c : Dev nD) : FVec Ideal S8192x1024 .f32 := m ((c : Thread nD τ).loc main_arg2)

theorem idx : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

theorem row_lt (r : Fin 1024) : t.val * 1024 + r.val < 8192 := by
  have : t.val < 8 := lt_of_lt_of_eq t.isLt N_0
  omega

/-- The row of the array which row `r` of the block of the point `t` is. -/
def rw' (r : Fin 1024) : Fin 8192 := ⟨t.val * 1024 + r.val, row_lt t r⟩

theorem V_v0 : V m c main_v0 = (truncf .bf16 (aA m c) bitsLt_bf16_f32 : FVec Ideal S8192x2816 .bf16) := rfl
theorem V_v1 : V m c main_v1 = (truncf .bf16 (aW m c) bitsLt_bf16_f32 : FVec Ideal S2816x1024 .bf16) := rfl

theorem blk_a (r : Fin 1024) (k : Fin 2816) : iblk m c 0 t (ix2 r k) = aA m c (ix2 (rw' t r) k) := by
  have e : (win0_0.blk t).view.emb (ix2 r k : S1024x2816.Idx) = (ix2 (rw' t r) k : S8192x2816.Idx) := by blk_ext [idx t, rw']
  change V m c main_v0 ((win0_0.blk t).view.emb (ix2 r k : S1024x2816.Idx)) = _
  rw [e, V_v0]
  pointwise

theorem blk_w (k : Fin 2816) (j : Fin 1024) : iblk m c 1 t (ix2 k j) = aW m c (ix2 k j) := by
  have e : (win0_1.blk t).view.emb (ix2 k j : S2816x1024.Idx) = (ix2 k j : S2816x1024.Idx) := by blk_ext [idx t]
  change V m c main_v1 ((win0_1.blk t).view.emb (ix2 k j : S2816x1024.Idx)) = _
  rw [e, V_v1]
  pointwise

theorem blk_x (r k : Fin 1024) : iblk m c 2 t (ix2 r k) = aX m c (ix2 (rw' t r) k) := by
  blk_ext [iblk, V, idx t, rw']

/-- What the body leaves in the block. -/
theorem out_o (x0 : Vec Ideal S1024x2816 .bf16) (x1 : Vec Ideal S2816x1024 .bf16) (x2 : Vec Ideal S1024x1024 .f32) (r k : Fin 1024) :
    out0_3 (F := Ideal) x0 x1 x2 (ix2 r k) = (show EReal from x2 (ix2 r k)) + ∑ j : Fin 2816, (show EReal from x0 (ix2 r j)) * (show EReal from x1 (ix2 j k)) := by
  unfold out0_3
  canon_tiles x h
  obtain rfl : x = ix2 r k := (eq_ix2 x).trans ((ix2_inj _ _ _ _).mpr ⟨Fin.ext (by simp at h0; omega), Fin.ext (by simp at h1; omega)⟩)
  open_payloads
  pointwise

theorem point_o (y : S1024x1024.Idx) : out0_3 (iblk m c 0 t) (iblk m c 1 t) (iblk m c 2 t) y = O (aA m c) (aW m c) (aX m c) ((win0_3.blk t).view.emb y) := by
  obtain ⟨r, k, rfl⟩ : ∃ (r : Fin 1024) (k : Fin 1024), y = ix2 r k := ⟨y 0, y 1, eq_ix2 y⟩
  have e : (win0_3.blk t).view.emb (ix2 r k : S1024x1024.Idx) = (ix2 (rw' t r) k : S8192x1024.Idx) := by blk_ext [idx t, rw']
  rw [e]
  refine (out_o (iblk m c 0 t) (iblk m c 1 t) (iblk m c 2 t) r k).trans ?_
  simp only [blk_a, blk_w, blk_x]
  rfl

theorem final_o : (dats m 0 c).arrAt 3 cfg0.N = O (aA m c) (aW m c) (aX m c) := by
  refine (dats m 0 c).arrAt_eq_of_covers 3 _ (by decide +kernel) fun t hf y => ?_
  blk_simp
  rw [after0_3]
  exact point_o m c t y
end blocks

section reference
open Cert.ResRefIdeal.Read
variable (A : FVec Ideal S8192x2816 .f32) (W : FVec Ideal S2816x1024 .f32) (X : FVec Ideal S8192x1024 .f32)

theorem ref_o (r : Fin 8192) (k : Fin 1024) : val_main_v1 (F := Ideal) A W X (ix2 r k) = O A W X (ix2 r k) := by
  pointwise [val_main_v1, val_main_v0, O]
end reference

end Cert.ResVal
-- ==== Proof.ResClaim.lean ====
module

public import proofs.«01_k».proof.Defs
public import proofs.«01_k».proof.Proof.ResVal
public import proofs.«01_k».proof.Proof.Gen.ResRefIdeal.Run
public import proofs.«01_k».proof.Proof.Gen.ResIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.ResVal
open Cert.ResIdeal Cert.ResIdeal.Gen

section values
variable (A : FVec Ideal S8192x2816 .f32) (W : FVec Ideal S2816x1024 .f32) (X : FVec Ideal S8192x1024 .f32)
theorem o_eq : O A W X = Cert.ResRefIdeal.Read.val_main_v1 (F := Ideal) A W X := by
  funext i
  obtain ⟨r, k, rfl⟩ : ∃ (r : Fin 8192) (k : Fin 1024), i = ix2 r k := ⟨i 0, i 1, eq_ix2 i⟩
  exact (ref_o A W X r k).symm
end values

/-- What the reference is launched with, read off the kernel's arguments. -/
structure Args (m' : (ℓ : Loc Cert.ResRefIdeal.nD Cert.ResRefIdeal.τ Cert.ResRefIdeal.sig) → Buf (Elt Ideal) ℓ) (m : (ℓ : Loc nD τ sig) → Buf (Elt Ideal) ℓ) (c : Dev nD) : Prop where
  h0 : m' ((c.tc : Thread Cert.ResRefIdeal.nD Cert.ResRefIdeal.τ).loc Cert.ResRefIdeal.main_arg0) = aA m c
  h1 : m' ((c.tc : Thread Cert.ResRefIdeal.nD Cert.ResRefIdeal.τ).loc Cert.ResRefIdeal.main_arg1) = aW m c
  h2 : m' ((c.tc : Thread Cert.ResRefIdeal.nD Cert.ResRefIdeal.τ).loc Cert.ResRefIdeal.main_arg2) = aX m c

theorem algebraic : Cert.algebraic_ResIdeal_ResRefIdeal := by
  pair_intro
  · run_from Cert.ResIdeal.Gen.run_main m g
    all_goals rfl
  have H : ∀ c, Args m' m c := fun c => ⟨(hagree c).1, (hagree c).2.1, (hagree c).2.2⟩
  · run_from Cert.ResRefIdeal.Value.run m' g'
    · rw [final_o, o_eq]
      exact Cert.ResRefIdeal.Read.val_main_v1_eq (F := Ideal) _ _ _

/-- The reference ends with its arguments unchanged; it declares no semaphore. -/
theorem ref_frame : Cert.quiescent_ResRefIdeal := fun m g _ =>
  (θ_run Cert.ResRefIdeal.defs _ _).mono (fun r h => ⟨fun c => (h c).2, sem_eq_zero_of_no_sems (by decide) r.2⟩)
    (Cert.ResRefIdeal.Value.run (F := Ideal) m g)

end Cert.ResVal
-- ==== Proof.TnVal.lean ====
module

public import proofs.«01_k».proof.Proof.Consts
public import proofs.«01_k».proof.Proof.Gen.TnIdeal.Value
public import proofs.«01_k».proof.Proof.Gen.TnRefIdeal.Read
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.TnVal
open Cert.TnIdeal Cert.TnIdeal.Gen

section arrays
variable (A : FVec Ideal S8192x1024 .f32) (B : FVec Ideal S8192x5632 .f32)
/-- The product of the transposed rows with the gradient. -/
def O : FVec Ideal S1024x5632 .bf16 := fun i => ∑ l, A (ix2 l (i 0)) * B (ix2 l (i 1))
end arrays

section blocks
variable (m : (ℓ : Loc nD τ sig) → Buf (Elt Ideal) ℓ) (c : Dev nD) (t : Fin cfg0.N)

abbrev aA (m : (ℓ : Loc nD τ sig) → Buf (Elt Ideal) ℓ) (c : Dev nD) : FVec Ideal S8192x1024 .f32 := m ((c : Thread nD τ).loc main_arg0)
abbrev aB (m : (ℓ : Loc nD τ sig) → Buf (Elt Ideal) ℓ) (c : Dev nD) : FVec Ideal S8192x5632 .f32 := m ((c : Thread nD τ).loc main_arg1)

theorem idx : ∀ t : Fin cfg0.N, win0_0.index t = ![t.val % 8, 0] ∧ win0_1.index t = ![t.val % 8, t.val / 8]
    ∧ win0_2.index t = ![0, t.val / 8] := (by decide +kernel : ∀ t : Fin grid0.N, _)

theorem t_lt : t.val < 32 := lt_of_lt_of_eq t.isLt N_0

/-- The row and the column of the arrays which row `s` and column `k` of the blocks of the point `t` are. -/
def rw' (s : Fin 1024) : Fin 8192 := ⟨t.val % 8 * 1024 + s.val, by omega⟩
def cl' (k : Fin 1408) : Fin 5632 := ⟨t.val / 8 * 1408 + k.val, by have := t_lt t; omega⟩

theorem V_v0 : V m c main_v0 = (truncf .bf16 (aA m c) bitsLt_bf16_f32 : FVec Ideal S8192x1024 .bf16) := rfl
theorem V_v1 : V m c main_v1 = (truncf .bf16 (aB m c) bitsLt_bf16_f32 : FVec Ideal S8192x5632 .bf16) := rfl

theorem blk_a (s r : Fin 1024) : iblk m c 0 t (ix2 s r) = aA m c (ix2 (rw' t s) r) := by
  have e : (win0_0.blk t).view.emb (ix2 s r : S1024x1024.Idx) = (ix2 (rw' t s) r : S8192x1024.Idx) := by blk_ext [idx t, rw']
  change V m c main_v0 ((win0_0.blk t).view.emb (ix2 s r : S1024x1024.Idx)) = _
  rw [e, V_v0]
  pointwise

theorem blk_b (s : Fin 1024) (k : Fin 1408) : iblk m c 1 t (ix2 s k) = aB m c (ix2 (rw' t s) (cl' t k)) := by
  have e : (win0_1.blk t).view.emb (ix2 s k : S1024x1408.Idx) = (ix2 (rw' t s) (cl' t k) : S8192x5632.Idx) := by blk_ext [idx t, rw', cl']
  change V m c main_v1 ((win0_1.blk t).view.emb (ix2 s k : S1024x1408.Idx)) = _
  rw [e, V_v1]
  pointwise

/-- One block's part of the product. -/
def part (r : Fin 1024) (k : Fin 1408) : EReal := ∑ s : Fin 1024, (show EReal from iblk m c 0 t (ix2 s r)) * (show EReal from iblk m c 1 t (ix2 s k))

/-- What is accumulated after the first block. -/
theorem acc_A (h0 : t.val % 8 = 0) (r : Fin 1024) (k : Fin 1408) : (outsAt0 m c t.val t.isLt).2 (ix2 r k) = part m c t r k := by
  rw [outsAt0_A m c t h0 (by omega)]
  frame_out
  open_payloads
  pointwise [part]

/-- What a later block adds. -/
theorem acc_B (h0 : ¬ t.val % 8 = 0) (r : Fin 1024) (k : Fin 1408) : (outsAt0 m c t.val t.isLt).2 (ix2 r k)
    = (show EReal from (outsAt0 m c (t.val - 1) (Nat.lt_of_le_of_lt (Nat.sub_le _ _) t.isLt)).2 (ix2 r k)) + part m c t r k := by
  by_cases hl : t.val % 8 = 7
  · rw [outsAt0_C m c t h0 hl]
    frame_out
    open_payloads
    pointwise [read_unread_whole, part]
  · rw [outsAt0_B m c t h0 hl]
    frame_out
    open_payloads
    pointwise [read_unread_whole, part]

/-- The last block writes what is accumulated. -/
theorem out_C (hl : t.val % 8 = 7) (r : Fin 1024) (k : Fin 1408) : (outsAt0 m c t.val t.isLt).1 (ix2 r k)
    = (show EReal from (outsAt0 m c (t.val - 1) (Nat.lt_of_le_of_lt (Nat.sub_le _ _) t.isLt)).2 (ix2 r k)) + part m c t r k := by
  rw [outsAt0_C m c t (by omega) hl]
  frame_out
  open_payloads
  pointwise [read_unread_whole, part]

theorem point_o (hl : t.val % 8 = 7) (y : S1024x1408.Idx) : (outsAt0 m c t.val t.isLt).1 y = O (aA m c) (aB m c) ((win0_2.blk t).view.emb y) := by
  obtain ⟨r, k, rfl⟩ : ∃ (r : Fin 1024) (k : Fin 1408), y = ix2 r k := ⟨y 0, y 1, eq_ix2 y⟩
  have e : (win0_2.blk t).view.emb (ix2 r k : S1024x1408.Idx) = (ix2 r (cl' t k) : S1024x5632.Idx) := by blk_ext [idx t, cl']
  rw [e, out_C m c t hl, ← acc_B m c t (by omega) r k]
  refine (Pipeline.eq_sum_fin_of_reset_step_of_flush (fun n hn => (show EReal from (outsAt0 m c n hn).2 (ix2 r k))) 8 0 (fun p => part m c p r k)
    (fun p hp => (acc_A m c p hp r k).trans (zero_add _).symm) (fun p hp => acc_B m c p hp r k) t hl).trans ?_
  rw [zero_add]
  refine Fin.sum_mul_add_congr (f := fun l : Fin 8192 => (show EReal from aA m c (ix2 l r)) * aB m c (ix2 l (cl' t k))) fun s x hx => ?_
  rw [blk_a, blk_b]
  have e1 : rw' (⟨8 * (t.val / 8) + s.val, Pipeline.run_point_lt_of_flush t hl s⟩ : Fin cfg0.N) x = ⟨s.val * 1024 + x.val, hx⟩ :=
    Fin.ext (by have := s.isLt; simp only [rw']; omega)
  have e2 : cl' (⟨8 * (t.val / 8) + s.val, Pipeline.run_point_lt_of_flush t hl s⟩ : Fin cfg0.N) k = cl' t k :=
    Fin.ext (by have := s.isLt; simp only [cl']; omega)
  rw [e1, e2]

theorem final_o : (dats m 0 c).arrAt 2 cfg0.N = O (aA m c) (aB m c) := by
  refine (dats m 0 c).arrAt_eq_of_covers 2 _ (by decide +kernel) fun t hf y => ?_
  have hl : t.val % 8 = 7 := (flush0_2 t).mp hf
  blk_simp
  rw [after0_2]
  exact point_o m c t hl y
end blocks

section reference
open Cert.TnRefIdeal.Read
variable (A : FVec Ideal S8192x1024 .f32) (B : FVec Ideal S8192x5632 .f32)

theorem ref_o (r : Fin 1024) (k : Fin 5632) : val_main_v4 (F := Ideal) A B (ix2 r k) = O A B (ix2 r k) := by
  pointwise [val_main_v4, val_main_v3, val_main_v2, O]
  exact Finset.sum_congr rfl fun l _ => mul_comm _ _
end reference

end Cert.TnVal
-- ==== Proof.TnClaim.lean ====
module

public import proofs.«01_k».proof.Defs
public import proofs.«01_k».proof.Proof.TnVal
public import proofs.«01_k».proof.Proof.Gen.TnRefIdeal.Run
public import proofs.«01_k».proof.Proof.Gen.TnIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.TnVal
open Cert.TnIdeal Cert.TnIdeal.Gen

section values
variable (A : FVec Ideal S8192x1024 .f32) (B : FVec Ideal S8192x5632 .f32)
theorem o_eq : O A B = Cert.TnRefIdeal.Read.val_main_v4 (F := Ideal) A B := by
  funext i
  obtain ⟨r, k, rfl⟩ : ∃ (r : Fin 1024) (k : Fin 5632), i = ix2 r k := ⟨i 0, i 1, eq_ix2 i⟩
  exact (ref_o A B r k).symm
end values

/-- What the reference is launched with, read off the kernel's arguments. -/
structure Args (m' : (ℓ : Loc Cert.TnRefIdeal.nD Cert.TnRefIdeal.τ Cert.TnRefIdeal.sig) → Buf (Elt Ideal) ℓ) (m : (ℓ : Loc nD τ sig) → Buf (Elt Ideal) ℓ) (c : Dev nD) : Prop where
  h0 : m' ((c.tc : Thread Cert.TnRefIdeal.nD Cert.TnRefIdeal.τ).loc Cert.TnRefIdeal.main_arg0) = aA m c
  h1 : m' ((c.tc : Thread Cert.TnRefIdeal.nD Cert.TnRefIdeal.τ).loc Cert.TnRefIdeal.main_arg1) = aB m c

theorem algebraic : Cert.algebraic_TnIdeal_TnRefIdeal := by
  pair_intro
  · run_from Cert.TnIdeal.Gen.run_main m g
    all_goals rfl
  have H : ∀ c, Args m' m c := fun c => ⟨(hagree c).1, (hagree c).2⟩
  · run_from Cert.TnRefIdeal.Value.run m' g'
    · rw [final_o, o_eq]
      exact Cert.TnRefIdeal.Read.val_main_v4_eq (F := Ideal) _ _

/-- The reference ends with its arguments unchanged; it declares no semaphore. -/
theorem ref_frame : Cert.quiescent_TnRefIdeal := fun m g _ =>
  (θ_run Cert.TnRefIdeal.defs _ _).mono (fun r h => ⟨fun c => (h c).2, sem_eq_zero_of_no_sems (by decide) r.2⟩)
    (Cert.TnRefIdeal.Value.run (F := Ideal) m g)

end Cert.TnVal
-- ==== Proof.lean ====
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.LossClaim
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Pre_finite_down
public import proofs.«01_k».proof.Proof.DownClaim
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.UpClaim
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpIdeal.Value
public import proofs.«01_k».proof.Proof.Gen.GmlpRefIdeal
public import proofs.«01_k».proof.Proof.Gen.GmlpRefIdeal.Run
public import proofs.«01_k».proof.Proof.Gen.GmlpRefIdeal.Read
public import proofs.«01_k».proof.Proof.GmlpClaim
public import proofs.«01_k».proof.Proof.MixInClaim
public import proofs.«01_k».proof.Proof.MixOutClaim
public import proofs.«01_k».proof.Proof.Gen.FfnF
public import proofs.«01_k».proof.Proof.Gen.FfnF.Frame
public import proofs.«01_k».proof.Proof.Gen.FfnFIdeal
public import proofs.«01_k».proof.Proof.Gen.FfnFIdeal.Frame
public import proofs.«01_k».proof.Proof.Gen.FfnFIdeal.Value
public import proofs.«01_k».proof.Proof.Gen.FfnFRefIdeal
public import proofs.«01_k».proof.Proof.Gen.FfnFRefIdeal.Run
public import proofs.«01_k».proof.Proof.Gen.FfnFRefIdeal.Read
public import proofs.«01_k».proof.Proof.Gen.GmlpF
public import proofs.«01_k».proof.Proof.Gen.GmlpF.Frame
public import proofs.«01_k».proof.Proof.Gen.GmlpFIdeal
public import proofs.«01_k».proof.Proof.Gen.GmlpFIdeal.Frame
public import proofs.«01_k».proof.Proof.Gen.GmlpFIdeal.Value
public import proofs.«01_k».proof.Proof.Gen.GmlpFRefIdeal
public import proofs.«01_k».proof.Proof.Gen.GmlpFRefIdeal.Run
public import proofs.«01_k».proof.Proof.Gen.GmlpFRefIdeal.Read
public import proofs.«01_k».proof.Proof.Gen.MixF
public import proofs.«01_k».proof.Proof.Gen.MixF.Frame
public import proofs.«01_k».proof.Proof.Gen.MixFIdeal
public import proofs.«01_k».proof.Proof.Gen.MixFIdeal.Frame
public import proofs.«01_k».proof.Proof.Gen.MixFIdeal.Value
public import proofs.«01_k».proof.Proof.Gen.MixFRefIdeal
public import proofs.«01_k».proof.Proof.Gen.MixFRefIdeal.Run
public import proofs.«01_k».proof.Proof.Gen.MixFRefIdeal.Read
public import proofs.«01_k».proof.Proof.Gen.NormF
public import proofs.«01_k».proof.Proof.Gen.NormF.Frame
public import proofs.«01_k».proof.Proof.Gen.NormFIdeal
public import proofs.«01_k».proof.Proof.Gen.NormFIdeal.Frame
public import proofs.«01_k».proof.Proof.Gen.NormFIdeal.Value
public import proofs.«01_k».proof.Proof.Gen.NormFRefIdeal
public import proofs.«01_k».proof.Proof.Gen.NormFRefIdeal.Run
public import proofs.«01_k».proof.Proof.Gen.NormFRefIdeal.Read
public import proofs.«01_k».proof.Proof.Gen.GlaF
public import proofs.«01_k».proof.Proof.Gen.GlaF.Frame
public import proofs.«01_k».proof.Proof.Gen.GlaFIdeal
public import proofs.«01_k».proof.Proof.Gen.GlaFIdeal.Frame
public import proofs.«01_k».proof.Proof.Gen.GlaR
public import proofs.«01_k».proof.Proof.Gen.GlaR.Frame
public import proofs.«01_k».proof.Proof.Gen.GlaRIdeal
public import proofs.«01_k».proof.Proof.Gen.GlaRIdeal.Frame
public import proofs.«01_k».proof.Proof.FfnFClaim
public import proofs.«01_k».proof.Proof.GmlpFClaim
public import proofs.«01_k».proof.Proof.MixFClaim
public import proofs.«01_k».proof.Proof.NormFClaim
public import proofs.«01_k».proof.Proof.Gen.GlaFwdF
public import proofs.«01_k».proof.Proof.Gen.GlaFwdF.Frame
public import proofs.«01_k».proof.Proof.Gen.GlaFwdFIdeal
public import proofs.«01_k».proof.Proof.Gen.GlaFwdFIdeal.Frame
public import proofs.«01_k».proof.Proof.Gen.GlaFwdR
public import proofs.«01_k».proof.Proof.Gen.GlaFwdR.Frame
public import proofs.«01_k».proof.Proof.Gen.GlaFwdRIdeal
public import proofs.«01_k».proof.Proof.Gen.GlaFwdRIdeal.Frame
public import proofs.«01_k».proof.Proof.Gen.Res
public import proofs.«01_k».proof.Proof.Gen.Res.Frame
public import proofs.«01_k».proof.Proof.Gen.ResIdeal
public import proofs.«01_k».proof.Proof.Gen.ResIdeal.Value
public import proofs.«01_k».proof.Proof.Gen.ResRefIdeal
public import proofs.«01_k».proof.Proof.Gen.ResRefIdeal.Run
public import proofs.«01_k».proof.Proof.Gen.ResRefIdeal.Read
public import proofs.«01_k».proof.Proof.Gen.Tn
public import proofs.«01_k».proof.Proof.Gen.Tn.Frame
public import proofs.«01_k».proof.Proof.Gen.TnIdeal
public import proofs.«01_k».proof.Proof.Gen.TnIdeal.Value
public import proofs.«01_k».proof.Proof.Gen.TnRefIdeal
public import proofs.«01_k».proof.Proof.Gen.TnRefIdeal.Run
public import proofs.«01_k».proof.Proof.Gen.TnRefIdeal.Read
public import proofs.«01_k».proof.Proof.Gen.Adam
public import proofs.«01_k».proof.Proof.Gen.Adam.Frame
public import proofs.«01_k».proof.Proof.Gen.AdamIdeal
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.AdamClaim
public import proofs.«01_k».proof.Proof.ResClaim
public import proofs.«01_k».proof.Proof.TnClaim
public import Idealize.ShloMosaic.Adequacy
public import Idealize.ShloMosaic.Init

@[expose] public section

noncomputable section

namespace Cert.Proof

open Idealize.ShloMosaic Idealize.SL.Sem Cert.Loss

theorem claim : Cert.Claim :=
  ⟨Cert.Loss.Gen.facts,
    Cert.LossIdeal.Gen.facts,
    Cert.LossRefIdeal.Gen.facts,
    Cert.Down.Gen.facts,
    Cert.DownIdeal.Gen.facts,
    Cert.DownRefIdeal.Gen.facts,
    Cert.Up.Gen.facts,
    Cert.UpIdeal.Gen.facts,
    Cert.UpRefIdeal.Gen.facts,
    Cert.MixIn.Gen.facts,
    Cert.MixInIdeal.Gen.facts,
    Cert.MixInRefIdeal.Gen.facts,
    Cert.MixOut.Gen.facts,
    Cert.MixOutIdeal.Gen.facts,
    Cert.MixOutRefIdeal.Gen.facts,
    Cert.Gmlp.Gen.facts,
    Cert.GmlpIdeal.Gen.facts,
    Cert.GmlpRefIdeal.Gen.facts,
    Cert.FfnF.Gen.facts,
    Cert.FfnFIdeal.Gen.facts,
    Cert.FfnFRefIdeal.Gen.facts,
    Cert.GmlpF.Gen.facts,
    Cert.GmlpFIdeal.Gen.facts,
    Cert.GmlpFRefIdeal.Gen.facts,
    Cert.MixF.Gen.facts,
    Cert.MixFIdeal.Gen.facts,
    Cert.MixFRefIdeal.Gen.facts,
    Cert.NormF.Gen.facts,
    Cert.NormFIdeal.Gen.facts,
    Cert.NormFRefIdeal.Gen.facts,
    Cert.GlaF.Gen.facts,
    Cert.GlaFIdeal.Gen.facts,
    Cert.GlaR.Gen.facts,
    Cert.GlaRIdeal.Gen.facts,
    Cert.GlaFwdF.Gen.facts,
    Cert.GlaFwdFIdeal.Gen.facts,
    Cert.GlaFwdR.Gen.facts,
    Cert.GlaFwdRIdeal.Gen.facts,
    Cert.Res.Gen.facts,
    Cert.ResIdeal.Gen.facts,
    Cert.ResRefIdeal.Gen.facts,
    Cert.Tn.Gen.facts,
    Cert.TnIdeal.Gen.facts,
    Cert.TnRefIdeal.Gen.facts,
    Cert.Adam.Gen.facts,
    Cert.AdamIdeal.Gen.facts,
    Cert.AdamRefIdeal.Gen.facts,
    Cert.Pre_finite_down.Gen.facts,
    fun m ρ _ => Cert.Loss.Gen.frame m ρ,
    fun m ρ _ => Cert.LossIdeal.Gen.frame m ρ,
    Cert.LossVal.ref_frame,
    fun m ρ _ => Cert.Down.Gen.frame m ρ,
    fun m ρ _ => Cert.DownIdeal.Gen.frame m ρ,
    Cert.DownVal.frame_pre,
    Cert.DownVal.ref_frame,
    Cert.DownVal.ref_frame_pre,
    fun m ρ _ => Cert.Up.Gen.frame m ρ,
    fun m ρ _ => Cert.UpIdeal.Gen.frame m ρ,
    Cert.UpVal.ref_frame,
    fun m ρ _ => Cert.MixIn.Gen.frame m ρ,
    fun m ρ _ => Cert.MixInIdeal.Gen.frame m ρ,
    Cert.MixInVal.ref_frame,
    fun m ρ _ => Cert.MixOut.Gen.frame m ρ,
    fun m ρ _ => Cert.MixOutIdeal.Gen.frame m ρ,
    Cert.MixOutVal.ref_frame,
    fun m ρ _ => Cert.Gmlp.Gen.frame m ρ,
    fun m ρ _ => Cert.GmlpIdeal.Gen.frame m ρ,
    Cert.GmlpVal.ref_frame,
    fun m ρ _ => Cert.FfnF.Gen.frame m ρ,
    fun m ρ _ => Cert.FfnFIdeal.Gen.frame m ρ,
    Cert.FfnFVal.ref_frame,
    fun m ρ _ => Cert.GmlpF.Gen.frame m ρ,
    fun m ρ _ => Cert.GmlpFIdeal.Gen.frame m ρ,
    Cert.GmlpFVal.ref_frame,
    fun m ρ _ => Cert.MixF.Gen.frame m ρ,
    fun m ρ _ => Cert.MixFIdeal.Gen.frame m ρ,
    Cert.MixFVal.ref_frame,
    fun m ρ _ => Cert.NormF.Gen.frame m ρ,
    fun m ρ _ => Cert.NormFIdeal.Gen.frame m ρ,
    Cert.NormFVal.ref_frame,
    fun m ρ _ => Cert.GlaF.Gen.frame m ρ,
    fun m ρ _ => Cert.GlaFIdeal.Gen.frame m ρ,
    fun m ρ _ => Cert.GlaR.Gen.frame m ρ,
    fun m ρ _ => Cert.GlaRIdeal.Gen.frame m ρ,
    fun m ρ _ => Cert.GlaFwdF.Gen.frame m ρ,
    fun m ρ _ => Cert.GlaFwdFIdeal.Gen.frame m ρ,
    fun m ρ _ => Cert.GlaFwdR.Gen.frame m ρ,
    fun m ρ _ => Cert.GlaFwdRIdeal.Gen.frame m ρ,
    fun m ρ _ => Cert.Res.Gen.frame m ρ,
    fun m ρ _ => Cert.ResIdeal.Gen.frame m ρ,
    Cert.ResVal.ref_frame,
    fun m ρ _ => Cert.Tn.Gen.frame m ρ,
    fun m ρ _ => Cert.TnIdeal.Gen.frame m ρ,
    Cert.TnVal.ref_frame,
    fun m ρ _ => Cert.Adam.Gen.frame m ρ,
    fun m ρ _ => Cert.AdamIdeal.Gen.frame m ρ,
    Cert.AdamVal.ref_frame,
    trivial,
    Cert.LossVal.algebraic,
    trivial,
    Cert.DownVal.algebraic,
    trivial,
    Cert.UpVal.algebraic,
    trivial,
    Cert.MixInVal.algebraic,
    trivial,
    Cert.MixOutVal.algebraic,
    trivial,
    Cert.GmlpVal.algebraic,
    trivial,
    Cert.FfnFVal.algebraic,
    trivial,
    Cert.GmlpFVal.algebraic,
    trivial,
    Cert.MixFVal.algebraic,
    trivial,
    Cert.NormFVal.algebraic,
    trivial,
    trivial,
    trivial,
    trivial,
    trivial,
    Cert.ResVal.algebraic,
    trivial,
    Cert.TnVal.algebraic,
    Cert.AdamVal.preserves,
    Cert.AdamVal.algebraic⟩

end Cert.Proof

end
